-- ==== Defs.lean ====
def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_finite_scores [hPre_finite_scores : Cert.Pre_finite_scores.Facts] (m : (ℓ : Loc Cert.GqaIdeal.nD Cert.GqaIdeal.τ Cert.GqaIdeal.sig) → Buf (Elt Ideal) ℓ) : Prop :=
  ∀ c : Dev Cert.GqaIdeal.nD,
    (Cert.Pre_finite_scores.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3)) (m ((c.tc : Thread Cert.GqaIdeal.nD Cert.GqaIdeal.τ).loc Cert.GqaIdeal.main_arg4))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_finite_scores [hPre_finite_scores : Cert.Pre_finite_scores.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_finite_scores.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3)) (m ((c.tc : Thread Cert.GqaRefIdeal.nD Cert.GqaRefIdeal.τ).loc Cert.GqaRefIdeal.main_arg4))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Kr (m : (ℓ : Loc Cert.Kr.nD Cert.Kr.τ Cert.Kr.sig) → Buf (Elt Bits) ℓ) : Prop :=
  True

def Pre_KrIdeal (m : (ℓ : Loc Cert.KrIdeal.nD Cert.KrIdeal.τ Cert.KrIdeal.sig) → Buf (Elt Ideal) ℓ) : Prop :=
  True

def Pre_KrRefIdeal (m : (ℓ : Loc Cert.KrRefIdeal.nD Cert.KrRefIdeal.τ Cert.KrRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_mla [hPre_finite_mla : Cert.Pre_finite_mla.Facts] (m : (ℓ : Loc Cert.MlaIdeal.nD Cert.MlaIdeal.τ Cert.MlaIdeal.sig) → Buf (Elt Ideal) ℓ) : Prop :=
  ∀ c : Dev Cert.MlaIdeal.nD,
    (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_mla [hPre_finite_mla : Cert.Pre_finite_mla.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_PeerQ (m : (ℓ : Loc Cert.PeerQ.nD Cert.PeerQ.τ Cert.PeerQ.sig) → Buf (Elt Bits) ℓ) : Prop :=
  True

def Pre_PeerQIdeal (m : (ℓ : Loc Cert.PeerQIdeal.nD Cert.PeerQIdeal.τ Cert.PeerQIdeal.sig) → Buf (Elt Ideal) ℓ) : Prop :=
  True

def Pre_PeerQRefIdeal (m : (ℓ : Loc Cert.PeerQRefIdeal.nD Cert.PeerQRefIdeal.τ Cert.PeerQRefIdeal.sig) → Buf (Elt Ideal) ℓ) : Prop :=
  True

def Pre_FinalP (m : (ℓ : Loc Cert.FinalP.nD Cert.FinalP.τ Cert.FinalP.sig) → Buf (Elt Bits) ℓ) : Prop :=
  True

def Pre_FinalPIdeal (m : (ℓ : Loc Cert.FinalPIdeal.nD Cert.FinalPIdeal.τ Cert.FinalPIdeal.sig) → Buf (Elt Ideal) ℓ) : Prop :=
  True

def Pre_FinalPRefIdeal (m : (ℓ : Loc Cert.FinalPRefIdeal.nD Cert.FinalPRefIdeal.τ Cert.FinalPRefIdeal.sig) → Buf (Elt Ideal) ℓ) : Prop :=
  True

def Pre_FinalS (m : (ℓ : Loc Cert.FinalS.nD Cert.FinalS.τ Cert.FinalS.sig) → Buf (Elt Bits) ℓ) : Prop :=
  True

def Pre_FinalSIdeal (m : (ℓ : Loc Cert.FinalSIdeal.nD Cert.FinalSIdeal.τ Cert.FinalSIdeal.sig) → Buf (Elt Ideal) ℓ) : Prop :=
  True

def Pre_FinalSRefIdeal (m : (ℓ : Loc Cert.FinalSRefIdeal.nD Cert.FinalSRefIdeal.τ Cert.FinalSRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Qb (m : (ℓ : Loc Cert.Qb.nD Cert.Qb.τ Cert.Qb.sig) → Buf (Elt Bits) ℓ) : Prop :=
  True

def Pre_QbIdeal (m : (ℓ : Loc Cert.QbIdeal.nD Cert.QbIdeal.τ Cert.QbIdeal.sig) → Buf (Elt Ideal) ℓ) : Prop :=
  True

def Pre_QbRefIdeal (m : (ℓ : Loc Cert.QbRefIdeal.nD Cert.QbRefIdeal.τ Cert.QbRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormB (m : (ℓ : Loc Cert.NormB.nD Cert.NormB.τ Cert.NormB.sig) → Buf (Elt Bits) ℓ) : Prop :=
  True

def Pre_NormBIdeal (m : (ℓ : Loc Cert.NormBIdeal.nD Cert.NormBIdeal.τ Cert.NormBIdeal.sig) → Buf (Elt Ideal) ℓ) : Prop :=
  True

def Pre_NormBRefIdeal (m : (ℓ : Loc Cert.NormBRefIdeal.nD Cert.NormBRefIdeal.τ Cert.NormBRefIdeal.sig) → Buf (Elt Ideal) ℓ) : Prop :=
  True

def Pre_PrepS (m : (ℓ : Loc Cert.PrepS.nD Cert.PrepS.τ Cert.PrepS.sig) → Buf (Elt Bits) ℓ) : Prop :=
  True

def Pre_PrepSIdeal (m : (ℓ : Loc Cert.PrepSIdeal.nD Cert.PrepSIdeal.τ Cert.PrepSIdeal.sig) → Buf (Elt Ideal) ℓ) : Prop :=
  True

def Pre_PrepSRefIdeal (m : (ℓ : Loc Cert.PrepSRefIdeal.nD Cert.PrepSRefIdeal.τ Cert.PrepSRefIdeal.sig) → Buf (Elt Ideal) ℓ) : Prop :=
  True

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2)
      ∧ r.2.mem ((c.tc : Thread Cert.Gqa.nD Cert.Gqa.τ).loc Cert.Gqa.main_arg3) = m ((c.tc : Thread Cert.Gqa.nD Cert.Gqa.τ).loc Cert.Gqa.main_arg3)
      ∧ r.2.mem ((c.tc : Thread Cert.Gqa.nD Cert.Gqa.τ).loc Cert.Gqa.main_arg4) = m ((c.tc : Thread Cert.Gqa.nD Cert.Gqa.τ).loc Cert.Gqa.main_arg4))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
      ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4))
      ∧ r.2.sem = fun _ => 0)

def quiescent_GqaIdeal_pre_finite_scores [hGqaIdeal : Cert.GqaIdeal.Facts] [hPre_finite_scores : Cert.Pre_finite_scores.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_finite_scores m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
      ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3)
      ∧ r.2.mem ((c.tc : Thread Cert.GqaRefIdeal.nD Cert.GqaRefIdeal.τ).loc Cert.GqaRefIdeal.main_arg4) = m ((c.tc : Thread Cert.GqaRefIdeal.nD Cert.GqaRefIdeal.τ).loc Cert.GqaRefIdeal.main_arg4))
      ∧ r.2.sem = fun _ => 0)

def quiescent_GqaRefIdeal_pre_finite_scores [hGqaRefIdeal : Cert.GqaRefIdeal.Facts] [hPre_finite_scores : Cert.Pre_finite_scores.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_finite_scores m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3)
      ∧ r.2.mem ((c.tc : Thread Cert.GqaRefIdeal.nD Cert.GqaRefIdeal.τ).loc Cert.GqaRefIdeal.main_arg4) = m ((c.tc : Thread Cert.GqaRefIdeal.nD Cert.GqaRefIdeal.τ).loc Cert.GqaRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Kr [hKr : Cert.Kr.Facts] : Prop :=
  ∀ (m : (ℓ : Loc Cert.Kr.nD Cert.Kr.τ Cert.Kr.sig) → Buf (Elt Bits) ℓ) (g : Dev Cert.Kr.nD → PrngReg), Pre_Kr m →
    θ_run (Cert.Kr.defs (F := Bits)) (onTc (τ := Cert.Kr.τ) (Cert.Kr.main (F := Bits))) ⟨m, fun _ => 0, g⟩ (fun r => (∀ c : Dev Cert.Kr.nD,
      r.2.mem ((c.tc : Thread Cert.Kr.nD Cert.Kr.τ).loc Cert.Kr.main_arg0) = m ((c.tc : Thread Cert.Kr.nD Cert.Kr.τ).loc Cert.Kr.main_arg0)
      ∧ r.2.mem ((c.tc : Thread Cert.Kr.nD Cert.Kr.τ).loc Cert.Kr.main_arg1) = m ((c.tc : Thread Cert.Kr.nD Cert.Kr.τ).loc Cert.Kr.main_arg1))
      ∧ r.2.sem = fun _ => 0)

def quiescent_KrIdeal [hKrIdeal : Cert.KrIdeal.Facts] : Prop :=
  ∀ (m : (ℓ : Loc Cert.KrIdeal.nD Cert.KrIdeal.τ Cert.KrIdeal.sig) → Buf (Elt Ideal) ℓ) (g : Dev Cert.KrIdeal.nD → PrngReg), Pre_KrIdeal m →
    θ_run (Cert.KrIdeal.defs (F := Ideal)) (onTc (τ := Cert.KrIdeal.τ) (Cert.KrIdeal.main (F := Ideal))) ⟨m, fun _ => 0, g⟩ (fun r => (∀ c : Dev Cert.KrIdeal.nD,
      r.2.mem ((c.tc : Thread Cert.KrIdeal.nD Cert.KrIdeal.τ).loc Cert.KrIdeal.main_arg0) = m ((c.tc : Thread Cert.KrIdeal.nD Cert.KrIdeal.τ).loc Cert.KrIdeal.main_arg0)
      ∧ r.2.mem ((c.tc : Thread Cert.KrIdeal.nD Cert.KrIdeal.τ).loc Cert.KrIdeal.main_arg1) = m ((c.tc : Thread Cert.KrIdeal.nD Cert.KrIdeal.τ).loc Cert.KrIdeal.main_arg1))
      ∧ r.2.sem = fun _ => 0)

def quiescent_KrRefIdeal [hKrRefIdeal : Cert.KrRefIdeal.Facts] : Prop :=
  ∀ (m : (ℓ : Loc Cert.KrRefIdeal.nD Cert.KrRefIdeal.τ Cert.KrRefIdeal.sig) → Buf (Elt Ideal) ℓ) (g : Dev Cert.KrRefIdeal.nD → PrngReg), Pre_KrRefIdeal m →
    θ_run (Cert.KrRefIdeal.defs (F := Ideal)) (onTc (τ := Cert.KrRefIdeal.τ) (Cert.KrRefIdeal.main (F := Ideal))) ⟨m, fun _ => 0, g⟩ (fun r => (∀ c : Dev Cert.KrRefIdeal.nD,
      r.2.mem ((c.tc : Thread Cert.KrRefIdeal.nD Cert.KrRefIdeal.τ).loc Cert.KrRefIdeal.main_arg0) = m ((c.tc : Thread Cert.KrRefIdeal.nD Cert.KrRefIdeal.τ).loc Cert.KrRefIdeal.main_arg0)
      ∧ r.2.mem ((c.tc : Thread Cert.KrRefIdeal.nD Cert.KrRefIdeal.τ).loc Cert.KrRefIdeal.main_arg1) = m ((c.tc : Thread Cert.KrRefIdeal.nD Cert.KrRefIdeal.τ).loc Cert.KrRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ r.2.sem = fun _ => 0)

def quiescent_MlaIdeal_pre_finite_mla [hMlaIdeal : Cert.MlaIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_mla m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4))
      ∧ r.2.sem = fun _ => 0)

def quiescent_MlaRefIdeal_pre_finite_mla [hMlaRefIdeal : Cert.MlaRefIdeal.Facts] [hPre_finite_mla : Cert.Pre_finite_mla.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_mla m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_PeerQ [hPeerQ : Cert.PeerQ.Facts] : Prop :=
  ∀ (m : (ℓ : Loc Cert.PeerQ.nD Cert.PeerQ.τ Cert.PeerQ.sig) → Buf (Elt Bits) ℓ) (g : Dev Cert.PeerQ.nD → PrngReg), Pre_PeerQ m →
    θ_run (Cert.PeerQ.defs (F := Bits)) (onTc (τ := Cert.PeerQ.τ) (Cert.PeerQ.main (F := Bits))) ⟨m, fun _ => 0, g⟩ (fun r => (∀ c : Dev Cert.PeerQ.nD,
      r.2.mem ((c.tc : Thread Cert.PeerQ.nD Cert.PeerQ.τ).loc Cert.PeerQ.main_arg0) = m ((c.tc : Thread Cert.PeerQ.nD Cert.PeerQ.τ).loc Cert.PeerQ.main_arg0)
      ∧ r.2.mem ((c.tc : Thread Cert.PeerQ.nD Cert.PeerQ.τ).loc Cert.PeerQ.main_arg1) = m ((c.tc : Thread Cert.PeerQ.nD Cert.PeerQ.τ).loc Cert.PeerQ.main_arg1))
      ∧ r.2.sem = fun _ => 0)

def quiescent_PeerQIdeal [hPeerQIdeal : Cert.PeerQIdeal.Facts] : Prop :=
  ∀ (m : (ℓ : Loc Cert.PeerQIdeal.nD Cert.PeerQIdeal.τ Cert.PeerQIdeal.sig) → Buf (Elt Ideal) ℓ) (g : Dev Cert.PeerQIdeal.nD → PrngReg), Pre_PeerQIdeal m →
    θ_run (Cert.PeerQIdeal.defs (F := Ideal)) (onTc (τ := Cert.PeerQIdeal.τ) (Cert.PeerQIdeal.main (F := Ideal))) ⟨m, fun _ => 0, g⟩ (fun r => (∀ c : Dev Cert.PeerQIdeal.nD,
      r.2.mem ((c.tc : Thread Cert.PeerQIdeal.nD Cert.PeerQIdeal.τ).loc Cert.PeerQIdeal.main_arg0) = m ((c.tc : Thread Cert.PeerQIdeal.nD Cert.PeerQIdeal.τ).loc Cert.PeerQIdeal.main_arg0)
      ∧ r.2.mem ((c.tc : Thread Cert.PeerQIdeal.nD Cert.PeerQIdeal.τ).loc Cert.PeerQIdeal.main_arg1) = m ((c.tc : Thread Cert.PeerQIdeal.nD Cert.PeerQIdeal.τ).loc Cert.PeerQIdeal.main_arg1))
      ∧ r.2.sem = fun _ => 0)

def quiescent_PeerQRefIdeal [hPeerQRefIdeal : Cert.PeerQRefIdeal.Facts] : Prop :=
  ∀ (m : (ℓ : Loc Cert.PeerQRefIdeal.nD Cert.PeerQRefIdeal.τ Cert.PeerQRefIdeal.sig) → Buf (Elt Ideal) ℓ) (g : Dev Cert.PeerQRefIdeal.nD → PrngReg), Pre_PeerQRefIdeal m →
    θ_run (Cert.PeerQRefIdeal.defs (F := Ideal)) (onTc (τ := Cert.PeerQRefIdeal.τ) (Cert.PeerQRefIdeal.main (F := Ideal))) ⟨m, fun _ => 0, g⟩ (fun r => (∀ c : Dev Cert.PeerQRefIdeal.nD,
      r.2.mem ((c.tc : Thread Cert.PeerQRefIdeal.nD Cert.PeerQRefIdeal.τ).loc Cert.PeerQRefIdeal.main_arg0) = m ((c.tc : Thread Cert.PeerQRefIdeal.nD Cert.PeerQRefIdeal.τ).loc Cert.PeerQRefIdeal.main_arg0)
      ∧ r.2.mem ((c.tc : Thread Cert.PeerQRefIdeal.nD Cert.PeerQRefIdeal.τ).loc Cert.PeerQRefIdeal.main_arg1) = m ((c.tc : Thread Cert.PeerQRefIdeal.nD Cert.PeerQRefIdeal.τ).loc Cert.PeerQRefIdeal.main_arg1))
      ∧ r.2.sem = fun _ => 0)

def quiescent_FinalP [hFinalP : Cert.FinalP.Facts] : Prop :=
  ∀ (m : (ℓ : Loc Cert.FinalP.nD Cert.FinalP.τ Cert.FinalP.sig) → Buf (Elt Bits) ℓ) (g : Dev Cert.FinalP.nD → PrngReg), Pre_FinalP m →
    θ_run (Cert.FinalP.defs (F := Bits)) (onTc (τ := Cert.FinalP.τ) (Cert.FinalP.main (F := Bits))) ⟨m, fun _ => 0, g⟩ (fun r => (∀ c : Dev Cert.FinalP.nD,
      r.2.mem ((c.tc : Thread Cert.FinalP.nD Cert.FinalP.τ).loc Cert.FinalP.main_arg0) = m ((c.tc : Thread Cert.FinalP.nD Cert.FinalP.τ).loc Cert.FinalP.main_arg0)
      ∧ r.2.mem ((c.tc : Thread Cert.FinalP.nD Cert.FinalP.τ).loc Cert.FinalP.main_arg1) = m ((c.tc : Thread Cert.FinalP.nD Cert.FinalP.τ).loc Cert.FinalP.main_arg1)
      ∧ r.2.mem ((c.tc : Thread Cert.FinalP.nD Cert.FinalP.τ).loc Cert.FinalP.main_arg2) = m ((c.tc : Thread Cert.FinalP.nD Cert.FinalP.τ).loc Cert.FinalP.main_arg2)
      ∧ r.2.mem ((c.tc : Thread Cert.FinalP.nD Cert.FinalP.τ).loc Cert.FinalP.main_arg3) = m ((c.tc : Thread Cert.FinalP.nD Cert.FinalP.τ).loc Cert.FinalP.main_arg3))
      ∧ r.2.sem = fun _ => 0)

def quiescent_FinalPIdeal [hFinalPIdeal : Cert.FinalPIdeal.Facts] : Prop :=
  ∀ (m : (ℓ : Loc Cert.FinalPIdeal.nD Cert.FinalPIdeal.τ Cert.FinalPIdeal.sig) → Buf (Elt Ideal) ℓ) (g : Dev Cert.FinalPIdeal.nD → PrngReg), Pre_FinalPIdeal m →
    θ_run (Cert.FinalPIdeal.defs (F := Ideal)) (onTc (τ := Cert.FinalPIdeal.τ) (Cert.FinalPIdeal.main (F := Ideal))) ⟨m, fun _ => 0, g⟩ (fun r => (∀ c : Dev Cert.FinalPIdeal.nD,
      r.2.mem ((c.tc : Thread Cert.FinalPIdeal.nD Cert.FinalPIdeal.τ).loc Cert.FinalPIdeal.main_arg0) = m ((c.tc : Thread Cert.FinalPIdeal.nD Cert.FinalPIdeal.τ).loc Cert.FinalPIdeal.main_arg0)
      ∧ r.2.mem ((c.tc : Thread Cert.FinalPIdeal.nD Cert.FinalPIdeal.τ).loc Cert.FinalPIdeal.main_arg1) = m ((c.tc : Thread Cert.FinalPIdeal.nD Cert.FinalPIdeal.τ).loc Cert.FinalPIdeal.main_arg1)
      ∧ r.2.mem ((c.tc : Thread Cert.FinalPIdeal.nD Cert.FinalPIdeal.τ).loc Cert.FinalPIdeal.main_arg2) = m ((c.tc : Thread Cert.FinalPIdeal.nD Cert.FinalPIdeal.τ).loc Cert.FinalPIdeal.main_arg2)
      ∧ r.2.mem ((c.tc : Thread Cert.FinalPIdeal.nD Cert.FinalPIdeal.τ).loc Cert.FinalPIdeal.main_arg3) = m ((c.tc : Thread Cert.FinalPIdeal.nD Cert.FinalPIdeal.τ).loc Cert.FinalPIdeal.main_arg3))
      ∧ r.2.sem = fun _ => 0)

def quiescent_FinalPRefIdeal [hFinalPRefIdeal : Cert.FinalPRefIdeal.Facts] : Prop :=
  ∀ (m : (ℓ : Loc Cert.FinalPRefIdeal.nD Cert.FinalPRefIdeal.τ Cert.FinalPRefIdeal.sig) → Buf (Elt Ideal) ℓ) (g : Dev Cert.FinalPRefIdeal.nD → PrngReg), Pre_FinalPRefIdeal m →
    θ_run (Cert.FinalPRefIdeal.defs (F := Ideal)) (onTc (τ := Cert.FinalPRefIdeal.τ) (Cert.FinalPRefIdeal.main (F := Ideal))) ⟨m, fun _ => 0, g⟩ (fun r => (∀ c : Dev Cert.FinalPRefIdeal.nD,
      r.2.mem ((c.tc : Thread Cert.FinalPRefIdeal.nD Cert.FinalPRefIdeal.τ).loc Cert.FinalPRefIdeal.main_arg0) = m ((c.tc : Thread Cert.FinalPRefIdeal.nD Cert.FinalPRefIdeal.τ).loc Cert.FinalPRefIdeal.main_arg0)
      ∧ r.2.mem ((c.tc : Thread Cert.FinalPRefIdeal.nD Cert.FinalPRefIdeal.τ).loc Cert.FinalPRefIdeal.main_arg1) = m ((c.tc : Thread Cert.FinalPRefIdeal.nD Cert.FinalPRefIdeal.τ).loc Cert.FinalPRefIdeal.main_arg1)
      ∧ r.2.mem ((c.tc : Thread Cert.FinalPRefIdeal.nD Cert.FinalPRefIdeal.τ).loc Cert.FinalPRefIdeal.main_arg2) = m ((c.tc : Thread Cert.FinalPRefIdeal.nD Cert.FinalPRefIdeal.τ).loc Cert.FinalPRefIdeal.main_arg2)
      ∧ r.2.mem ((c.tc : Thread Cert.FinalPRefIdeal.nD Cert.FinalPRefIdeal.τ).loc Cert.FinalPRefIdeal.main_arg3) = m ((c.tc : Thread Cert.FinalPRefIdeal.nD Cert.FinalPRefIdeal.τ).loc Cert.FinalPRefIdeal.main_arg3))
      ∧ r.2.sem = fun _ => 0)

def quiescent_FinalS [hFinalS : Cert.FinalS.Facts] : Prop :=
  ∀ (m : (ℓ : Loc Cert.FinalS.nD Cert.FinalS.τ Cert.FinalS.sig) → Buf (Elt Bits) ℓ) (g : Dev Cert.FinalS.nD → PrngReg), Pre_FinalS m →
    θ_run (Cert.FinalS.defs (F := Bits)) (onTc (τ := Cert.FinalS.τ) (Cert.FinalS.main (F := Bits))) ⟨m, fun _ => 0, g⟩ (fun r => (∀ c : Dev Cert.FinalS.nD,
      r.2.mem ((c.tc : Thread Cert.FinalS.nD Cert.FinalS.τ).loc Cert.FinalS.main_arg0) = m ((c.tc : Thread Cert.FinalS.nD Cert.FinalS.τ).loc Cert.FinalS.main_arg0)
      ∧ r.2.mem ((c.tc : Thread Cert.FinalS.nD Cert.FinalS.τ).loc Cert.FinalS.main_arg1) = m ((c.tc : Thread Cert.FinalS.nD Cert.FinalS.τ).loc Cert.FinalS.main_arg1)
      ∧ r.2.mem ((c.tc : Thread Cert.FinalS.nD Cert.FinalS.τ).loc Cert.FinalS.main_arg2) = m ((c.tc : Thread Cert.FinalS.nD Cert.FinalS.τ).loc Cert.FinalS.main_arg2)
      ∧ r.2.mem ((c.tc : Thread Cert.FinalS.nD Cert.FinalS.τ).loc Cert.FinalS.main_arg3) = m ((c.tc : Thread Cert.FinalS.nD Cert.FinalS.τ).loc Cert.FinalS.main_arg3))
      ∧ r.2.sem = fun _ => 0)

def quiescent_FinalSIdeal [hFinalSIdeal : Cert.FinalSIdeal.Facts] : Prop :=
  ∀ (m : (ℓ : Loc Cert.FinalSIdeal.nD Cert.FinalSIdeal.τ Cert.FinalSIdeal.sig) → Buf (Elt Ideal) ℓ) (g : Dev Cert.FinalSIdeal.nD → PrngReg), Pre_FinalSIdeal m →
    θ_run (Cert.FinalSIdeal.defs (F := Ideal)) (onTc (τ := Cert.FinalSIdeal.τ) (Cert.FinalSIdeal.main (F := Ideal))) ⟨m, fun _ => 0, g⟩ (fun r => (∀ c : Dev Cert.FinalSIdeal.nD,
      r.2.mem ((c.tc : Thread Cert.FinalSIdeal.nD Cert.FinalSIdeal.τ).loc Cert.FinalSIdeal.main_arg0) = m ((c.tc : Thread Cert.FinalSIdeal.nD Cert.FinalSIdeal.τ).loc Cert.FinalSIdeal.main_arg0)
      ∧ r.2.mem ((c.tc : Thread Cert.FinalSIdeal.nD Cert.FinalSIdeal.τ).loc Cert.FinalSIdeal.main_arg1) = m ((c.tc : Thread Cert.FinalSIdeal.nD Cert.FinalSIdeal.τ).loc Cert.FinalSIdeal.main_arg1)
      ∧ r.2.mem ((c.tc : Thread Cert.FinalSIdeal.nD Cert.FinalSIdeal.τ).loc Cert.FinalSIdeal.main_arg2) = m ((c.tc : Thread Cert.FinalSIdeal.nD Cert.FinalSIdeal.τ).loc Cert.FinalSIdeal.main_arg2)
      ∧ r.2.mem ((c.tc : Thread Cert.FinalSIdeal.nD Cert.FinalSIdeal.τ).loc Cert.FinalSIdeal.main_arg3) = m ((c.tc : Thread Cert.FinalSIdeal.nD Cert.FinalSIdeal.τ).loc Cert.FinalSIdeal.main_arg3))
      ∧ r.2.sem = fun _ => 0)

def quiescent_FinalSRefIdeal [hFinalSRefIdeal : Cert.FinalSRefIdeal.Facts] : Prop :=
  ∀ (m : (ℓ : Loc Cert.FinalSRefIdeal.nD Cert.FinalSRefIdeal.τ Cert.FinalSRefIdeal.sig) → Buf (Elt Ideal) ℓ) (g : Dev Cert.FinalSRefIdeal.nD → PrngReg), Pre_FinalSRefIdeal m →
    θ_run (Cert.FinalSRefIdeal.defs (F := Ideal)) (onTc (τ := Cert.FinalSRefIdeal.τ) (Cert.FinalSRefIdeal.main (F := Ideal))) ⟨m, fun _ => 0, g⟩ (fun r => (∀ c : Dev Cert.FinalSRefIdeal.nD,
      r.2.mem ((c.tc : Thread Cert.FinalSRefIdeal.nD Cert.FinalSRefIdeal.τ).loc Cert.FinalSRefIdeal.main_arg0) = m ((c.tc : Thread Cert.FinalSRefIdeal.nD Cert.FinalSRefIdeal.τ).loc Cert.FinalSRefIdeal.main_arg0)
      ∧ r.2.mem ((c.tc : Thread Cert.FinalSRefIdeal.nD Cert.FinalSRefIdeal.τ).loc Cert.FinalSRefIdeal.main_arg1) = m ((c.tc : Thread Cert.FinalSRefIdeal.nD Cert.FinalSRefIdeal.τ).loc Cert.FinalSRefIdeal.main_arg1)
      ∧ r.2.mem ((c.tc : Thread Cert.FinalSRefIdeal.nD Cert.FinalSRefIdeal.τ).loc Cert.FinalSRefIdeal.main_arg2) = m ((c.tc : Thread Cert.FinalSRefIdeal.nD Cert.FinalSRefIdeal.τ).loc Cert.FinalSRefIdeal.main_arg2)
      ∧ r.2.mem ((c.tc : Thread Cert.FinalSRefIdeal.nD Cert.FinalSRefIdeal.τ).loc Cert.FinalSRefIdeal.main_arg3) = m ((c.tc : Thread Cert.FinalSRefIdeal.nD Cert.FinalSRefIdeal.τ).loc Cert.FinalSRefIdeal.main_arg3))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2))
      ∧ r.2.sem = fun _ => 0)

def quiescent_Qb [hQb : Cert.Qb.Facts] : Prop :=
  ∀ (m : (ℓ : Loc Cert.Qb.nD Cert.Qb.τ Cert.Qb.sig) → Buf (Elt Bits) ℓ) (g : Dev Cert.Qb.nD → PrngReg), Pre_Qb m →
    θ_run (Cert.Qb.defs (F := Bits)) (onTc (τ := Cert.Qb.τ) (Cert.Qb.main (F := Bits))) ⟨m, fun _ => 0, g⟩ (fun r => (∀ c : Dev Cert.Qb.nD,
      r.2.mem ((c.tc : Thread Cert.Qb.nD Cert.Qb.τ).loc Cert.Qb.main_arg0) = m ((c.tc : Thread Cert.Qb.nD Cert.Qb.τ).loc Cert.Qb.main_arg0)
      ∧ r.2.mem ((c.tc : Thread Cert.Qb.nD Cert.Qb.τ).loc Cert.Qb.main_arg1) = m ((c.tc : Thread Cert.Qb.nD Cert.Qb.τ).loc Cert.Qb.main_arg1)
      ∧ r.2.mem ((c.tc : Thread Cert.Qb.nD Cert.Qb.τ).loc Cert.Qb.main_arg2) = m ((c.tc : Thread Cert.Qb.nD Cert.Qb.τ).loc Cert.Qb.main_arg2)
      ∧ r.2.mem ((c.tc : Thread Cert.Qb.nD Cert.Qb.τ).loc Cert.Qb.main_arg3) = m ((c.tc : Thread Cert.Qb.nD Cert.Qb.τ).loc Cert.Qb.main_arg3))
      ∧ r.2.sem = fun _ => 0)

def quiescent_QbIdeal [hQbIdeal : Cert.QbIdeal.Facts] : Prop :=
  ∀ (m : (ℓ : Loc Cert.QbIdeal.nD Cert.QbIdeal.τ Cert.QbIdeal.sig) → Buf (Elt Ideal) ℓ) (g : Dev Cert.QbIdeal.nD → PrngReg), Pre_QbIdeal m →
    θ_run (Cert.QbIdeal.defs (F := Ideal)) (onTc (τ := Cert.QbIdeal.τ) (Cert.QbIdeal.main (F := Ideal))) ⟨m, fun _ => 0, g⟩ (fun r => (∀ c : Dev Cert.QbIdeal.nD,
      r.2.mem ((c.tc : Thread Cert.QbIdeal.nD Cert.QbIdeal.τ).loc Cert.QbIdeal.main_arg0) = m ((c.tc : Thread Cert.QbIdeal.nD Cert.QbIdeal.τ).loc Cert.QbIdeal.main_arg0)
      ∧ r.2.mem ((c.tc : Thread Cert.QbIdeal.nD Cert.QbIdeal.τ).loc Cert.QbIdeal.main_arg1) = m ((c.tc : Thread Cert.QbIdeal.nD Cert.QbIdeal.τ).loc Cert.QbIdeal.main_arg1)
      ∧ r.2.mem ((c.tc : Thread Cert.QbIdeal.nD Cert.QbIdeal.τ).loc Cert.QbIdeal.main_arg2) = m ((c.tc : Thread Cert.QbIdeal.nD Cert.QbIdeal.τ).loc Cert.QbIdeal.main_arg2)
      ∧ r.2.mem ((c.tc : Thread Cert.QbIdeal.nD Cert.QbIdeal.τ).loc Cert.QbIdeal.main_arg3) = m ((c.tc : Thread Cert.QbIdeal.nD Cert.QbIdeal.τ).loc Cert.QbIdeal.main_arg3))
      ∧ r.2.sem = fun _ => 0)

def quiescent_QbRefIdeal [hQbRefIdeal : Cert.QbRefIdeal.Facts] : Prop :=
  ∀ (m : (ℓ : Loc Cert.QbRefIdeal.nD Cert.QbRefIdeal.τ Cert.QbRefIdeal.sig) → Buf (Elt Ideal) ℓ) (g : Dev Cert.QbRefIdeal.nD → PrngReg), Pre_QbRefIdeal m →
    θ_run (Cert.QbRefIdeal.defs (F := Ideal)) (onTc (τ := Cert.QbRefIdeal.τ) (Cert.QbRefIdeal.main (F := Ideal))) ⟨m, fun _ => 0, g⟩ (fun r => (∀ c : Dev Cert.QbRefIdeal.nD,
      r.2.mem ((c.tc : Thread Cert.QbRefIdeal.nD Cert.QbRefIdeal.τ).loc Cert.QbRefIdeal.main_arg0) = m ((c.tc : Thread Cert.QbRefIdeal.nD Cert.QbRefIdeal.τ).loc Cert.QbRefIdeal.main_arg0)
      ∧ r.2.mem ((c.tc : Thread Cert.QbRefIdeal.nD Cert.QbRefIdeal.τ).loc Cert.QbRefIdeal.main_arg1) = m ((c.tc : Thread Cert.QbRefIdeal.nD Cert.QbRefIdeal.τ).loc Cert.QbRefIdeal.main_arg1)
      ∧ r.2.mem ((c.tc : Thread Cert.QbRefIdeal.nD Cert.QbRefIdeal.τ).loc Cert.QbRefIdeal.main_arg2) = m ((c.tc : Thread Cert.QbRefIdeal.nD Cert.QbRefIdeal.τ).loc Cert.QbRefIdeal.main_arg2)
      ∧ r.2.mem ((c.tc : Thread Cert.QbRefIdeal.nD Cert.QbRefIdeal.τ).loc Cert.QbRefIdeal.main_arg3) = m ((c.tc : Thread Cert.QbRefIdeal.nD Cert.QbRefIdeal.τ).loc Cert.QbRefIdeal.main_arg3))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_NormB [hNormB : Cert.NormB.Facts] : Prop :=
  ∀ (m : (ℓ : Loc Cert.NormB.nD Cert.NormB.τ Cert.NormB.sig) → Buf (Elt Bits) ℓ) (g : Dev Cert.NormB.nD → PrngReg), Pre_NormB m →
    θ_run (Cert.NormB.defs (F := Bits)) (onTc (τ := Cert.NormB.τ) (Cert.NormB.main (F := Bits))) ⟨m, fun _ => 0, g⟩ (fun r => (∀ c : Dev Cert.NormB.nD,
      r.2.mem ((c.tc : Thread Cert.NormB.nD Cert.NormB.τ).loc Cert.NormB.main_arg0) = m ((c.tc : Thread Cert.NormB.nD Cert.NormB.τ).loc Cert.NormB.main_arg0)
      ∧ r.2.mem ((c.tc : Thread Cert.NormB.nD Cert.NormB.τ).loc Cert.NormB.main_arg1) = m ((c.tc : Thread Cert.NormB.nD Cert.NormB.τ).loc Cert.NormB.main_arg1)
      ∧ r.2.mem ((c.tc : Thread Cert.NormB.nD Cert.NormB.τ).loc Cert.NormB.main_arg2) = m ((c.tc : Thread Cert.NormB.nD Cert.NormB.τ).loc Cert.NormB.main_arg2))
      ∧ r.2.sem = fun _ => 0)

def quiescent_NormBIdeal [hNormBIdeal : Cert.NormBIdeal.Facts] : Prop :=
  ∀ (m : (ℓ : Loc Cert.NormBIdeal.nD Cert.NormBIdeal.τ Cert.NormBIdeal.sig) → Buf (Elt Ideal) ℓ) (g : Dev Cert.NormBIdeal.nD → PrngReg), Pre_NormBIdeal m →
    θ_run (Cert.NormBIdeal.defs (F := Ideal)) (onTc (τ := Cert.NormBIdeal.τ) (Cert.NormBIdeal.main (F := Ideal))) ⟨m, fun _ => 0, g⟩ (fun r => (∀ c : Dev Cert.NormBIdeal.nD,
      r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
      ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
      ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2))
      ∧ r.2.sem = fun _ => 0)

def quiescent_NormBRefIdeal [hNormBRefIdeal : Cert.NormBRefIdeal.Facts] : Prop :=
  ∀ (m : (ℓ : Loc Cert.NormBRefIdeal.nD Cert.NormBRefIdeal.τ Cert.NormBRefIdeal.sig) → Buf (Elt Ideal) ℓ) (g : Dev Cert.NormBRefIdeal.nD → PrngReg), Pre_NormBRefIdeal m →
    θ_run (Cert.NormBRefIdeal.defs (F := Ideal)) (onTc (τ := Cert.NormBRefIdeal.τ) (Cert.NormBRefIdeal.main (F := Ideal))) ⟨m, fun _ => 0, g⟩ (fun r => (∀ c : Dev Cert.NormBRefIdeal.nD,
      r.2.mem ((c.tc : Thread Cert.NormBRefIdeal.nD Cert.NormBRefIdeal.τ).loc Cert.NormBRefIdeal.main_arg0) = m ((c.tc : Thread Cert.NormBRefIdeal.nD Cert.NormBRefIdeal.τ).loc Cert.NormBRefIdeal.main_arg0)
      ∧ r.2.mem ((c.tc : Thread Cert.NormBRefIdeal.nD Cert.NormBRefIdeal.τ).loc Cert.NormBRefIdeal.main_arg1) = m ((c.tc : Thread Cert.NormBRefIdeal.nD Cert.NormBRefIdeal.τ).loc Cert.NormBRefIdeal.main_arg1)
      ∧ r.2.mem ((c.tc : Thread Cert.NormBRefIdeal.nD Cert.NormBRefIdeal.τ).loc Cert.NormBRefIdeal.main_arg2) = m ((c.tc : Thread Cert.NormBRefIdeal.nD Cert.NormBRefIdeal.τ).loc Cert.NormBRefIdeal.main_arg2))
      ∧ r.2.sem = fun _ => 0)

def quiescent_PrepS [hPrepS : Cert.PrepS.Facts] : Prop :=
  ∀ (m : (ℓ : Loc Cert.PrepS.nD Cert.PrepS.τ Cert.PrepS.sig) → Buf (Elt Bits) ℓ) (g : Dev Cert.PrepS.nD → PrngReg), Pre_PrepS m →
    θ_run (Cert.PrepS.defs (F := Bits)) (onTc (τ := Cert.PrepS.τ) (Cert.PrepS.main (F := Bits))) ⟨m, fun _ => 0, g⟩ (fun r => (∀ c : Dev Cert.PrepS.nD,
      r.2.mem ((c.tc : Thread Cert.PrepS.nD Cert.PrepS.τ).loc Cert.PrepS.main_arg0) = m ((c.tc : Thread Cert.PrepS.nD Cert.PrepS.τ).loc Cert.PrepS.main_arg0)
      ∧ r.2.mem ((c.tc : Thread Cert.PrepS.nD Cert.PrepS.τ).loc Cert.PrepS.main_arg1) = m ((c.tc : Thread Cert.PrepS.nD Cert.PrepS.τ).loc Cert.PrepS.main_arg1)
      ∧ r.2.mem ((c.tc : Thread Cert.PrepS.nD Cert.PrepS.τ).loc Cert.PrepS.main_arg2) = m ((c.tc : Thread Cert.PrepS.nD Cert.PrepS.τ).loc Cert.PrepS.main_arg2)
      ∧ r.2.mem ((c.tc : Thread Cert.PrepS.nD Cert.PrepS.τ).loc Cert.PrepS.main_arg3) = m ((c.tc : Thread Cert.PrepS.nD Cert.PrepS.τ).loc Cert.PrepS.main_arg3)
      ∧ r.2.mem ((c.tc : Thread Cert.PrepS.nD Cert.PrepS.τ).loc Cert.PrepS.main_arg4) = m ((c.tc : Thread Cert.PrepS.nD Cert.PrepS.τ).loc Cert.PrepS.main_arg4)
      ∧ r.2.mem ((c.tc : Thread Cert.PrepS.nD Cert.PrepS.τ).loc Cert.PrepS.main_arg5) = m ((c.tc : Thread Cert.PrepS.nD Cert.PrepS.τ).loc Cert.PrepS.main_arg5)
      ∧ r.2.mem ((c.tc : Thread Cert.PrepS.nD Cert.PrepS.τ).loc Cert.PrepS.main_arg6) = m ((c.tc : Thread Cert.PrepS.nD Cert.PrepS.τ).loc Cert.PrepS.main_arg6)
      ∧ r.2.mem ((c.tc : Thread Cert.PrepS.nD Cert.PrepS.τ).loc Cert.PrepS.main_arg7) = m ((c.tc : Thread Cert.PrepS.nD Cert.PrepS.τ).loc Cert.PrepS.main_arg7)
      ∧ r.2.mem ((c.tc : Thread Cert.PrepS.nD Cert.PrepS.τ).loc Cert.PrepS.main_arg8) = m ((c.tc : Thread Cert.PrepS.nD Cert.PrepS.τ).loc Cert.PrepS.main_arg8)
      ∧ r.2.mem ((c.tc : Thread Cert.PrepS.nD Cert.PrepS.τ).loc Cert.PrepS.main_arg9) = m ((c.tc : Thread Cert.PrepS.nD Cert.PrepS.τ).loc Cert.PrepS.main_arg9))
      ∧ r.2.sem = fun _ => 0)

def quiescent_PrepSIdeal [hPrepSIdeal : Cert.PrepSIdeal.Facts] : Prop :=
  ∀ (m : (ℓ : Loc Cert.PrepSIdeal.nD Cert.PrepSIdeal.τ Cert.PrepSIdeal.sig) → Buf (Elt Ideal) ℓ) (g : Dev Cert.PrepSIdeal.nD → PrngReg), Pre_PrepSIdeal m →
    θ_run (Cert.PrepSIdeal.defs (F := Ideal)) (onTc (τ := Cert.PrepSIdeal.τ) (Cert.PrepSIdeal.main (F := Ideal))) ⟨m, fun _ => 0, g⟩ (fun r => (∀ c : Dev Cert.PrepSIdeal.nD,
      r.2.mem ((c.tc : Thread Cert.PrepSIdeal.nD Cert.PrepSIdeal.τ).loc Cert.PrepSIdeal.main_arg0) = m ((c.tc : Thread Cert.PrepSIdeal.nD Cert.PrepSIdeal.τ).loc Cert.PrepSIdeal.main_arg0)
      ∧ r.2.mem ((c.tc : Thread Cert.PrepSIdeal.nD Cert.PrepSIdeal.τ).loc Cert.PrepSIdeal.main_arg1) = m ((c.tc : Thread Cert.PrepSIdeal.nD Cert.PrepSIdeal.τ).loc Cert.PrepSIdeal.main_arg1)
      ∧ r.2.mem ((c.tc : Thread Cert.PrepSIdeal.nD Cert.PrepSIdeal.τ).loc Cert.PrepSIdeal.main_arg2) = m ((c.tc : Thread Cert.PrepSIdeal.nD Cert.PrepSIdeal.τ).loc Cert.PrepSIdeal.main_arg2)
      ∧ r.2.mem ((c.tc : Thread Cert.PrepSIdeal.nD Cert.PrepSIdeal.τ).loc Cert.PrepSIdeal.main_arg3) = m ((c.tc : Thread Cert.PrepSIdeal.nD Cert.PrepSIdeal.τ).loc Cert.PrepSIdeal.main_arg3)
      ∧ r.2.mem ((c.tc : Thread Cert.PrepSIdeal.nD Cert.PrepSIdeal.τ).loc Cert.PrepSIdeal.main_arg4) = m ((c.tc : Thread Cert.PrepSIdeal.nD Cert.PrepSIdeal.τ).loc Cert.PrepSIdeal.main_arg4)
      ∧ r.2.mem ((c.tc : Thread Cert.PrepSIdeal.nD Cert.PrepSIdeal.τ).loc Cert.PrepSIdeal.main_arg5) = m ((c.tc : Thread Cert.PrepSIdeal.nD Cert.PrepSIdeal.τ).loc Cert.PrepSIdeal.main_arg5)
      ∧ r.2.mem ((c.tc : Thread Cert.PrepSIdeal.nD Cert.PrepSIdeal.τ).loc Cert.PrepSIdeal.main_arg6) = m ((c.tc : Thread Cert.PrepSIdeal.nD Cert.PrepSIdeal.τ).loc Cert.PrepSIdeal.main_arg6)
      ∧ r.2.mem ((c.tc : Thread Cert.PrepSIdeal.nD Cert.PrepSIdeal.τ).loc Cert.PrepSIdeal.main_arg7) = m ((c.tc : Thread Cert.PrepSIdeal.nD Cert.PrepSIdeal.τ).loc Cert.PrepSIdeal.main_arg7)
      ∧ r.2.mem ((c.tc : Thread Cert.PrepSIdeal.nD Cert.PrepSIdeal.τ).loc Cert.PrepSIdeal.main_arg8) = m ((c.tc : Thread Cert.PrepSIdeal.nD Cert.PrepSIdeal.τ).loc Cert.PrepSIdeal.main_arg8)
      ∧ r.2.mem ((c.tc : Thread Cert.PrepSIdeal.nD Cert.PrepSIdeal.τ).loc Cert.PrepSIdeal.main_arg9) = m ((c.tc : Thread Cert.PrepSIdeal.nD Cert.PrepSIdeal.τ).loc Cert.PrepSIdeal.main_arg9))
      ∧ r.2.sem = fun _ => 0)

def quiescent_PrepSRefIdeal [hPrepSRefIdeal : Cert.PrepSRefIdeal.Facts] : Prop :=
  ∀ (m : (ℓ : Loc Cert.PrepSRefIdeal.nD Cert.PrepSRefIdeal.τ Cert.PrepSRefIdeal.sig) → Buf (Elt Ideal) ℓ) (g : Dev Cert.PrepSRefIdeal.nD → PrngReg), Pre_PrepSRefIdeal m →
    θ_run (Cert.PrepSRefIdeal.defs (F := Ideal)) (onTc (τ := Cert.PrepSRefIdeal.τ) (Cert.PrepSRefIdeal.main (F := Ideal))) ⟨m, fun _ => 0, g⟩ (fun r => (∀ c : Dev Cert.PrepSRefIdeal.nD,
      r.2.mem ((c.tc : Thread Cert.PrepSRefIdeal.nD Cert.PrepSRefIdeal.τ).loc Cert.PrepSRefIdeal.main_arg0) = m ((c.tc : Thread Cert.PrepSRefIdeal.nD Cert.PrepSRefIdeal.τ).loc Cert.PrepSRefIdeal.main_arg0)
      ∧ r.2.mem ((c.tc : Thread Cert.PrepSRefIdeal.nD Cert.PrepSRefIdeal.τ).loc Cert.PrepSRefIdeal.main_arg1) = m ((c.tc : Thread Cert.PrepSRefIdeal.nD Cert.PrepSRefIdeal.τ).loc Cert.PrepSRefIdeal.main_arg1)
      ∧ r.2.mem ((c.tc : Thread Cert.PrepSRefIdeal.nD Cert.PrepSRefIdeal.τ).loc Cert.PrepSRefIdeal.main_arg2) = m ((c.tc : Thread Cert.PrepSRefIdeal.nD Cert.PrepSRefIdeal.τ).loc Cert.PrepSRefIdeal.main_arg2)
      ∧ r.2.mem ((c.tc : Thread Cert.PrepSRefIdeal.nD Cert.PrepSRefIdeal.τ).loc Cert.PrepSRefIdeal.main_arg3) = m ((c.tc : Thread Cert.PrepSRefIdeal.nD Cert.PrepSRefIdeal.τ).loc Cert.PrepSRefIdeal.main_arg3)
      ∧ r.2.mem ((c.tc : Thread Cert.PrepSRefIdeal.nD Cert.PrepSRefIdeal.τ).loc Cert.PrepSRefIdeal.main_arg4) = m ((c.tc : Thread Cert.PrepSRefIdeal.nD Cert.PrepSRefIdeal.τ).loc Cert.PrepSRefIdeal.main_arg4)
      ∧ r.2.mem ((c.tc : Thread Cert.PrepSRefIdeal.nD Cert.PrepSRefIdeal.τ).loc Cert.PrepSRefIdeal.main_arg5) = m ((c.tc : Thread Cert.PrepSRefIdeal.nD Cert.PrepSRefIdeal.τ).loc Cert.PrepSRefIdeal.main_arg5)
      ∧ r.2.mem ((c.tc : Thread Cert.PrepSRefIdeal.nD Cert.PrepSRefIdeal.τ).loc Cert.PrepSRefIdeal.main_arg6) = m ((c.tc : Thread Cert.PrepSRefIdeal.nD Cert.PrepSRefIdeal.τ).loc Cert.PrepSRefIdeal.main_arg6)
      ∧ r.2.mem ((c.tc : Thread Cert.PrepSRefIdeal.nD Cert.PrepSRefIdeal.τ).loc Cert.PrepSRefIdeal.main_arg7) = m ((c.tc : Thread Cert.PrepSRefIdeal.nD Cert.PrepSRefIdeal.τ).loc Cert.PrepSRefIdeal.main_arg7)
      ∧ r.2.mem ((c.tc : Thread Cert.PrepSRefIdeal.nD Cert.PrepSRefIdeal.τ).loc Cert.PrepSRefIdeal.main_arg8) = m ((c.tc : Thread Cert.PrepSRefIdeal.nD Cert.PrepSRefIdeal.τ).loc Cert.PrepSRefIdeal.main_arg8)
      ∧ r.2.mem ((c.tc : Thread Cert.PrepSRefIdeal.nD Cert.PrepSRefIdeal.τ).loc Cert.PrepSRefIdeal.main_arg9) = m ((c.tc : Thread Cert.PrepSRefIdeal.nD Cert.PrepSRefIdeal.τ).loc Cert.PrepSRefIdeal.main_arg9))
      ∧ r.2.sem = fun _ => 0)

def preserves_Gqa_GqaIdeal : Prop :=
  True

def algebraic_GqaIdeal_GqaRefIdeal_pre_finite_scores [hGqaIdeal : Cert.GqaIdeal.Facts] [hGqaRefIdeal : Cert.GqaRefIdeal.Facts] [hPre_finite_scores : Cert.Pre_finite_scores.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_finite_scores m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)
      ∧ m' ((c.tc : Thread Cert.GqaRefIdeal.nD Cert.GqaRefIdeal.τ).loc Cert.GqaRefIdeal.main_arg3) = m ((c.tc : Thread Cert.GqaIdeal.nD Cert.GqaIdeal.τ).loc Cert.GqaIdeal.main_arg3)
      ∧ m' ((c.tc : Thread Cert.GqaRefIdeal.nD Cert.GqaRefIdeal.τ).loc Cert.GqaRefIdeal.main_arg4) = m ((c.tc : Thread Cert.GqaIdeal.nD Cert.GqaIdeal.τ).loc Cert.GqaIdeal.main_arg4)) →
    ∃ (v0 : (c : Dev Cert.GqaIdeal.nD) → Buf (Elt Ideal) ((c.tc : Thread Cert.GqaIdeal.nD Cert.GqaIdeal.τ).loc Cert.GqaIdeal.main_v15)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v15) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
          ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
          ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v22) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2)
          ∧ r.2.mem ((c.tc : Thread Cert.GqaRefIdeal.nD Cert.GqaRefIdeal.τ).loc Cert.GqaRefIdeal.main_arg3) = m' ((c.tc : Thread Cert.GqaRefIdeal.nD Cert.GqaRefIdeal.τ).loc Cert.GqaRefIdeal.main_arg3)
          ∧ r.2.mem ((c.tc : Thread Cert.GqaRefIdeal.nD Cert.GqaRefIdeal.τ).loc Cert.GqaRefIdeal.main_arg4) = m' ((c.tc : Thread Cert.GqaRefIdeal.nD Cert.GqaRefIdeal.τ).loc Cert.GqaRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v6)) (v1 : (c : Dev Cert.ProjIdeal.nD) → Buf (Elt Ideal) ((c.tc : Thread Cert.ProjIdeal.nD Cert.ProjIdeal.τ).loc Cert.ProjIdeal.main_v8)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v6) = v0 c
          ∧ r.2.mem ((c.tc : Thread Cert.ProjIdeal.nD Cert.ProjIdeal.τ).loc Cert.ProjIdeal.main_v8) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v10) = v0 c
          ∧ r.2.mem ((c.tc : Thread Cert.ProjRefIdeal.nD Cert.ProjRefIdeal.τ).loc Cert.ProjRefIdeal.main_v11) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Kr_KrIdeal : Prop :=
  True

def algebraic_KrIdeal_KrRefIdeal [hKrIdeal : Cert.KrIdeal.Facts] [hKrRefIdeal : Cert.KrRefIdeal.Facts] : Prop :=
  ∀ (m : (ℓ : Loc Cert.KrIdeal.nD Cert.KrIdeal.τ Cert.KrIdeal.sig) → Buf (Elt Ideal) ℓ) (g : Dev Cert.KrIdeal.nD → PrngReg)
    (m' : (ℓ : Loc Cert.KrRefIdeal.nD Cert.KrRefIdeal.τ Cert.KrRefIdeal.sig) → Buf (Elt Ideal) ℓ) (g' : Dev Cert.KrRefIdeal.nD → PrngReg), Pre_KrIdeal m →
    (∀ c : Dev Cert.KrIdeal.nD,
      m' ((c.tc : Thread Cert.KrRefIdeal.nD Cert.KrRefIdeal.τ).loc Cert.KrRefIdeal.main_arg0) = m ((c.tc : Thread Cert.KrIdeal.nD Cert.KrIdeal.τ).loc Cert.KrIdeal.main_arg0)
      ∧ m' ((c.tc : Thread Cert.KrRefIdeal.nD Cert.KrRefIdeal.τ).loc Cert.KrRefIdeal.main_arg1) = m ((c.tc : Thread Cert.KrIdeal.nD Cert.KrIdeal.τ).loc Cert.KrIdeal.main_arg1)) →
    ∃ (v0 : (c : Dev Cert.KrIdeal.nD) → Buf (Elt Ideal) ((c.tc : Thread Cert.KrIdeal.nD Cert.KrIdeal.τ).loc Cert.KrIdeal.main_v7)),
      θ_run (Cert.KrIdeal.defs (F := Ideal)) (onTc (τ := Cert.KrIdeal.τ) (Cert.KrIdeal.main (F := Ideal))) ⟨m, fun _ => 0, g⟩ (fun r => ∀ c : Dev Cert.KrIdeal.nD,
          r.2.mem ((c.tc : Thread Cert.KrIdeal.nD Cert.KrIdeal.τ).loc Cert.KrIdeal.main_v7) = v0 c
          ∧ r.2.mem ((c.tc : Thread Cert.KrIdeal.nD Cert.KrIdeal.τ).loc Cert.KrIdeal.main_arg0) = m ((c.tc : Thread Cert.KrIdeal.nD Cert.KrIdeal.τ).loc Cert.KrIdeal.main_arg0)
          ∧ r.2.mem ((c.tc : Thread Cert.KrIdeal.nD Cert.KrIdeal.τ).loc Cert.KrIdeal.main_arg1) = m ((c.tc : Thread Cert.KrIdeal.nD Cert.KrIdeal.τ).loc Cert.KrIdeal.main_arg1))
      ∧ θ_run (Cert.KrRefIdeal.defs (F := Ideal)) (onTc (τ := Cert.KrRefIdeal.τ) (Cert.KrRefIdeal.main (F := Ideal))) ⟨m', fun _ => 0, g'⟩ (fun r => ∀ c : Dev Cert.KrRefIdeal.nD,
          r.2.mem ((c.tc : Thread Cert.KrRefIdeal.nD Cert.KrRefIdeal.τ).loc Cert.KrRefIdeal.main_v1) = v0 c
          ∧ r.2.mem ((c.tc : Thread Cert.KrRefIdeal.nD Cert.KrRefIdeal.τ).loc Cert.KrRefIdeal.main_arg0) = m' ((c.tc : Thread Cert.KrRefIdeal.nD Cert.KrRefIdeal.τ).loc Cert.KrRefIdeal.main_arg0)
          ∧ r.2.mem ((c.tc : Thread Cert.KrRefIdeal.nD Cert.KrRefIdeal.τ).loc Cert.KrRefIdeal.main_arg1) = m' ((c.tc : Thread Cert.KrRefIdeal.nD Cert.KrRefIdeal.τ).loc Cert.KrRefIdeal.main_arg1))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v4)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v4) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v9) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Mla_MlaIdeal : Prop :=
  True

def algebraic_MlaIdeal_MlaRefIdeal_pre_finite_mla [hMlaIdeal : Cert.MlaIdeal.Facts] [hMlaRefIdeal : Cert.MlaRefIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_mla m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)) →
    ∃ (v0 : (c : Dev Cert.MlaIdeal.nD) → Buf (Elt Ideal) ((c.tc : Thread Cert.MlaIdeal.nD Cert.MlaIdeal.τ).loc Cert.MlaIdeal.main_v28)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v28) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v25) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v8)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v8) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v6)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v6) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v11) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_PeerQ_PeerQIdeal : Prop :=
  True

def algebraic_PeerQIdeal_PeerQRefIdeal [hPeerQIdeal : Cert.PeerQIdeal.Facts] [hPeerQRefIdeal : Cert.PeerQRefIdeal.Facts] : Prop :=
  ∀ (m : (ℓ : Loc Cert.PeerQIdeal.nD Cert.PeerQIdeal.τ Cert.PeerQIdeal.sig) → Buf (Elt Ideal) ℓ) (g : Dev Cert.PeerQIdeal.nD → PrngReg)
    (m' : (ℓ : Loc Cert.PeerQRefIdeal.nD Cert.PeerQRefIdeal.τ Cert.PeerQRefIdeal.sig) → Buf (Elt Ideal) ℓ) (g' : Dev Cert.PeerQRefIdeal.nD → PrngReg), Pre_PeerQIdeal m →
    (∀ c : Dev Cert.PeerQIdeal.nD,
      m' ((c.tc : Thread Cert.PeerQRefIdeal.nD Cert.PeerQRefIdeal.τ).loc Cert.PeerQRefIdeal.main_arg0) = m ((c.tc : Thread Cert.PeerQIdeal.nD Cert.PeerQIdeal.τ).loc Cert.PeerQIdeal.main_arg0)
      ∧ m' ((c.tc : Thread Cert.PeerQRefIdeal.nD Cert.PeerQRefIdeal.τ).loc Cert.PeerQRefIdeal.main_arg1) = m ((c.tc : Thread Cert.PeerQIdeal.nD Cert.PeerQIdeal.τ).loc Cert.PeerQIdeal.main_arg1)) →
    ∃ (v0 : (c : Dev Cert.PeerQIdeal.nD) → Buf (Elt Ideal) ((c.tc : Thread Cert.PeerQIdeal.nD Cert.PeerQIdeal.τ).loc Cert.PeerQIdeal.main_v3)),
      θ_run (Cert.PeerQIdeal.defs (F := Ideal)) (onTc (τ := Cert.PeerQIdeal.τ) (Cert.PeerQIdeal.main (F := Ideal))) ⟨m, fun _ => 0, g⟩ (fun r => ∀ c : Dev Cert.PeerQIdeal.nD,
          r.2.mem ((c.tc : Thread Cert.PeerQIdeal.nD Cert.PeerQIdeal.τ).loc Cert.PeerQIdeal.main_v3) = v0 c
          ∧ r.2.mem ((c.tc : Thread Cert.PeerQIdeal.nD Cert.PeerQIdeal.τ).loc Cert.PeerQIdeal.main_arg0) = m ((c.tc : Thread Cert.PeerQIdeal.nD Cert.PeerQIdeal.τ).loc Cert.PeerQIdeal.main_arg0)
          ∧ r.2.mem ((c.tc : Thread Cert.PeerQIdeal.nD Cert.PeerQIdeal.τ).loc Cert.PeerQIdeal.main_arg1) = m ((c.tc : Thread Cert.PeerQIdeal.nD Cert.PeerQIdeal.τ).loc Cert.PeerQIdeal.main_arg1))
      ∧ θ_run (Cert.PeerQRefIdeal.defs (F := Ideal)) (onTc (τ := Cert.PeerQRefIdeal.τ) (Cert.PeerQRefIdeal.main (F := Ideal))) ⟨m', fun _ => 0, g'⟩ (fun r => ∀ c : Dev Cert.PeerQRefIdeal.nD,
          r.2.mem ((c.tc : Thread Cert.PeerQRefIdeal.nD Cert.PeerQRefIdeal.τ).loc Cert.PeerQRefIdeal.main_v2) = v0 c
          ∧ r.2.mem ((c.tc : Thread Cert.PeerQRefIdeal.nD Cert.PeerQRefIdeal.τ).loc Cert.PeerQRefIdeal.main_arg0) = m' ((c.tc : Thread Cert.PeerQRefIdeal.nD Cert.PeerQRefIdeal.τ).loc Cert.PeerQRefIdeal.main_arg0)
          ∧ r.2.mem ((c.tc : Thread Cert.PeerQRefIdeal.nD Cert.PeerQRefIdeal.τ).loc Cert.PeerQRefIdeal.main_arg1) = m' ((c.tc : Thread Cert.PeerQRefIdeal.nD Cert.PeerQRefIdeal.τ).loc Cert.PeerQRefIdeal.main_arg1))

def preserves_FinalP_FinalPIdeal : Prop :=
  True

def algebraic_FinalPIdeal_FinalPRefIdeal [hFinalPIdeal : Cert.FinalPIdeal.Facts] [hFinalPRefIdeal : Cert.FinalPRefIdeal.Facts] : Prop :=
  ∀ (m : (ℓ : Loc Cert.FinalPIdeal.nD Cert.FinalPIdeal.τ Cert.FinalPIdeal.sig) → Buf (Elt Ideal) ℓ) (g : Dev Cert.FinalPIdeal.nD → PrngReg)
    (m' : (ℓ : Loc Cert.FinalPRefIdeal.nD Cert.FinalPRefIdeal.τ Cert.FinalPRefIdeal.sig) → Buf (Elt Ideal) ℓ) (g' : Dev Cert.FinalPRefIdeal.nD → PrngReg), Pre_FinalPIdeal m →
    (∀ c : Dev Cert.FinalPIdeal.nD,
      m' ((c.tc : Thread Cert.FinalPRefIdeal.nD Cert.FinalPRefIdeal.τ).loc Cert.FinalPRefIdeal.main_arg0) = m ((c.tc : Thread Cert.FinalPIdeal.nD Cert.FinalPIdeal.τ).loc Cert.FinalPIdeal.main_arg0)
      ∧ m' ((c.tc : Thread Cert.FinalPRefIdeal.nD Cert.FinalPRefIdeal.τ).loc Cert.FinalPRefIdeal.main_arg1) = m ((c.tc : Thread Cert.FinalPIdeal.nD Cert.FinalPIdeal.τ).loc Cert.FinalPIdeal.main_arg1)
      ∧ m' ((c.tc : Thread Cert.FinalPRefIdeal.nD Cert.FinalPRefIdeal.τ).loc Cert.FinalPRefIdeal.main_arg2) = m ((c.tc : Thread Cert.FinalPIdeal.nD Cert.FinalPIdeal.τ).loc Cert.FinalPIdeal.main_arg2)
      ∧ m' ((c.tc : Thread Cert.FinalPRefIdeal.nD Cert.FinalPRefIdeal.τ).loc Cert.FinalPRefIdeal.main_arg3) = m ((c.tc : Thread Cert.FinalPIdeal.nD Cert.FinalPIdeal.τ).loc Cert.FinalPIdeal.main_arg3)) →
    ∃ (v0 : (c : Dev Cert.FinalPIdeal.nD) → Buf (Elt Ideal) ((c.tc : Thread Cert.FinalPIdeal.nD Cert.FinalPIdeal.τ).loc Cert.FinalPIdeal.main_v6)),
      θ_run (Cert.FinalPIdeal.defs (F := Ideal)) (onTc (τ := Cert.FinalPIdeal.τ) (Cert.FinalPIdeal.main (F := Ideal))) ⟨m, fun _ => 0, g⟩ (fun r => ∀ c : Dev Cert.FinalPIdeal.nD,
          r.2.mem ((c.tc : Thread Cert.FinalPIdeal.nD Cert.FinalPIdeal.τ).loc Cert.FinalPIdeal.main_v6) = v0 c
          ∧ r.2.mem ((c.tc : Thread Cert.FinalPIdeal.nD Cert.FinalPIdeal.τ).loc Cert.FinalPIdeal.main_arg0) = m ((c.tc : Thread Cert.FinalPIdeal.nD Cert.FinalPIdeal.τ).loc Cert.FinalPIdeal.main_arg0)
          ∧ r.2.mem ((c.tc : Thread Cert.FinalPIdeal.nD Cert.FinalPIdeal.τ).loc Cert.FinalPIdeal.main_arg1) = m ((c.tc : Thread Cert.FinalPIdeal.nD Cert.FinalPIdeal.τ).loc Cert.FinalPIdeal.main_arg1)
          ∧ r.2.mem ((c.tc : Thread Cert.FinalPIdeal.nD Cert.FinalPIdeal.τ).loc Cert.FinalPIdeal.main_arg2) = m ((c.tc : Thread Cert.FinalPIdeal.nD Cert.FinalPIdeal.τ).loc Cert.FinalPIdeal.main_arg2)
          ∧ r.2.mem ((c.tc : Thread Cert.FinalPIdeal.nD Cert.FinalPIdeal.τ).loc Cert.FinalPIdeal.main_arg3) = m ((c.tc : Thread Cert.FinalPIdeal.nD Cert.FinalPIdeal.τ).loc Cert.FinalPIdeal.main_arg3))
      ∧ θ_run (Cert.FinalPRefIdeal.defs (F := Ideal)) (onTc (τ := Cert.FinalPRefIdeal.τ) (Cert.FinalPRefIdeal.main (F := Ideal))) ⟨m', fun _ => 0, g'⟩ (fun r => ∀ c : Dev Cert.FinalPRefIdeal.nD,
          r.2.mem ((c.tc : Thread Cert.FinalPRefIdeal.nD Cert.FinalPRefIdeal.τ).loc Cert.FinalPRefIdeal.main_v22) = v0 c
          ∧ r.2.mem ((c.tc : Thread Cert.FinalPRefIdeal.nD Cert.FinalPRefIdeal.τ).loc Cert.FinalPRefIdeal.main_arg0) = m' ((c.tc : Thread Cert.FinalPRefIdeal.nD Cert.FinalPRefIdeal.τ).loc Cert.FinalPRefIdeal.main_arg0)
          ∧ r.2.mem ((c.tc : Thread Cert.FinalPRefIdeal.nD Cert.FinalPRefIdeal.τ).loc Cert.FinalPRefIdeal.main_arg1) = m' ((c.tc : Thread Cert.FinalPRefIdeal.nD Cert.FinalPRefIdeal.τ).loc Cert.FinalPRefIdeal.main_arg1)
          ∧ r.2.mem ((c.tc : Thread Cert.FinalPRefIdeal.nD Cert.FinalPRefIdeal.τ).loc Cert.FinalPRefIdeal.main_arg2) = m' ((c.tc : Thread Cert.FinalPRefIdeal.nD Cert.FinalPRefIdeal.τ).loc Cert.FinalPRefIdeal.main_arg2)
          ∧ r.2.mem ((c.tc : Thread Cert.FinalPRefIdeal.nD Cert.FinalPRefIdeal.τ).loc Cert.FinalPRefIdeal.main_arg3) = m' ((c.tc : Thread Cert.FinalPRefIdeal.nD Cert.FinalPRefIdeal.τ).loc Cert.FinalPRefIdeal.main_arg3))

def preserves_FinalS_FinalSIdeal : Prop :=
  True

def algebraic_FinalSIdeal_FinalSRefIdeal [hFinalSIdeal : Cert.FinalSIdeal.Facts] [hFinalSRefIdeal : Cert.FinalSRefIdeal.Facts] : Prop :=
  ∀ (m : (ℓ : Loc Cert.FinalSIdeal.nD Cert.FinalSIdeal.τ Cert.FinalSIdeal.sig) → Buf (Elt Ideal) ℓ) (g : Dev Cert.FinalSIdeal.nD → PrngReg)
    (m' : (ℓ : Loc Cert.FinalSRefIdeal.nD Cert.FinalSRefIdeal.τ Cert.FinalSRefIdeal.sig) → Buf (Elt Ideal) ℓ) (g' : Dev Cert.FinalSRefIdeal.nD → PrngReg), Pre_FinalSIdeal m →
    (∀ c : Dev Cert.FinalSIdeal.nD,
      m' ((c.tc : Thread Cert.FinalSRefIdeal.nD Cert.FinalSRefIdeal.τ).loc Cert.FinalSRefIdeal.main_arg0) = m ((c.tc : Thread Cert.FinalSIdeal.nD Cert.FinalSIdeal.τ).loc Cert.FinalSIdeal.main_arg0)
      ∧ m' ((c.tc : Thread Cert.FinalSRefIdeal.nD Cert.FinalSRefIdeal.τ).loc Cert.FinalSRefIdeal.main_arg1) = m ((c.tc : Thread Cert.FinalSIdeal.nD Cert.FinalSIdeal.τ).loc Cert.FinalSIdeal.main_arg1)
      ∧ m' ((c.tc : Thread Cert.FinalSRefIdeal.nD Cert.FinalSRefIdeal.τ).loc Cert.FinalSRefIdeal.main_arg2) = m ((c.tc : Thread Cert.FinalSIdeal.nD Cert.FinalSIdeal.τ).loc Cert.FinalSIdeal.main_arg2)
      ∧ m' ((c.tc : Thread Cert.FinalSRefIdeal.nD Cert.FinalSRefIdeal.τ).loc Cert.FinalSRefIdeal.main_arg3) = m ((c.tc : Thread Cert.FinalSIdeal.nD Cert.FinalSIdeal.τ).loc Cert.FinalSIdeal.main_arg3)) →
    ∃ (v0 : (c : Dev Cert.FinalSIdeal.nD) → Buf (Elt Ideal) ((c.tc : Thread Cert.FinalSIdeal.nD Cert.FinalSIdeal.τ).loc Cert.FinalSIdeal.main_v6)),
      θ_run (Cert.FinalSIdeal.defs (F := Ideal)) (onTc (τ := Cert.FinalSIdeal.τ) (Cert.FinalSIdeal.main (F := Ideal))) ⟨m, fun _ => 0, g⟩ (fun r => ∀ c : Dev Cert.FinalSIdeal.nD,
          r.2.mem ((c.tc : Thread Cert.FinalSIdeal.nD Cert.FinalSIdeal.τ).loc Cert.FinalSIdeal.main_v6) = v0 c
          ∧ r.2.mem ((c.tc : Thread Cert.FinalSIdeal.nD Cert.FinalSIdeal.τ).loc Cert.FinalSIdeal.main_arg0) = m ((c.tc : Thread Cert.FinalSIdeal.nD Cert.FinalSIdeal.τ).loc Cert.FinalSIdeal.main_arg0)
          ∧ r.2.mem ((c.tc : Thread Cert.FinalSIdeal.nD Cert.FinalSIdeal.τ).loc Cert.FinalSIdeal.main_arg1) = m ((c.tc : Thread Cert.FinalSIdeal.nD Cert.FinalSIdeal.τ).loc Cert.FinalSIdeal.main_arg1)
          ∧ r.2.mem ((c.tc : Thread Cert.FinalSIdeal.nD Cert.FinalSIdeal.τ).loc Cert.FinalSIdeal.main_arg2) = m ((c.tc : Thread Cert.FinalSIdeal.nD Cert.FinalSIdeal.τ).loc Cert.FinalSIdeal.main_arg2)
          ∧ r.2.mem ((c.tc : Thread Cert.FinalSIdeal.nD Cert.FinalSIdeal.τ).loc Cert.FinalSIdeal.main_arg3) = m ((c.tc : Thread Cert.FinalSIdeal.nD Cert.FinalSIdeal.τ).loc Cert.FinalSIdeal.main_arg3))
      ∧ θ_run (Cert.FinalSRefIdeal.defs (F := Ideal)) (onTc (τ := Cert.FinalSRefIdeal.τ) (Cert.FinalSRefIdeal.main (F := Ideal))) ⟨m', fun _ => 0, g'⟩ (fun r => ∀ c : Dev Cert.FinalSRefIdeal.nD,
          r.2.mem ((c.tc : Thread Cert.FinalSRefIdeal.nD Cert.FinalSRefIdeal.τ).loc Cert.FinalSRefIdeal.main_v22) = v0 c
          ∧ r.2.mem ((c.tc : Thread Cert.FinalSRefIdeal.nD Cert.FinalSRefIdeal.τ).loc Cert.FinalSRefIdeal.main_arg0) = m' ((c.tc : Thread Cert.FinalSRefIdeal.nD Cert.FinalSRefIdeal.τ).loc Cert.FinalSRefIdeal.main_arg0)
          ∧ r.2.mem ((c.tc : Thread Cert.FinalSRefIdeal.nD Cert.FinalSRefIdeal.τ).loc Cert.FinalSRefIdeal.main_arg1) = m' ((c.tc : Thread Cert.FinalSRefIdeal.nD Cert.FinalSRefIdeal.τ).loc Cert.FinalSRefIdeal.main_arg1)
          ∧ r.2.mem ((c.tc : Thread Cert.FinalSRefIdeal.nD Cert.FinalSRefIdeal.τ).loc Cert.FinalSRefIdeal.main_arg2) = m' ((c.tc : Thread Cert.FinalSRefIdeal.nD Cert.FinalSRefIdeal.τ).loc Cert.FinalSRefIdeal.main_arg2)
          ∧ r.2.mem ((c.tc : Thread Cert.FinalSRefIdeal.nD Cert.FinalSRefIdeal.τ).loc Cert.FinalSRefIdeal.main_arg3) = m' ((c.tc : Thread Cert.FinalSRefIdeal.nD Cert.FinalSRefIdeal.τ).loc Cert.FinalSRefIdeal.main_arg3))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)) →
    ∃ (v0 : (c : Dev Cert.PrepIdeal.nD) → Buf (Elt Ideal) ((c.tc : Thread Cert.PrepIdeal.nD Cert.PrepIdeal.τ).loc Cert.PrepIdeal.main_v8)) (v1 : (c : Dev Cert.PrepIdeal.nD) → Buf (Elt Ideal) ((c.tc : Thread Cert.PrepIdeal.nD Cert.PrepIdeal.τ).loc Cert.PrepIdeal.main_v9)) (v2 : (c : Dev Cert.PrepIdeal.nD) → Buf (Elt Ideal) ((c.tc : Thread Cert.PrepIdeal.nD Cert.PrepIdeal.τ).loc Cert.PrepIdeal.main_v10)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v8) = v0 c
          ∧ r.2.mem ((c.tc : Thread Cert.PrepIdeal.nD Cert.PrepIdeal.τ).loc Cert.PrepIdeal.main_v9) = v1 c
          ∧ r.2.mem ((c.tc : Thread Cert.PrepIdeal.nD Cert.PrepIdeal.τ).loc Cert.PrepIdeal.main_v10) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v17) = v0 c
          ∧ r.2.mem ((c.tc : Thread Cert.PrepRefIdeal.nD Cert.PrepRefIdeal.τ).loc Cert.PrepRefIdeal.main_v31) = v1 c
          ∧ r.2.mem ((c.tc : Thread Cert.PrepRefIdeal.nD Cert.PrepRefIdeal.τ).loc Cert.PrepRefIdeal.main_v45) = v2 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v33)) (v1 : (c : Dev Cert.KvIdeal.nD) → Buf (Elt Ideal) ((c.tc : Thread Cert.KvIdeal.nD Cert.KvIdeal.τ).loc Cert.KvIdeal.main_v35)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v33) = v0 c
          ∧ r.2.mem ((c.tc : Thread Cert.KvIdeal.nD Cert.KvIdeal.τ).loc Cert.KvIdeal.main_v35) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v7) = v0 c
          ∧ r.2.mem ((c.tc : Thread Cert.KvRefIdeal.nD Cert.KvRefIdeal.τ).loc Cert.KvRefIdeal.main_v8) = v1 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2))

def preserves_Qb_QbIdeal : Prop :=
  True

def algebraic_QbIdeal_QbRefIdeal [hQbIdeal : Cert.QbIdeal.Facts] [hQbRefIdeal : Cert.QbRefIdeal.Facts] : Prop :=
  ∀ (m : (ℓ : Loc Cert.QbIdeal.nD Cert.QbIdeal.τ Cert.QbIdeal.sig) → Buf (Elt Ideal) ℓ) (g : Dev Cert.QbIdeal.nD → PrngReg)
    (m' : (ℓ : Loc Cert.QbRefIdeal.nD Cert.QbRefIdeal.τ Cert.QbRefIdeal.sig) → Buf (Elt Ideal) ℓ) (g' : Dev Cert.QbRefIdeal.nD → PrngReg), Pre_QbIdeal m →
    (∀ c : Dev Cert.QbIdeal.nD,
      m' ((c.tc : Thread Cert.QbRefIdeal.nD Cert.QbRefIdeal.τ).loc Cert.QbRefIdeal.main_arg0) = m ((c.tc : Thread Cert.QbIdeal.nD Cert.QbIdeal.τ).loc Cert.QbIdeal.main_arg0)
      ∧ m' ((c.tc : Thread Cert.QbRefIdeal.nD Cert.QbRefIdeal.τ).loc Cert.QbRefIdeal.main_arg1) = m ((c.tc : Thread Cert.QbIdeal.nD Cert.QbIdeal.τ).loc Cert.QbIdeal.main_arg1)
      ∧ m' ((c.tc : Thread Cert.QbRefIdeal.nD Cert.QbRefIdeal.τ).loc Cert.QbRefIdeal.main_arg2) = m ((c.tc : Thread Cert.QbIdeal.nD Cert.QbIdeal.τ).loc Cert.QbIdeal.main_arg2)
      ∧ m' ((c.tc : Thread Cert.QbRefIdeal.nD Cert.QbRefIdeal.τ).loc Cert.QbRefIdeal.main_arg3) = m ((c.tc : Thread Cert.QbIdeal.nD Cert.QbIdeal.τ).loc Cert.QbIdeal.main_arg3)) →
    ∃ (v0 : (c : Dev Cert.QbIdeal.nD) → Buf (Elt Ideal) ((c.tc : Thread Cert.QbIdeal.nD Cert.QbIdeal.τ).loc Cert.QbIdeal.main_v27)),
      θ_run (Cert.QbIdeal.defs (F := Ideal)) (onTc (τ := Cert.QbIdeal.τ) (Cert.QbIdeal.main (F := Ideal))) ⟨m, fun _ => 0, g⟩ (fun r => ∀ c : Dev Cert.QbIdeal.nD,
          r.2.mem ((c.tc : Thread Cert.QbIdeal.nD Cert.QbIdeal.τ).loc Cert.QbIdeal.main_v27) = v0 c
          ∧ r.2.mem ((c.tc : Thread Cert.QbIdeal.nD Cert.QbIdeal.τ).loc Cert.QbIdeal.main_arg0) = m ((c.tc : Thread Cert.QbIdeal.nD Cert.QbIdeal.τ).loc Cert.QbIdeal.main_arg0)
          ∧ r.2.mem ((c.tc : Thread Cert.QbIdeal.nD Cert.QbIdeal.τ).loc Cert.QbIdeal.main_arg1) = m ((c.tc : Thread Cert.QbIdeal.nD Cert.QbIdeal.τ).loc Cert.QbIdeal.main_arg1)
          ∧ r.2.mem ((c.tc : Thread Cert.QbIdeal.nD Cert.QbIdeal.τ).loc Cert.QbIdeal.main_arg2) = m ((c.tc : Thread Cert.QbIdeal.nD Cert.QbIdeal.τ).loc Cert.QbIdeal.main_arg2)
          ∧ r.2.mem ((c.tc : Thread Cert.QbIdeal.nD Cert.QbIdeal.τ).loc Cert.QbIdeal.main_arg3) = m ((c.tc : Thread Cert.QbIdeal.nD Cert.QbIdeal.τ).loc Cert.QbIdeal.main_arg3))
      ∧ θ_run (Cert.QbRefIdeal.defs (F := Ideal)) (onTc (τ := Cert.QbRefIdeal.τ) (Cert.QbRefIdeal.main (F := Ideal))) ⟨m', fun _ => 0, g'⟩ (fun r => ∀ c : Dev Cert.QbRefIdeal.nD,
          r.2.mem ((c.tc : Thread Cert.QbRefIdeal.nD Cert.QbRefIdeal.τ).loc Cert.QbRefIdeal.main_v32) = v0 c
          ∧ r.2.mem ((c.tc : Thread Cert.QbRefIdeal.nD Cert.QbRefIdeal.τ).loc Cert.QbRefIdeal.main_arg0) = m' ((c.tc : Thread Cert.QbRefIdeal.nD Cert.QbRefIdeal.τ).loc Cert.QbRefIdeal.main_arg0)
          ∧ r.2.mem ((c.tc : Thread Cert.QbRefIdeal.nD Cert.QbRefIdeal.τ).loc Cert.QbRefIdeal.main_arg1) = m' ((c.tc : Thread Cert.QbRefIdeal.nD Cert.QbRefIdeal.τ).loc Cert.QbRefIdeal.main_arg1)
          ∧ r.2.mem ((c.tc : Thread Cert.QbRefIdeal.nD Cert.QbRefIdeal.τ).loc Cert.QbRefIdeal.main_arg2) = m' ((c.tc : Thread Cert.QbRefIdeal.nD Cert.QbRefIdeal.τ).loc Cert.QbRefIdeal.main_arg2)
          ∧ r.2.mem ((c.tc : Thread Cert.QbRefIdeal.nD Cert.QbRefIdeal.τ).loc Cert.QbRefIdeal.main_arg3) = m' ((c.tc : Thread Cert.QbRefIdeal.nD Cert.QbRefIdeal.τ).loc Cert.QbRefIdeal.main_arg3))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v5)) (v1 : (c : Dev Cert.ModIdeal.nD) → Buf (Elt Ideal) ((c.tc : Thread Cert.ModIdeal.nD Cert.ModIdeal.τ).loc Cert.ModIdeal.main_v7)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v5) = v0 c
          ∧ r.2.mem ((c.tc : Thread Cert.ModIdeal.nD Cert.ModIdeal.τ).loc Cert.ModIdeal.main_v7) = v1 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v4) = v0 c
          ∧ r.2.mem ((c.tc : Thread Cert.ModRefIdeal.nD Cert.ModRefIdeal.τ).loc Cert.ModRefIdeal.main_v7) = v1 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v4)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v4) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v27) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_NormB_NormBIdeal : Prop :=
  True

def algebraic_NormBIdeal_NormBRefIdeal [hNormBIdeal : Cert.NormBIdeal.Facts] [hNormBRefIdeal : Cert.NormBRefIdeal.Facts] : Prop :=
  ∀ (m : (ℓ : Loc Cert.NormBIdeal.nD Cert.NormBIdeal.τ Cert.NormBIdeal.sig) → Buf (Elt Ideal) ℓ) (g : Dev Cert.NormBIdeal.nD → PrngReg)
    (m' : (ℓ : Loc Cert.NormBRefIdeal.nD Cert.NormBRefIdeal.τ Cert.NormBRefIdeal.sig) → Buf (Elt Ideal) ℓ) (g' : Dev Cert.NormBRefIdeal.nD → PrngReg), Pre_NormBIdeal m →
    (∀ c : Dev Cert.NormBIdeal.nD,
      m' ((c.tc : Thread Cert.NormBRefIdeal.nD Cert.NormBRefIdeal.τ).loc Cert.NormBRefIdeal.main_arg0) = m ((c.tc : Thread Cert.NormBIdeal.nD Cert.NormBIdeal.τ).loc Cert.NormBIdeal.main_arg0)
      ∧ m' ((c.tc : Thread Cert.NormBRefIdeal.nD Cert.NormBRefIdeal.τ).loc Cert.NormBRefIdeal.main_arg1) = m ((c.tc : Thread Cert.NormBIdeal.nD Cert.NormBIdeal.τ).loc Cert.NormBIdeal.main_arg1)
      ∧ m' ((c.tc : Thread Cert.NormBRefIdeal.nD Cert.NormBRefIdeal.τ).loc Cert.NormBRefIdeal.main_arg2) = m ((c.tc : Thread Cert.NormBIdeal.nD Cert.NormBIdeal.τ).loc Cert.NormBIdeal.main_arg2)) →
    ∃ (v0 : (c : Dev Cert.NormBIdeal.nD) → Buf (Elt Ideal) ((c.tc : Thread Cert.NormBIdeal.nD Cert.NormBIdeal.τ).loc Cert.NormBIdeal.main_v4)),
      θ_run (Cert.NormBIdeal.defs (F := Ideal)) (onTc (τ := Cert.NormBIdeal.τ) (Cert.NormBIdeal.main (F := Ideal))) ⟨m, fun _ => 0, g⟩ (fun r => ∀ c : Dev Cert.NormBIdeal.nD,
          r.2.mem ((c.tc : Thread Cert.NormBIdeal.nD Cert.NormBIdeal.τ).loc Cert.NormBIdeal.main_v4) = v0 c
          ∧ r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
          ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
          ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2))
      ∧ θ_run (Cert.NormBRefIdeal.defs (F := Ideal)) (onTc (τ := Cert.NormBRefIdeal.τ) (Cert.NormBRefIdeal.main (F := Ideal))) ⟨m', fun _ => 0, g'⟩ (fun r => ∀ c : Dev Cert.NormBRefIdeal.nD,
          r.2.mem ((c.tc : Thread Cert.NormBRefIdeal.nD Cert.NormBRefIdeal.τ).loc Cert.NormBRefIdeal.main_v27) = v0 c
          ∧ r.2.mem ((c.tc : Thread Cert.NormBRefIdeal.nD Cert.NormBRefIdeal.τ).loc Cert.NormBRefIdeal.main_arg0) = m' ((c.tc : Thread Cert.NormBRefIdeal.nD Cert.NormBRefIdeal.τ).loc Cert.NormBRefIdeal.main_arg0)
          ∧ r.2.mem ((c.tc : Thread Cert.NormBRefIdeal.nD Cert.NormBRefIdeal.τ).loc Cert.NormBRefIdeal.main_arg1) = m' ((c.tc : Thread Cert.NormBRefIdeal.nD Cert.NormBRefIdeal.τ).loc Cert.NormBRefIdeal.main_arg1)
          ∧ r.2.mem ((c.tc : Thread Cert.NormBRefIdeal.nD Cert.NormBRefIdeal.τ).loc Cert.NormBRefIdeal.main_arg2) = m' ((c.tc : Thread Cert.NormBRefIdeal.nD Cert.NormBRefIdeal.τ).loc Cert.NormBRefIdeal.main_arg2))

def preserves_PrepS_PrepSIdeal : Prop :=
  True

def algebraic_PrepSIdeal_PrepSRefIdeal [hPrepSIdeal : Cert.PrepSIdeal.Facts] [hPrepSRefIdeal : Cert.PrepSRefIdeal.Facts] : Prop :=
  ∀ (m : (ℓ : Loc Cert.PrepSIdeal.nD Cert.PrepSIdeal.τ Cert.PrepSIdeal.sig) → Buf (Elt Ideal) ℓ) (g : Dev Cert.PrepSIdeal.nD → PrngReg)
    (m' : (ℓ : Loc Cert.PrepSRefIdeal.nD Cert.PrepSRefIdeal.τ Cert.PrepSRefIdeal.sig) → Buf (Elt Ideal) ℓ) (g' : Dev Cert.PrepSRefIdeal.nD → PrngReg), Pre_PrepSIdeal m →
    (∀ c : Dev Cert.PrepSIdeal.nD,
      m' ((c.tc : Thread Cert.PrepSRefIdeal.nD Cert.PrepSRefIdeal.τ).loc Cert.PrepSRefIdeal.main_arg0) = m ((c.tc : Thread Cert.PrepSIdeal.nD Cert.PrepSIdeal.τ).loc Cert.PrepSIdeal.main_arg0)
      ∧ m' ((c.tc : Thread Cert.PrepSRefIdeal.nD Cert.PrepSRefIdeal.τ).loc Cert.PrepSRefIdeal.main_arg1) = m ((c.tc : Thread Cert.PrepSIdeal.nD Cert.PrepSIdeal.τ).loc Cert.PrepSIdeal.main_arg1)
      ∧ m' ((c.tc : Thread Cert.PrepSRefIdeal.nD Cert.PrepSRefIdeal.τ).loc Cert.PrepSRefIdeal.main_arg2) = m ((c.tc : Thread Cert.PrepSIdeal.nD Cert.PrepSIdeal.τ).loc Cert.PrepSIdeal.main_arg2)
      ∧ m' ((c.tc : Thread Cert.PrepSRefIdeal.nD Cert.PrepSRefIdeal.τ).loc Cert.PrepSRefIdeal.main_arg3) = m ((c.tc : Thread Cert.PrepSIdeal.nD Cert.PrepSIdeal.τ).loc Cert.PrepSIdeal.main_arg3)
      ∧ m' ((c.tc : Thread Cert.PrepSRefIdeal.nD Cert.PrepSRefIdeal.τ).loc Cert.PrepSRefIdeal.main_arg4) = m ((c.tc : Thread Cert.PrepSIdeal.nD Cert.PrepSIdeal.τ).loc Cert.PrepSIdeal.main_arg4)
      ∧ m' ((c.tc : Thread Cert.PrepSRefIdeal.nD Cert.PrepSRefIdeal.τ).loc Cert.PrepSRefIdeal.main_arg5) = m ((c.tc : Thread Cert.PrepSIdeal.nD Cert.PrepSIdeal.τ).loc Cert.PrepSIdeal.main_arg5)
      ∧ m' ((c.tc : Thread Cert.PrepSRefIdeal.nD Cert.PrepSRefIdeal.τ).loc Cert.PrepSRefIdeal.main_arg6) = m ((c.tc : Thread Cert.PrepSIdeal.nD Cert.PrepSIdeal.τ).loc Cert.PrepSIdeal.main_arg6)
      ∧ m' ((c.tc : Thread Cert.PrepSRefIdeal.nD Cert.PrepSRefIdeal.τ).loc Cert.PrepSRefIdeal.main_arg7) = m ((c.tc : Thread Cert.PrepSIdeal.nD Cert.PrepSIdeal.τ).loc Cert.PrepSIdeal.main_arg7)
      ∧ m' ((c.tc : Thread Cert.PrepSRefIdeal.nD Cert.PrepSRefIdeal.τ).loc Cert.PrepSRefIdeal.main_arg8) = m ((c.tc : Thread Cert.PrepSIdeal.nD Cert.PrepSIdeal.τ).loc Cert.PrepSIdeal.main_arg8)
      ∧ m' ((c.tc : Thread Cert.PrepSRefIdeal.nD Cert.PrepSRefIdeal.τ).loc Cert.PrepSRefIdeal.main_arg9) = m ((c.tc : Thread Cert.PrepSIdeal.nD Cert.PrepSIdeal.τ).loc Cert.PrepSIdeal.main_arg9)) →
    ∃ (v0 : (c : Dev Cert.PrepSIdeal.nD) → Buf (Elt Ideal) ((c.tc : Thread Cert.PrepSIdeal.nD Cert.PrepSIdeal.τ).loc Cert.PrepSIdeal.main_v26)) (v1 : (c : Dev Cert.PrepSIdeal.nD) → Buf (Elt Ideal) ((c.tc : Thread Cert.PrepSIdeal.nD Cert.PrepSIdeal.τ).loc Cert.PrepSIdeal.main_v27)),
      θ_run (Cert.PrepSIdeal.defs (F := Ideal)) (onTc (τ := Cert.PrepSIdeal.τ) (Cert.PrepSIdeal.main (F := Ideal))) ⟨m, fun _ => 0, g⟩ (fun r => ∀ c : Dev Cert.PrepSIdeal.nD,
          r.2.mem ((c.tc : Thread Cert.PrepSIdeal.nD Cert.PrepSIdeal.τ).loc Cert.PrepSIdeal.main_v26) = v0 c
          ∧ r.2.mem ((c.tc : Thread Cert.PrepSIdeal.nD Cert.PrepSIdeal.τ).loc Cert.PrepSIdeal.main_v27) = v1 c
          ∧ r.2.mem ((c.tc : Thread Cert.PrepSIdeal.nD Cert.PrepSIdeal.τ).loc Cert.PrepSIdeal.main_arg0) = m ((c.tc : Thread Cert.PrepSIdeal.nD Cert.PrepSIdeal.τ).loc Cert.PrepSIdeal.main_arg0)
          ∧ r.2.mem ((c.tc : Thread Cert.PrepSIdeal.nD Cert.PrepSIdeal.τ).loc Cert.PrepSIdeal.main_arg1) = m ((c.tc : Thread Cert.PrepSIdeal.nD Cert.PrepSIdeal.τ).loc Cert.PrepSIdeal.main_arg1)
          ∧ r.2.mem ((c.tc : Thread Cert.PrepSIdeal.nD Cert.PrepSIdeal.τ).loc Cert.PrepSIdeal.main_arg2) = m ((c.tc : Thread Cert.PrepSIdeal.nD Cert.PrepSIdeal.τ).loc Cert.PrepSIdeal.main_arg2)
          ∧ r.2.mem ((c.tc : Thread Cert.PrepSIdeal.nD Cert.PrepSIdeal.τ).loc Cert.PrepSIdeal.main_arg3) = m ((c.tc : Thread Cert.PrepSIdeal.nD Cert.PrepSIdeal.τ).loc Cert.PrepSIdeal.main_arg3)
          ∧ r.2.mem ((c.tc : Thread Cert.PrepSIdeal.nD Cert.PrepSIdeal.τ).loc Cert.PrepSIdeal.main_arg4) = m ((c.tc : Thread Cert.PrepSIdeal.nD Cert.PrepSIdeal.τ).loc Cert.PrepSIdeal.main_arg4)
          ∧ r.2.mem ((c.tc : Thread Cert.PrepSIdeal.nD Cert.PrepSIdeal.τ).loc Cert.PrepSIdeal.main_arg5) = m ((c.tc : Thread Cert.PrepSIdeal.nD Cert.PrepSIdeal.τ).loc Cert.PrepSIdeal.main_arg5)
          ∧ r.2.mem ((c.tc : Thread Cert.PrepSIdeal.nD Cert.PrepSIdeal.τ).loc Cert.PrepSIdeal.main_arg6) = m ((c.tc : Thread Cert.PrepSIdeal.nD Cert.PrepSIdeal.τ).loc Cert.PrepSIdeal.main_arg6)
          ∧ r.2.mem ((c.tc : Thread Cert.PrepSIdeal.nD Cert.PrepSIdeal.τ).loc Cert.PrepSIdeal.main_arg7) = m ((c.tc : Thread Cert.PrepSIdeal.nD Cert.PrepSIdeal.τ).loc Cert.PrepSIdeal.main_arg7)
          ∧ r.2.mem ((c.tc : Thread Cert.PrepSIdeal.nD Cert.PrepSIdeal.τ).loc Cert.PrepSIdeal.main_arg8) = m ((c.tc : Thread Cert.PrepSIdeal.nD Cert.PrepSIdeal.τ).loc Cert.PrepSIdeal.main_arg8)
          ∧ r.2.mem ((c.tc : Thread Cert.PrepSIdeal.nD Cert.PrepSIdeal.τ).loc Cert.PrepSIdeal.main_arg9) = m ((c.tc : Thread Cert.PrepSIdeal.nD Cert.PrepSIdeal.τ).loc Cert.PrepSIdeal.main_arg9))
      ∧ θ_run (Cert.PrepSRefIdeal.defs (F := Ideal)) (onTc (τ := Cert.PrepSRefIdeal.τ) (Cert.PrepSRefIdeal.main (F := Ideal))) ⟨m', fun _ => 0, g'⟩ (fun r => ∀ c : Dev Cert.PrepSRefIdeal.nD,
          r.2.mem ((c.tc : Thread Cert.PrepSRefIdeal.nD Cert.PrepSRefIdeal.τ).loc Cert.PrepSRefIdeal.main_v85) = v0 c
          ∧ r.2.mem ((c.tc : Thread Cert.PrepSRefIdeal.nD Cert.PrepSRefIdeal.τ).loc Cert.PrepSRefIdeal.main_v82) = v1 c
          ∧ r.2.mem ((c.tc : Thread Cert.PrepSRefIdeal.nD Cert.PrepSRefIdeal.τ).loc Cert.PrepSRefIdeal.main_arg0) = m' ((c.tc : Thread Cert.PrepSRefIdeal.nD Cert.PrepSRefIdeal.τ).loc Cert.PrepSRefIdeal.main_arg0)
          ∧ r.2.mem ((c.tc : Thread Cert.PrepSRefIdeal.nD Cert.PrepSRefIdeal.τ).loc Cert.PrepSRefIdeal.main_arg1) = m' ((c.tc : Thread Cert.PrepSRefIdeal.nD Cert.PrepSRefIdeal.τ).loc Cert.PrepSRefIdeal.main_arg1)
          ∧ r.2.mem ((c.tc : Thread Cert.PrepSRefIdeal.nD Cert.PrepSRefIdeal.τ).loc Cert.PrepSRefIdeal.main_arg2) = m' ((c.tc : Thread Cert.PrepSRefIdeal.nD Cert.PrepSRefIdeal.τ).loc Cert.PrepSRefIdeal.main_arg2)
          ∧ r.2.mem ((c.tc : Thread Cert.PrepSRefIdeal.nD Cert.PrepSRefIdeal.τ).loc Cert.PrepSRefIdeal.main_arg3) = m' ((c.tc : Thread Cert.PrepSRefIdeal.nD Cert.PrepSRefIdeal.τ).loc Cert.PrepSRefIdeal.main_arg3)
          ∧ r.2.mem ((c.tc : Thread Cert.PrepSRefIdeal.nD Cert.PrepSRefIdeal.τ).loc Cert.PrepSRefIdeal.main_arg4) = m' ((c.tc : Thread Cert.PrepSRefIdeal.nD Cert.PrepSRefIdeal.τ).loc Cert.PrepSRefIdeal.main_arg4)
          ∧ r.2.mem ((c.tc : Thread Cert.PrepSRefIdeal.nD Cert.PrepSRefIdeal.τ).loc Cert.PrepSRefIdeal.main_arg5) = m' ((c.tc : Thread Cert.PrepSRefIdeal.nD Cert.PrepSRefIdeal.τ).loc Cert.PrepSRefIdeal.main_arg5)
          ∧ r.2.mem ((c.tc : Thread Cert.PrepSRefIdeal.nD Cert.PrepSRefIdeal.τ).loc Cert.PrepSRefIdeal.main_arg6) = m' ((c.tc : Thread Cert.PrepSRefIdeal.nD Cert.PrepSRefIdeal.τ).loc Cert.PrepSRefIdeal.main_arg6)
          ∧ r.2.mem ((c.tc : Thread Cert.PrepSRefIdeal.nD Cert.PrepSRefIdeal.τ).loc Cert.PrepSRefIdeal.main_arg7) = m' ((c.tc : Thread Cert.PrepSRefIdeal.nD Cert.PrepSRefIdeal.τ).loc Cert.PrepSRefIdeal.main_arg7)
          ∧ r.2.mem ((c.tc : Thread Cert.PrepSRefIdeal.nD Cert.PrepSRefIdeal.τ).loc Cert.PrepSRefIdeal.main_arg8) = m' ((c.tc : Thread Cert.PrepSRefIdeal.nD Cert.PrepSRefIdeal.τ).loc Cert.PrepSRefIdeal.main_arg8)
          ∧ r.2.mem ((c.tc : Thread Cert.PrepSRefIdeal.nD Cert.PrepSRefIdeal.τ).loc Cert.PrepSRefIdeal.main_arg9) = m' ((c.tc : Thread Cert.PrepSRefIdeal.nD Cert.PrepSRefIdeal.τ).loc Cert.PrepSRefIdeal.main_arg9))

def Claim : Prop :=
  ∃ (hGqa : Cert.Gqa.Facts) (hGqaIdeal : Cert.GqaIdeal.Facts) (hGqaRefIdeal : Cert.GqaRefIdeal.Facts) (hProj : Cert.Proj.Facts) (hProjIdeal : Cert.ProjIdeal.Facts) (hProjRefIdeal : Cert.ProjRefIdeal.Facts) (hKr : Cert.Kr.Facts) (hKrIdeal : Cert.KrIdeal.Facts) (hKrRefIdeal : Cert.KrRefIdeal.Facts) (hGates : Cert.Gates.Facts) (hGatesIdeal : Cert.GatesIdeal.Facts) (hGatesRefIdeal : Cert.GatesRefIdeal.Facts) (hMla : Cert.Mla.Facts) (hMlaIdeal : Cert.MlaIdeal.Facts) (hMlaRefIdeal : Cert.MlaRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hPeerQ : Cert.PeerQ.Facts) (hPeerQIdeal : Cert.PeerQIdeal.Facts) (hPeerQRefIdeal : Cert.PeerQRefIdeal.Facts) (hFinalP : Cert.FinalP.Facts) (hFinalPIdeal : Cert.FinalPIdeal.Facts) (hFinalPRefIdeal : Cert.FinalPRefIdeal.Facts) (hFinalS : Cert.FinalS.Facts) (hFinalSIdeal : Cert.FinalSIdeal.Facts) (hFinalSRefIdeal : Cert.FinalSRefIdeal.Facts) (hPrep : Cert.Prep.Facts) (hPrepIdeal : Cert.PrepIdeal.Facts) (hPrepRefIdeal : Cert.PrepRefIdeal.Facts) (hKv : Cert.Kv.Facts) (hKvIdeal : Cert.KvIdeal.Facts) (hKvRefIdeal : Cert.KvRefIdeal.Facts) (hQb : Cert.Qb.Facts) (hQbIdeal : Cert.QbIdeal.Facts) (hQbRefIdeal : Cert.QbRefIdeal.Facts) (hMod : Cert.Mod.Facts) (hModIdeal : Cert.ModIdeal.Facts) (hModRefIdeal : Cert.ModRefIdeal.Facts) (hNorm : Cert.Norm.Facts) (hNormIdeal : Cert.NormIdeal.Facts) (hNormRefIdeal : Cert.NormRefIdeal.Facts) (hNormB : Cert.NormB.Facts) (hNormBIdeal : Cert.NormBIdeal.Facts) (hNormBRefIdeal : Cert.NormBRefIdeal.Facts) (hPrepS : Cert.PrepS.Facts) (hPrepSIdeal : Cert.PrepSIdeal.Facts) (hPrepSRefIdeal : Cert.PrepSRefIdeal.Facts) (hPre_finite_scores : Cert.Pre_finite_scores.Facts) (hPre_finite_mla : Cert.Pre_finite_mla.Facts),
    quiescent_Gqa (hGqa := hGqa)
    ∧ quiescent_GqaIdeal (hGqaIdeal := hGqaIdeal)
    ∧ quiescent_GqaIdeal_pre_finite_scores (hGqaIdeal := hGqaIdeal) (hPre_finite_scores := hPre_finite_scores)
    ∧ quiescent_GqaRefIdeal (hGqaRefIdeal := hGqaRefIdeal)
    ∧ quiescent_GqaRefIdeal_pre_finite_scores (hGqaRefIdeal := hGqaRefIdeal) (hPre_finite_scores := hPre_finite_scores)
    ∧ quiescent_Proj (hProj := hProj)
    ∧ quiescent_ProjIdeal (hProjIdeal := hProjIdeal)
    ∧ quiescent_ProjRefIdeal (hProjRefIdeal := hProjRefIdeal)
    ∧ quiescent_Kr (hKr := hKr)
    ∧ quiescent_KrIdeal (hKrIdeal := hKrIdeal)
    ∧ quiescent_KrRefIdeal (hKrRefIdeal := hKrRefIdeal)
    ∧ quiescent_Gates (hGates := hGates)
    ∧ quiescent_GatesIdeal (hGatesIdeal := hGatesIdeal)
    ∧ quiescent_GatesRefIdeal (hGatesRefIdeal := hGatesRefIdeal)
    ∧ quiescent_Mla (hMla := hMla)
    ∧ quiescent_MlaIdeal (hMlaIdeal := hMlaIdeal)
    ∧ quiescent_MlaIdeal_pre_finite_mla (hMlaIdeal := hMlaIdeal) (hPre_finite_mla := hPre_finite_mla)
    ∧ quiescent_MlaRefIdeal (hMlaRefIdeal := hMlaRefIdeal)
    ∧ quiescent_MlaRefIdeal_pre_finite_mla (hMlaRefIdeal := hMlaRefIdeal) (hPre_finite_mla := hPre_finite_mla)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_PeerQ (hPeerQ := hPeerQ)
    ∧ quiescent_PeerQIdeal (hPeerQIdeal := hPeerQIdeal)
    ∧ quiescent_PeerQRefIdeal (hPeerQRefIdeal := hPeerQRefIdeal)
    ∧ quiescent_FinalP (hFinalP := hFinalP)
    ∧ quiescent_FinalPIdeal (hFinalPIdeal := hFinalPIdeal)
    ∧ quiescent_FinalPRefIdeal (hFinalPRefIdeal := hFinalPRefIdeal)
    ∧ quiescent_FinalS (hFinalS := hFinalS)
    ∧ quiescent_FinalSIdeal (hFinalSIdeal := hFinalSIdeal)
    ∧ quiescent_FinalSRefIdeal (hFinalSRefIdeal := hFinalSRefIdeal)
    ∧ quiescent_Prep (hPrep := hPrep)
    ∧ quiescent_PrepIdeal (hPrepIdeal := hPrepIdeal)
    ∧ quiescent_PrepRefIdeal (hPrepRefIdeal := hPrepRefIdeal)
    ∧ quiescent_Kv (hKv := hKv)
    ∧ quiescent_KvIdeal (hKvIdeal := hKvIdeal)
    ∧ quiescent_KvRefIdeal (hKvRefIdeal := hKvRefIdeal)
    ∧ quiescent_Qb (hQb := hQb)
    ∧ quiescent_QbIdeal (hQbIdeal := hQbIdeal)
    ∧ quiescent_QbRefIdeal (hQbRefIdeal := hQbRefIdeal)
    ∧ quiescent_Mod (hMod := hMod)
    ∧ quiescent_ModIdeal (hModIdeal := hModIdeal)
    ∧ quiescent_ModRefIdeal (hModRefIdeal := hModRefIdeal)
    ∧ quiescent_Norm (hNorm := hNorm)
    ∧ quiescent_NormIdeal (hNormIdeal := hNormIdeal)
    ∧ quiescent_NormRefIdeal (hNormRefIdeal := hNormRefIdeal)
    ∧ quiescent_NormB (hNormB := hNormB)
    ∧ quiescent_NormBIdeal (hNormBIdeal := hNormBIdeal)
    ∧ quiescent_NormBRefIdeal (hNormBRefIdeal := hNormBRefIdeal)
    ∧ quiescent_PrepS (hPrepS := hPrepS)
    ∧ quiescent_PrepSIdeal (hPrepSIdeal := hPrepSIdeal)
    ∧ quiescent_PrepSRefIdeal (hPrepSRefIdeal := hPrepSRefIdeal)
    ∧ preserves_Gqa_GqaIdeal
    ∧ algebraic_GqaIdeal_GqaRefIdeal_pre_finite_scores (hGqaIdeal := hGqaIdeal) (hGqaRefIdeal := hGqaRefIdeal) (hPre_finite_scores := hPre_finite_scores)
    ∧ preserves_Proj_ProjIdeal
    ∧ algebraic_ProjIdeal_ProjRefIdeal (hProjIdeal := hProjIdeal) (hProjRefIdeal := hProjRefIdeal)
    ∧ preserves_Kr_KrIdeal
    ∧ algebraic_KrIdeal_KrRefIdeal (hKrIdeal := hKrIdeal) (hKrRefIdeal := hKrRefIdeal)
    ∧ preserves_Gates_GatesIdeal
    ∧ algebraic_GatesIdeal_GatesRefIdeal (hGatesIdeal := hGatesIdeal) (hGatesRefIdeal := hGatesRefIdeal)
    ∧ preserves_Mla_MlaIdeal
    ∧ algebraic_MlaIdeal_MlaRefIdeal_pre_finite_mla (hMlaIdeal := hMlaIdeal) (hMlaRefIdeal := hMlaRefIdeal) (hPre_finite_mla := hPre_finite_mla)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_PeerQ_PeerQIdeal
    ∧ algebraic_PeerQIdeal_PeerQRefIdeal (hPeerQIdeal := hPeerQIdeal) (hPeerQRefIdeal := hPeerQRefIdeal)
    ∧ preserves_FinalP_FinalPIdeal
    ∧ algebraic_FinalPIdeal_FinalPRefIdeal (hFinalPIdeal := hFinalPIdeal) (hFinalPRefIdeal := hFinalPRefIdeal)
    ∧ preserves_FinalS_FinalSIdeal
    ∧ algebraic_FinalSIdeal_FinalSRefIdeal (hFinalSIdeal := hFinalSIdeal) (hFinalSRefIdeal := hFinalSRefIdeal)
    ∧ preserves_Prep_PrepIdeal
    ∧ algebraic_PrepIdeal_PrepRefIdeal (hPrepIdeal := hPrepIdeal) (hPrepRefIdeal := hPrepRefIdeal)
    ∧ preserves_Kv_KvIdeal
    ∧ algebraic_KvIdeal_KvRefIdeal (hKvIdeal := hKvIdeal) (hKvRefIdeal := hKvRefIdeal)
    ∧ preserves_Qb_QbIdeal
    ∧ algebraic_QbIdeal_QbRefIdeal (hQbIdeal := hQbIdeal) (hQbRefIdeal := hQbRefIdeal)
    ∧ preserves_Mod_ModIdeal
    ∧ algebraic_ModIdeal_ModRefIdeal (hModIdeal := hModIdeal) (hModRefIdeal := hModRefIdeal)
    ∧ preserves_Norm_NormIdeal
    ∧ algebraic_NormIdeal_NormRefIdeal (hNormIdeal := hNormIdeal) (hNormRefIdeal := hNormRefIdeal)
    ∧ preserves_NormB_NormBIdeal
    ∧ algebraic_NormBIdeal_NormBRefIdeal (hNormBIdeal := hNormBIdeal) (hNormBRefIdeal := hNormBRefIdeal)
    ∧ preserves_PrepS_PrepSIdeal
    ∧ algebraic_PrepSIdeal_PrepSRefIdeal (hPrepSIdeal := hPrepSIdeal) (hPrepSRefIdeal := hPrepSRefIdeal)
-- ==== Pre_finite_mla.lean ====
abbrev S8x4096x16x192 : Shape := ⟨4, ![8, 4096, 16, 192]⟩
abbrev S8x4096x16x256 : Shape := ⟨4, ![8, 4096, 16, 256]⟩
abbrev S8x4096x64 : Shape := ⟨3, ![8, 4096, 64]⟩
abbrev S8x512x16x256 : Shape := ⟨4, ![8, 512, 16, 256]⟩
abbrev S8x512x64 : Shape := ⟨3, ![8, 512, 64]⟩
abbrev S_ : Shape := ⟨0, ![]⟩
abbrev S8x4096x16x128 : Shape := ⟨4, ![8, 4096, 16, 128]⟩
abbrev S8x512x16x128 : Shape := ⟨4, ![8, 512, 16, 128]⟩

class Facts : Prop where
  bcast_S_S8x4096x16x192 : S_.BroadcastsInDim S8x4096x16x192 (![] : Fin 0 → Fin S8x4096x16x192.rank)
  reducesTo_S8x4096x16x192_S_d0_1_2_3 : S8x4096x16x192.ReducesTo [0, 1, 2, 3] S_
  h_S_ : 0 < S_.numel
  slices_S8x4096x16x256_S8x4096x16x128_0_0_0_0 : S8x4096x16x256.Slices ![0, 0, 0, 0] S8x4096x16x128
  bcast_S_S8x4096x16x128 : S_.BroadcastsInDim S8x4096x16x128 (![] : Fin 0 → Fin S8x4096x16x128.rank)
  reducesTo_S8x4096x16x128_S_d0_1_2_3 : S8x4096x16x128.ReducesTo [0, 1, 2, 3] S_
  bcast_S_S8x4096x64 : S_.BroadcastsInDim S8x4096x64 (![] : Fin 0 → Fin S8x4096x64.rank)
  reducesTo_S8x4096x64_S_d0_1_2 : S8x4096x64.ReducesTo [0, 1, 2] S_
  slices_S8x512x16x256_S8x512x16x128_0_0_0_0 : S8x512x16x256.Slices ![0, 0, 0, 0] S8x512x16x128
  bcast_S_S8x512x16x128 : S_.BroadcastsInDim S8x512x16x128 (![] : Fin 0 → Fin S8x512x16x128.rank)
  reducesTo_S8x512x16x128_S_d0_1_2_3 : S8x512x16x128.ReducesTo [0, 1, 2, 3] S_
  bcast_S_S8x512x64 : S_.BroadcastsInDim S8x512x64 (![] : Fin 0 → Fin S8x512x64.rank)
  reducesTo_S8x512x64_S_d0_1_2 : S8x512x64.ReducesTo [0, 1, 2] S_

variable [Facts]

def fn_part1 {F : FTy → Type} [FloatOps F] (main_arg4 : FVec F S8x512x64 .f32) (main_v14 : IVec S_ 1) (main_v16 : FVec F S8x512x16x128 .f32) (main_cst_4 : FVec F S_ .f32) : IVec S_ 1 :=
  let main_v17 : FVec F S8x512x16x128 .f32 := broadcastInDim S8x512x16x128 ![] bcast_S_S8x512x16x128 main_cst_4
  let main_v18 : IVec S8x512x16x128 1 := cmpf .olt main_v16 main_v17
  let main_c_5 : IVec S_ 1 := constantI S_ 1 1#1
  let main_v19 : IVec S_ 1 := (fun x v => Host.reduce IntOp.andi x v reducesTo_S8x512x16x128_S_d0_1_2_3 h_S_) main_v18 main_c_5
  let main_v20 : IVec S_ 1 := andi main_v14 main_v19
  let main_v21 : FVec F S8x512x64 .f32 := Host.absf main_arg4
  let main_cst_6 : FVec F S_ .f32 := constant S_ .f32 0x7F800000#32
  let main_v22 : FVec F S8x512x64 .f32 := broadcastInDim S8x512x64 ![] bcast_S_S8x512x64 main_cst_6
  let main_v23 : IVec S8x512x64 1 := cmpf .olt main_v21 main_v22
  let main_c_7 : IVec S_ 1 := constantI S_ 1 1#1
  let main_v24 : IVec S_ 1 := (fun x v => Host.reduce IntOp.andi x v reducesTo_S8x512x64_S_d0_1_2 h_S_) main_v23 main_c_7
  let main_v25 : IVec S_ 1 := andi main_v20 main_v24
  main_v25

def fn {F : FTy → Type} [FloatOps F] (main_arg0 : FVec F S8x4096x16x192 .f32) (main_arg1 : FVec F S8x4096x16x256 .f32) (main_arg2 : FVec F S8x4096x64 .f32) (main_arg3 : FVec F S8x512x16x256 .f32) (main_arg4 : FVec F S8x512x64 .f32) : IVec S_ 1 :=
  let main_v0 : FVec F S8x4096x16x192 .f32 := Host.absf main_arg0
  let main_cst : FVec F S_ .f32 := constant S_ .f32 0x7F800000#32
  let main_v1 : FVec F S8x4096x16x192 .f32 := broadcastInDim S8x4096x16x192 ![] bcast_S_S8x4096x16x192 main_cst
  let main_v2 : IVec S8x4096x16x192 1 := cmpf .olt main_v0 main_v1
  let main_c : IVec S_ 1 := constantI S_ 1 1#1
  let main_v3 : IVec S_ 1 := (fun x v => Host.reduce IntOp.andi x v reducesTo_S8x4096x16x192_S_d0_1_2_3 h_S_) main_v2 main_c
  let main_v4 : FVec F S8x4096x16x128 .f32 := (extractStridedSlice S8x4096x16x128 ![0, 0, 0, 0] · slices_S8x4096x16x256_S8x4096x16x128_0_0_0_0) main_arg1
  let main_v5 : FVec F S8x4096x16x128 .f32 := Host.absf main_v4
  let main_cst_0 : FVec F S_ .f32 := constant S_ .f32 0x7F800000#32
  let main_v6 : FVec F S8x4096x16x128 .f32 := broadcastInDim S8x4096x16x128 ![] bcast_S_S8x4096x16x128 main_cst_0
  let main_v7 : IVec S8x4096x16x128 1 := cmpf .olt main_v5 main_v6
  let main_c_1 : IVec S_ 1 := constantI S_ 1 1#1
  let main_v8 : IVec S_ 1 := (fun x v => Host.reduce IntOp.andi x v reducesTo_S8x4096x16x128_S_d0_1_2_3 h_S_) main_v7 main_c_1
  let main_v9 : IVec S_ 1 := andi main_v3 main_v8
  let main_v10 : FVec F S8x4096x64 .f32 := Host.absf main_arg2
  let main_cst_2 : FVec F S_ .f32 := constant S_ .f32 0x7F800000#32
  let main_v11 : FVec F S8x4096x64 .f32 := broadcastInDim S8x4096x64 ![] bcast_S_S8x4096x64 main_cst_2
  let main_v12 : IVec S8x4096x64 1 := cmpf .olt main_v10 main_v11
  let main_c_3 : IVec S_ 1 := constantI S_ 1 1#1
  let main_v13 : IVec S_ 1 := (fun x v => Host.reduce IntOp.andi x v reducesTo_S8x4096x64_S_d0_1_2 h_S_) main_v12 main_c_3
  let main_v14 : IVec S_ 1 := andi main_v9 main_v13
  let main_v15 : FVec F S8x512x16x128 .f32 := (extractStridedSlice S8x512x16x128 ![0, 0, 0, 0] · slices_S8x512x16x256_S8x512x16x128_0_0_0_0) main_arg3
  let main_v16 : FVec F S8x512x16x128 .f32 := Host.absf main_v15
  let main_cst_4 : FVec F S_ .f32 := constant S_ .f32 0x7F800000#32
  fn_part1 (F := F) main_arg4 main_v14 main_v16 main_cst_4
-- ==== Pre_finite_scores.lean ====
abbrev S8x4096x16x128 : Shape := ⟨4, ![8, 4096, 16, 128]⟩
abbrev S8x4096x4x128 : Shape := ⟨4, ![8, 4096, 4, 128]⟩
abbrev S8x512x4x128 : Shape := ⟨4, ![8, 512, 4, 128]⟩
abbrev S_ : Shape := ⟨0, ![]⟩

class Facts : Prop where
  bcast_S_S8x4096x16x128 : S_.BroadcastsInDim S8x4096x16x128 (![] : Fin 0 → Fin S8x4096x16x128.rank)
  reducesTo_S8x4096x16x128_S_d0_1_2_3 : S8x4096x16x128.ReducesTo [0, 1, 2, 3] S_
  h_S_ : 0 < S_.numel
  bcast_S_S8x4096x4x128 : S_.BroadcastsInDim S8x4096x4x128 (![] : Fin 0 → Fin S8x4096x4x128.rank)
  reducesTo_S8x4096x4x128_S_d0_1_2_3 : S8x4096x4x128.ReducesTo [0, 1, 2, 3] S_
  bcast_S_S8x512x4x128 : S_.BroadcastsInDim S8x512x4x128 (![] : Fin 0 → Fin S8x512x4x128.rank)
  reducesTo_S8x512x4x128_S_d0_1_2_3 : S8x512x4x128.ReducesTo [0, 1, 2, 3] S_

variable [Facts]

def fn {F : FTy → Type} [FloatOps F] (main_arg0 : FVec F S8x4096x16x128 .f32) (main_arg1 : FVec F S8x4096x4x128 .f32) (main_arg2 : FVec F S8x4096x4x128 .f32) (main_arg3 : FVec F S8x512x4x128 .f32) (main_arg4 : FVec F S8x512x4x128 .f32) : IVec S_ 1 :=
  let main_v0 : FVec F S8x4096x16x128 .f32 := Host.absf main_arg0
  let main_cst : FVec F S_ .f32 := constant S_ .f32 0x7F800000#32
  let main_v1 : FVec F S8x4096x16x128 .f32 := broadcastInDim S8x4096x16x128 ![] bcast_S_S8x4096x16x128 main_cst
  let main_v2 : IVec S8x4096x16x128 1 := cmpf .olt main_v0 main_v1
  let main_c : IVec S_ 1 := constantI S_ 1 1#1
  let main_v3 : IVec S_ 1 := (fun x v => Host.reduce IntOp.andi x v reducesTo_S8x4096x16x128_S_d0_1_2_3 h_S_) main_v2 main_c
  let main_v4 : FVec F S8x4096x4x128 .f32 := Host.absf main_arg1
  let main_cst_0 : FVec F S_ .f32 := constant S_ .f32 0x7F800000#32
  let main_v5 : FVec F S8x4096x4x128 .f32 := broadcastInDim S8x4096x4x128 ![] bcast_S_S8x4096x4x128 main_cst_0
  let main_v6 : IVec S8x4096x4x128 1 := cmpf .olt main_v4 main_v5
  let main_c_1 : IVec S_ 1 := constantI S_ 1 1#1
  let main_v7 : IVec S_ 1 := (fun x v => Host.reduce IntOp.andi x v reducesTo_S8x4096x4x128_S_d0_1_2_3 h_S_) main_v6 main_c_1
  let main_v8 : IVec S_ 1 := andi main_v3 main_v7
  let main_v9 : FVec F S8x512x4x128 .f32 := Host.absf main_arg3
  let main_cst_2 : FVec F S_ .f32 := constant S_ .f32 0x7F800000#32
  let main_v10 : FVec F S8x512x4x128 .f32 := broadcastInDim S8x512x4x128 ![] bcast_S_S8x512x4x128 main_cst_2
  let main_v11 : IVec S8x512x4x128 1 := cmpf .olt main_v9 main_v10
  let main_c_3 : IVec S_ 1 := constantI S_ 1 1#1
  let main_v12 : IVec S_ 1 := (fun x v => Host.reduce IntOp.andi x v reducesTo_S8x512x4x128_S_d0_1_2_3 h_S_) main_v11 main_c_3
  let main_v13 : IVec S_ 1 := andi main_v8 main_v12
  main_v13
-- ==== Gqa.lean ====
abbrev S8x4096x16x128 : Shape := ⟨4, ![8, 4096, 16, 128]⟩
abbrev S8x4096x4x128 : Shape := ⟨4, ![8, 4096, 4, 128]⟩
abbrev S8x512x4x128 : Shape := ⟨4, ![8, 512, 4, 128]⟩
abbrev S_ : Shape := ⟨0, ![]⟩
abbrev S8x4096x2048 : Shape := ⟨3, ![8, 4096, 2048]⟩
abbrev S8x4096x512 : Shape := ⟨3, ![8, 4096, 512]⟩
abbrev S8x512x512 : Shape := ⟨3, ![8, 512, 512]⟩
abbrev S1x1024x512 : Shape := ⟨3, ![1, 1024, 512]⟩
abbrev S1x4096x128 : Shape := ⟨3, ![1, 4096, 128]⟩
abbrev S1x512x128 : Shape := ⟨3, ![1, 512, 128]⟩
abbrev S4096x128 : Shape := ⟨2, ![4096, 128]⟩
abbrev S512x128 : Shape := ⟨2, ![512, 128]⟩
abbrev S1x256x128 : Shape := ⟨3, ![1, 256, 128]⟩
abbrev S256x128 : Shape := ⟨2, ![256, 128]⟩
abbrev S256x4096 : Shape := ⟨2, ![256, 4096]⟩
abbrev S256x512 : Shape := ⟨2, ![256, 512]⟩
abbrev S256x4608 : Shape := ⟨2, ![256, 4608]⟩
abbrev S256 : Shape := ⟨1, ![256]⟩
abbrev S256x1 : Shape := ⟨2, ![256, 1]⟩

abbrev nBuf : Space → Nat
  | .hbm => 23
  | .vmem => 12
  | .smem => 0
  | _ => 0

abbrev bufTy : (tb : Table) → Fin (tcTables nBuf tb) → BufTy
  | .hbm, ⟨0, _⟩ => ⟨S8x4096x16x128, .f32⟩
  | .hbm, ⟨1, _⟩ => ⟨S8x4096x4x128, .f32⟩
  | .hbm, ⟨2, _⟩ => ⟨S8x4096x4x128, .f32⟩
  | .hbm, ⟨3, _⟩ => ⟨S8x512x4x128, .f32⟩
  | .hbm, ⟨4, _⟩ => ⟨S8x512x4x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x4096x16x128, .f32⟩
  | .hbm, ⟨11, _⟩ => ⟨S8x4096x16x128, .f32⟩
  | .hbm, ⟨12, _⟩ => ⟨S8x4096x16x128, .bf16⟩
  | .hbm, ⟨13, _⟩ => ⟨S8x4096x2048, .bf16⟩
  | .hbm, ⟨14, _⟩ => ⟨S8x4096x512, .f32⟩
  | .hbm, ⟨15, _⟩ => ⟨S8x4096x512, .bf16⟩
  | .hbm, ⟨16, _⟩ => ⟨S8x4096x512, .f32⟩
  | .hbm, ⟨17, _⟩ => ⟨S8x4096x512, .bf16⟩
  | .hbm, ⟨18, _⟩ => ⟨S8x512x512, .f32⟩
  | .hbm, ⟨19, _⟩ => ⟨S8x512x512, .bf16⟩
  | .hbm, ⟨20, _⟩ => ⟨S8x512x512, .f32⟩
  | .hbm, ⟨21, _⟩ => ⟨S8x512x512, .bf16⟩
  | .hbm, ⟨22, _⟩ => ⟨S8x4096x2048, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x512x128, .bf16⟩
  | .local _ .vmem, ⟨9, _⟩ => ⟨S1x512x128, .bf16⟩
  | .local _ .vmem, ⟨10, _⟩ => ⟨S1x1024x512, .bf16⟩
  | .local _ .vmem, ⟨11, _⟩ => ⟨S1x1024x512, .bf16⟩
  | _, _ => ⟨S8x4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== GqaRefIdeal.lean ====
abbrev S8x4096x16x128 : Shape := ⟨4, ![8, 4096, 16, 128]⟩
abbrev S8x4096x4x128 : Shape := ⟨4, ![8, 4096, 4, 128]⟩
abbrev S8x512x4x128 : Shape := ⟨4, ![8, 512, 4, 128]⟩
abbrev S8x4608x4x128 : Shape := ⟨4, ![8, 4608, 4, 128]⟩
abbrev S8x4096x4x4x128 : Shape := ⟨5, ![8, 4096, 4, 4, 128]⟩
abbrev S8x4x4608x4096x4 : Shape := ⟨5, ![8, 4, 4608, 4096, 4]⟩
abbrev S8x4x4x4096x4608 : Shape := ⟨5, ![8, 4, 4, 4096, 4608]⟩
abbrev S_ : Shape := ⟨0, ![]⟩
abbrev S8x4x4x4096 : Shape := ⟨4, ![8, 4, 4, 4096]⟩
abbrev S8x4x4x4096x1 : Shape := ⟨5, ![8, 4, 4, 4096, 1]⟩
abbrev S8x4x128x4x4096 : Shape := ⟨5, ![8, 4, 128, 4, 4096]⟩
abbrev S8x4096x2048 : Shape := ⟨3, ![8, 4096, 2048]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x16x128, .f32⟩
  | .hbm, ⟨1, _⟩ => ⟨S8x4096x4x128, .f32⟩
  | .hbm, ⟨2, _⟩ => ⟨S8x4096x4x128, .f32⟩
  | .hbm, ⟨3, _⟩ => ⟨S8x512x4x128, .f32⟩
  | .hbm, ⟨4, _⟩ => ⟨S8x512x4x128, .f32⟩
  | .hbm, ⟨5, _⟩ => ⟨S8x4608x4x128, .f32⟩
  | .hbm, ⟨6, _⟩ => ⟨S8x4608x4x128, .f32⟩
  | .hbm, ⟨7, _⟩ => ⟨S8x4096x4x4x128, .f32⟩
  | .hbm, ⟨8, _⟩ => ⟨S8x4x4608x4096x4, .f32⟩
  | .hbm, ⟨9, _⟩ => ⟨S8x4x4x4096x4608, .f32⟩
  | .hbm, ⟨10, _⟩ => ⟨S_, .f32⟩
  | .hbm, ⟨11, _⟩ => ⟨S_, .f32⟩
  | .hbm, ⟨12, _⟩ => ⟨S8x4x4x4096x4608, .f32⟩
  | .hbm, ⟨13, _⟩ => ⟨S8x4x4x4096x4608, .f32⟩
  | .hbm, ⟨14, _⟩ => ⟨S_, .f32⟩
  | .hbm, ⟨15, _⟩ => ⟨S8x4x4x4096, .f32⟩
  | .hbm, ⟨16, _⟩ => ⟨S_, .f32⟩
  | .hbm, ⟨17, _⟩ => ⟨S8x4x4x4096, .f32⟩
  | .hbm, ⟨18, _⟩ => ⟨S8x4x4x4096, .f32⟩
  | .hbm, ⟨19, _⟩ => ⟨S8x4x4x4096x1, .f32⟩
  | .hbm, ⟨20, _⟩ => ⟨S8x4x4x4096x4608, .f32⟩
  | .hbm, ⟨21, _⟩ => ⟨S8x4x4x4096x4608, .f32⟩
  | .hbm, ⟨22, _⟩ => ⟨S8x4x4x4096x4608, .f32⟩
  | .hbm, ⟨23, _⟩ => ⟨S_, .f32⟩
  | .hbm, ⟨24, _⟩ => ⟨S8x4x4x4096, .f32⟩
  | .hbm, ⟨25, _⟩ => ⟨S8x4x4x4096x1, .f32⟩
  | .hbm, ⟨26, _⟩ => ⟨S8x4x4x4096x4608, .f32⟩
  | .hbm, ⟨27, _⟩ => ⟨S8x4x4x4096x4608, .f32⟩
  | .hbm, ⟨28, _⟩ => ⟨S8x4x128x4x4096, .f32⟩
  | .hbm, ⟨29, _⟩ => ⟨S8x4096x4x4x128, .f32⟩
  | .hbm, ⟨30, _⟩ => ⟨S8x4096x2048, .f32⟩
  | .hbm, ⟨31, _⟩ => ⟨S8x4096x2048, .bf16⟩
  | _, _ => ⟨S8x4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Proj.lean ====
abbrev S16x256x4096 : Shape := ⟨3, ![16, 256, 4096]⟩
abbrev S4096x12864 : Shape := ⟨2, ![4096, 12864]⟩
abbrev S4096x1536 : Shape := ⟨2, ![4096, 1536]⟩
abbrev S4096x3072 : Shape := ⟨2, ![4096, 3072]⟩
abbrev S4096x4608 : Shape := ⟨2, ![4096, 4608]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩
abbrev S16x256x4x128 : Shape := ⟨4, ![16, 256, 4, 128]⟩

abbrev nBuf : Space → Nat
  | .hbm => 11
  | .vmem => 6
  | .smem => 0
  | _ => 0

abbrev bufTy : (tb : Table) → Fin (tcTables nBuf tb) → BufTy
  | .hbm, ⟨0, _⟩ => ⟨S16x256x4096, .f32⟩
  | .hbm, ⟨1, _⟩ => ⟨S4096x12864, .f32⟩
  | .hbm, ⟨2, _⟩ => ⟨S4096x1536, .f32⟩
  | .hbm, ⟨3, _⟩ => ⟨S4096x3072, .f32⟩
  | .hbm, ⟨4, _⟩ => ⟨S4096x4608, .f32⟩
  | .hbm, ⟨5, _⟩ => ⟨S4096x4608, .bf16⟩
  | .hbm, ⟨6, _⟩ => ⟨S4096x4096, .f32⟩
  | .hbm, ⟨7, _⟩ => ⟨S4096x4096, .bf16⟩
  | .hbm, ⟨8, _⟩ => ⟨S4096x4608, .f32⟩
  | .hbm, ⟨9, _⟩ => ⟨S4096x512, .f32⟩
  | .hbm, ⟨10, _⟩ => ⟨S16x256x4x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S16x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S16x256x4096 : Shape := ⟨3, ![16, 256, 4096]⟩
abbrev S4096x12864 : Shape := ⟨2, ![4096, 12864]⟩
abbrev S16x256x12864 : Shape := ⟨3, ![16, 256, 12864]⟩
abbrev S16x256x1024 : Shape := ⟨3, ![16, 256, 1024]⟩
abbrev S16x256x512 : Shape := ⟨3, ![16, 256, 512]⟩
abbrev S16x256x64 : Shape := ⟨3, ![16, 256, 64]⟩
abbrev S16x256x2048 : Shape := ⟨3, ![16, 256, 2048]⟩
abbrev S16x256x4608 : Shape := ⟨3, ![16, 256, 4608]⟩
abbrev S4096x4608 : Shape := ⟨2, ![4096, 4608]⟩
abbrev S16x256x4x128 : Shape := ⟨4, ![16, 256, 4, 128]⟩

abbrev nBuf : Space → Nat
  | .hbm => 14
  | .vmem => 0
  | .smem => 0
  | _ => 0

abbrev bufTy : (tb : Table) → Fin (tcTables nBuf tb) → BufTy
  | .hbm, ⟨0, _⟩ => ⟨S16x256x4096, .f32⟩
  | .hbm, ⟨1, _⟩ => ⟨S4096x12864, .f32⟩
  | .hbm, ⟨2, _⟩ => ⟨S16x256x12864, .f32⟩
  | .hbm, ⟨3, _⟩ => ⟨S16x256x1024, .f32⟩
  | .hbm, ⟨4, _⟩ => ⟨S16x256x512, .f32⟩
  | .hbm, ⟨5, _⟩ => ⟨S16x256x64, .f32⟩
  | .hbm, ⟨6, _⟩ => ⟨S16x256x2048, .f32⟩
  | .hbm, ⟨7, _⟩ => ⟨S16x256x512, .f32⟩
  | .hbm, ⟨8, _⟩ => ⟨S16x256x512, .f32⟩
  | .hbm, ⟨9, _⟩ => ⟨S16x256x4096, .f32⟩
  | .hbm, ⟨10, _⟩ => ⟨S16x256x4096, .f32⟩
  | .hbm, ⟨11, _⟩ => ⟨S16x256x4608, .f32⟩
  | .hbm, ⟨12, _⟩ => ⟨S4096x4608, .f32⟩
  | .hbm, ⟨13, _⟩ => ⟨S16x256x4x128, .f32⟩
  | _, _ => ⟨S16x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Kr.lean ====
abbrev S16x256x4096 : Shape := ⟨3, ![16, 256, 4096]⟩
abbrev S4096x12864 : Shape := ⟨2, ![4096, 12864]⟩
abbrev S4096x64 : Shape := ⟨2, ![4096, 64]⟩
abbrev S_ : Shape := ⟨0, ![]⟩
abbrev S4096x128 : Shape := ⟨2, ![4096, 128]⟩
abbrev S4096x4096 : Shape := ⟨2, ![4096, 4096]⟩
abbrev S1024x4096 : Shape := ⟨2, ![1024, 4096]⟩
abbrev S1024x128 : Shape := ⟨2, ![1024, 128]⟩
abbrev S16x256x64 : Shape := ⟨3, ![16, 256, 64]⟩

abbrev nBuf : Space → Nat
  | .hbm => 12
  | .vmem => 5
  | .smem => 0
  | _ => 0

abbrev bufTy : (tb : Table) → Fin (tcTables nBuf tb) → BufTy
  | .hbm, ⟨0, _⟩ => ⟨S16x256x4096, .f32⟩
  | .hbm, ⟨1, _⟩ => ⟨S4096x12864, .f32⟩
  | .hbm, ⟨2, _⟩ => ⟨S4096x64, .f32⟩
  | .hbm, ⟨3, _⟩ => ⟨S_, .i32⟩
  | .hbm, ⟨4, _⟩ => ⟨S_, .f32⟩
  | .hbm, ⟨5, _⟩ => ⟨S4096x128, .f32⟩
  | .hbm, ⟨6, _⟩ => ⟨S4096x128, .bf16⟩
  | .hbm, ⟨7, _⟩ => ⟨S4096x4096, .f32⟩
  | .hbm, ⟨8, _⟩ => ⟨S4096x4096, .bf16⟩
  | .hbm, ⟨9, _⟩ => ⟨S4096x128, .f32⟩
  | .hbm, ⟨10, _⟩ => ⟨S4096x64, .f32⟩
  | .hbm, ⟨11, _⟩ => ⟨S16x256x64, .f32⟩
  | .local _ .vmem, ⟨0, _⟩ => ⟨S1024x4096, .bf16⟩
  | .local _ .vmem, ⟨1, _⟩ => ⟨S1024x4096, .bf16⟩
  | .local _ .vmem, ⟨2, _⟩ => ⟨S4096x128, .bf16⟩
  | .local _ .vmem, ⟨3, _⟩ => ⟨S1024x128, .f32⟩
  | .local _ .vmem, ⟨4, _⟩ => ⟨S1024x128, .f32⟩
  | _, _ => ⟨S16x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KrRefIdeal.lean ====
abbrev S16x256x4096 : Shape := ⟨3, ![16, 256, 4096]⟩
abbrev S4096x12864 : Shape := ⟨2, ![4096, 12864]⟩
abbrev S16x256x12864 : Shape := ⟨3, ![16, 256, 12864]⟩
abbrev S16x256x64 : Shape := ⟨3, ![16, 256, 64]⟩

abbrev nBuf : Space → Nat
  | .hbm => 4
  | .vmem => 0
  | .smem => 0
  | _ => 0

abbrev bufTy : (tb : Table) → Fin (tcTables nBuf tb) → BufTy
  | .hbm, ⟨0, _⟩ => ⟨S16x256x4096, .f32⟩
  | .hbm, ⟨1, _⟩ => ⟨S4096x12864, .f32⟩
  | .hbm, ⟨2, _⟩ => ⟨S16x256x12864, .f32⟩
  | .hbm, ⟨3, _⟩ => ⟨S16x256x64, .f32⟩
  | _, _ => ⟨S16x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Gates.lean ====
abbrev S8x4096x4096 : Shape := ⟨3, ![8, 4096, 4096]⟩
abbrev S4096x12864 : Shape := ⟨2, ![4096, 12864]⟩
abbrev S32768x4096 : Shape := ⟨2, ![32768, 4096]⟩
abbrev S4096x8192 : Shape := ⟨2, ![4096, 8192]⟩
abbrev S32768x8192 : Shape := ⟨2, ![32768, 8192]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8x4096x4096, .f32⟩
  | .hbm, ⟨1, _⟩ => ⟨S4096x12864, .f32⟩
  | .hbm, ⟨2, _⟩ => ⟨S32768x4096, .f32⟩
  | .hbm, ⟨3, _⟩ => ⟨S32768x4096, .bf16⟩
  | .hbm, ⟨4, _⟩ => ⟨S4096x8192, .f32⟩
  | .hbm, ⟨5, _⟩ => ⟨S4096x8192, .bf16⟩
  | .hbm, ⟨6, _⟩ => ⟨S32768x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S8x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesRefIdeal.lean ====
abbrev S8x4096x4096 : Shape := ⟨3, ![8, 4096, 4096]⟩
abbrev S4096x12864 : Shape := ⟨2, ![4096, 12864]⟩
abbrev S8x4096x12864 : Shape := ⟨3, ![8, 4096, 12864]⟩
abbrev S8x4096x8192 : Shape := ⟨3, ![8, 4096, 8192]⟩
abbrev S_ : Shape := ⟨0, ![]⟩
abbrev S32768x8192 : Shape := ⟨2, ![32768, 8192]⟩

abbrev nBuf : Space → Nat
  | .hbm => 14
  | .vmem => 0
  | .smem => 0
  | _ => 0

abbrev bufTy : (tb : Table) → Fin (tcTables nBuf tb) → BufTy
  | .hbm, ⟨0, _⟩ => ⟨S8x4096x4096, .f32⟩
  | .hbm, ⟨1, _⟩ => ⟨S4096x12864, .f32⟩
  | .hbm, ⟨2, _⟩ => ⟨S8x4096x12864, .f32⟩
  | .hbm, ⟨3, _⟩ => ⟨S8x4096x8192, .f32⟩
  | .hbm, ⟨4, _⟩ => ⟨S8x4096x8192, .f32⟩
  | .hbm, ⟨5, _⟩ => ⟨S8x4096x8192, .f32⟩
  | .hbm, ⟨6, _⟩ => ⟨S_, .f32⟩
  | .hbm, ⟨7, _⟩ => ⟨S8x4096x8192, .f32⟩
  | .hbm, ⟨8, _⟩ => ⟨S8x4096x8192, .f32⟩
  | .hbm, ⟨9, _⟩ => ⟨S_, .f32⟩
  | .hbm, ⟨10, _⟩ => ⟨S8x4096x8192, .f32⟩
  | .hbm, ⟨11, _⟩ => ⟨S8x4096x8192, .f32⟩
  | .hbm, ⟨12, _⟩ => ⟨S32768x8192, .f32⟩
  | .hbm, ⟨13, _⟩ => ⟨S32768x8192, .bf16⟩
  | _, _ => ⟨S8x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Mla.lean ====
abbrev S8x4096x16x192 : Shape := ⟨4, ![8, 4096, 16, 192]⟩
abbrev S8x4096x16x256 : Shape := ⟨4, ![8, 4096, 16, 256]⟩
abbrev S8x4096x64 : Shape := ⟨3, ![8, 4096, 64]⟩
abbrev S8x512x16x256 : Shape := ⟨4, ![8, 512, 16, 256]⟩
abbrev S8x512x64 : Shape := ⟨3, ![8, 512, 64]⟩
abbrev S_ : Shape := ⟨0, ![]⟩
abbrev S8x4096x16x128 : Shape := ⟨4, ![8, 4096, 16, 128]⟩
abbrev S8x4096x1x64 : Shape := ⟨4, ![8, 4096, 1, 64]⟩
abbrev S8x4096x16x64 : Shape := ⟨4, ![8, 4096, 16, 64]⟩
abbrev S8x4096x4096 : Shape := ⟨3, ![8, 4096, 4096]⟩
abbrev S8x4096x2048 : Shape := ⟨3, ![8, 4096, 2048]⟩
abbrev S8x4096x6144 : Shape := ⟨3, ![8, 4096, 6144]⟩
abbrev S8x512x16x128 : Shape := ⟨4, ![8, 512, 16, 128]⟩
abbrev S8x512x1x64 : Shape := ⟨4, ![8, 512, 1, 64]⟩
abbrev S8x512x16x64 : Shape := ⟨4, ![8, 512, 16, 64]⟩
abbrev S8x512x4096 : Shape := ⟨3, ![8, 512, 4096]⟩
abbrev S8x512x2048 : Shape := ⟨3, ![8, 512, 2048]⟩
abbrev S8x512x6144 : Shape := ⟨3, ![8, 512, 6144]⟩
abbrev S1x4096x256 : Shape := ⟨3, ![1, 4096, 256]⟩
abbrev S1x4096x128 : Shape := ⟨3, ![1, 4096, 128]⟩
abbrev S1x512x256 : Shape := ⟨3, ![1, 512, 256]⟩
abbrev S1x512x128 : Shape := ⟨3, ![1, 512, 128]⟩
abbrev S4096x256 : Shape := ⟨2, ![4096, 256]⟩
abbrev S512x256 : Shape := ⟨2, ![512, 256]⟩
abbrev S4096x128 : Shape := ⟨2, ![4096, 128]⟩
abbrev S512x128 : Shape := ⟨2, ![512, 128]⟩
abbrev S1x256x256 : Shape := ⟨3, ![1, 256, 256]⟩
abbrev S256x256 : Shape := ⟨2, ![256, 256]⟩
abbrev S256x4096 : Shape := ⟨2, ![256, 4096]⟩
abbrev S256x512 : Shape := ⟨2, ![256, 512]⟩
abbrev S256x4608 : Shape := ⟨2, ![256, 4608]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩

abbrev nBuf : Space → Nat
  | .hbm => 40
  | .vmem => 12
  | .smem => 0
  | _ => 0

abbrev bufTy : (tb : Table) → Fin (tcTables nBuf tb) → BufTy
  | .hbm, ⟨0, _⟩ => ⟨S8x4096x16x192, .f32⟩
  | .hbm, ⟨1, _⟩ => ⟨S8x4096x16x256, .f32⟩
  | .hbm, ⟨2, _⟩ => ⟨S8x4096x64, .f32⟩
  | .hbm, ⟨3, _⟩ => ⟨S8x512x16x256, .f32⟩
  | .hbm, ⟨4, _⟩ => ⟨S8x512x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x4096x16x192, .f32⟩
  | .hbm, ⟨11, _⟩ => ⟨S8x4096x16x192, .f32⟩
  | .hbm, ⟨12, _⟩ => ⟨S_, .i32⟩
  | .hbm, ⟨13, _⟩ => ⟨S_, .f32⟩
  | .hbm, ⟨14, _⟩ => ⟨S8x4096x16x256, .f32⟩
  | .hbm, ⟨15, _⟩ => ⟨S8x4096x16x256, .bf16⟩
  | .hbm, ⟨16, _⟩ => ⟨S8x4096x16x128, .f32⟩
  | .hbm, ⟨17, _⟩ => ⟨S8x4096x1x64, .f32⟩
  | .hbm, ⟨18, _⟩ => ⟨S8x4096x16x64, .f32⟩
  | .hbm, ⟨19, _⟩ => ⟨S_, .f32⟩
  | .hbm, ⟨20, _⟩ => ⟨S8x4096x16x64, .f32⟩
  | .hbm, ⟨21, _⟩ => ⟨S8x4096x16x256, .f32⟩
  | .hbm, ⟨22, _⟩ => ⟨S8x4096x4096, .f32⟩
  | .hbm, ⟨23, _⟩ => ⟨S8x4096x16x128, .f32⟩
  | .hbm, ⟨24, _⟩ => ⟨S8x4096x2048, .f32⟩
  | .hbm, ⟨25, _⟩ => ⟨S8x4096x6144, .f32⟩
  | .hbm, ⟨26, _⟩ => ⟨S8x4096x6144, .bf16⟩
  | .hbm, ⟨27, _⟩ => ⟨S8x512x16x128, .f32⟩
  | .hbm, ⟨28, _⟩ => ⟨S8x512x1x64, .f32⟩
  | .hbm, ⟨29, _⟩ => ⟨S8x512x16x64, .f32⟩
  | .hbm, ⟨30, _⟩ => ⟨S_, .f32⟩
  | .hbm, ⟨31, _⟩ => ⟨S8x512x16x64, .f32⟩
  | .hbm, ⟨32, _⟩ => ⟨S8x512x16x256, .f32⟩
  | .hbm, ⟨33, _⟩ => ⟨S8x512x4096, .f32⟩
  | .hbm, ⟨34, _⟩ => ⟨S8x512x16x128, .f32⟩
  | .hbm, ⟨35, _⟩ => ⟨S8x512x2048, .f32⟩
  | .hbm, ⟨36, _⟩ => ⟨S8x512x6144, .f32⟩
  | .hbm, ⟨37, _⟩ => ⟨S8x512x6144, .bf16⟩
  | .hbm, ⟨38, _⟩ => ⟨S8x4096x4096, .bf16⟩
  | .hbm, ⟨39, _⟩ => ⟨S8x4096x2048, .bf16⟩
  | .local _ .vmem, ⟨0, _⟩ => ⟨S1x4096x256, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x128, .bf16⟩
  | .local _ .vmem, ⟨9, _⟩ => ⟨S1x512x128, .bf16⟩
  | .local _ .vmem, ⟨10, _⟩ => ⟨S1x4096x128, .bf16⟩
  | .local _ .vmem, ⟨11, _⟩ => ⟨S1x4096x128, .bf16⟩
  | _, _ => ⟨S8x4096x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 16, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== MlaRefIdeal.lean ====
abbrev S8x4096x16x192 : Shape := ⟨4, ![8, 4096, 16, 192]⟩
abbrev S8x4096x16x256 : Shape := ⟨4, ![8, 4096, 16, 256]⟩
abbrev S8x4096x64 : Shape := ⟨3, ![8, 4096, 64]⟩
abbrev S8x512x16x256 : Shape := ⟨4, ![8, 512, 16, 256]⟩
abbrev S8x512x64 : Shape := ⟨3, ![8, 512, 64]⟩
abbrev S8x4608x16x256 : Shape := ⟨4, ![8, 4608, 16, 256]⟩
abbrev S8x4608x64 : Shape := ⟨3, ![8, 4608, 64]⟩
abbrev S8x4608x16x128 : Shape := ⟨4, ![8, 4608, 16, 128]⟩
abbrev S8x4608x1x64 : Shape := ⟨4, ![8, 4608, 1, 64]⟩
abbrev S8x4608x16x64 : Shape := ⟨4, ![8, 4608, 16, 64]⟩
abbrev S8x4608x16x192 : Shape := ⟨4, ![8, 4608, 16, 192]⟩
abbrev S8x16x4096x4608 : Shape := ⟨4, ![8, 16, 4096, 4608]⟩
abbrev S_ : Shape := ⟨0, ![]⟩
abbrev S8x16x4096 : Shape := ⟨3, ![8, 16, 4096]⟩
abbrev S8x16x4096x1 : Shape := ⟨4, ![8, 16, 4096, 1]⟩
abbrev S8x16x128x4096 : Shape := ⟨4, ![8, 16, 128, 4096]⟩
abbrev S8x4096x16x128 : Shape := ⟨4, ![8, 4096, 16, 128]⟩
abbrev S8x4096x2048 : Shape := ⟨3, ![8, 4096, 2048]⟩

abbrev nBuf : Space → Nat
  | .hbm => 35
  | .vmem => 0
  | .smem => 0
  | _ => 0

abbrev bufTy : (tb : Table) → Fin (tcTables nBuf tb) → BufTy
  | .hbm, ⟨0, _⟩ => ⟨S8x4096x16x192, .f32⟩
  | .hbm, ⟨1, _⟩ => ⟨S8x4096x16x256, .f32⟩
  | .hbm, ⟨2, _⟩ => ⟨S8x4096x64, .f32⟩
  | .hbm, ⟨3, _⟩ => ⟨S8x512x16x256, .f32⟩
  | .hbm, ⟨4, _⟩ => ⟨S8x512x64, .f32⟩
  | .hbm, ⟨5, _⟩ => ⟨S8x4608x16x256, .f32⟩
  | .hbm, ⟨6, _⟩ => ⟨S8x4608x64, .f32⟩
  | .hbm, ⟨7, _⟩ => ⟨S8x4608x16x128, .f32⟩
  | .hbm, ⟨8, _⟩ => ⟨S8x4608x1x64, .f32⟩
  | .hbm, ⟨9, _⟩ => ⟨S8x4608x16x64, .f32⟩
  | .hbm, ⟨10, _⟩ => ⟨S8x4608x16x192, .f32⟩
  | .hbm, ⟨11, _⟩ => ⟨S8x4608x16x128, .f32⟩
  | .hbm, ⟨12, _⟩ => ⟨S8x16x4096x4608, .f32⟩
  | .hbm, ⟨13, _⟩ => ⟨S_, .f32⟩
  | .hbm, ⟨14, _⟩ => ⟨S_, .f32⟩
  | .hbm, ⟨15, _⟩ => ⟨S8x16x4096x4608, .f32⟩
  | .hbm, ⟨16, _⟩ => ⟨S8x16x4096x4608, .f32⟩
  | .hbm, ⟨17, _⟩ => ⟨S_, .f32⟩
  | .hbm, ⟨18, _⟩ => ⟨S8x16x4096, .f32⟩
  | .hbm, ⟨19, _⟩ => ⟨S_, .f32⟩
  | .hbm, ⟨20, _⟩ => ⟨S8x16x4096, .f32⟩
  | .hbm, ⟨21, _⟩ => ⟨S8x16x4096, .f32⟩
  | .hbm, ⟨22, _⟩ => ⟨S8x16x4096x1, .f32⟩
  | .hbm, ⟨23, _⟩ => ⟨S8x16x4096x4608, .f32⟩
  | .hbm, ⟨24, _⟩ => ⟨S8x16x4096x4608, .f32⟩
  | .hbm, ⟨25, _⟩ => ⟨S8x16x4096x4608, .f32⟩
  | .hbm, ⟨26, _⟩ => ⟨S_, .f32⟩
  | .hbm, ⟨27, _⟩ => ⟨S8x16x4096, .f32⟩
  | .hbm, ⟨28, _⟩ => ⟨S8x16x4096x1, .f32⟩
  | .hbm, ⟨29, _⟩ => ⟨S8x16x4096x4608, .f32⟩
  | .hbm, ⟨30, _⟩ => ⟨S8x16x4096x4608, .f32⟩
  | .hbm, ⟨31, _⟩ => ⟨S8x16x128x4096, .f32⟩
  | .hbm, ⟨32, _⟩ => ⟨S8x4096x16x128, .f32⟩
  | .hbm, ⟨33, _⟩ => ⟨S8x4096x2048, .f32⟩
  | .hbm, ⟨34, _⟩ => ⟨S8x4096x2048, .bf16⟩
  | _, _ => ⟨S8x4096x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Merge.lean ====
abbrev S8x4096x2048 : Shape := ⟨3, ![8, 4096, 2048]⟩
abbrev S2048x4096 : Shape := ⟨2, ![2048, 4096]⟩
abbrev S8x4096x8192 : Shape := ⟨3, ![8, 4096, 8192]⟩
abbrev S32768x2048 : Shape := ⟨2, ![32768, 2048]⟩
abbrev S32768x8192 : Shape := ⟨2, ![32768, 8192]⟩
abbrev S32768x4096 : Shape := ⟨2, ![32768, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 14
  | .vmem => 14
  | .smem => 0
  | _ => 0

abbrev bufTy : (tb : Table) → Fin (tcTables nBuf tb) → BufTy
  | .hbm, ⟨0, _⟩ => ⟨S8x4096x2048, .f32⟩
  | .hbm, ⟨1, _⟩ => ⟨S8x4096x2048, .f32⟩
  | .hbm, ⟨2, _⟩ => ⟨S2048x4096, .f32⟩
  | .hbm, ⟨3, _⟩ => ⟨S2048x4096, .f32⟩
  | .hbm, ⟨4, _⟩ => ⟨S8x4096x8192, .f32⟩
  | .hbm, ⟨5, _⟩ => ⟨S32768x2048, .f32⟩
  | .hbm, ⟨6, _⟩ => ⟨S32768x2048, .bf16⟩
  | .hbm, ⟨7, _⟩ => ⟨S32768x2048, .f32⟩
  | .hbm, ⟨8, _⟩ => ⟨S32768x2048, .bf16⟩
  | .hbm, ⟨9, _⟩ => ⟨S2048x4096, .bf16⟩
  | .hbm, ⟨10, _⟩ => ⟨S2048x4096, .bf16⟩
  | .hbm, ⟨11, _⟩ => ⟨S32768x8192, .f32⟩
  | .hbm, ⟨12, _⟩ => ⟨S32768x8192, .bf16⟩
  | .hbm, ⟨13, _⟩ => ⟨S32768x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S8x4096x2048 : Shape := ⟨3, ![8, 4096, 2048]⟩
abbrev S2048x4096 : Shape := ⟨2, ![2048, 4096]⟩
abbrev S8x4096x8192 : Shape := ⟨3, ![8, 4096, 8192]⟩
abbrev S8x4096x4096 : Shape := ⟨3, ![8, 4096, 4096]⟩
abbrev S32768x4096 : Shape := ⟨2, ![32768, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x4096x2048, .f32⟩
  | .hbm, ⟨2, _⟩ => ⟨S2048x4096, .f32⟩
  | .hbm, ⟨3, _⟩ => ⟨S2048x4096, .f32⟩
  | .hbm, ⟨4, _⟩ => ⟨S8x4096x8192, .f32⟩
  | .hbm, ⟨5, _⟩ => ⟨S8x4096x4096, .f32⟩
  | .hbm, ⟨6, _⟩ => ⟨S8x4096x4096, .f32⟩
  | .hbm, ⟨7, _⟩ => ⟨S8x4096x4096, .f32⟩
  | .hbm, ⟨8, _⟩ => ⟨S8x4096x4096, .f32⟩
  | .hbm, ⟨9, _⟩ => ⟨S8x4096x4096, .f32⟩
  | .hbm, ⟨10, _⟩ => ⟨S8x4096x4096, .f32⟩
  | .hbm, ⟨11, _⟩ => ⟨S8x4096x4096, .f32⟩
  | .hbm, ⟨12, _⟩ => ⟨S32768x4096, .f32⟩
  | .hbm, ⟨13, _⟩ => ⟨S32768x4096, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Out.lean ====
abbrev S8x4096x4096 : Shape := ⟨3, ![8, 4096, 4096]⟩
abbrev S4096x4096 : Shape := ⟨2, ![4096, 4096]⟩
abbrev S8x24576 : Shape := ⟨2, ![8, 24576]⟩
abbrev S32768x4096 : Shape := ⟨2, ![32768, 4096]⟩
abbrev S8x6x4096 : Shape := ⟨3, ![8, 6, 4096]⟩
abbrev S_ : Shape := ⟨0, ![]⟩
abbrev S8x8x4096 : Shape := ⟨3, ![8, 8, 4096]⟩
abbrev S1024x4096 : Shape := ⟨2, ![1024, 4096]⟩
abbrev S4096x1024 : Shape := ⟨2, ![4096, 1024]⟩
abbrev S1024x1024 : Shape := ⟨2, ![1024, 1024]⟩
abbrev S1x8x1024 : Shape := ⟨3, ![1, 8, 1024]⟩
abbrev S8x1024 : Shape := ⟨2, ![8, 1024]⟩
abbrev S1x1024 : Shape := ⟨2, ![1, 1024]⟩

abbrev nBuf : Space → Nat
  | .hbm => 13
  | .vmem => 10
  | .smem => 0
  | _ => 0

abbrev bufTy : (tb : Table) → Fin (tcTables nBuf tb) → BufTy
  | .hbm, ⟨0, _⟩ => ⟨S8x4096x4096, .f32⟩
  | .hbm, ⟨1, _⟩ => ⟨S4096x4096, .f32⟩
  | .hbm, ⟨2, _⟩ => ⟨S8x4096x4096, .f32⟩
  | .hbm, ⟨3, _⟩ => ⟨S8x24576, .f32⟩
  | .hbm, ⟨4, _⟩ => ⟨S32768x4096, .f32⟩
  | .hbm, ⟨5, _⟩ => ⟨S32768x4096, .bf16⟩
  | .hbm, ⟨6, _⟩ => ⟨S4096x4096, .bf16⟩
  | .hbm, ⟨7, _⟩ => ⟨S32768x4096, .f32⟩
  | .hbm, ⟨8, _⟩ => ⟨S8x6x4096, .f32⟩
  | .hbm, ⟨9, _⟩ => ⟨S_, .i32⟩
  | .hbm, ⟨10, _⟩ => ⟨S_, .f32⟩
  | .hbm, ⟨11, _⟩ => ⟨S8x8x4096, .f32⟩
  | .hbm, ⟨12, _⟩ => ⟨S32768x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1x8x1024, .f32⟩
  | .local _ .vmem, ⟨7, _⟩ => ⟨S1x8x1024, .f32⟩
  | .local _ .vmem, ⟨8, _⟩ => ⟨S1024x1024, .f32⟩
  | .local _ .vmem, ⟨9, _⟩ => ⟨S1024x1024, .f32⟩
  | _, _ => ⟨S8x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutRefIdeal.lean ====
abbrev S8x4096x4096 : Shape := ⟨3, ![8, 4096, 4096]⟩
abbrev S4096x4096 : Shape := ⟨2, ![4096, 4096]⟩
abbrev S8x24576 : Shape := ⟨2, ![8, 24576]⟩
abbrev S8x1x24576 : Shape := ⟨3, ![8, 1, 24576]⟩
abbrev S8x1x4096 : Shape := ⟨3, ![8, 1, 4096]⟩
abbrev S32768x4096 : Shape := ⟨2, ![32768, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8x4096x4096, .f32⟩
  | .hbm, ⟨1, _⟩ => ⟨S4096x4096, .f32⟩
  | .hbm, ⟨2, _⟩ => ⟨S8x4096x4096, .f32⟩
  | .hbm, ⟨3, _⟩ => ⟨S8x24576, .f32⟩
  | .hbm, ⟨4, _⟩ => ⟨S8x1x24576, .f32⟩
  | .hbm, ⟨5, _⟩ => ⟨S8x1x4096, .f32⟩
  | .hbm, ⟨6, _⟩ => ⟨S8x1x4096, .f32⟩
  | .hbm, ⟨7, _⟩ => ⟨S8x1x4096, .f32⟩
  | .hbm, ⟨8, _⟩ => ⟨S8x1x4096, .f32⟩
  | .hbm, ⟨9, _⟩ => ⟨S8x1x4096, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S8x4096x4096, .f32⟩
  | .hbm, ⟨15, _⟩ => ⟨S32768x4096, .f32⟩
  | _, _ => ⟨S8x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== PeerQ.lean ====
abbrev S8x4096x4096 : Shape := ⟨3, ![8, 4096, 4096]⟩
abbrev S4096x2048 : Shape := ⟨2, ![4096, 2048]⟩
abbrev S32768x4096 : Shape := ⟨2, ![32768, 4096]⟩
abbrev S32768x2048 : Shape := ⟨2, ![32768, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8x4096x4096, .f32⟩
  | .hbm, ⟨1, _⟩ => ⟨S4096x2048, .f32⟩
  | .hbm, ⟨2, _⟩ => ⟨S32768x4096, .f32⟩
  | .hbm, ⟨3, _⟩ => ⟨S32768x4096, .bf16⟩
  | .hbm, ⟨4, _⟩ => ⟨S4096x2048, .bf16⟩
  | .hbm, ⟨5, _⟩ => ⟨S32768x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S8x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PeerQRefIdeal.lean ====
abbrev S8x4096x4096 : Shape := ⟨3, ![8, 4096, 4096]⟩
abbrev S4096x2048 : Shape := ⟨2, ![4096, 2048]⟩
abbrev S32768x4096 : Shape := ⟨2, ![32768, 4096]⟩
abbrev S32768x2048 : Shape := ⟨2, ![32768, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8x4096x4096, .f32⟩
  | .hbm, ⟨1, _⟩ => ⟨S4096x2048, .f32⟩
  | .hbm, ⟨2, _⟩ => ⟨S32768x4096, .f32⟩
  | .hbm, ⟨3, _⟩ => ⟨S32768x2048, .f32⟩
  | .hbm, ⟨4, _⟩ => ⟨S32768x2048, .bf16⟩
  | _, _ => ⟨S8x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FinalP.lean ====
abbrev S16x256x4096 : Shape := ⟨3, ![16, 256, 4096]⟩
abbrev S24576 : Shape := ⟨1, ![24576]⟩
abbrev S4096 : Shape := ⟨1, ![4096]⟩
abbrev S4096x4096 : Shape := ⟨2, ![4096, 4096]⟩
abbrev S1x6x4096 : Shape := ⟨3, ![1, 6, 4096]⟩
abbrev S_ : Shape := ⟨0, ![]⟩
abbrev S1x8x4096 : Shape := ⟨3, ![1, 8, 4096]⟩
abbrev S1x4096 : Shape := ⟨2, ![1, 4096]⟩
abbrev S256x4096 : Shape := ⟨2, ![256, 4096]⟩
abbrev S8x4096 : Shape := ⟨2, ![8, 4096]⟩
abbrev S256 : Shape := ⟨1, ![256]⟩
abbrev S256x1 : Shape := ⟨2, ![256, 1]⟩

abbrev nBuf : Space → Nat
  | .hbm => 13
  | .vmem => 9
  | .smem => 0
  | _ => 0

abbrev bufTy : (tb : Table) → Fin (tcTables nBuf tb) → BufTy
  | .hbm, ⟨0, _⟩ => ⟨S16x256x4096, .f32⟩
  | .hbm, ⟨1, _⟩ => ⟨S16x256x4096, .f32⟩
  | .hbm, ⟨2, _⟩ => ⟨S24576, .f32⟩
  | .hbm, ⟨3, _⟩ => ⟨S4096, .f32⟩
  | .hbm, ⟨4, _⟩ => ⟨S4096x4096, .f32⟩
  | .hbm, ⟨5, _⟩ => ⟨S4096x4096, .f32⟩
  | .hbm, ⟨6, _⟩ => ⟨S1x6x4096, .f32⟩
  | .hbm, ⟨7, _⟩ => ⟨S_, .i32⟩
  | .hbm, ⟨8, _⟩ => ⟨S_, .f32⟩
  | .hbm, ⟨9, _⟩ => ⟨S1x8x4096, .f32⟩
  | .hbm, ⟨10, _⟩ => ⟨S1x4096, .f32⟩
  | .hbm, ⟨11, _⟩ => ⟨S4096x4096, .f32⟩
  | .hbm, ⟨12, _⟩ => ⟨S16x256x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x8x4096, .f32⟩
  | .local _ .vmem, ⟨5, _⟩ => ⟨S1x8x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | _, _ => ⟨S16x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FinalPRefIdeal.lean ====
abbrev S16x256x4096 : Shape := ⟨3, ![16, 256, 4096]⟩
abbrev S24576 : Shape := ⟨1, ![24576]⟩
abbrev S4096 : Shape := ⟨1, ![4096]⟩
abbrev S1x1x4096 : Shape := ⟨3, ![1, 1, 4096]⟩
abbrev S_ : Shape := ⟨0, ![]⟩
abbrev S16x256 : Shape := ⟨2, ![16, 256]⟩
abbrev S16x256x1 : Shape := ⟨3, ![16, 256, 1]⟩

abbrev nBuf : Space → Nat
  | .hbm => 30
  | .vmem => 0
  | .smem => 0
  | _ => 0

abbrev bufTy : (tb : Table) → Fin (tcTables nBuf tb) → BufTy
  | .hbm, ⟨0, _⟩ => ⟨S16x256x4096, .f32⟩
  | .hbm, ⟨1, _⟩ => ⟨S16x256x4096, .f32⟩
  | .hbm, ⟨2, _⟩ => ⟨S24576, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S1x1x4096, .f32⟩
  | .hbm, ⟨11, _⟩ => ⟨S16x256x4096, .f32⟩
  | .hbm, ⟨12, _⟩ => ⟨S16x256x4096, .f32⟩
  | .hbm, ⟨13, _⟩ => ⟨S16x256x4096, .f32⟩
  | .hbm, ⟨14, _⟩ => ⟨S16x256x4096, .f32⟩
  | .hbm, ⟨15, _⟩ => ⟨S_, .f32⟩
  | .hbm, ⟨16, _⟩ => ⟨S16x256, .f32⟩
  | .hbm, ⟨17, _⟩ => ⟨S16x256x1, .f32⟩
  | .hbm, ⟨18, _⟩ => ⟨S_, .f32⟩
  | .hbm, ⟨19, _⟩ => ⟨S16x256x1, .f32⟩
  | .hbm, ⟨20, _⟩ => ⟨S16x256x1, .f32⟩
  | .hbm, ⟨21, _⟩ => ⟨S_, .f32⟩
  | .hbm, ⟨22, _⟩ => ⟨S16x256x1, .f32⟩
  | .hbm, ⟨23, _⟩ => ⟨S16x256x1, .f32⟩
  | .hbm, ⟨24, _⟩ => ⟨S16x256x1, .f32⟩
  | .hbm, ⟨25, _⟩ => ⟨S16x256x4096, .f32⟩
  | .hbm, ⟨26, _⟩ => ⟨S16x256x4096, .f32⟩
  | .hbm, ⟨27, _⟩ => ⟨S1x1x4096, .f32⟩
  | .hbm, ⟨28, _⟩ => ⟨S16x256x4096, .f32⟩
  | .hbm, ⟨29, _⟩ => ⟨S16x256x4096, .f32⟩
  | _, _ => ⟨S16x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== FinalS.lean ====
abbrev S8x4096x4096 : Shape := ⟨3, ![8, 4096, 4096]⟩
abbrev S8x24576 : Shape := ⟨2, ![8, 24576]⟩
abbrev S4096 : Shape := ⟨1, ![4096]⟩
abbrev S32768x4096 : Shape := ⟨2, ![32768, 4096]⟩
abbrev S8x6x4096 : Shape := ⟨3, ![8, 6, 4096]⟩
abbrev S_ : Shape := ⟨0, ![]⟩
abbrev S8x8x4096 : Shape := ⟨3, ![8, 8, 4096]⟩
abbrev S1x4096 : Shape := ⟨2, ![1, 4096]⟩
abbrev S256x4096 : Shape := ⟨2, ![256, 4096]⟩
abbrev S1x8x4096 : Shape := ⟨3, ![1, 8, 4096]⟩
abbrev S8x4096 : Shape := ⟨2, ![8, 4096]⟩
abbrev S256 : Shape := ⟨1, ![256]⟩
abbrev S256x1 : Shape := ⟨2, ![256, 1]⟩

abbrev nBuf : Space → Nat
  | .hbm => 13
  | .vmem => 9
  | .smem => 0
  | _ => 0

abbrev bufTy : (tb : Table) → Fin (tcTables nBuf tb) → BufTy
  | .hbm, ⟨0, _⟩ => ⟨S8x4096x4096, .f32⟩
  | .hbm, ⟨1, _⟩ => ⟨S8x4096x4096, .f32⟩
  | .hbm, ⟨2, _⟩ => ⟨S8x24576, .f32⟩
  | .hbm, ⟨3, _⟩ => ⟨S4096, .f32⟩
  | .hbm, ⟨4, _⟩ => ⟨S32768x4096, .f32⟩
  | .hbm, ⟨5, _⟩ => ⟨S32768x4096, .f32⟩
  | .hbm, ⟨6, _⟩ => ⟨S8x6x4096, .f32⟩
  | .hbm, ⟨7, _⟩ => ⟨S_, .i32⟩
  | .hbm, ⟨8, _⟩ => ⟨S_, .f32⟩
  | .hbm, ⟨9, _⟩ => ⟨S8x8x4096, .f32⟩
  | .hbm, ⟨10, _⟩ => ⟨S1x4096, .f32⟩
  | .hbm, ⟨11, _⟩ => ⟨S32768x4096, .f32⟩
  | .hbm, ⟨12, _⟩ => ⟨S8x4096x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x8x4096, .f32⟩
  | .local _ .vmem, ⟨5, _⟩ => ⟨S1x8x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | _, _ => ⟨S8x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FinalSRefIdeal.lean ====
abbrev S8x4096x4096 : Shape := ⟨3, ![8, 4096, 4096]⟩
abbrev S8x24576 : Shape := ⟨2, ![8, 24576]⟩
abbrev S4096 : Shape := ⟨1, ![4096]⟩
abbrev S8x1x24576 : Shape := ⟨3, ![8, 1, 24576]⟩
abbrev S8x1x4096 : Shape := ⟨3, ![8, 1, 4096]⟩
abbrev S_ : Shape := ⟨0, ![]⟩
abbrev S8x4096 : Shape := ⟨2, ![8, 4096]⟩
abbrev S8x4096x1 : Shape := ⟨3, ![8, 4096, 1]⟩
abbrev S1x1x4096 : Shape := ⟨3, ![1, 1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8x4096x4096, .f32⟩
  | .hbm, ⟨1, _⟩ => ⟨S8x4096x4096, .f32⟩
  | .hbm, ⟨2, _⟩ => ⟨S8x24576, .f32⟩
  | .hbm, ⟨3, _⟩ => ⟨S4096, .f32⟩
  | .hbm, ⟨4, _⟩ => ⟨S8x1x24576, .f32⟩
  | .hbm, ⟨5, _⟩ => ⟨S8x1x4096, .f32⟩
  | .hbm, ⟨6, _⟩ => ⟨S8x1x4096, .f32⟩
  | .hbm, ⟨7, _⟩ => ⟨S8x1x4096, .f32⟩
  | .hbm, ⟨8, _⟩ => ⟨S8x1x4096, .f32⟩
  | .hbm, ⟨9, _⟩ => ⟨S8x1x4096, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S8x4096x4096, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x4096, .f32⟩
  | .hbm, ⟨26, _⟩ => ⟨S8x4096x4096, .f32⟩
  | .hbm, ⟨27, _⟩ => ⟨S1x1x4096, .f32⟩
  | .hbm, ⟨28, _⟩ => ⟨S8x4096x4096, .f32⟩
  | .hbm, ⟨29, _⟩ => ⟨S8x4096x4096, .f32⟩
  | _, _ => ⟨S8x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Prep.lean ====
abbrev S16x256x4608 : Shape := ⟨3, ![16, 256, 4608]⟩
abbrev S16x256x64 : Shape := ⟨3, ![16, 256, 64]⟩
abbrev S1024 : Shape := ⟨1, ![1024]⟩
abbrev S512 : Shape := ⟨1, ![512]⟩
abbrev S128 : Shape := ⟨1, ![128]⟩
abbrev S4096x64 : Shape := ⟨2, ![4096, 64]⟩
abbrev S_ : Shape := ⟨0, ![]⟩
abbrev S4096x128 : Shape := ⟨2, ![4096, 128]⟩
abbrev S4096x4608 : Shape := ⟨2, ![4096, 4608]⟩
abbrev S1x1024 : Shape := ⟨2, ![1, 1024]⟩
abbrev S1x512 : Shape := ⟨2, ![1, 512]⟩
abbrev S1x128 : Shape := ⟨2, ![1, 128]⟩
abbrev S4096x1024 : Shape := ⟨2, ![4096, 1024]⟩
abbrev S4096x512 : Shape := ⟨2, ![4096, 512]⟩
abbrev S4096x640 : Shape := ⟨2, ![4096, 640]⟩
abbrev S4096x2048 : Shape := ⟨2, ![4096, 2048]⟩
abbrev S256x4608 : Shape := ⟨2, ![256, 4608]⟩
abbrev S256x128 : Shape := ⟨2, ![256, 128]⟩
abbrev S256x1024 : Shape := ⟨2, ![256, 1024]⟩
abbrev S256x512 : Shape := ⟨2, ![256, 512]⟩
abbrev S256x640 : Shape := ⟨2, ![256, 640]⟩
abbrev S256x2048 : Shape := ⟨2, ![256, 2048]⟩
abbrev S256 : Shape := ⟨1, ![256]⟩
abbrev S256x1 : Shape := ⟨2, ![256, 1]⟩
abbrev S16x256x512 : Shape := ⟨3, ![16, 256, 512]⟩
abbrev S16x256x4x128 : Shape := ⟨4, ![16, 256, 4, 128]⟩
abbrev S16x256x1024 : Shape := ⟨3, ![16, 256, 1024]⟩

abbrev nBuf : Space → Nat
  | .hbm => 25
  | .vmem => 22
  | .smem => 0
  | _ => 0

abbrev bufTy : (tb : Table) → Fin (tcTables nBuf tb) → BufTy
  | .hbm, ⟨0, _⟩ => ⟨S16x256x4608, .f32⟩
  | .hbm, ⟨1, _⟩ => ⟨S16x256x64, .f32⟩
  | .hbm, ⟨2, _⟩ => ⟨S1024, .f32⟩
  | .hbm, ⟨3, _⟩ => ⟨S512, .f32⟩
  | .hbm, ⟨4, _⟩ => ⟨S128, .f32⟩
  | .hbm, ⟨5, _⟩ => ⟨S128, .f32⟩
  | .hbm, ⟨6, _⟩ => ⟨S4096x64, .f32⟩
  | .hbm, ⟨7, _⟩ => ⟨S_, .i32⟩
  | .hbm, ⟨8, _⟩ => ⟨S_, .f32⟩
  | .hbm, ⟨9, _⟩ => ⟨S4096x128, .f32⟩
  | .hbm, ⟨10, _⟩ => ⟨S4096x4608, .f32⟩
  | .hbm, ⟨11, _⟩ => ⟨S1x1024, .f32⟩
  | .hbm, ⟨12, _⟩ => ⟨S1x512, .f32⟩
  | .hbm, ⟨13, _⟩ => ⟨S1x128, .f32⟩
  | .hbm, ⟨14, _⟩ => ⟨S1x128, .f32⟩
  | .hbm, ⟨15, _⟩ => ⟨S4096x1024, .bf16⟩
  | .hbm, ⟨16, _⟩ => ⟨S4096x512, .f32⟩
  | .hbm, ⟨17, _⟩ => ⟨S4096x640, .bf16⟩
  | .hbm, ⟨18, _⟩ => ⟨S4096x2048, .bf16⟩
  | .hbm, ⟨19, _⟩ => ⟨S4096x512, .f32⟩
  | .hbm, ⟨20, _⟩ => ⟨S4096x512, .bf16⟩
  | .hbm, ⟨21, _⟩ => ⟨S4096x512, .bf16⟩
  | .hbm, ⟨22, _⟩ => ⟨S16x256x512, .f32⟩
  | .hbm, ⟨23, _⟩ => ⟨S16x256x4x128, .f32⟩
  | .hbm, ⟨24, _⟩ => ⟨S16x256x1024, .bf16⟩
  | .local _ .vmem, ⟨0, _⟩ => ⟨S256x4608, .f32⟩
  | .local _ .vmem, ⟨1, _⟩ => ⟨S256x4608, .f32⟩
  | .local _ .vmem, ⟨2, _⟩ => ⟨S256x128, .f32⟩
  | .local _ .vmem, ⟨3, _⟩ => ⟨S256x128, .f32⟩
  | .local _ .vmem, ⟨4, _⟩ => ⟨S1x1024, .f32⟩
  | .local _ .vmem, ⟨5, _⟩ => ⟨S1x512, .f32⟩
  | .local _ .vmem, ⟨6, _⟩ => ⟨S1x128, .f32⟩
  | .local _ .vmem, ⟨7, _⟩ => ⟨S1x128, .f32⟩
  | .local _ .vmem, ⟨8, _⟩ => ⟨S256x1024, .bf16⟩
  | .local _ .vmem, ⟨9, _⟩ => ⟨S256x1024, .bf16⟩
  | .local _ .vmem, ⟨10, _⟩ => ⟨S256x512, .f32⟩
  | .local _ .vmem, ⟨11, _⟩ => ⟨S256x512, .f32⟩
  | .local _ .vmem, ⟨12, _⟩ => ⟨S256x640, .bf16⟩
  | .local _ .vmem, ⟨13, _⟩ => ⟨S256x640, .bf16⟩
  | .local _ .vmem, ⟨14, _⟩ => ⟨S256x2048, .bf16⟩
  | .local _ .vmem, ⟨15, _⟩ => ⟨S256x2048, .bf16⟩
  | .local _ .vmem, ⟨16, _⟩ => ⟨S256x512, .f32⟩
  | .local _ .vmem, ⟨17, _⟩ => ⟨S256x512, .f32⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | _, _ => ⟨S16x256x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v7_5 : Ref sig .tc := ⟨.hbm, 20, rfl⟩
abbrev main_v7_6 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4608 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x640 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== PrepRefIdeal.lean ====
abbrev S16x256x4608 : Shape := ⟨3, ![16, 256, 4608]⟩
abbrev S16x256x64 : Shape := ⟨3, ![16, 256, 64]⟩
abbrev S1024 : Shape := ⟨1, ![1024]⟩
abbrev S512 : Shape := ⟨1, ![512]⟩
abbrev S128 : Shape := ⟨1, ![128]⟩
abbrev S16x256x1024 : Shape := ⟨3, ![16, 256, 1024]⟩
abbrev S16x256x512 : Shape := ⟨3, ![16, 256, 512]⟩
abbrev S16x256x2048 : Shape := ⟨3, ![16, 256, 2048]⟩
abbrev S_ : Shape := ⟨0, ![]⟩
abbrev S16x256 : Shape := ⟨2, ![16, 256]⟩
abbrev S16x256x1 : Shape := ⟨3, ![16, 256, 1]⟩
abbrev S1x1x512 : Shape := ⟨3, ![1, 1, 512]⟩
abbrev S16x256x4x128 : Shape := ⟨4, ![16, 256, 4, 128]⟩
abbrev S16x256x4 : Shape := ⟨3, ![16, 256, 4]⟩
abbrev S16x256x4x1 : Shape := ⟨4, ![16, 256, 4, 1]⟩
abbrev S1x1x1x128 : Shape := ⟨4, ![1, 1, 1, 128]⟩
abbrev S1x1x1024 : Shape := ⟨3, ![1, 1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S16x256x4608, .f32⟩
  | .hbm, ⟨1, _⟩ => ⟨S16x256x64, .f32⟩
  | .hbm, ⟨2, _⟩ => ⟨S1024, .f32⟩
  | .hbm, ⟨3, _⟩ => ⟨S512, .f32⟩
  | .hbm, ⟨4, _⟩ => ⟨S128, .f32⟩
  | .hbm, ⟨5, _⟩ => ⟨S128, .f32⟩
  | .hbm, ⟨6, _⟩ => ⟨S16x256x1024, .f32⟩
  | .hbm, ⟨7, _⟩ => ⟨S16x256x512, .f32⟩
  | .hbm, ⟨8, _⟩ => ⟨S16x256x2048, .f32⟩
  | .hbm, ⟨9, _⟩ => ⟨S16x256x512, .f32⟩
  | .hbm, ⟨10, _⟩ => ⟨S16x256x512, .f32⟩
  | .hbm, ⟨11, _⟩ => ⟨S16x256x512, .f32⟩
  | .hbm, ⟨12, _⟩ => ⟨S_, .f32⟩
  | .hbm, ⟨13, _⟩ => ⟨S16x256, .f32⟩
  | .hbm, ⟨14, _⟩ => ⟨S16x256x1, .f32⟩
  | .hbm, ⟨15, _⟩ => ⟨S_, .f32⟩
  | .hbm, ⟨16, _⟩ => ⟨S16x256x1, .f32⟩
  | .hbm, ⟨17, _⟩ => ⟨S16x256x1, .f32⟩
  | .hbm, ⟨18, _⟩ => ⟨S_, .f32⟩
  | .hbm, ⟨19, _⟩ => ⟨S16x256x1, .f32⟩
  | .hbm, ⟨20, _⟩ => ⟨S16x256x1, .f32⟩
  | .hbm, ⟨21, _⟩ => ⟨S16x256x1, .f32⟩
  | .hbm, ⟨22, _⟩ => ⟨S16x256x512, .f32⟩
  | .hbm, ⟨23, _⟩ => ⟨S16x256x512, .f32⟩
  | .hbm, ⟨24, _⟩ => ⟨S1x1x512, .f32⟩
  | .hbm, ⟨25, _⟩ => ⟨S16x256x512, .f32⟩
  | .hbm, ⟨26, _⟩ => ⟨S16x256x512, .f32⟩
  | .hbm, ⟨27, _⟩ => ⟨S16x256x4x128, .f32⟩
  | .hbm, ⟨28, _⟩ => ⟨S16x256x4x128, .f32⟩
  | .hbm, ⟨29, _⟩ => ⟨S_, .f32⟩
  | .hbm, ⟨30, _⟩ => ⟨S16x256x4, .f32⟩
  | .hbm, ⟨31, _⟩ => ⟨S16x256x4x1, .f32⟩
  | .hbm, ⟨32, _⟩ => ⟨S_, .f32⟩
  | .hbm, ⟨33, _⟩ => ⟨S16x256x4x1, .f32⟩
  | .hbm, ⟨34, _⟩ => ⟨S16x256x4x1, .f32⟩
  | .hbm, ⟨35, _⟩ => ⟨S_, .f32⟩
  | .hbm, ⟨36, _⟩ => ⟨S16x256x4x1, .f32⟩
  | .hbm, ⟨37, _⟩ => ⟨S16x256x4x1, .f32⟩
  | .hbm, ⟨38, _⟩ => ⟨S16x256x4x1, .f32⟩
  | .hbm, ⟨39, _⟩ => ⟨S16x256x4x128, .f32⟩
  | .hbm, ⟨40, _⟩ => ⟨S16x256x4x128, .f32⟩
  | .hbm, ⟨41, _⟩ => ⟨S1x1x1x128, .f32⟩
  | .hbm, ⟨42, _⟩ => ⟨S16x256x4x128, .f32⟩
  | .hbm, ⟨43, _⟩ => ⟨S16x256x4x128, .f32⟩
  | .hbm, ⟨44, _⟩ => ⟨S16x256x1024, .f32⟩
  | .hbm, ⟨45, _⟩ => ⟨S_, .f32⟩
  | .hbm, ⟨46, _⟩ => ⟨S16x256, .f32⟩
  | .hbm, ⟨47, _⟩ => ⟨S16x256x1, .f32⟩
  | .hbm, ⟨48, _⟩ => ⟨S_, .f32⟩
  | .hbm, ⟨49, _⟩ => ⟨S16x256x1, .f32⟩
  | .hbm, ⟨50, _⟩ => ⟨S16x256x1, .f32⟩
  | .hbm, ⟨51, _⟩ => ⟨S_, .f32⟩
  | .hbm, ⟨52, _⟩ => ⟨S16x256x1, .f32⟩
  | .hbm, ⟨53, _⟩ => ⟨S16x256x1, .f32⟩
  | .hbm, ⟨54, _⟩ => ⟨S16x256x1, .f32⟩
  | .hbm, ⟨55, _⟩ => ⟨S16x256x1024, .f32⟩
  | .hbm, ⟨56, _⟩ => ⟨S16x256x1024, .f32⟩
  | .hbm, ⟨57, _⟩ => ⟨S1x1x1024, .f32⟩
  | .hbm, ⟨58, _⟩ => ⟨S16x256x1024, .f32⟩
  | .hbm, ⟨59, _⟩ => ⟨S16x256x1024, .f32⟩
  | .hbm, ⟨60, _⟩ => ⟨S16x256x1024, .bf16⟩
  | _, _ => ⟨S16x256x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Kv.lean ====
abbrev S8x512x512 : Shape := ⟨3, ![8, 512, 512]⟩
abbrev S8x512x64 : Shape := ⟨3, ![8, 512, 64]⟩
abbrev S512x4096 : Shape := ⟨2, ![512, 4096]⟩
abbrev S512x16x256 : Shape := ⟨3, ![512, 16, 256]⟩
abbrev S_ : Shape := ⟨0, ![]⟩
abbrev S640x16x256 : Shape := ⟨3, ![640, 16, 256]⟩
abbrev S512x16x128 : Shape := ⟨3, ![512, 16, 128]⟩
abbrev S1 : Shape := ⟨1, ![1]⟩
abbrev S2 : Shape := ⟨1, ![2]⟩
abbrev S64x64 : Shape := ⟨2, ![64, 64]⟩
abbrev S64x1x64 : Shape := ⟨3, ![64, 1, 64]⟩
abbrev S64x16x64 : Shape := ⟨3, ![64, 16, 64]⟩
abbrev S640x16x128 : Shape := ⟨3, ![640, 16, 128]⟩
abbrev S640x4096 : Shape := ⟨2, ![640, 4096]⟩
abbrev S640x2048 : Shape := ⟨2, ![640, 2048]⟩
abbrev S640x6144 : Shape := ⟨2, ![640, 6144]⟩
abbrev S8x512x640 : Shape := ⟨3, ![8, 512, 640]⟩
abbrev S4096x640 : Shape := ⟨2, ![4096, 640]⟩
abbrev S4096x6144 : Shape := ⟨2, ![4096, 6144]⟩
abbrev S1024x640 : Shape := ⟨2, ![1024, 640]⟩
abbrev S1024x2048 : Shape := ⟨2, ![1024, 2048]⟩
abbrev S8x512x6144 : Shape := ⟨3, ![8, 512, 6144]⟩
abbrev S8x512x4096 : Shape := ⟨3, ![8, 512, 4096]⟩
abbrev S8x512x16x256 : Shape := ⟨4, ![8, 512, 16, 256]⟩
abbrev S8x512x16x192 : Shape := ⟨4, ![8, 512, 16, 192]⟩
abbrev S8x512x2048 : Shape := ⟨3, ![8, 512, 2048]⟩
abbrev S8x512x16x128 : Shape := ⟨4, ![8, 512, 16, 128]⟩

abbrev nBuf : Space → Nat
  | .hbm => 48
  | .vmem => 6
  | .smem => 0
  | _ => 0

abbrev bufTy : (tb : Table) → Fin (tcTables nBuf tb) → BufTy
  | .hbm, ⟨0, _⟩ => ⟨S8x512x512, .f32⟩
  | .hbm, ⟨1, _⟩ => ⟨S8x512x64, .f32⟩
  | .hbm, ⟨2, _⟩ => ⟨S512x4096, .f32⟩
  | .hbm, ⟨3, _⟩ => ⟨S512x16x256, .f32⟩
  | .hbm, ⟨4, _⟩ => ⟨S_, .f32⟩
  | .hbm, ⟨5, _⟩ => ⟨S640x16x256, .f32⟩
  | .hbm, ⟨6, _⟩ => ⟨S512x16x128, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S640x16x256, .f32⟩
  | .hbm, ⟨13, _⟩ => ⟨S64x64, .i32⟩
  | .hbm, ⟨14, _⟩ => ⟨S64x64, .i32⟩
  | .hbm, ⟨15, _⟩ => ⟨S_, .i32⟩
  | .hbm, ⟨16, _⟩ => ⟨S64x64, .i32⟩
  | .hbm, ⟨17, _⟩ => ⟨S64x64, .i32⟩
  | .hbm, ⟨18, _⟩ => ⟨S64x64, .i1⟩
  | .hbm, ⟨19, _⟩ => ⟨S64x64, .f32⟩
  | .hbm, ⟨20, _⟩ => ⟨S64x1x64, .f32⟩
  | .hbm, ⟨21, _⟩ => ⟨S64x16x64, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S640x16x256, .f32⟩
  | .hbm, ⟨28, _⟩ => ⟨S512x16x128, .f32⟩
  | .hbm, ⟨29, _⟩ => ⟨S_, .i32⟩
  | .hbm, ⟨30, _⟩ => ⟨S_, .f32⟩
  | .hbm, ⟨31, _⟩ => ⟨S640x16x128, .f32⟩
  | .hbm, ⟨32, _⟩ => ⟨S640x4096, .f32⟩
  | .hbm, ⟨33, _⟩ => ⟨S640x2048, .f32⟩
  | .hbm, ⟨34, _⟩ => ⟨S640x6144, .f32⟩
  | .hbm, ⟨35, _⟩ => ⟨S640x6144, .bf16⟩
  | .hbm, ⟨36, _⟩ => ⟨S_, .f32⟩
  | .hbm, ⟨37, _⟩ => ⟨S8x512x64, .f32⟩
  | .hbm, ⟨38, _⟩ => ⟨S8x512x640, .f32⟩
  | .hbm, ⟨39, _⟩ => ⟨S8x512x640, .bf16⟩
  | .hbm, ⟨40, _⟩ => ⟨S4096x640, .bf16⟩
  | .hbm, ⟨41, _⟩ => ⟨S4096x6144, .bf16⟩
  | .hbm, ⟨42, _⟩ => ⟨S8x512x6144, .bf16⟩
  | .hbm, ⟨43, _⟩ => ⟨S8x512x4096, .bf16⟩
  | .hbm, ⟨44, _⟩ => ⟨S8x512x16x256, .bf16⟩
  | .hbm, ⟨45, _⟩ => ⟨S8x512x16x192, .bf16⟩
  | .hbm, ⟨46, _⟩ => ⟨S8x512x2048, .bf16⟩
  | .hbm, ⟨47, _⟩ => ⟨S8x512x16x128, .bf16⟩
  | .local _ .vmem, ⟨0, _⟩ => ⟨S1024x640, .bf16⟩
  | .local _ .vmem, ⟨1, _⟩ => ⟨S1024x640, .bf16⟩
  | .local _ .vmem, ⟨2, _⟩ => ⟨S640x2048, .bf16⟩
  | .local _ .vmem, ⟨3, _⟩ => ⟨S640x2048, .bf16⟩
  | .local _ .vmem, ⟨4, _⟩ => ⟨S1024x2048, .bf16⟩
  | .local _ .vmem, ⟨5, _⟩ => ⟨S1024x2048, .bf16⟩
  | _, _ => ⟨S8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_4 : Ref sig .tc := ⟨.hbm, 29, rfl⟩
abbrev main_call0_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S640x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvRefIdeal.lean ====
abbrev S8x512x512 : Shape := ⟨3, ![8, 512, 512]⟩
abbrev S8x512x64 : Shape := ⟨3, ![8, 512, 64]⟩
abbrev S512x4096 : Shape := ⟨2, ![512, 4096]⟩
abbrev S8x512x4096 : Shape := ⟨3, ![8, 512, 4096]⟩
abbrev S8x512x16x256 : Shape := ⟨4, ![8, 512, 16, 256]⟩
abbrev S8x512x16x128 : Shape := ⟨4, ![8, 512, 16, 128]⟩
abbrev S8x512x1x64 : Shape := ⟨4, ![8, 512, 1, 64]⟩
abbrev S8x512x16x64 : Shape := ⟨4, ![8, 512, 16, 64]⟩
abbrev S8x512x16x192 : Shape := ⟨4, ![8, 512, 16, 192]⟩

abbrev nBuf : Space → Nat
  | .hbm => 12
  | .vmem => 0
  | .smem => 0
  | _ => 0

abbrev bufTy : (tb : Table) → Fin (tcTables nBuf tb) → BufTy
  | .hbm, ⟨0, _⟩ => ⟨S8x512x512, .f32⟩
  | .hbm, ⟨1, _⟩ => ⟨S8x512x64, .f32⟩
  | .hbm, ⟨2, _⟩ => ⟨S512x4096, .f32⟩
  | .hbm, ⟨3, _⟩ => ⟨S8x512x4096, .f32⟩
  | .hbm, ⟨4, _⟩ => ⟨S8x512x16x256, .f32⟩
  | .hbm, ⟨5, _⟩ => ⟨S8x512x16x128, .f32⟩
  | .hbm, ⟨6, _⟩ => ⟨S8x512x1x64, .f32⟩
  | .hbm, ⟨7, _⟩ => ⟨S8x512x16x64, .f32⟩
  | .hbm, ⟨8, _⟩ => ⟨S8x512x16x192, .f32⟩
  | .hbm, ⟨9, _⟩ => ⟨S8x512x16x128, .f32⟩
  | .hbm, ⟨10, _⟩ => ⟨S8x512x16x192, .bf16⟩
  | .hbm, ⟨11, _⟩ => ⟨S8x512x16x128, .bf16⟩
  | _, _ => ⟨S8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Qb.lean ====
abbrev S8x4096x1024 : Shape := ⟨3, ![8, 4096, 1024]⟩
abbrev S1024x3072 : Shape := ⟨2, ![1024, 3072]⟩
abbrev S4096x32 : Shape := ⟨2, ![4096, 32]⟩
abbrev S4096x32x2 : Shape := ⟨3, ![4096, 32, 2]⟩
abbrev S4096x64 : Shape := ⟨2, ![4096, 64]⟩
abbrev S4096x32x1 : Shape := ⟨3, ![4096, 32, 1]⟩
abbrev S_ : Shape := ⟨0, ![]⟩
abbrev S4096x128 : Shape := ⟨2, ![4096, 128]⟩
abbrev S4096x256 : Shape := ⟨2, ![4096, 256]⟩
abbrev S1x4096x1x256 : Shape := ⟨4, ![1, 4096, 1, 256]⟩
abbrev S1x4096x2x256 : Shape := ⟨4, ![1, 4096, 2, 256]⟩
abbrev S4096x512 : Shape := ⟨2, ![4096, 512]⟩
abbrev S1024x16x192 : Shape := ⟨3, ![1024, 16, 192]⟩
abbrev S1024x16x256 : Shape := ⟨3, ![1024, 16, 256]⟩
abbrev S1024x4096 : Shape := ⟨2, ![1024, 4096]⟩
abbrev S32768x1024 : Shape := ⟨2, ![32768, 1024]⟩
abbrev S32768x4096 : Shape := ⟨2, ![32768, 4096]⟩
abbrev S1024x1024 : Shape := ⟨2, ![1024, 1024]⟩
abbrev S1024x512 : Shape := ⟨2, ![1024, 512]⟩
abbrev S1024x128 : Shape := ⟨2, ![1024, 128]⟩
abbrev S8x4096x16x256 : Shape := ⟨4, ![8, 4096, 16, 256]⟩
abbrev S8x4096x16x192 : Shape := ⟨4, ![8, 4096, 16, 192]⟩

abbrev nBuf : Space → Nat
  | .hbm => 38
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S1024x3072, .f32⟩
  | .hbm, ⟨2, _⟩ => ⟨S4096x32, .f32⟩
  | .hbm, ⟨3, _⟩ => ⟨S4096x32, .f32⟩
  | .hbm, ⟨4, _⟩ => ⟨S4096x32x2, .f32⟩
  | .hbm, ⟨5, _⟩ => ⟨S4096x64, .f32⟩
  | .hbm, ⟨6, _⟩ => ⟨S4096x32, .f32⟩
  | .hbm, ⟨7, _⟩ => ⟨S4096x32x1, .f32⟩
  | .hbm, ⟨8, _⟩ => ⟨S4096x32x1, .f32⟩
  | .hbm, ⟨9, _⟩ => ⟨S4096x32x2, .f32⟩
  | .hbm, ⟨10, _⟩ => ⟨S4096x64, .f32⟩
  | .hbm, ⟨11, _⟩ => ⟨S_, .f32⟩
  | .hbm, ⟨12, _⟩ => ⟨S4096x64, .f32⟩
  | .hbm, ⟨13, _⟩ => ⟨S_, .f32⟩
  | .hbm, ⟨14, _⟩ => ⟨S4096x64, .f32⟩
  | .hbm, ⟨15, _⟩ => ⟨S_, .f32⟩
  | .hbm, ⟨16, _⟩ => ⟨S4096x128, .f32⟩
  | .hbm, ⟨17, _⟩ => ⟨S_, .f32⟩
  | .hbm, ⟨18, _⟩ => ⟨S4096x128, .f32⟩
  | .hbm, ⟨19, _⟩ => ⟨S4096x256, .f32⟩
  | .hbm, ⟨20, _⟩ => ⟨S1x4096x1x256, .f32⟩
  | .hbm, ⟨21, _⟩ => ⟨S1x4096x2x256, .f32⟩
  | .hbm, ⟨22, _⟩ => ⟨S4096x512, .f32⟩
  | .hbm, ⟨23, _⟩ => ⟨S4096x256, .f32⟩
  | .hbm, ⟨24, _⟩ => ⟨S1x4096x1x256, .f32⟩
  | .hbm, ⟨25, _⟩ => ⟨S1x4096x2x256, .f32⟩
  | .hbm, ⟨26, _⟩ => ⟨S4096x512, .f32⟩
  | .hbm, ⟨27, _⟩ => ⟨S1024x16x192, .f32⟩
  | .hbm, ⟨28, _⟩ => ⟨S_, .i32⟩
  | .hbm, ⟨29, _⟩ => ⟨S_, .f32⟩
  | .hbm, ⟨30, _⟩ => ⟨S1024x16x256, .f32⟩
  | .hbm, ⟨31, _⟩ => ⟨S1024x4096, .f32⟩
  | .hbm, ⟨32, _⟩ => ⟨S1024x4096, .bf16⟩
  | .hbm, ⟨33, _⟩ => ⟨S32768x1024, .f32⟩
  | .hbm, ⟨34, _⟩ => ⟨S32768x1024, .bf16⟩
  | .hbm, ⟨35, _⟩ => ⟨S32768x4096, .bf16⟩
  | .hbm, ⟨36, _⟩ => ⟨S8x4096x16x256, .bf16⟩
  | .hbm, ⟨37, _⟩ => ⟨S8x4096x16x192, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QbRefIdeal.lean ====
abbrev S8x4096x1024 : Shape := ⟨3, ![8, 4096, 1024]⟩
abbrev S1024x3072 : Shape := ⟨2, ![1024, 3072]⟩
abbrev S4096x32 : Shape := ⟨2, ![4096, 32]⟩
abbrev S8x4096x3072 : Shape := ⟨3, ![8, 4096, 3072]⟩
abbrev S8x4096x16x192 : Shape := ⟨4, ![8, 4096, 16, 192]⟩
abbrev S8x4096x16x128 : Shape := ⟨4, ![8, 4096, 16, 128]⟩
abbrev S8x4096x16x64 : Shape := ⟨4, ![8, 4096, 16, 64]⟩
abbrev S4096x1x32 : Shape := ⟨3, ![4096, 1, 32]⟩
abbrev S8x4096x16x32x2 : Shape := ⟨5, ![8, 4096, 16, 32, 2]⟩
abbrev S8x4096x16x32x1 : Shape := ⟨5, ![8, 4096, 16, 32, 1]⟩
abbrev S8x4096x16x32 : Shape := ⟨4, ![8, 4096, 16, 32]⟩
abbrev S1x4096x1x32 : Shape := ⟨4, ![1, 4096, 1, 32]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x3072, .f32⟩
  | .hbm, ⟨2, _⟩ => ⟨S4096x32, .f32⟩
  | .hbm, ⟨3, _⟩ => ⟨S4096x32, .f32⟩
  | .hbm, ⟨4, _⟩ => ⟨S8x4096x3072, .f32⟩
  | .hbm, ⟨5, _⟩ => ⟨S8x4096x16x192, .f32⟩
  | .hbm, ⟨6, _⟩ => ⟨S8x4096x16x128, .f32⟩
  | .hbm, ⟨7, _⟩ => ⟨S8x4096x16x64, .f32⟩
  | .hbm, ⟨8, _⟩ => ⟨S4096x1x32, .f32⟩
  | .hbm, ⟨9, _⟩ => ⟨S4096x1x32, .f32⟩
  | .hbm, ⟨10, _⟩ => ⟨S8x4096x16x32x2, .f32⟩
  | .hbm, ⟨11, _⟩ => ⟨S8x4096x16x32x1, .f32⟩
  | .hbm, ⟨12, _⟩ => ⟨S8x4096x16x32, .f32⟩
  | .hbm, ⟨13, _⟩ => ⟨S8x4096x16x32x1, .f32⟩
  | .hbm, ⟨14, _⟩ => ⟨S8x4096x16x32, .f32⟩
  | .hbm, ⟨15, _⟩ => ⟨S1x4096x1x32, .f32⟩
  | .hbm, ⟨16, _⟩ => ⟨S8x4096x16x32, .f32⟩
  | .hbm, ⟨17, _⟩ => ⟨S8x4096x16x32, .f32⟩
  | .hbm, ⟨18, _⟩ => ⟨S1x4096x1x32, .f32⟩
  | .hbm, ⟨19, _⟩ => ⟨S8x4096x16x32, .f32⟩
  | .hbm, ⟨20, _⟩ => ⟨S8x4096x16x32, .f32⟩
  | .hbm, ⟨21, _⟩ => ⟨S8x4096x16x32, .f32⟩
  | .hbm, ⟨22, _⟩ => ⟨S1x4096x1x32, .f32⟩
  | .hbm, ⟨23, _⟩ => ⟨S8x4096x16x32, .f32⟩
  | .hbm, ⟨24, _⟩ => ⟨S8x4096x16x32, .f32⟩
  | .hbm, ⟨25, _⟩ => ⟨S1x4096x1x32, .f32⟩
  | .hbm, ⟨26, _⟩ => ⟨S8x4096x16x32, .f32⟩
  | .hbm, ⟨27, _⟩ => ⟨S8x4096x16x32, .f32⟩
  | .hbm, ⟨28, _⟩ => ⟨S8x4096x16x32, .f32⟩
  | .hbm, ⟨29, _⟩ => ⟨S8x4096x16x32x1, .f32⟩
  | .hbm, ⟨30, _⟩ => ⟨S8x4096x16x32x1, .f32⟩
  | .hbm, ⟨31, _⟩ => ⟨S8x4096x16x32x2, .f32⟩
  | .hbm, ⟨32, _⟩ => ⟨S8x4096x16x64, .f32⟩
  | .hbm, ⟨33, _⟩ => ⟨S8x4096x16x192, .f32⟩
  | .hbm, ⟨34, _⟩ => ⟨S_, .f32⟩
  | .hbm, ⟨35, _⟩ => ⟨S8x4096x16x192, .f32⟩
  | .hbm, ⟨36, _⟩ => ⟨S8x4096x16x192, .f32⟩
  | .hbm, ⟨37, _⟩ => ⟨S8x4096x16x192, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩

abbrev nD : Nat := 1
abbrev τ : Topo := Topo.v7x

variable {F : FTy → Type} [FloatOps F]
-- ==== Mod.lean ====
abbrev S8x4096 : Shape := ⟨2, ![8, 4096]⟩
abbrev S4096 : Shape := ⟨1, ![4096]⟩
abbrev S4096x24576 : Shape := ⟨2, ![4096, 24576]⟩
abbrev S24576 : Shape := ⟨1, ![24576]⟩
abbrev S1x4096 : Shape := ⟨2, ![1, 4096]⟩
abbrev S_ : Shape := ⟨0, ![]⟩
abbrev S7x4096 : Shape := ⟨2, ![7, 4096]⟩
abbrev S16x4096 : Shape := ⟨2, ![16, 4096]⟩
abbrev S1x24576 : Shape := ⟨2, ![1, 24576]⟩
abbrev S16x24576 : Shape := ⟨2, ![16, 24576]⟩
abbrev S4096x512 : Shape := ⟨2, ![4096, 512]⟩
abbrev S1x512 : Shape := ⟨2, ![1, 512]⟩
abbrev S16x512 : Shape := ⟨2, ![16, 512]⟩
abbrev S8x24576 : Shape := ⟨2, ![8, 24576]⟩

abbrev nBuf : Space → Nat
  | .hbm => 13
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S4096, .f32⟩
  | .hbm, ⟨2, _⟩ => ⟨S4096x24576, .f32⟩
  | .hbm, ⟨3, _⟩ => ⟨S24576, .f32⟩
  | .hbm, ⟨4, _⟩ => ⟨S1x4096, .f32⟩
  | .hbm, ⟨5, _⟩ => ⟨S_, .f32⟩
  | .hbm, ⟨6, _⟩ => ⟨S7x4096, .f32⟩
  | .hbm, ⟨7, _⟩ => ⟨S16x4096, .f32⟩
  | .hbm, ⟨8, _⟩ => ⟨S1x24576, .f32⟩
  | .hbm, ⟨9, _⟩ => ⟨S16x24576, .f32⟩
  | .hbm, ⟨10, _⟩ => ⟨S8x24576, .f32⟩
  | .hbm, ⟨11, _⟩ => ⟨S1x24576, .f32⟩
  | .hbm, ⟨12, _⟩ => ⟨S24576, .f32⟩
  | .local _ .vmem, ⟨0, _⟩ => ⟨S16x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S16x512, .f32⟩
  | .local _ .vmem, ⟨6, _⟩ => ⟨S16x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S8x4096 : Shape := ⟨2, ![8, 4096]⟩
abbrev S4096 : Shape := ⟨1, ![4096]⟩
abbrev S4096x24576 : Shape := ⟨2, ![4096, 24576]⟩
abbrev S24576 : Shape := ⟨1, ![24576]⟩
abbrev S_ : Shape := ⟨0, ![]⟩
abbrev S8x24576 : Shape := ⟨2, ![8, 24576]⟩
abbrev S1x24576 : Shape := ⟨2, ![1, 24576]⟩

abbrev nBuf : Space → Nat
  | .hbm => 28
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S4096, .f32⟩
  | .hbm, ⟨2, _⟩ => ⟨S4096x24576, .f32⟩
  | .hbm, ⟨3, _⟩ => ⟨S24576, .f32⟩
  | .hbm, ⟨4, _⟩ => ⟨S8x4096, .f32⟩
  | .hbm, ⟨5, _⟩ => ⟨S8x4096, .f32⟩
  | .hbm, ⟨6, _⟩ => ⟨S_, .f32⟩
  | .hbm, ⟨7, _⟩ => ⟨S8x4096, .f32⟩
  | .hbm, ⟨8, _⟩ => ⟨S8x4096, .f32⟩
  | .hbm, ⟨9, _⟩ => ⟨S_, .f32⟩
  | .hbm, ⟨10, _⟩ => ⟨S8x4096, .f32⟩
  | .hbm, ⟨11, _⟩ => ⟨S8x4096, .f32⟩
  | .hbm, ⟨12, _⟩ => ⟨S8x4096, .f32⟩
  | .hbm, ⟨13, _⟩ => ⟨S8x24576, .f32⟩
  | .hbm, ⟨14, _⟩ => ⟨S1x24576, .f32⟩
  | .hbm, ⟨15, _⟩ => ⟨S8x24576, .f32⟩
  | .hbm, ⟨16, _⟩ => ⟨S8x24576, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S24576, .f32⟩
  | .hbm, ⟨27, _⟩ => ⟨S24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩

abbrev nD : Nat := 1
abbrev τ : Topo := Topo.v7x

variable {F : FTy → Type} [FloatOps F]
-- ==== Norm.lean ====
abbrev S8x4096x4096 : Shape := ⟨3, ![8, 4096, 4096]⟩
abbrev S4096 : Shape := ⟨1, ![4096]⟩
abbrev S8x24576 : Shape := ⟨2, ![8, 24576]⟩
abbrev S32768x4096 : Shape := ⟨2, ![32768, 4096]⟩
abbrev S8x6x4096 : Shape := ⟨3, ![8, 6, 4096]⟩
abbrev S_ : Shape := ⟨0, ![]⟩
abbrev S8x8x4096 : Shape := ⟨3, ![8, 8, 4096]⟩
abbrev S1x4096 : Shape := ⟨2, ![1, 4096]⟩
abbrev S512x4096 : Shape := ⟨2, ![512, 4096]⟩
abbrev S1x8x4096 : Shape := ⟨3, ![1, 8, 4096]⟩
abbrev S512 : Shape := ⟨1, ![512]⟩
abbrev S512x1 : Shape := ⟨2, ![512, 1]⟩
abbrev S8x4096 : Shape := ⟨2, ![8, 4096]⟩

abbrev nBuf : Space → Nat
  | .hbm => 10
  | .vmem => 7
  | .smem => 0
  | _ => 0

abbrev bufTy : (tb : Table) → Fin (tcTables nBuf tb) → BufTy
  | .hbm, ⟨0, _⟩ => ⟨S8x4096x4096, .f32⟩
  | .hbm, ⟨1, _⟩ => ⟨S4096, .f32⟩
  | .hbm, ⟨2, _⟩ => ⟨S8x24576, .f32⟩
  | .hbm, ⟨3, _⟩ => ⟨S32768x4096, .f32⟩
  | .hbm, ⟨4, _⟩ => ⟨S8x6x4096, .f32⟩
  | .hbm, ⟨5, _⟩ => ⟨S_, .i32⟩
  | .hbm, ⟨6, _⟩ => ⟨S_, .f32⟩
  | .hbm, ⟨7, _⟩ => ⟨S8x8x4096, .f32⟩
  | .hbm, ⟨8, _⟩ => ⟨S1x4096, .f32⟩
  | .hbm, ⟨9, _⟩ => ⟨S32768x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x8x4096, .f32⟩
  | .local _ .vmem, ⟨4, _⟩ => ⟨S1x8x4096, .f32⟩
  | .local _ .vmem, ⟨5, _⟩ => ⟨S512x4096, .bf16⟩
  | .local _ .vmem, ⟨6, _⟩ => ⟨S512x4096, .bf16⟩
  | _, _ => ⟨S8x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormRefIdeal.lean ====
abbrev S8x4096x4096 : Shape := ⟨3, ![8, 4096, 4096]⟩
abbrev S4096 : Shape := ⟨1, ![4096]⟩
abbrev S8x24576 : Shape := ⟨2, ![8, 24576]⟩
abbrev S8x1x24576 : Shape := ⟨3, ![8, 1, 24576]⟩
abbrev S8x1x4096 : Shape := ⟨3, ![8, 1, 4096]⟩
abbrev S_ : Shape := ⟨0, ![]⟩
abbrev S8x4096 : Shape := ⟨2, ![8, 4096]⟩
abbrev S8x4096x1 : Shape := ⟨3, ![8, 4096, 1]⟩
abbrev S1x1x4096 : Shape := ⟨3, ![1, 1, 4096]⟩
abbrev S32768x4096 : Shape := ⟨2, ![32768, 4096]⟩

abbrev nBuf : Space → Nat
  | .hbm => 35
  | .vmem => 0
  | .smem => 0
  | _ => 0

abbrev bufTy : (tb : Table) → Fin (tcTables nBuf tb) → BufTy
  | .hbm, ⟨0, _⟩ => ⟨S8x4096x4096, .f32⟩
  | .hbm, ⟨1, _⟩ => ⟨S4096, .f32⟩
  | .hbm, ⟨2, _⟩ => ⟨S8x24576, .f32⟩
  | .hbm, ⟨3, _⟩ => ⟨S8x1x24576, .f32⟩
  | .hbm, ⟨4, _⟩ => ⟨S8x1x4096, .f32⟩
  | .hbm, ⟨5, _⟩ => ⟨S8x1x4096, .f32⟩
  | .hbm, ⟨6, _⟩ => ⟨S8x1x4096, .f32⟩
  | .hbm, ⟨7, _⟩ => ⟨S8x1x4096, .f32⟩
  | .hbm, ⟨8, _⟩ => ⟨S8x1x4096, .f32⟩
  | .hbm, ⟨9, _⟩ => ⟨S8x1x4096, .f32⟩
  | .hbm, ⟨10, _⟩ => ⟨S8x4096x4096, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S8x4096x4096, .f32⟩
  | .hbm, ⟨22, _⟩ => ⟨S8x4096x4096, .f32⟩
  | .hbm, ⟨23, _⟩ => ⟨S1x1x4096, .f32⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x1x4096, .f32⟩
  | .hbm, ⟨28, _⟩ => ⟨S8x1x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S32768x4096, .f32⟩
  | .hbm, ⟨34, _⟩ => ⟨S32768x4096, .bf16⟩
  | _, _ => ⟨S8x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== NormB.lean ====
abbrev S8x4096x4096 : Shape := ⟨3, ![8, 4096, 4096]⟩
abbrev S4096 : Shape := ⟨1, ![4096]⟩
abbrev S8x24576 : Shape := ⟨2, ![8, 24576]⟩
abbrev S32768x4096 : Shape := ⟨2, ![32768, 4096]⟩
abbrev S8x6x4096 : Shape := ⟨3, ![8, 6, 4096]⟩
abbrev S_ : Shape := ⟨0, ![]⟩
abbrev S8x8x4096 : Shape := ⟨3, ![8, 8, 4096]⟩
abbrev S1x4096 : Shape := ⟨2, ![1, 4096]⟩
abbrev S512x4096 : Shape := ⟨2, ![512, 4096]⟩
abbrev S1x8x4096 : Shape := ⟨3, ![1, 8, 4096]⟩
abbrev S512 : Shape := ⟨1, ![512]⟩
abbrev S512x1 : Shape := ⟨2, ![512, 1]⟩
abbrev S8x4096 : Shape := ⟨2, ![8, 4096]⟩

abbrev nBuf : Space → Nat
  | .hbm => 10
  | .vmem => 7
  | .smem => 0
  | _ => 0

abbrev bufTy : (tb : Table) → Fin (tcTables nBuf tb) → BufTy
  | .hbm, ⟨0, _⟩ => ⟨S8x4096x4096, .f32⟩
  | .hbm, ⟨1, _⟩ => ⟨S4096, .f32⟩
  | .hbm, ⟨2, _⟩ => ⟨S8x24576, .f32⟩
  | .hbm, ⟨3, _⟩ => ⟨S32768x4096, .f32⟩
  | .hbm, ⟨4, _⟩ => ⟨S8x6x4096, .f32⟩
  | .hbm, ⟨5, _⟩ => ⟨S_, .i32⟩
  | .hbm, ⟨6, _⟩ => ⟨S_, .f32⟩
  | .hbm, ⟨7, _⟩ => ⟨S8x8x4096, .f32⟩
  | .hbm, ⟨8, _⟩ => ⟨S1x4096, .f32⟩
  | .hbm, ⟨9, _⟩ => ⟨S32768x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x8x4096, .f32⟩
  | .local _ .vmem, ⟨4, _⟩ => ⟨S1x8x4096, .f32⟩
  | .local _ .vmem, ⟨5, _⟩ => ⟨S512x4096, .bf16⟩
  | .local _ .vmem, ⟨6, _⟩ => ⟨S512x4096, .bf16⟩
  | _, _ => ⟨S8x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormBRefIdeal.lean ====
abbrev S8x4096x4096 : Shape := ⟨3, ![8, 4096, 4096]⟩
abbrev S4096 : Shape := ⟨1, ![4096]⟩
abbrev S8x24576 : Shape := ⟨2, ![8, 24576]⟩
abbrev S8x1x24576 : Shape := ⟨3, ![8, 1, 24576]⟩
abbrev S8x1x4096 : Shape := ⟨3, ![8, 1, 4096]⟩
abbrev S_ : Shape := ⟨0, ![]⟩
abbrev S8x4096 : Shape := ⟨2, ![8, 4096]⟩
abbrev S8x4096x1 : Shape := ⟨3, ![8, 4096, 1]⟩
abbrev S1x1x4096 : Shape := ⟨3, ![1, 1, 4096]⟩
abbrev S32768x4096 : Shape := ⟨2, ![32768, 4096]⟩

abbrev nBuf : Space → Nat
  | .hbm => 35
  | .vmem => 0
  | .smem => 0
  | _ => 0

abbrev bufTy : (tb : Table) → Fin (tcTables nBuf tb) → BufTy
  | .hbm, ⟨0, _⟩ => ⟨S8x4096x4096, .f32⟩
  | .hbm, ⟨1, _⟩ => ⟨S4096, .f32⟩
  | .hbm, ⟨2, _⟩ => ⟨S8x24576, .f32⟩
  | .hbm, ⟨3, _⟩ => ⟨S8x1x24576, .f32⟩
  | .hbm, ⟨4, _⟩ => ⟨S8x1x4096, .f32⟩
  | .hbm, ⟨5, _⟩ => ⟨S8x1x4096, .f32⟩
  | .hbm, ⟨6, _⟩ => ⟨S8x1x4096, .f32⟩
  | .hbm, ⟨7, _⟩ => ⟨S8x1x4096, .f32⟩
  | .hbm, ⟨8, _⟩ => ⟨S8x1x4096, .f32⟩
  | .hbm, ⟨9, _⟩ => ⟨S8x1x4096, .f32⟩
  | .hbm, ⟨10, _⟩ => ⟨S8x4096x4096, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S8x4096x4096, .f32⟩
  | .hbm, ⟨22, _⟩ => ⟨S8x4096x4096, .f32⟩
  | .hbm, ⟨23, _⟩ => ⟨S1x1x4096, .f32⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x1x4096, .f32⟩
  | .hbm, ⟨28, _⟩ => ⟨S8x1x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S32768x4096, .f32⟩
  | .hbm, ⟨34, _⟩ => ⟨S32768x4096, .bf16⟩
  | _, _ => ⟨S8x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== PrepS.lean ====
abbrev S8x4096x4608 : Shape := ⟨3, ![8, 4096, 4608]⟩
abbrev S8x4096x64 : Shape := ⟨3, ![8, 4096, 64]⟩
abbrev S1024 : Shape := ⟨1, ![1024]⟩
abbrev S512 : Shape := ⟨1, ![512]⟩
abbrev S128 : Shape := ⟨1, ![128]⟩
abbrev S4096x32 : Shape := ⟨2, ![4096, 32]⟩
abbrev S4096x64 : Shape := ⟨2, ![4096, 64]⟩
abbrev S4096x64x2 : Shape := ⟨3, ![4096, 64, 2]⟩
abbrev S4096x128 : Shape := ⟨2, ![4096, 128]⟩
abbrev S4096x64x1 : Shape := ⟨3, ![4096, 64, 1]⟩
abbrev S4096x32x2 : Shape := ⟨3, ![4096, 32, 2]⟩
abbrev S4096x32x1 : Shape := ⟨3, ![4096, 32, 1]⟩
abbrev S_ : Shape := ⟨0, ![]⟩
abbrev S32768x64 : Shape := ⟨2, ![32768, 64]⟩
abbrev S32768x128 : Shape := ⟨2, ![32768, 128]⟩
abbrev S32768x4608 : Shape := ⟨2, ![32768, 4608]⟩
abbrev S1x1024 : Shape := ⟨2, ![1, 1024]⟩
abbrev S1x512 : Shape := ⟨2, ![1, 512]⟩
abbrev S1x128 : Shape := ⟨2, ![1, 128]⟩
abbrev S32768x1024 : Shape := ⟨2, ![32768, 1024]⟩
abbrev S32768x512 : Shape := ⟨2, ![32768, 512]⟩
abbrev S32768x640 : Shape := ⟨2, ![32768, 640]⟩
abbrev S32768x2048 : Shape := ⟨2, ![32768, 2048]⟩
abbrev S512x4608 : Shape := ⟨2, ![512, 4608]⟩
abbrev S512x128 : Shape := ⟨2, ![512, 128]⟩
abbrev S512x1024 : Shape := ⟨2, ![512, 1024]⟩
abbrev S512x512 : Shape := ⟨2, ![512, 512]⟩
abbrev S512x640 : Shape := ⟨2, ![512, 640]⟩
abbrev S512x2048 : Shape := ⟨2, ![512, 2048]⟩
abbrev S512x1 : Shape := ⟨2, ![512, 1]⟩
abbrev S8x4096x16x128 : Shape := ⟨4, ![8, 4096, 16, 128]⟩
abbrev S8x4096x4x128 : Shape := ⟨4, ![8, 4096, 4, 128]⟩

abbrev nBuf : Space → Nat
  | .hbm => 48
  | .vmem => 30
  | .smem => 0
  | _ => 0

abbrev bufTy : (tb : Table) → Fin (tcTables nBuf tb) → BufTy
  | .hbm, ⟨0, _⟩ => ⟨S8x4096x4608, .f32⟩
  | .hbm, ⟨1, _⟩ => ⟨S8x4096x64, .f32⟩
  | .hbm, ⟨2, _⟩ => ⟨S1024, .f32⟩
  | .hbm, ⟨3, _⟩ => ⟨S512, .f32⟩
  | .hbm, ⟨4, _⟩ => ⟨S128, .f32⟩
  | .hbm, ⟨5, _⟩ => ⟨S128, .f32⟩
  | .hbm, ⟨6, _⟩ => ⟨S4096x32, .f32⟩
  | .hbm, ⟨7, _⟩ => ⟨S4096x32, .f32⟩
  | .hbm, ⟨8, _⟩ => ⟨S4096x64, .f32⟩
  | .hbm, ⟨9, _⟩ => ⟨S4096x64, .f32⟩
  | .hbm, ⟨10, _⟩ => ⟨S4096x64x2, .f32⟩
  | .hbm, ⟨11, _⟩ => ⟨S4096x128, .f32⟩
  | .hbm, ⟨12, _⟩ => ⟨S4096x64, .f32⟩
  | .hbm, ⟨13, _⟩ => ⟨S4096x64x1, .f32⟩
  | .hbm, ⟨14, _⟩ => ⟨S4096x64x1, .f32⟩
  | .hbm, ⟨15, _⟩ => ⟨S4096x64x2, .f32⟩
  | .hbm, ⟨16, _⟩ => ⟨S4096x128, .f32⟩
  | .hbm, ⟨17, _⟩ => ⟨S4096x32x2, .f32⟩
  | .hbm, ⟨18, _⟩ => ⟨S4096x64, .f32⟩
  | .hbm, ⟨19, _⟩ => ⟨S4096x32, .f32⟩
  | .hbm, ⟨20, _⟩ => ⟨S4096x32x1, .f32⟩
  | .hbm, ⟨21, _⟩ => ⟨S4096x32x1, .f32⟩
  | .hbm, ⟨22, _⟩ => ⟨S4096x32x2, .f32⟩
  | .hbm, ⟨23, _⟩ => ⟨S4096x64, .f32⟩
  | .hbm, ⟨24, _⟩ => ⟨S_, .f32⟩
  | .hbm, ⟨25, _⟩ => ⟨S4096x64, .f32⟩
  | .hbm, ⟨26, _⟩ => ⟨S_, .f32⟩
  | .hbm, ⟨27, _⟩ => ⟨S4096x64, .f32⟩
  | .hbm, ⟨28, _⟩ => ⟨S4096x128, .f32⟩
  | .hbm, ⟨29, _⟩ => ⟨S4096x128, .f32⟩
  | .hbm, ⟨30, _⟩ => ⟨S32768x64, .f32⟩
  | .hbm, ⟨31, _⟩ => ⟨S_, .i32⟩
  | .hbm, ⟨32, _⟩ => ⟨S_, .f32⟩
  | .hbm, ⟨33, _⟩ => ⟨S32768x128, .f32⟩
  | .hbm, ⟨34, _⟩ => ⟨S32768x4608, .f32⟩
  | .hbm, ⟨35, _⟩ => ⟨S1x1024, .f32⟩
  | .hbm, ⟨36, _⟩ => ⟨S1x512, .f32⟩
  | .hbm, ⟨37, _⟩ => ⟨S1x128, .f32⟩
  | .hbm, ⟨38, _⟩ => ⟨S1x128, .f32⟩
  | .hbm, ⟨39, _⟩ => ⟨S32768x1024, .bf16⟩
  | .hbm, ⟨40, _⟩ => ⟨S32768x512, .f32⟩
  | .hbm, ⟨41, _⟩ => ⟨S32768x640, .bf16⟩
  | .hbm, ⟨42, _⟩ => ⟨S32768x2048, .bf16⟩
  | .hbm, ⟨43, _⟩ => ⟨S32768x512, .f32⟩
  | .hbm, ⟨44, _⟩ => ⟨S32768x512, .bf16⟩
  | .hbm, ⟨45, _⟩ => ⟨S32768x512, .bf16⟩
  | .hbm, ⟨46, _⟩ => ⟨S8x4096x16x128, .bf16⟩
  | .hbm, ⟨47, _⟩ => ⟨S8x4096x4x128, .f32⟩
  | .local _ .vmem, ⟨0, _⟩ => ⟨S512x4608, .f32⟩
  | .local _ .vmem, ⟨1, _⟩ => ⟨S512x4608, .f32⟩
  | .local _ .vmem, ⟨2, _⟩ => ⟨S512x128, .f32⟩
  | .local _ .vmem, ⟨3, _⟩ => ⟨S512x128, .f32⟩
  | .local _ .vmem, ⟨4, _⟩ => ⟨S1x1024, .f32⟩
  | .local _ .vmem, ⟨5, _⟩ => ⟨S1x512, .f32⟩
  | .local _ .vmem, ⟨6, _⟩ => ⟨S1x128, .f32⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x1024, .bf16⟩
  | .local _ .vmem, ⟨17, _⟩ => ⟨S512x1024, .bf16⟩
  | .local _ .vmem, ⟨18, _⟩ => ⟨S512x512, .f32⟩
  | .local _ .vmem, ⟨19, _⟩ => ⟨S512x512, .f32⟩
  | .local _ .vmem, ⟨20, _⟩ => ⟨S512x640, .bf16⟩
  | .local _ .vmem, ⟨21, _⟩ => ⟨S512x640, .bf16⟩
  | .local _ .vmem, ⟨22, _⟩ => ⟨S512x2048, .bf16⟩
  | .local _ .vmem, ⟨23, _⟩ => ⟨S512x2048, .bf16⟩
  | .local _ .vmem, ⟨24, _⟩ => ⟨S512x512, .f32⟩
  | .local _ .vmem, ⟨25, _⟩ => ⟨S512x512, .f32⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | _, _ => ⟨S8x4096x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_call0_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25_0 : Ref sig .tc := ⟨.hbm, 39, rfl⟩
abbrev main_v25_1 : Ref sig .tc := ⟨.hbm, 40, rfl⟩
abbrev main_v25_2 : Ref sig .tc := ⟨.hbm, 41, rfl⟩
abbrev main_v25_3 : Ref sig .tc := ⟨.hbm, 42, rfl⟩
abbrev main_v25_4 : Ref sig .tc := ⟨.hbm, 43, rfl⟩
abbrev main_v25_5 : Ref sig .tc := ⟨.hbm, 44, rfl⟩
abbrev main_v25_6 : Ref sig .tc := ⟨.hbm, 45, rfl⟩
abbrev main_v26 : Ref sig .tc := ⟨.hbm, 46, rfl⟩
abbrev main_v27 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4608 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x640 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== PrepSRefIdeal.lean ====
abbrev S8x4096x4608 : Shape := ⟨3, ![8, 4096, 4608]⟩
abbrev S8x4096x64 : Shape := ⟨3, ![8, 4096, 64]⟩
abbrev S1024 : Shape := ⟨1, ![1024]⟩
abbrev S512 : Shape := ⟨1, ![512]⟩
abbrev S128 : Shape := ⟨1, ![128]⟩
abbrev S4096x32 : Shape := ⟨2, ![4096, 32]⟩
abbrev S4096x64 : Shape := ⟨2, ![4096, 64]⟩
abbrev S8x4096x1024 : Shape := ⟨3, ![8, 4096, 1024]⟩
abbrev S8x4096x512 : Shape := ⟨3, ![8, 4096, 512]⟩
abbrev S8x4096x2048 : Shape := ⟨3, ![8, 4096, 2048]⟩
abbrev S8x4096x16x128 : Shape := ⟨4, ![8, 4096, 16, 128]⟩
abbrev S_ : Shape := ⟨0, ![]⟩
abbrev S8x4096x16 : Shape := ⟨3, ![8, 4096, 16]⟩
abbrev S8x4096x16x1 : Shape := ⟨4, ![8, 4096, 16, 1]⟩
abbrev S1x1x1x128 : Shape := ⟨4, ![1, 1, 1, 128]⟩
abbrev S8x4096x4x128 : Shape := ⟨4, ![8, 4096, 4, 128]⟩
abbrev S8x4096x4 : Shape := ⟨3, ![8, 4096, 4]⟩
abbrev S8x4096x4x1 : Shape := ⟨4, ![8, 4096, 4, 1]⟩
abbrev S4096x1x64 : Shape := ⟨3, ![4096, 1, 64]⟩
abbrev S8x4096x16x64x2 : Shape := ⟨5, ![8, 4096, 16, 64, 2]⟩
abbrev S8x4096x16x64x1 : Shape := ⟨5, ![8, 4096, 16, 64, 1]⟩
abbrev S8x4096x16x64 : Shape := ⟨4, ![8, 4096, 16, 64]⟩
abbrev S1x4096x1x64 : Shape := ⟨4, ![1, 4096, 1, 64]⟩
abbrev S8x4096x4x64x2 : Shape := ⟨5, ![8, 4096, 4, 64, 2]⟩
abbrev S8x4096x4x64x1 : Shape := ⟨5, ![8, 4096, 4, 64, 1]⟩
abbrev S8x4096x4x64 : Shape := ⟨4, ![8, 4096, 4, 64]⟩

abbrev nBuf : Space → Nat
  | .hbm => 103
  | .vmem => 0
  | .smem => 0
  | _ => 0

abbrev bufTy : (tb : Table) → Fin (tcTables nBuf tb) → BufTy
  | .hbm, ⟨0, _⟩ => ⟨S8x4096x4608, .f32⟩
  | .hbm, ⟨1, _⟩ => ⟨S8x4096x64, .f32⟩
  | .hbm, ⟨2, _⟩ => ⟨S1024, .f32⟩
  | .hbm, ⟨3, _⟩ => ⟨S512, .f32⟩
  | .hbm, ⟨4, _⟩ => ⟨S128, .f32⟩
  | .hbm, ⟨5, _⟩ => ⟨S128, .f32⟩
  | .hbm, ⟨6, _⟩ => ⟨S4096x32, .f32⟩
  | .hbm, ⟨7, _⟩ => ⟨S4096x32, .f32⟩
  | .hbm, ⟨8, _⟩ => ⟨S4096x64, .f32⟩
  | .hbm, ⟨9, _⟩ => ⟨S4096x64, .f32⟩
  | .hbm, ⟨10, _⟩ => ⟨S8x4096x1024, .f32⟩
  | .hbm, ⟨11, _⟩ => ⟨S8x4096x512, .f32⟩
  | .hbm, ⟨12, _⟩ => ⟨S8x4096x2048, .f32⟩
  | .hbm, ⟨13, _⟩ => ⟨S8x4096x512, .f32⟩
  | .hbm, ⟨14, _⟩ => ⟨S8x4096x512, .f32⟩
  | .hbm, ⟨15, _⟩ => ⟨S8x4096x16x128, .f32⟩
  | .hbm, ⟨16, _⟩ => ⟨S8x4096x16x128, .f32⟩
  | .hbm, ⟨17, _⟩ => ⟨S_, .f32⟩
  | .hbm, ⟨18, _⟩ => ⟨S8x4096x16, .f32⟩
  | .hbm, ⟨19, _⟩ => ⟨S8x4096x16x1, .f32⟩
  | .hbm, ⟨20, _⟩ => ⟨S_, .f32⟩
  | .hbm, ⟨21, _⟩ => ⟨S8x4096x16x1, .f32⟩
  | .hbm, ⟨22, _⟩ => ⟨S8x4096x16x1, .f32⟩
  | .hbm, ⟨23, _⟩ => ⟨S_, .f32⟩
  | .hbm, ⟨24, _⟩ => ⟨S8x4096x16x1, .f32⟩
  | .hbm, ⟨25, _⟩ => ⟨S8x4096x16x1, .f32⟩
  | .hbm, ⟨26, _⟩ => ⟨S8x4096x16x1, .f32⟩
  | .hbm, ⟨27, _⟩ => ⟨S8x4096x16x128, .f32⟩
  | .hbm, ⟨28, _⟩ => ⟨S8x4096x16x128, .f32⟩
  | .hbm, ⟨29, _⟩ => ⟨S1x1x1x128, .f32⟩
  | .hbm, ⟨30, _⟩ => ⟨S8x4096x16x128, .f32⟩
  | .hbm, ⟨31, _⟩ => ⟨S8x4096x16x128, .f32⟩
  | .hbm, ⟨32, _⟩ => ⟨S8x4096x4x128, .f32⟩
  | .hbm, ⟨33, _⟩ => ⟨S8x4096x4x128, .f32⟩
  | .hbm, ⟨34, _⟩ => ⟨S_, .f32⟩
  | .hbm, ⟨35, _⟩ => ⟨S8x4096x4, .f32⟩
  | .hbm, ⟨36, _⟩ => ⟨S8x4096x4x1, .f32⟩
  | .hbm, ⟨37, _⟩ => ⟨S_, .f32⟩
  | .hbm, ⟨38, _⟩ => ⟨S8x4096x4x1, .f32⟩
  | .hbm, ⟨39, _⟩ => ⟨S8x4096x4x1, .f32⟩
  | .hbm, ⟨40, _⟩ => ⟨S_, .f32⟩
  | .hbm, ⟨41, _⟩ => ⟨S8x4096x4x1, .f32⟩
  | .hbm, ⟨42, _⟩ => ⟨S8x4096x4x1, .f32⟩
  | .hbm, ⟨43, _⟩ => ⟨S8x4096x4x1, .f32⟩
  | .hbm, ⟨44, _⟩ => ⟨S8x4096x4x128, .f32⟩
  | .hbm, ⟨45, _⟩ => ⟨S8x4096x4x128, .f32⟩
  | .hbm, ⟨46, _⟩ => ⟨S1x1x1x128, .f32⟩
  | .hbm, ⟨47, _⟩ => ⟨S8x4096x4x128, .f32⟩
  | .hbm, ⟨48, _⟩ => ⟨S8x4096x4x128, .f32⟩
  | .hbm, ⟨49, _⟩ => ⟨S4096x1x64, .f32⟩
  | .hbm, ⟨50, _⟩ => ⟨S4096x1x64, .f32⟩
  | .hbm, ⟨51, _⟩ => ⟨S8x4096x16x64x2, .f32⟩
  | .hbm, ⟨52, _⟩ => ⟨S8x4096x16x64x1, .f32⟩
  | .hbm, ⟨53, _⟩ => ⟨S8x4096x16x64, .f32⟩
  | .hbm, ⟨54, _⟩ => ⟨S8x4096x16x64x1, .f32⟩
  | .hbm, ⟨55, _⟩ => ⟨S8x4096x16x64, .f32⟩
  | .hbm, ⟨56, _⟩ => ⟨S1x4096x1x64, .f32⟩
  | .hbm, ⟨57, _⟩ => ⟨S8x4096x16x64, .f32⟩
  | .hbm, ⟨58, _⟩ => ⟨S8x4096x16x64, .f32⟩
  | .hbm, ⟨59, _⟩ => ⟨S1x4096x1x64, .f32⟩
  | .hbm, ⟨60, _⟩ => ⟨S8x4096x16x64, .f32⟩
  | .hbm, ⟨61, _⟩ => ⟨S8x4096x16x64, .f32⟩
  | .hbm, ⟨62, _⟩ => ⟨S8x4096x16x64, .f32⟩
  | .hbm, ⟨63, _⟩ => ⟨S1x4096x1x64, .f32⟩
  | .hbm, ⟨64, _⟩ => ⟨S8x4096x16x64, .f32⟩
  | .hbm, ⟨65, _⟩ => ⟨S8x4096x16x64, .f32⟩
  | .hbm, ⟨66, _⟩ => ⟨S1x4096x1x64, .f32⟩
  | .hbm, ⟨67, _⟩ => ⟨S8x4096x16x64, .f32⟩
  | .hbm, ⟨68, _⟩ => ⟨S8x4096x16x64, .f32⟩
  | .hbm, ⟨69, _⟩ => ⟨S8x4096x16x64, .f32⟩
  | .hbm, ⟨70, _⟩ => ⟨S8x4096x16x64x1, .f32⟩
  | .hbm, ⟨71, _⟩ => ⟨S8x4096x16x64x1, .f32⟩
  | .hbm, ⟨72, _⟩ => ⟨S8x4096x16x64x2, .f32⟩
  | .hbm, ⟨73, _⟩ => ⟨S8x4096x16x128, .f32⟩
  | .hbm, ⟨74, _⟩ => ⟨S4096x1x64, .f32⟩
  | .hbm, ⟨75, _⟩ => ⟨S4096x1x64, .f32⟩
  | .hbm, ⟨76, _⟩ => ⟨S8x4096x4x64x2, .f32⟩
  | .hbm, ⟨77, _⟩ => ⟨S8x4096x4x64x1, .f32⟩
  | .hbm, ⟨78, _⟩ => ⟨S8x4096x4x64, .f32⟩
  | .hbm, ⟨79, _⟩ => ⟨S8x4096x4x64x1, .f32⟩
  | .hbm, ⟨80, _⟩ => ⟨S8x4096x4x64, .f32⟩
  | .hbm, ⟨81, _⟩ => ⟨S1x4096x1x64, .f32⟩
  | .hbm, ⟨82, _⟩ => ⟨S8x4096x4x64, .f32⟩
  | .hbm, ⟨83, _⟩ => ⟨S8x4096x4x64, .f32⟩
  | .hbm, ⟨84, _⟩ => ⟨S1x4096x1x64, .f32⟩
  | .hbm, ⟨85, _⟩ => ⟨S8x4096x4x64, .f32⟩
  | .hbm, ⟨86, _⟩ => ⟨S8x4096x4x64, .f32⟩
  | .hbm, ⟨87, _⟩ => ⟨S8x4096x4x64, .f32⟩
  | .hbm, ⟨88, _⟩ => ⟨S1x4096x1x64, .f32⟩
  | .hbm, ⟨89, _⟩ => ⟨S8x4096x4x64, .f32⟩
  | .hbm, ⟨90, _⟩ => ⟨S8x4096x4x64, .f32⟩
  | .hbm, ⟨91, _⟩ => ⟨S1x4096x1x64, .f32⟩
  | .hbm, ⟨92, _⟩ => ⟨S8x4096x4x64, .f32⟩
  | .hbm, ⟨93, _⟩ => ⟨S8x4096x4x64, .f32⟩
  | .hbm, ⟨94, _⟩ => ⟨S8x4096x4x64, .f32⟩
  | .hbm, ⟨95, _⟩ => ⟨S8x4096x4x64x1, .f32⟩
  | .hbm, ⟨96, _⟩ => ⟨S8x4096x4x64x1, .f32⟩
  | .hbm, ⟨97, _⟩ => ⟨S8x4096x4x64x2, .f32⟩
  | .hbm, ⟨98, _⟩ => ⟨S8x4096x4x128, .f32⟩
  | .hbm, ⟨99, _⟩ => ⟨S_, .f32⟩
  | .hbm, ⟨100, _⟩ => ⟨S8x4096x16x128, .f32⟩
  | .hbm, ⟨101, _⟩ => ⟨S8x4096x16x128, .f32⟩
  | .hbm, ⟨102, _⟩ => ⟨S8x4096x16x128, .bf16⟩
  | _, _ => ⟨S8x4096x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_cst_5 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩

abbrev nD : Nat := 1
abbrev τ : Topo := Topo.v7x

variable {F : FTy → Type} [FloatOps F]
-- ==== Proof.SoftmaxRow.lean ====
/- One row of a softmax average over the extended reals, in the two forms that meet in the attention claims:

     `kRow`   — scores kept in two parts, in base 2 (`exp2`), the average divided by the row's sum at the end;
     `refRow` — scores in one row, in base e (`exp`), each weight divided by the row's sum before the average.

   `kRow_eq_refRow`: they are equal when the scores are real numbers and the first form's are the second's
   divided by `log 2`, whatever the values averaged are (infinities included). -/
module

public import Idealize.ShloMosaic.PureOps.Ideal

@[expose] public section

noncomputable section

namespace Cert.Attn

open Idealize.ShloMosaic

/-- The score of key `x` in a row kept in two parts. -/
def join {n1 n2 : ℕ} (s1 : Fin n1 → EReal) (s2 : Fin n2 → EReal) (x : Fin (n1 + n2)) : EReal :=
  if h : x.val < n1 then s1 ⟨x.val, h⟩ else s2 ⟨x.val - n1, by omega⟩

/-- The row's largest score. -/
def rowMax {n : ℕ} (s : Fin n → EReal) : EReal := Finset.univ.fold max ⊥ s

/-- The row as the kernel computes it. -/
def kRow {n1 n2 : ℕ} (s1 : Fin n1 → EReal) (s2 : Fin n2 → EReal) (w1 : Fin n1 → EReal) (w2 : Fin n2 → EReal) : EReal :=
  Ideal.div
    ((∑ x, Ideal.exp2 (s1 x - rowMax (join s1 s2)) * w1 x) + ∑ x, Ideal.exp2 (s2 x - rowMax (join s1 s2)) * w2 x)
    ((∑ x, Ideal.exp2 (s1 x - rowMax (join s1 s2))) + ∑ x, Ideal.exp2 (s2 x - rowMax (join s1 s2)))

/-- The row as the softmax is written. -/
def refRow {n : ℕ} (s w : Fin n → EReal) : EReal :=
  ∑ x, w x * Ideal.div (Ideal.exp (s x - max ⊥ (rowMax s))) (∑ y, Ideal.exp (s y - max ⊥ (rowMax s)))

/-- The largest of finitely many real scores, by what it is: reached, and above every score. -/
theorem rowMax_eq {n : ℕ} (f : Fin n → ℝ) (M : ℝ) (hM : ∃ x, f x = M) (hle : ∀ y, f y ≤ M) :
    rowMax (fun x => ((f x : ℝ) : EReal)) = (M : EReal) := by
  have h : rowMax (fun x => ((f x : ℝ) : EReal)) = Finset.univ.sup (fun x => ((f x : ℝ) : EReal)) := rfl
  rw [h]
  obtain ⟨x, rfl⟩ := hM
  refine le_antisymm (Finset.sup_le fun y _ => EReal.coe_le_coe_iff.mpr (hle y)) ?_
  exact Finset.le_sup (f := fun x => ((f x : ℝ) : EReal)) (Finset.mem_univ x)

theorem exists_max {n : ℕ} (hn : 0 < n) (f : Fin n → ℝ) : ∃ M : ℝ, (∃ x, f x = M) ∧ ∀ y, f y ≤ M := by
  haveI : Nonempty (Fin n) := ⟨⟨0, hn⟩⟩
  obtain ⟨x, hx⟩ := Finite.exists_max f
  exact ⟨f x, ⟨x, rfl⟩, hx⟩

/-- A positive real factor moves into a finite sum of extended reals. -/
theorem mul_sum_pos {ι : Type} (s : Finset ι) (f : ι → EReal) (c : ℝ) (hc : 0 ≤ c) :
    (c : EReal) * ∑ x ∈ s, f x = ∑ x ∈ s, (c : EReal) * f x := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

theorem coe_sum {ι : Type} (s : Finset ι) (f : ι → ℝ) : ((∑ x ∈ s, f x : ℝ) : EReal) = ∑ x ∈ s, ((f x : ℝ) : EReal) := by
  classical
  induction s using Finset.induction_on with
  | empty => simp
  | insert a s ha ih => rw [Finset.sum_insert ha, Finset.sum_insert ha, EReal.coe_add, ih]

theorem div_coe (x : EReal) (y : ℝ) (hy : y ≠ 0) : Ideal.div x (y : EReal) = x * ((y⁻¹ : ℝ) : EReal) := by
  unfold Ideal.div
  rw [if_neg (by exact_mod_cast hy), EReal.coe_inv]

theorem log2_pos : (0 : ℝ) < Real.log 2 := Real.log_pos (by norm_num)

/-- Powers of two of scores divided by `log 2` are exponentials of the scores. -/
theorem exp2_scaled (t M : ℝ) :
    Ideal.exp2 (((t * (Real.log 2)⁻¹ : ℝ) : EReal) - ((M * (Real.log 2)⁻¹ : ℝ) : EReal)) = ((Real.exp (t - M) : ℝ) : EReal) := by
  rw [← EReal.coe_sub, Ideal.exp2_coe]
  congr 1
  show (2 : ℝ) ^ (t * (Real.log 2)⁻¹ - M * (Real.log 2)⁻¹) = _
  rw [Real.rpow_def_of_pos (by norm_num)]
  congr 1
  have := log2_pos.ne'
  field_simp

theorem kRow_eq_refRow {n1 n2 : ℕ} (hn : 0 < n1 + n2) (s1 : Fin n1 → EReal) (s2 : Fin n2 → EReal)
    (w1 : Fin n1 → EReal) (w2 : Fin n2 → EReal) (T : Fin (n1 + n2) → ℝ) (w : Fin (n1 + n2) → EReal)
    (hs1 : ∀ x, s1 x = ((T (Fin.castAdd n2 x) * (Real.log 2)⁻¹ : ℝ) : EReal))
    (hs2 : ∀ x, s2 x = ((T (Fin.natAdd n1 x) * (Real.log 2)⁻¹ : ℝ) : EReal))
    (hw1 : ∀ x, w1 x = w (Fin.castAdd n2 x)) (hw2 : ∀ x, w2 x = w (Fin.natAdd n1 x)) :
    kRow s1 s2 w1 w2 = refRow (fun x => ((T x : ℝ) : EReal)) w := by
  obtain ⟨M, ⟨x0, hx0⟩, hle⟩ := exists_max hn T
  have hmaxR : max ⊥ (rowMax fun x => ((T x : ℝ) : EReal)) = (M : EReal) := by
    rw [rowMax_eq T M ⟨x0, hx0⟩ hle]; exact max_eq_right bot_le
  have hj : join s1 s2 = fun x => ((T x * (Real.log 2)⁻¹ : ℝ) : EReal) := by
    funext x
    refine Fin.addCases (fun y => ?_) (fun y => ?_) x
    · unfold join
      rw [dif_pos (by simp)]
      exact hs1 y
    · unfold join
      rw [dif_neg (by simp)]
      rw [show (⟨(Fin.natAdd n1 y).val - n1, by simp⟩ : Fin n2) = y from Fin.ext (by simp)]
      exact hs2 y
  have hpos := inv_pos.mpr log2_pos
  have hmaxK : rowMax (join s1 s2) = ((M * (Real.log 2)⁻¹ : ℝ) : EReal) := by
    rw [hj]
    exact rowMax_eq (fun x => T x * (Real.log 2)⁻¹) _ ⟨x0, by rw [hx0]⟩ fun y => mul_le_mul_of_nonneg_right (hle y) hpos.le
  unfold kRow refRow
  rw [hmaxK, hmaxR]
  simp only [hs1, hs2, hw1, hw2, exp2_scaled]
  simp only [← EReal.coe_sub, Ideal.exp_coe]
  rw [← Fin.sum_univ_add (fun x : Fin (n1 + n2) => ((Real.exp (T x - M) : ℝ) : EReal) * w x),
    ← Fin.sum_univ_add (fun x : Fin (n1 + n2) => ((Real.exp (T x - M) : ℝ) : EReal)), ← coe_sum]
  have hL : (0 : ℝ) < ∑ x, Real.exp (T x - M) :=
    Finset.sum_pos (fun x _ => Real.exp_pos _) ⟨⟨0, hn⟩, Finset.mem_univ _⟩
  rw [div_coe _ _ hL.ne', mul_comm, mul_sum_pos _ _ _ (inv_pos.mpr hL).le]
  refine Finset.sum_congr rfl fun x _ => ?_
  rw [div_coe _ _ hL.ne', mul_comm (w x), ← mul_assoc, mul_comm (((∑ x, Real.exp (T x - M))⁻¹ : ℝ) : EReal)]

/-! ## Scores of finite queries and keys -/

/-- Neither infinity. -/
def Fin' (x : EReal) : Prop := x ≠ ⊥ ∧ x ≠ ⊤

theorem Fin'.coe {x : EReal} (h : Fin' x) : x = ((x.toReal : ℝ) : EReal) := (EReal.coe_toReal h.2 h.1).symm

theorem finite_of_abs_lt {x : EReal} (h : max x (-x) < ⊤) : Fin' x := by
  constructor
  · rintro rfl; simp at h
  · rintro rfl; simp at h

/-- A scaled product of a finite query and a finite key, as a real number. -/
def score {D : ℕ} (c : ℝ) (q k : Fin D → EReal) : ℝ := (∑ d, (k d).toReal * (q d).toReal) * c

theorem score_ref {D : ℕ} (c : ℝ) (q k : Fin D → EReal) (hq : ∀ d, Fin' (q d)) (hk : ∀ d, Fin' (k d)) :
    (∑ d, k d * q d) * (c : EReal) = ((score c q k : ℝ) : EReal) := by
  unfold score
  rw [EReal.coe_mul, coe_sum]
  congr 1
  refine Finset.sum_congr rfl fun d _ => ?_
  rw [EReal.coe_mul, ← (hq d).coe, ← (hk d).coe]

theorem score_kernel {D : ℕ} (c a : ℝ) (q k : Fin D → EReal) (hq : ∀ d, Fin' (q d)) (hk : ∀ d, Fin' (k d)) :
    (∑ d, (q d * ((c * a : ℝ) : EReal)) * k d) = ((score c q k * a : ℝ) : EReal) := by
  unfold score
  rw [mul_assoc, Finset.sum_mul, coe_sum]
  refine Finset.sum_congr rfl fun d _ => ?_
  conv_lhs => rw [(hq d).coe, (hk d).coe]
  rw [← EReal.coe_mul, ← EReal.coe_mul]
  congr 1
  ring

end Cert.Attn
-- ==== Proof.Literals.lean ====
/- The literals of the programs, as the extended reals they are. -/
module

public import Idealize.ShloMosaic.PureOps.Ideal

@[expose] public section

noncomputable section

namespace Cert.Lit

open Idealize.ShloMosaic

theorem neg_inf : Ideal.ofBits .f32 0xFF800000#32 = ⊥ := by simp [Ideal.ofBits, Ideal.ieee]
theorem pos_inf : Ideal.ofBits .f32 0x7F800000#32 = ⊤ := by simp [Ideal.ofBits, Ideal.ieee]
theorem two : Ideal.ofBits .f32 0x40000000#32 = ((2 : ℝ) : EReal) := by
  simp [Ideal.ofBits, Ideal.ieee]
  norm_num
  rw [← EReal.coe_mul]
  norm_num
theorem v128 : Ideal.ofBits .f32 0x43000000#32 = ((128 : ℝ) : EReal) := by
  simp [Ideal.ofBits, Ideal.ieee]
  norm_num
  rw [← EReal.coe_mul]
  norm_num

theorem v192 : Ideal.ofBits .f32 0x43400000#32 = ((192 : ℝ) : EReal) := by
  simp [Ideal.ofBits, Ideal.ieee]
  norm_num
  rw [← EReal.coe_mul]
  norm_num
theorem zero : Ideal.ofBits .f32 0x00000000#32 = 0 := by simp [Ideal.ofBits, Ideal.ieee]

theorem rsqrt_pos (x : ℝ) (hx : 0 < x) : Ideal.rsqrt (x : EReal) = (((Real.sqrt x)⁻¹ : ℝ) : EReal) := by
  rw [Ideal.rsqrt_coe, if_neg (not_lt.mpr hx.le), if_neg hx.ne']

/-- The host's query scale, `rsqrt x / log 2`. -/
theorem scale (x : ℝ) (hx : 0 < x) :
    Ideal.div (Ideal.rsqrt (x : EReal)) (Ideal.log ((2 : ℝ) : EReal)) = (((Real.sqrt x)⁻¹ * (Real.log 2)⁻¹ : ℝ) : EReal) := by
  have h2 : Real.log 2 ≠ 0 := (Real.log_pos (by norm_num)).ne'
  rw [rsqrt_pos x hx, Ideal.log_coe, if_neg (by norm_num)]
  unfold Ideal.div
  rw [if_neg (by exact_mod_cast h2), ← EReal.coe_inv, ← EReal.coe_mul]

end Cert.Lit
-- ==== Proof.GqaTile.lean ====
/-
  The block that one grid point of the attention kernel writes, element by element: sixteen tiles of 256 rows of one head, each
  the base-two softmax of the row's scores against the tokens' and the context's keys, applied to their values (`out_apply`).
-/
module

public import proofs.«01_k».proof.Proof.Gen.GqaIdeal.Value
public import proofs.«01_k».proof.Proof.SoftmaxRow
public import proofs.«01_k».proof.Proof.Literals
public import Idealize.ShloMosaic.Lib.Pointwise

@[expose] public section

set_option maxRecDepth 16384

noncomputable section

namespace Cert.GqaIdeal.Tile

open Cert.GqaIdeal Cert.GqaIdeal.Gen Idealize.ShloMosaic Idealize.ShloMosaic.TcCoe Idealize.SL.Sem

theorem exp2_def (x : EReal) : (FloatOps.exp2 (F := Ideal) (φ := .f32) x : EReal) = Ideal.exp2 x := rfl

/-- One stored tile, 256 rows of one head, at an index. -/
theorem tile_apply (k : FVec Ideal S4096x128 .bf16) (kc : FVec Ideal S512x128 .bf16) (v : FVec Ideal S4096x128 .bf16)
    (vc : FVec Ideal S512x128 .bf16) (q : FVec Ideal S1x256x128 .bf16) (r : Fin 256) (d : Fin 128) :
    k0_pay7 k kc v vc q (ix3 0 r d) = Attn.kRow
      (fun s : Fin 4096 => ∑ e : Fin 128, q (ix3 0 r e) * k (ix2 s e)) (fun s : Fin 512 => ∑ e : Fin 128, q (ix3 0 r e) * kc (ix2 s e))
      (fun s => v (ix2 s d)) (fun s => vc (ix2 s d)) := by
  pointwise [k0_pay7, exp2_def, Lit.neg_inf]
  rfl

/-- The result block of a grid point, from its blocks: element `(0, r, l)` is the attention of row `r`, head `l / 128` of the
    block, lane `l % 128`. -/
def block (x0 : FVec Ideal S1x1024x512 .bf16) (x1 x2 : FVec Ideal S1x4096x128 .bf16) (x3 x4 : FVec Ideal S1x512x128 .bf16)
    (r : Fin 1024) (l : Fin 512) : EReal :=
  Attn.kRow
    (fun s : Fin 4096 => ∑ e : Fin 128, x0 (ix3 0 r ⟨l.val / 128 * 128 + e.val, by omega⟩) * x1 (ix3 0 s e))
    (fun s : Fin 512 => ∑ e : Fin 128, x0 (ix3 0 r ⟨l.val / 128 * 128 + e.val, by omega⟩) * x3 (ix3 0 s e))
    (fun s => x2 (ix3 0 s ⟨l.val % 128, by omega⟩)) (fun s => x4 (ix3 0 s ⟨l.val % 128, by omega⟩))

theorem keys_apply (x : FVec Ideal S1x4096x128 .bf16) (s : Fin 4096) (e : Fin 128) : k0_pay2 (F := Ideal) (View.ld x r0_0) (ix2 s e) = x (ix3 0 s e) := by
  pointwise [k0_pay2]
theorem ctxKeys_apply (x : FVec Ideal S1x512x128 .bf16) (s : Fin 512) (e : Fin 128) : k0_pay3 (F := Ideal) (View.ld x r0_1) (ix2 s e) = x (ix3 0 s e) := by
  pointwise [k0_pay3]
theorem values_apply (x : FVec Ideal S1x4096x128 .bf16) (s : Fin 4096) (e : Fin 128) : k0_pay4 (F := Ideal) (View.ld x r0_0) (ix2 s e) = x (ix3 0 s e) := by
  pointwise [k0_pay4]
theorem ctxValues_apply (x : FVec Ideal S1x512x128 .bf16) (s : Fin 512) (e : Fin 128) : k0_pay5 (F := Ideal) (View.ld x r0_1) (ix2 s e) = x (ix3 0 s e) := by
  pointwise [k0_pay5]

/-- A tile stored at row `a`, lane `n` (a multiple of 128) is that part of `block`. -/
theorem piece (x0 : FVec Ideal S1x1024x512 .bf16) (x1 x2 : FVec Ideal S1x4096x128 .bf16) (x3 x4 : FVec Ideal S1x512x128 .bf16)
    (a n : ℕ) (hn : n % 128 = 0) (inb : ∀ i, (![0, a, n] : Fin 3 → ℕ) i + S1x256x128.size i ≤ S1x1024x512.size i)
    (j : S1x256x128.Idx) :
    (k0_pay7 (F := Ideal) (k0_pay2 (View.ld x1 r0_0)) (k0_pay3 (View.ld x3 r0_1)) (k0_pay4 (View.ld x2 r0_0)) (k0_pay5 (View.ld x4 r0_1))
        (View.ld (Val := Elt Ideal) x0 (Rect.unit (s := S1x1024x512) ![0, a, n] S1x256x128.size inb)) j : EReal)
      = (fun y : S1x1024x512.Idx => block x0 x1 x2 x3 x4 (y 1) (y 2)) ((Rect.unit (s := S1x1024x512) ![0, a, n] S1x256x128.size inb).emb j) := by
  obtain ⟨j0, r, d, rfl⟩ : ∃ (j0 : Fin 1) (r : Fin 256) (d : Fin 128), j = ix3 j0 r d := ⟨j 0, j 1, j 2, by funext i; match i with | 0 => rfl | 1 => rfl | 2 => rfl⟩
  obtain rfl : j0 = 0 := Subsingleton.elim _ _
  have h2 : n + 128 ≤ 512 := inb 2
  have h1 : a + 256 ≤ 1024 := inb 1
  rw [tile_apply]
  simp only [keys_apply, ctxKeys_apply, values_apply, ctxValues_apply]
  have e1 : (Rect.unit (s := S1x1024x512) ![0, a, n] S1x256x128.size inb).emb (ix3 0 r d) 1 = (⟨a + r.val, by omega⟩ : Fin 1024) := by
    apply Fin.ext; show a + 1 * r.val = a + r.val; omega
  have e2 : (Rect.unit (s := S1x1024x512) ![0, a, n] S1x256x128.size inb).emb (ix3 0 r d) 2 = (⟨n + d.val, by omega⟩ : Fin 512) := by
    apply Fin.ext; show n + 1 * d.val = n + d.val; omega
  have hq : ∀ e : Fin 128, (View.ld (Val := Elt Ideal) (e' := .bf16) x0 (Rect.unit (s := S1x1024x512) ![0, a, n] S1x256x128.size inb) (ix3 0 r e) : EReal)
      = x0 (ix3 0 ⟨a + r.val, by omega⟩ ⟨(n + d.val) / 128 * 128 + e.val, by omega⟩) := by
    intro e
    show x0 _ = x0 _
    congr 1
    funext i
    apply Fin.ext
    match i with
    | 0 => rfl
    | 1 => show a + 1 * r.val = a + r.val; omega
    | 2 => show n + 1 * e.val = (n + d.val) / 128 * 128 + e.val; omega
  show _ = block x0 x1 x2 x3 x4 _ _
  rw [e1, e2]
  unfold block
  simp only [hq]
  rw [show (⟨(n + d.val) % 128, by omega⟩ : Fin 128) = d from Fin.ext (by show (n + d.val) % 128 = d.val; omega)]

/-- The body's result block is `block` of the input blocks. -/
theorem out_apply (x0 : FVec Ideal S1x1024x512 .bf16) (x1 x2 : FVec Ideal S1x4096x128 .bf16) (x3 x4 : FVec Ideal S1x512x128 .bf16) (y : S1x1024x512.Idx) :
    out0_5 (F := Ideal) x0 x1 x2 x3 x4 y = (fun y : S1x1024x512.Idx => block x0 x1 x2 x3 x4 (y 1) (y 2)) y := by
  unfold out0_5
  refine View.canon_apply_of_pieces (Val := Elt Ideal) (fun y : S1x1024x512.Idx => block x0 x1 x2 x3 x4 (y 1) (y 2)) _ ?_ y (cover0_5 _ _ _ _ _ _ _ _ _ _ _ _ _ _ _ _ y)
  simp only [List.forall_mem_cons, List.not_mem_nil, false_imp_iff, implies_true, and_true]
  refine ⟨fun j => ?_, fun j => ?_, fun j => ?_, fun j => ?_, fun j => ?_, fun j => ?_, fun j => ?_, fun j => ?_,
    fun j => ?_, fun j => ?_, fun j => ?_, fun j => ?_, fun j => ?_, fun j => ?_, fun j => ?_, fun j => ?_⟩ <;>
  exact Tile.piece x0 x1 x2 x3 x4 _ _ (by decide) _ j

end Cert.GqaIdeal.Tile
-- ==== Proof.GqaValue.lean ====
/-
  The attention kernel's result array, from its arguments: each block a grid point reads is a part of the arrays the call is given
  (`iblk_q` and so on), each block it writes is `Tile.block` of those, and an element of the result array is the element of the
  block that holds it (`result_apply`). The arrays the call is given are the arguments, the queries scaled (`queries_apply`).
-/
module

public import proofs.«01_k».proof.Proof.GqaTile
public import Idealize.ShloMosaic.Lib.Pipeline.Value
public import Idealize.ShloMosaic.Lib.StableHlo.Run
public import Idealize.ShloMosaic.Lib.Tactic

@[expose] public section

set_option maxRecDepth 16384

noncomputable section

namespace Cert.GqaIdeal.Final

open Cert.GqaIdeal Cert.GqaIdeal.Gen Idealize.ShloMosaic Idealize.ShloMosaic.TcCoe Idealize.SL.Sem

variable (m : (ℓ : Loc nD τ sig) → Buf (Elt Ideal) ℓ)

theorem index_q : ∀ t : Fin grid0.N, win0_0.index t 0 = t.val / 16 ∧ win0_0.index t 1 = t.val % 4 ∧ win0_0.index t 2 = t.val / 4 % 4 := by
  decide +kernel
theorem index_k : ∀ t : Fin grid0.N, win0_1.index t 0 = t.val / 16 ∧ win0_1.index t 1 = 0 ∧ win0_1.index t 2 = t.val / 4 % 4 := by
  decide +kernel
theorem index_v : ∀ t : Fin grid0.N, win0_2.index t 0 = t.val / 16 ∧ win0_2.index t 1 = 0 ∧ win0_2.index t 2 = t.val / 4 % 4 := by
  decide +kernel
theorem index_kc : ∀ t : Fin grid0.N, win0_3.index t 0 = t.val / 16 ∧ win0_3.index t 1 = 0 ∧ win0_3.index t 2 = t.val / 4 % 4 := by
  decide +kernel
theorem index_vc : ∀ t : Fin grid0.N, win0_4.index t 0 = t.val / 16 ∧ win0_4.index t 1 = 0 ∧ win0_4.index t 2 = t.val / 4 % 4 := by
  decide +kernel
theorem index_o : ∀ t : Fin grid0.N, win0_5.index t 0 = t.val / 16 ∧ win0_5.index t 1 = t.val % 4 ∧ win0_5.index t 2 = t.val / 4 % 4 := by
  decide +kernel

theorem lt_N (t : Fin cfg0.N) : t.val < 128 := Nat.lt_of_lt_of_eq t.isLt N_0

/-- The block of queries of a grid point. -/
theorem iblk_q (c : Dev nD) (t : Fin cfg0.N) (r : Fin 1024) (l : Fin 512) :
    (iblk m c 0 t : FVec Ideal S1x1024x512 .bf16) (ix3 0 r l) = (V m c main_v6 : FVec Ideal S8x4096x2048 .bf16)
      (ix3 ⟨t.val / 16, by have := lt_N t; omega⟩ ⟨t.val % 4 * 1024 + r.val, by omega⟩ ⟨t.val / 4 % 4 * 512 + l.val, by omega⟩) := by
  unfold iblk
  rw [View.read_apply]
  show (V m c main_v6 : FVec Ideal S8x4096x2048 .bf16) _ = _
  congr 1
  funext a
  obtain ⟨e0, e1, e2⟩ := index_q t
  apply Fin.ext
  match a with
  | ⟨0, _⟩ => show win0_0.index t 0 * 1 + 1 * (0 : ℕ) = t.val / 16; rw [e0]; omega
  | ⟨1, _⟩ => show win0_0.index t 1 * 1024 + 1 * r.val = t.val % 4 * 1024 + r.val; rw [e1]; omega
  | ⟨2, _⟩ => show win0_0.index t 2 * 512 + 1 * l.val = t.val / 4 % 4 * 512 + l.val; rw [e2]; omega

/-- The keys of a grid point. -/
theorem iblk_k (c : Dev nD) (t : Fin cfg0.N) (r : Fin 4096) (l : Fin 128) :
    (iblk m c 1 t : FVec Ideal S1x4096x128 .bf16) (ix3 0 r l) = (V m c main_v8 : FVec Ideal S8x4096x512 .bf16)
      (ix3 ⟨t.val / 16, by have := lt_N t; omega⟩ r ⟨t.val / 4 % 4 * 128 + l.val, by omega⟩) := by
  unfold iblk
  rw [View.read_apply]
  show (V m c main_v8 : FVec Ideal S8x4096x512 .bf16) _ = _
  congr 1
  funext a
  obtain ⟨e0, e1, e2⟩ := index_k t
  apply Fin.ext
  match a with
  | ⟨0, _⟩ => show win0_1.index t 0 * 1 + 1 * (0 : ℕ) = t.val / 16; rw [e0]; omega
  | ⟨1, _⟩ => show win0_1.index t 1 * 4096 + 1 * r.val = r.val; rw [e1]; omega
  | ⟨2, _⟩ => show win0_1.index t 2 * 128 + 1 * l.val = t.val / 4 % 4 * 128 + l.val; rw [e2]; omega

/-- The values of a grid point. -/
theorem iblk_v (c : Dev nD) (t : Fin cfg0.N) (r : Fin 4096) (l : Fin 128) :
    (iblk m c 2 t : FVec Ideal S1x4096x128 .bf16) (ix3 0 r l) = (V m c main_v10 : FVec Ideal S8x4096x512 .bf16)
      (ix3 ⟨t.val / 16, by have := lt_N t; omega⟩ r ⟨t.val / 4 % 4 * 128 + l.val, by omega⟩) := by
  unfold iblk
  rw [View.read_apply]
  show (V m c main_v10 : FVec Ideal S8x4096x512 .bf16) _ = _
  congr 1
  funext a
  obtain ⟨e0, e1, e2⟩ := index_v t
  apply Fin.ext
  match a with
  | ⟨0, _⟩ => show win0_2.index t 0 * 1 + 1 * (0 : ℕ) = t.val / 16; rw [e0]; omega
  | ⟨1, _⟩ => show win0_2.index t 1 * 4096 + 1 * r.val = r.val; rw [e1]; omega
  | ⟨2, _⟩ => show win0_2.index t 2 * 128 + 1 * l.val = t.val / 4 % 4 * 128 + l.val; rw [e2]; omega

/-- The context's keys of a grid point. -/
theorem iblk_kc (c : Dev nD) (t : Fin cfg0.N) (r : Fin 512) (l : Fin 128) :
    (iblk m c 3 t : FVec Ideal S1x512x128 .bf16) (ix3 0 r l) = (V m c main_v12 : FVec Ideal S8x512x512 .bf16)
      (ix3 ⟨t.val / 16, by have := lt_N t; omega⟩ r ⟨t.val / 4 % 4 * 128 + l.val, by omega⟩) := by
  unfold iblk
  rw [View.read_apply]
  show (V m c main_v12 : FVec Ideal S8x512x512 .bf16) _ = _
  congr 1
  funext a
  obtain ⟨e0, e1, e2⟩ := index_kc t
  apply Fin.ext
  match a with
  | ⟨0, _⟩ => show win0_3.index t 0 * 1 + 1 * (0 : ℕ) = t.val / 16; rw [e0]; omega
  | ⟨1, _⟩ => show win0_3.index t 1 * 512 + 1 * r.val = r.val; rw [e1]; omega
  | ⟨2, _⟩ => show win0_3.index t 2 * 128 + 1 * l.val = t.val / 4 % 4 * 128 + l.val; rw [e2]; omega

/-- The context's values of a grid point. -/
theorem iblk_vc (c : Dev nD) (t : Fin cfg0.N) (r : Fin 512) (l : Fin 128) :
    (iblk m c 4 t : FVec Ideal S1x512x128 .bf16) (ix3 0 r l) = (V m c main_v14 : FVec Ideal S8x512x512 .bf16)
      (ix3 ⟨t.val / 16, by have := lt_N t; omega⟩ r ⟨t.val / 4 % 4 * 128 + l.val, by omega⟩) := by
  unfold iblk
  rw [View.read_apply]
  show (V m c main_v14 : FVec Ideal S8x512x512 .bf16) _ = _
  congr 1
  funext a
  obtain ⟨e0, e1, e2⟩ := index_vc t
  apply Fin.ext
  match a with
  | ⟨0, _⟩ => show win0_4.index t 0 * 1 + 1 * (0 : ℕ) = t.val / 16; rw [e0]; omega
  | ⟨1, _⟩ => show win0_4.index t 1 * 512 + 1 * r.val = r.val; rw [e1]; omega
  | ⟨2, _⟩ => show win0_4.index t 2 * 128 + 1 * l.val = t.val / 4 % 4 * 128 + l.val; rw [e2]; omega

/-- The scaled queries the call is given. -/
theorem queries_apply (c : Dev nD) (b : Fin 8) (t : Fin 4096) (l : Fin 2048) :
    (V m c main_v6 : FVec Ideal S8x4096x2048 .bf16) (ix3 b t l) =
      HMul.hMul (α := EReal) (β := EReal) (γ := EReal)
        ((m ((c : Thread nD τ).loc main_arg0) : FVec Ideal S8x4096x16x128 .f32) (ix4 b t ⟨l.val / 128, by omega⟩ ⟨l.val % 128, by omega⟩))
        (Ideal.div (Ideal.rsqrt (Ideal.ofBits .f32 0x43000000#32)) (Ideal.log (Ideal.ofBits .f32 0x40000000#32))) := by
  unfold_abbrev_sides
  after_results
  pointwise
  rfl

/-- The keys, values, and the context's, each with its heads side by side. -/
theorem keys_apply (c : Dev nD) (b : Fin 8) (t : Fin 4096) (l : Fin 512) :
    (V m c main_v8 : FVec Ideal S8x4096x512 .bf16) (ix3 b t l) =
      (m ((c : Thread nD τ).loc main_arg1) : FVec Ideal S8x4096x4x128 .f32) (ix4 b t ⟨l.val / 128, by omega⟩ ⟨l.val % 128, by omega⟩) := by
  unfold_abbrev_sides
  after_results
  pointwise
theorem values_apply (c : Dev nD) (b : Fin 8) (t : Fin 4096) (l : Fin 512) :
    (V m c main_v10 : FVec Ideal S8x4096x512 .bf16) (ix3 b t l) =
      (m ((c : Thread nD τ).loc main_arg2) : FVec Ideal S8x4096x4x128 .f32) (ix4 b t ⟨l.val / 128, by omega⟩ ⟨l.val % 128, by omega⟩) := by
  unfold_abbrev_sides
  after_results
  pointwise
theorem contextKeys_apply (c : Dev nD) (b : Fin 8) (t : Fin 512) (l : Fin 512) :
    (V m c main_v12 : FVec Ideal S8x512x512 .bf16) (ix3 b t l) =
      (m ((c : Thread nD τ).loc main_arg3) : FVec Ideal S8x512x4x128 .f32) (ix4 b t ⟨l.val / 128, by omega⟩ ⟨l.val % 128, by omega⟩) := by
  unfold_abbrev_sides
  after_results
  pointwise
theorem contextValues_apply (c : Dev nD) (b : Fin 8) (t : Fin 512) (l : Fin 512) :
    (V m c main_v14 : FVec Ideal S8x512x512 .bf16) (ix3 b t l) =
      (m ((c : Thread nD τ).loc main_arg4) : FVec Ideal S8x512x4x128 .f32) (ix4 b t ⟨l.val / 128, by omega⟩ ⟨l.val % 128, by omega⟩) := by
  unfold_abbrev_sides
  after_results
  pointwise

/-- An element of the result array is that element of the block holding it. -/
theorem result_block (c : Dev nD) (t : Fin cfg0.N) (r : Fin 1024) (l : Fin 512) :
    ((dats m 0 c).arrAt 5 cfg0.N : FVec Ideal S8x4096x2048 .bf16)
      (ix3 ⟨t.val / 16, by have := lt_N t; omega⟩ ⟨t.val % 4 * 1024 + r.val, by omega⟩ ⟨t.val / 4 % 4 * 512 + l.val, by omega⟩)
    = Tile.block (iblk m c 0 t) (iblk m c 1 t) (iblk m c 2 t) (iblk m c 3 t) (iblk m c 4 t) r l := by
  have h := congrFun ((Value.blocks5 m c t (flush0_5 t)).trans (Value.flushed5 m c t)) (ix3 0 r l : S1x1024x512.Idx)
  rw [View.read_apply] at h
  refine Eq.trans ?_ (h.trans ?_)
  · show _ = ((dats m 0 c).arrAt 5 cfg0.N : FVec Ideal S8x4096x2048 .bf16) _
    congr 1
    funext a
    obtain ⟨e0, e1, e2⟩ := index_o t
    apply Fin.ext
    match a with
    | ⟨0, _⟩ => show t.val / 16 = win0_5.index t 0 * 1 + 1 * (0 : ℕ); rw [e0]; omega
    | ⟨1, _⟩ => show t.val % 4 * 1024 + r.val = win0_5.index t 1 * 1024 + 1 * r.val; rw [e1]; omega
    | ⟨2, _⟩ => show t.val / 4 % 4 * 512 + l.val = win0_5.index t 2 * 512 + 1 * l.val; rw [e2]; omega
  · show out0_5 (F := Ideal) _ _ _ _ _ (ix3 0 r l) = _
    rw [Tile.out_apply]
    rfl

end Cert.GqaIdeal.Final

end
-- ==== Proof.GqaRefAt.lean ====
/-
  The attention reference's result, element by element: the softmax of one query row's scores against the keys of the tokens and the
  context, applied to their values (`out_apply`).
-/
module

public import proofs.«01_k».proof.Proof.Gen.GqaRefIdeal.Run
public import proofs.«01_k».proof.Proof.SoftmaxRow
public import proofs.«01_k».proof.Proof.Literals
public import Idealize.ShloMosaic.Lib.Pointwise

@[expose] public section

set_option maxRecDepth 16384

noncomputable section

namespace Cert.GqaRefIdeal.RefAt

open Cert.GqaRefIdeal Cert.GqaRefIdeal.Gen Cert.GqaRefIdeal.Value Idealize.ShloMosaic Idealize.ShloMosaic.TcCoe Idealize.SL.Sem

/-- The keys (or the values) of the tokens and of the context, one after the other. -/
def cat (x : FVec Ideal S8x4096x4x128 .f32) (y : FVec Ideal S8x512x4x128 .f32) : FVec Ideal S8x4608x4x128 .f32 :=
  concatenate S8x4608x4x128 1 [⟨S8x4096x4x128, x⟩, ⟨S8x512x4x128, y⟩] concatenates_S8x4096x4x128_S8x512x4x128_S8x4608x4x128_d1

/-- The scaled scores. -/
def scores (q : FVec Ideal S8x4096x16x128 .f32) (k : FVec Ideal S8x4608x4x128 .f32) : FVec Ideal S8x4x4x4096x4608 .f32 :=
  mulf (transpose S8x4x4x4096x4608 [0, 1, 4, 3, 2] (Host.dotGeneral dot_S8x4608x4x128_S8x4096x4x4x128_S8x4x4608x4096x4_3_4_1_13_02_02 none k (shapeCast _ q shapeCasts_S8x4096x16x128_S8x4096x4x4x128)) transposes_S8x4x4608x4096x4_S8x4x4x4096x4608_0_1_4_3_2) (broadcastInDim S8x4x4x4096x4608 ![] bcast_S_S8x4x4x4096x4608 (Host.rsqrt (constant S_ .f32 0x43000000#32)))

/-- The exponentials of the scores less their row's largest. -/
def weights (s : FVec Ideal S8x4x4x4096x4608 .f32) : FVec Ideal S8x4x4x4096x4608 .f32 :=
  Host.exp (subf s (broadcastInDim S8x4x4x4096x4608 ![0, 1, 2, 3, 4] bcast_S8x4x4x4096x1_S8x4x4x4096x4608_0_1_2_3_4 (broadcastInDim S8x4x4x4096x1 ![0, 1, 2, 3] bcast_S8x4x4x4096_S8x4x4x4096x1_0_1_2_3 (maximumf (broadcastInDim S8x4x4x4096 ![] bcast_S_S8x4x4x4096 (constant S_ .f32 0xFF800000#32)) (Host.reduce FloatOps.maximumf s (constant S_ .f32 0xFF800000#32) reducesTo_S8x4x4x4096x4608_S8x4x4x4096_d4 h_S_)))))

/-- The exponentials over their row's sum. -/
def soft (w : FVec Ideal S8x4x4x4096x4608 .f32) : FVec Ideal S8x4x4x4096x4608 .f32 :=
  Host.divf w (broadcastInDim S8x4x4x4096x4608 ![0, 1, 2, 3, 4] bcast_S8x4x4x4096x1_S8x4x4x4096x4608_0_1_2_3_4 (broadcastInDim S8x4x4x4096x1 ![0, 1, 2, 3] bcast_S8x4x4x4096_S8x4x4x4096x1_0_1_2_3 (Host.reduceAdd w (constant S_ .f32 0x00000000#32) reducesTo_S8x4x4x4096x4608_S8x4x4x4096_d4 h_S_)))

/-- The values averaged with the weights. -/
def mix (v : FVec Ideal S8x4608x4x128 .f32) (p : FVec Ideal S8x4x4x4096x4608 .f32) : FVec Ideal S8x4096x2048 .bf16 :=
  truncf .bf16 (shapeCast _ (transpose S8x4096x4x4x128 [0, 4, 1, 3, 2] (Host.dotGeneral dot_S8x4608x4x128_S8x4x4x4096x4608_S8x4x128x4x4096_1_4_3_23_02_01 none v p) transposes_S8x4x128x4x4096_S8x4096x4x4x128_0_4_1_3_2) shapeCasts_S8x4096x4x4x128_S8x4096x2048) bitsLt_bf16_f32

/-- The reference's array of its five arguments. -/
def out (q : FVec Ideal S8x4096x16x128 .f32) (k v : FVec Ideal S8x4096x4x128 .f32) (kc vc : FVec Ideal S8x512x4x128 .f32) : FVec Ideal S8x4096x2048 .bf16 :=
  mix (cat v vc) (soft (weights (scores q (cat k kc))))

theorem res_eq (m : (ℓ : Loc nD τ sig) → Buf (Elt Ideal) ℓ) (c : Dev nD) :
    res_main_v22 m c = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

theorem cat_apply (x : FVec Ideal S8x4096x4x128 .f32) (y : FVec Ideal S8x512x4x128 .f32) (b : Fin 8) (s : Fin 4608) (g : Fin 4) (d : Fin 128) :
    cat x y (ix4 b s g d) = if h : s.val < 4096 then x (ix4 b ⟨s.val, h⟩ g d) else y (ix4 b ⟨s.val - 4096, by omega⟩ g d) := by
  pointwise [cat]

theorem scores_apply (q : FVec Ideal S8x4096x16x128 .f32) (k : FVec Ideal S8x4608x4x128 .f32) (b : Fin 8) (g r : Fin 4) (t : Fin 4096) (s : Fin 4608) :
    scores q k (ix5 b g r t s) = (∑ d : Fin 128, k (ix4 b s g d) * q (ix4 b t ⟨g.val * 4 + r.val, by omega⟩ d)) * Ideal.rsqrt (Ideal.ofBits .f32 0x43000000#32) := by
  pointwise [scores]

/-- A maximum over the last of five axes. -/
theorem hostMax_apply {n0 n1 n2 n3 n4 : ℕ} {u : Shape} (h : (⟨5, ![n0, n1, n2, n3, n4]⟩ : Shape).ReducesTo [4] ⟨4, ![n0, n1, n2, n3]⟩)
    (hu : 0 < u.numel) (x : FVec Ideal ⟨5, ![n0, n1, n2, n3, n4]⟩ .f32) (v : FVec Ideal u .f32)
    (b : Fin n0) (g : Fin n1) (r : Fin n2) (t : Fin n3) :
    Host.reduce FloatOps.maximumf x v h hu (ix4 b g r t)
      = Finset.univ.fold max (v (Shape.Idx.first hu)) fun k : Fin n4 => x (ix5 b g r t k) := by
  simp only [pointwise]

/-- A value per row, spread along the row's keys. -/
theorem spread_apply (M : FVec Ideal S8x4x4x4096 .f32) (b : Fin 8) (g r : Fin 4) (t : Fin 4096) (s : Fin 4608) :
    broadcastInDim S8x4x4x4096x4608 ![0, 1, 2, 3, 4] bcast_S8x4x4x4096x1_S8x4x4x4096x4608_0_1_2_3_4 (broadcastInDim S8x4x4x4096x1 ![0, 1, 2, 3] bcast_S8x4x4x4096_S8x4x4x4096x1_0_1_2_3 M) (ix5 b g r t s) = M (ix4 b g r t) := by
  pointwise

theorem weights_apply (S : FVec Ideal S8x4x4x4096x4608 .f32) (b : Fin 8) (g r : Fin 4) (t : Fin 4096) (s : Fin 4608) :
    weights S (ix5 b g r t s) = Ideal.exp (S (ix5 b g r t s) - max ⊥ (Attn.rowMax fun k : Fin 4608 => S (ix5 b g r t k))) := by
  unfold weights Attn.rowMax
  rw [← Lit.neg_inf]
  have hm := hostMax_apply reducesTo_S8x4x4x4096x4608_S8x4x4x4096_d4 h_S_ S (constant S_ .f32 0xFF800000#32) b g r t
  generalize Host.reduce FloatOps.maximumf S (constant S_ .f32 0xFF800000#32) reducesTo_S8x4x4x4096x4608_S8x4x4x4096_d4 h_S_ = M at hm ⊢
  rw [show ∀ (a b : FVec Ideal S8x4x4x4096x4608 .f32) (i), Host.exp (subf a b) i = Ideal.exp (a i - b i) from fun _ _ _ => rfl,
    spread_apply, show ∀ (a b : FVec Ideal S8x4x4x4096 .f32) (i), maximumf a b i = max (a i) (b i) from fun _ _ _ => rfl, hm]
  rfl

theorem soft_apply (w : FVec Ideal S8x4x4x4096x4608 .f32) (b : Fin 8) (g r : Fin 4) (t : Fin 4096) (s : Fin 4608) :
    soft w (ix5 b g r t s) = Ideal.div (w (ix5 b g r t s)) (∑ x : Fin 4608, w (ix5 b g r t x)) := by
  pointwise [soft]

theorem mix_apply (v : FVec Ideal S8x4608x4x128 .f32) (p : FVec Ideal S8x4x4x4096x4608 .f32) (b : Fin 8) (t : Fin 4096) (l : Fin 2048) :
    mix v p (ix3 b t l) = ∑ x : Fin 4608, v (ix4 b x ⟨l.val / 512, by omega⟩ ⟨l.val % 128, by omega⟩)
      * p (ix5 b ⟨l.val / 512, by omega⟩ ⟨l.val / 128 % 4, by omega⟩ t x) := by
  pointwise [mix]

/-- Element `l` of row `t` of batch `b`: head `l / 128` (of group `l / 512`), the softmax average of the group's values. -/
theorem out_apply (q : FVec Ideal S8x4096x16x128 .f32) (k v : FVec Ideal S8x4096x4x128 .f32) (kc vc : FVec Ideal S8x512x4x128 .f32)
    (b : Fin 8) (t : Fin 4096) (l : Fin 2048) :
    out q k v kc vc (ix3 b t l) = Attn.refRow
      (fun s : Fin 4608 => (∑ d : Fin 128, cat k kc (ix4 b s ⟨l.val / 512, by omega⟩ d)
        * q (ix4 b t ⟨l.val / 512 * 4 + l.val / 128 % 4, by omega⟩ d)) * Ideal.rsqrt (Ideal.ofBits .f32 0x43000000#32))
      (fun s : Fin 4608 => cat v vc (ix4 b s ⟨l.val / 512, by omega⟩ ⟨l.val % 128, by omega⟩)) := by
  unfold out
  rw [mix_apply]
  unfold Attn.refRow
  refine Finset.sum_congr rfl fun x _ => ?_
  rw [soft_apply]
  simp only [weights_apply, scores_apply]

end Cert.GqaRefIdeal.RefAt
-- ==== Proof.GqaClaim.lean ====
/-
  The attention's claims: an element of the kernel's result array, from the arguments (`result_apply`), is the reference's
  (`result_eq`): on finite scores the scaled base-two softmax taken in two parts is the softmax taken at once
  (`Attn.kRow_eq_refRow`).
-/
module

public import proofs.«01_k».proof.Defs
public import proofs.«01_k».proof.Proof.GqaValue
public import proofs.«01_k».proof.Proof.GqaRefAt
public import proofs.«01_k».proof.Proof.Gen.Gqa.Frame
public import proofs.«01_k».proof.Proof.Gen.GqaIdeal.Frame
public import proofs.«01_k».proof.Proof.Gen.Pre_finite_scores
public import Idealize.ShloMosaic.Lib.ReduceAll
public import Idealize.ShloMosaic.Lib.Quiescent

@[expose] public section

set_option maxRecDepth 16384

noncomputable section

namespace Cert.Proof.GqaClaims

open Idealize.ShloMosaic Idealize.ShloMosaic.TcCoe Idealize.SL.Sem

/-- Two reads of a four-axis array at indices of the same numbers. -/
theorem at4 {α : Type} {n0 n1 n2 n3 : ℕ} (f : (⟨4, ![n0, n1, n2, n3]⟩ : Shape).Idx → α) {a a' : Fin n0} {b b' : Fin n1}
    {c c' : Fin n2} {d d' : Fin n3} (ha : a.val = a'.val) (hb : b.val = b'.val) (hc : c.val = c'.val) (hd : d.val = d'.val) :
    f (ix4 a b c d) = f (ix4 a' b' c' d') := by
  rw [Fin.ext ha, Fin.ext hb, Fin.ext hc, Fin.ext hd]

/-- The attention of one query row's head, as the kernel computes it: queries scaled by `σ`, keys and values of the tokens and of
    the context apart. -/
def kernelAt (σ : EReal) (q : FVec Ideal Cert.GqaIdeal.S8x4096x16x128 .f32) (k v : FVec Ideal Cert.GqaIdeal.S8x4096x4x128 .f32)
    (kc vc : FVec Ideal Cert.GqaIdeal.S8x512x4x128 .f32) (b : Fin 8) (t : Fin 4096) (l : Fin 2048) : EReal :=
  Attn.kRow
    (fun s : Fin 4096 => ∑ e : Fin 128, (q (ix4 b t ⟨l.val / 128, by omega⟩ e) * σ) * k (ix4 b s ⟨l.val / 512, by omega⟩ e))
    (fun s : Fin 512 => ∑ e : Fin 128, (q (ix4 b t ⟨l.val / 128, by omega⟩ e) * σ) * kc (ix4 b s ⟨l.val / 512, by omega⟩ e))
    (fun s => v (ix4 b s ⟨l.val / 512, by omega⟩ ⟨l.val % 128, by omega⟩))
    (fun s => vc (ix4 b s ⟨l.val / 512, by omega⟩ ⟨l.val % 128, by omega⟩))

section
open Cert.GqaIdeal Cert.GqaIdeal.Gen
variable (m : (ℓ : Loc nD τ sig) → Buf (Elt Ideal) ℓ)

abbrev argQ (c : Dev nD) : FVec Ideal S8x4096x16x128 .f32 := m ((c.tc : Thread nD τ).loc main_arg0)
abbrev argK (c : Dev nD) : FVec Ideal S8x4096x4x128 .f32 := m ((c.tc : Thread nD τ).loc main_arg1)
abbrev argV (c : Dev nD) : FVec Ideal S8x4096x4x128 .f32 := m ((c.tc : Thread nD τ).loc main_arg2)
abbrev argKc (c : Dev nD) : FVec Ideal S8x512x4x128 .f32 := m ((c.tc : Thread nD τ).loc main_arg3)
abbrev argVc (c : Dev nD) : FVec Ideal S8x512x4x128 .f32 := m ((c.tc : Thread nD τ).loc main_arg4)

/-- The queries' scale. -/
abbrev σ : EReal := Ideal.div (Ideal.rsqrt (Ideal.ofBits .f32 0x43000000#32)) (Ideal.log (Ideal.ofBits .f32 0x40000000#32))

/-- A grid point's block, from the arguments. -/
theorem block_eq (c : Dev nD) (T : Fin cfg0.N) (r : Fin 1024) (l : Fin 512) :
    Tile.block (iblk m c 0 T) (iblk m c 1 T) (iblk m c 2 T) (iblk m c 3 T) (iblk m c 4 T) r l
      = kernelAt σ (argQ m c) (argK m c) (argV m c) (argKc m c) (argVc m c) ⟨T.val / 16, by have := Final.lt_N T; omega⟩
        ⟨T.val % 4 * 1024 + r.val, by omega⟩ ⟨T.val / 4 % 4 * 512 + l.val, by omega⟩ := by
  have hQ : ∀ e : Fin 128, (iblk m c 0 T : FVec Ideal S1x1024x512 .bf16) (ix3 0 r ⟨l.val / 128 * 128 + e.val, by omega⟩)
      = HMul.hMul (α := EReal) (β := EReal) (γ := EReal) (argQ m c (ix4 ⟨T.val / 16, by have := Final.lt_N T; omega⟩ ⟨T.val % 4 * 1024 + r.val, by omega⟩
          ⟨(T.val / 4 % 4 * 512 + l.val) / 128, by omega⟩ e)) σ := fun e =>
    (Final.iblk_q m c T r _).trans ((Final.queries_apply m c _ _ _).trans
      (congrArg (fun z : EReal => z * σ) (at4 (argQ m c) rfl rfl (by dsimp only; omega) (by dsimp only; omega))))
  unfold Tile.block kernelAt
  congr 1
  · funext s
    refine Finset.sum_congr rfl fun e _ => congrArg₂ _ (hQ e) ?_
    exact (Final.iblk_k m c T s _).trans ((Final.keys_apply m c _ _ _).trans
      (at4 (argK m c) rfl rfl (by dsimp only; omega) (by dsimp only; omega)))
  · funext s
    refine Finset.sum_congr rfl fun e _ => congrArg₂ _ (hQ e) ?_
    exact (Final.iblk_kc m c T s _).trans ((Final.contextKeys_apply m c _ _ _).trans
      (at4 (argKc m c) rfl rfl (by dsimp only; omega) (by dsimp only; omega)))
  · funext s
    exact (Final.iblk_v m c T s _).trans ((Final.values_apply m c _ _ _).trans
      (at4 (argV m c) rfl rfl (by dsimp only; omega) (by dsimp only; omega)))
  · funext s
    exact (Final.iblk_vc m c T s _).trans ((Final.contextValues_apply m c _ _ _).trans
      (at4 (argVc m c) rfl rfl (by dsimp only; omega) (by dsimp only; omega)))

/-- An element of the result array, from the arguments. -/
theorem result_apply (c : Dev nD) (b : Fin 8) (t : Fin 4096) (l : Fin 2048) :
    ((dats m 0 c).arrAt 5 cfg0.N : FVec Ideal S8x4096x2048 .bf16) (ix3 b t l)
      = kernelAt σ (argQ m c) (argK m c) (argV m c) (argKc m c) (argVc m c) b t l := by
  have hT : b.val * 16 + l.val / 512 * 4 + t.val / 1024 < cfg0.N := by rw [show cfg0.N = 128 from N_0]; omega
  have h := (Final.result_block m c ⟨_, hT⟩ ⟨t.val % 1024, by omega⟩ ⟨l.val % 512, by omega⟩).trans (block_eq m c _ _ _)
  have hb : (b.val * 16 + l.val / 512 * 4 + t.val / 1024) / 16 = b.val := by omega
  have ht : (b.val * 16 + l.val / 512 * 4 + t.val / 1024) % 4 * 1024 + t.val % 1024 = t.val := by omega
  have hl : (b.val * 16 + l.val / 512 * 4 + t.val / 1024) / 4 % 4 * 512 + l.val % 512 = l.val := by omega
  simpa only [hb, ht, hl] using h

end

/-- An absolute value below infinity is a finite number's. -/
theorem lt_inf {s : Shape} {x : FVec Ideal s .f32} {i : s.Idx} {h : (⟨0, ![]⟩ : Shape).BroadcastsInDim s ![]}
    (e : cmpf .olt (Host.absf x) (broadcastInDim s ![] h (constant ⟨0, ![]⟩ .f32 0x7F800000#32)) i = 1#1) : Attn.Fin' (x i) := by
  apply Attn.finite_of_abs_lt
  rw [← Lit.pos_inf]
  have e' : BitVec.ofBool (decide (max (x i) (-(x i)) < Ideal.ofBits .f32 0x7F800000#32)) = 1#1 := e
  by_contra hn
  rw [decide_eq_false hn] at e'
  exact absurd e' (by decide)

/-- What the precondition says: queries and keys are finite. -/
theorem finite (q : FVec Ideal Cert.Pre_finite_scores.S8x4096x16x128 .f32) (k v : FVec Ideal Cert.Pre_finite_scores.S8x4096x4x128 .f32)
    (kc vc : FVec Ideal Cert.Pre_finite_scores.S8x512x4x128 .f32)
    (h : ∀ i, Cert.Pre_finite_scores.fn (F := Ideal) q k v kc vc i = 1#1) :
    (∀ i, Attn.Fin' (q i)) ∧ (∀ i, Attn.Fin' (k i)) ∧ (∀ i, Attn.Fin' (kc i)) := by
  have h0 := h (fun a => a.elim0)
  unfold Cert.Pre_finite_scores.fn at h0
  dsimp only [andi] at h0
  obtain ⟨h12, h3⟩ := IntOp.andi_eq_one.mp h0
  obtain ⟨h1, h2⟩ := IntOp.andi_eq_one.mp h12
  haveI : Subsingleton Cert.Pre_finite_scores.S_.Idx := ⟨fun a b => funext fun i => i.elim0⟩
  have h1 := fun i => Host.reduce_andi_all _ _ _ _ _ h1 i
  have h2 := fun i => Host.reduce_andi_all _ _ _ _ _ h2 i
  have h3 := fun i => Host.reduce_andi_all _ _ _ _ _ h3 i
  exact ⟨fun i => lt_inf (h1 i), fun i => lt_inf (h2 i), fun i => lt_inf (h3 i)⟩

/-- The kernel's row is the reference's, where queries and keys are finite. -/
theorem row_eq (q : FVec Ideal Cert.GqaIdeal.S8x4096x16x128 .f32) (k v : FVec Ideal Cert.GqaIdeal.S8x4096x4x128 .f32)
    (kc vc : FVec Ideal Cert.GqaIdeal.S8x512x4x128 .f32) (hq : ∀ i, Attn.Fin' (q i)) (hk : ∀ i, Attn.Fin' (k i)) (hkc : ∀ i, Attn.Fin' (kc i))
    (b : Fin 8) (t : Fin 4096) (l : Fin 2048) :
    kernelAt σ q k v kc vc b t l = Cert.GqaRefIdeal.RefAt.out q k v kc vc (ix3 b t l) := by
  rw [Cert.GqaRefIdeal.RefAt.out_apply]
  unfold kernelAt σ
  rw [Lit.v128, Lit.two, Lit.scale 128 (by norm_num), Lit.rsqrt_pos 128 (by norm_num)]
  have hcat : ∀ (b : Fin 8) (s : Fin 4608) (g : Fin 4) (d : Fin 128), Attn.Fin' (Cert.GqaRefIdeal.RefAt.cat k kc (ix4 b s g d)) := by
    intro b s g d
    rw [Cert.GqaRefIdeal.RefAt.cat_apply]
    split
    · exact hk _
    · exact hkc _
  have hhead : (⟨l.val / 512 * 4 + l.val / 128 % 4, by omega⟩ : Fin 16) = ⟨l.val / 128, by omega⟩ := by apply Fin.ext; dsimp only; omega
  have hk1 : ∀ (x : Fin 4096) (g : Fin 4) (e : Fin 128) (y : FVec Ideal Cert.GqaIdeal.S8x4096x4x128 .f32) (z : FVec Ideal Cert.GqaIdeal.S8x512x4x128 .f32),
      y (ix4 b x g e) = Cert.GqaRefIdeal.RefAt.cat y z (ix4 b (Fin.castAdd 512 x) g e) := by
    intro x g e y z
    rw [Cert.GqaRefIdeal.RefAt.cat_apply, dif_pos (show (Fin.castAdd 512 x).val < 4096 from x.isLt)]
    rfl
  have hk2 : ∀ (x : Fin 512) (g : Fin 4) (e : Fin 128) (y : FVec Ideal Cert.GqaIdeal.S8x4096x4x128 .f32) (z : FVec Ideal Cert.GqaIdeal.S8x512x4x128 .f32),
      z (ix4 b x g e) = Cert.GqaRefIdeal.RefAt.cat y z (ix4 b (Fin.natAdd 4096 x) g e) := by
    intro x g e y z
    rw [Cert.GqaRefIdeal.RefAt.cat_apply, dif_neg (show ¬ (Fin.natAdd 4096 x).val < 4096 by simp)]
    refine at4 z rfl ?_ rfl rfl
    simp
  rw [hhead]
  have href : (fun s : Fin 4608 => (∑ d : Fin 128, Cert.GqaRefIdeal.RefAt.cat k kc (ix4 b s ⟨l.val / 512, by omega⟩ d)
        * q (ix4 b t ⟨l.val / 128, by omega⟩ d)) * (((Real.sqrt 128)⁻¹ : ℝ) : EReal))
      = fun s => ((Attn.score (Real.sqrt 128)⁻¹ (fun d => q (ix4 b t ⟨l.val / 128, by omega⟩ d))
          (fun d => Cert.GqaRefIdeal.RefAt.cat k kc (ix4 b s ⟨l.val / 512, by omega⟩ d)) : ℝ) : EReal) := by
    funext s
    exact Attn.score_ref _ _ _ (fun d => hq _) (fun d => hcat _ _ _ _)
  rw [href]
  refine Attn.kRow_eq_refRow (n1 := 4096) (n2 := 512) (by norm_num) _ _ _ _ _ _ (fun x => ?_) (fun x => ?_) (fun x => ?_) (fun x => ?_)
  · rw [← Attn.score_kernel _ _ _ _ (fun d => hq _) (fun d => hcat _ _ _ _)]
    exact Finset.sum_congr rfl fun e _ => congrArg₂ _ rfl (hk1 x _ e k kc)
  · rw [← Attn.score_kernel _ _ _ _ (fun d => hq _) (fun d => hcat _ _ _ _)]
    exact Finset.sum_congr rfl fun e _ => congrArg₂ _ rfl (hk2 x _ e k kc)
  · exact hk1 x _ _ v vc
  · exact hk2 x _ _ v vc

theorem frame_gqa : Cert.quiescent_Gqa := fun m ρ _ => Cert.Gqa.Gen.frame m ρ
theorem frame_ideal : Cert.quiescent_GqaIdeal := fun m ρ _ => Cert.GqaIdeal.Gen.frame m ρ
theorem frame_ideal_pre : Cert.quiescent_GqaIdeal_pre_finite_scores := fun m ρ _ => Cert.GqaIdeal.Gen.frame m ρ
theorem frame_ref : Cert.quiescent_GqaRefIdeal := fun m ρ _ =>
  (θ_run Cert.GqaRefIdeal.defs _ _).mono (fun r h => ⟨fun c => (h c).2, sem_eq_zero_of_no_sems (by decide) r.2⟩)
    (Cert.GqaRefIdeal.Value.run (F := Ideal) m ρ)
theorem frame_ref_pre : Cert.quiescent_GqaRefIdeal_pre_finite_scores := fun m ρ _ => frame_ref m ρ trivial
theorem preserves : Cert.preserves_Gqa_GqaIdeal := trivial

/-- The attention kernel and the reference end with equal results. -/
theorem algebraic : Cert.algebraic_GqaIdeal_GqaRefIdeal_pre_finite_scores := by
  intro m ρ m' ρ' hpre hagree
  refine ⟨fun c => (Cert.GqaIdeal.Gen.dats m 0 c).arrAt 5 Cert.GqaIdeal.cfg0.N, Cert.GqaIdeal.Value.run_blocks (F := Ideal) m ρ, ?_⟩
  refine (θ_run Cert.GqaRefIdeal.defs _ _).mono (fun _ h c => ⟨(h c).1.trans ?_, (h c).2⟩)
    (Cert.GqaRefIdeal.Value.run (F := Ideal) m' ρ')
  obtain ⟨hq, hk, hkc⟩ := finite _ _ _ _ _ (fun i => congrFun (hpre c) i)
  obtain ⟨h0, h1, h2, h3, h4⟩ := hagree c
  rw [Cert.GqaRefIdeal.RefAt.res_eq, h0, h1, h2, h3, h4]
  funext i
  rw [eq_ix3 i]
  exact ((result_apply m c _ _ _).trans (row_eq _ _ _ _ _ hq hk hkc _ _ _)).symm

end Cert.Proof.GqaClaims

end
-- ==== Proof.ProjClaim.lean ====
/-
  The input projection's claims: an element of the kernel's result array is the sum of products of the row of the activations and the
  column of the joined weights (`result_apply`), which is the reference's.
-/
module

public import proofs.«01_k».proof.Defs
public import proofs.«01_k».proof.Proof.Literals
public import proofs.«01_k».proof.Proof.Gen.Proj.Frame
public import proofs.«01_k».proof.Proof.Gen.ProjIdeal.Frame
public import proofs.«01_k».proof.Proof.Gen.ProjRefIdeal.Run
public import Idealize.ShloMosaic.Lib.Pointwise
public import Idealize.ShloMosaic.Lib.Claim
public import Idealize.ShloMosaic.Lib.Pipeline.Value
public import Idealize.ShloMosaic.Lib.StableHlo.Run
public import Idealize.ShloMosaic.Lib.Tactic
public import Idealize.ShloMosaic.Lib.Quiescent

@[expose] public section

set_option maxRecDepth 16384

noncomputable section

namespace Cert.ProjIdeal.Final

open Cert.ProjIdeal Cert.ProjIdeal.Gen Idealize.ShloMosaic Idealize.ShloMosaic.TcCoe Idealize.SL.Sem

/-- The body's result, at an index. -/
theorem out_apply (x : FVec Ideal S1024x4096 .bf16) (y : FVec Ideal S4096x512 .bf16) (r : Fin 1024) (l : Fin 512) :
    out0_2 (F := Ideal) x y (ix2 r l) = ∑ k : Fin 4096, x (ix2 r k) * y (ix2 k l) := by
  unfold out0_2
  have hz : (![0, 0] : Fin 2 → ℕ) = fun _ => 0 := funext fun a => by fin_cases a <;> rfl
  rw [View.canon_unit_zero hz, View.ld_unit_zero hz, View.ld_unit_zero hz]
  pointwise [k0_pay1]

variable (m : (ℓ : Loc nD τ sig) → Buf (Elt Ideal) ℓ)

theorem index_x : ∀ t : Fin grid0.N, win0_0.index t 0 = t.val / 9 ∧ win0_0.index t 1 = 0 := by decide +kernel
theorem index_w : ∀ t : Fin grid0.N, win0_1.index t 0 = 0 ∧ win0_1.index t 1 = t.val % 9 := by decide +kernel
theorem index_o : ∀ t : Fin grid0.N, win0_2.index t 0 = t.val / 9 ∧ win0_2.index t 1 = t.val % 9 := by decide +kernel

theorem lt_N (t : Fin cfg0.N) : t.val < 36 := Nat.lt_of_lt_of_eq t.isLt N_0

/-- The rows of a grid point. -/
theorem iblk_x (c : Dev nD) (t : Fin cfg0.N) (r : Fin 1024) (k : Fin 4096) :
    (iblk m c 0 t : FVec Ideal S1024x4096 .bf16) (ix2 r k) = (V m c main_v5 : FVec Ideal S4096x4096 .bf16)
      (ix2 ⟨t.val / 9 * 1024 + r.val, by have := lt_N t; omega⟩ k) := by
  unfold iblk
  rw [View.read_apply]
  show (V m c main_v5 : FVec Ideal S4096x4096 .bf16) _ = _
  congr 1
  funext a
  obtain ⟨e0, e1⟩ := index_x t
  apply Fin.ext
  match a with
  | ⟨0, _⟩ => show win0_0.index t 0 * 1024 + 1 * r.val = t.val / 9 * 1024 + r.val; rw [e0]; omega
  | ⟨1, _⟩ => show win0_0.index t 1 * 4096 + 1 * k.val = k.val; rw [e1]; omega

/-- The columns of a grid point. -/
theorem iblk_w (c : Dev nD) (t : Fin cfg0.N) (k : Fin 4096) (l : Fin 512) :
    (iblk m c 1 t : FVec Ideal S4096x512 .bf16) (ix2 k l) = (V m c main_v3 : FVec Ideal S4096x4608 .bf16)
      (ix2 k ⟨t.val % 9 * 512 + l.val, by omega⟩) := by
  unfold iblk
  rw [View.read_apply]
  show (V m c main_v3 : FVec Ideal S4096x4608 .bf16) _ = _
  congr 1
  funext a
  obtain ⟨e0, e1⟩ := index_w t
  apply Fin.ext
  match a with
  | ⟨0, _⟩ => show win0_1.index t 0 * 4096 + 1 * k.val = k.val; rw [e0]; omega
  | ⟨1, _⟩ => show win0_1.index t 1 * 512 + 1 * l.val = t.val % 9 * 512 + l.val; rw [e1]; omega

theorem index_inj (t t' : Fin cfg0.N) (h : win0_2.index t = win0_2.index t') : t = t' := by
  have h0 := congrFun h 0
  have h1 := congrFun h 1
  rw [(index_o t).1, (index_o t').1] at h0
  rw [(index_o t).2, (index_o t').2] at h1
  apply Fin.ext
  omega

/-- An element of the result array is that element of the block holding it. -/
theorem result_block (c : Dev nD) (t : Fin cfg0.N) (r : Fin 1024) (l : Fin 512) :
    ((dats m 0 c).arrAt 2 cfg0.N : FVec Ideal S4096x4608 .f32)
      (ix2 ⟨t.val / 9 * 1024 + r.val, by have := lt_N t; omega⟩ ⟨t.val % 9 * 512 + l.val, by omega⟩)
    = out0_2 (F := Ideal) (iblk m c 0 t) (iblk m c 1 t) (ix2 r l) := by
  have h := congrFun ((dats m 0 c).read_blk_arrAt_eq_flushed 2 (fun t t' _ _ hne => (cfg0.win 2).disjoint_blk fun h => hne (index_inj t t' h))
    cfg0.N t t.isLt (flush0_2 t)) (ix2 r l : S1024x512.Idx)
  rw [View.read_apply] at h
  refine Eq.trans ?_ (h.trans ?_)
  · show _ = ((dats m 0 c).arrAt 2 cfg0.N : FVec Ideal S4096x4608 .f32) _
    congr 1
    funext a
    obtain ⟨e0, e1⟩ := index_o t
    apply Fin.ext
    match a with
    | ⟨0, _⟩ => show t.val / 9 * 1024 + r.val = win0_2.index t 0 * 1024 + 1 * r.val; rw [e0]; omega
    | ⟨1, _⟩ => show t.val % 9 * 512 + l.val = win0_2.index t 1 * 512 + 1 * l.val; rw [e1]; omega
  · show (cfg0.win 2).cut (grid0.coords t) ((dats m 0 c).after 2 t) (ix2 r l) = _
    rw [after0_2]
    rfl

/-- The activations the call is given. -/
theorem rows_apply (c : Dev nD) (r : Fin 4096) (k : Fin 4096) :
    (V m c main_v5 : FVec Ideal S4096x4096 .bf16) (ix2 r k) =
      (m ((c : Thread nD τ).loc main_arg0) : FVec Ideal S16x256x4096 .f32) (ix3 ⟨r.val / 256, by omega⟩ ⟨r.val % 256, by omega⟩ k) := by
  unfold V V0
  simp only [List.flatten_cons, List.flatten_nil, List.append_nil]
  unfold_abbrev_sides
  after_results
  pointwise

/-- The joined weights the call is given. -/
theorem weights_apply (c : Dev nD) (k : Fin 4096) (l : Fin 4608) :
    (V m c main_v3 : FVec Ideal S4096x4608 .bf16) (ix2 k l) =
      (m ((c : Thread nD τ).loc main_arg1) : FVec Ideal S4096x12864 .f32) (ix2 k ⟨if l.val < 1536 then l.val else l.val + 64, by split <;> omega⟩) := by
  unfold V V0
  simp only [List.flatten_cons, List.flatten_nil, List.append_nil]
  unfold_abbrev_sides
  after_results
  pointwise
  split <;> refine congrArg (m (c, Proc.tc.devRef main_arg1)) (congrArg (ix2 k) (Fin.ext ?_)) <;> dsimp only <;> omega

/-- The column of the whole projection that a column of the joined weights is. -/
abbrev col (l : Fin 4608) : Fin 12864 := ⟨if l.val < 1536 then l.val else l.val + 64, by split <;> omega⟩

/-- An element of the projection: the activations' row times the weights' column. -/
def projAt (h : FVec Ideal S16x256x4096 .f32) (w : FVec Ideal S4096x12864 .f32) (r : Fin 4096) (l : Fin 12864) : EReal :=
  ∑ k : Fin 4096, h (ix3 ⟨r.val / 256, by omega⟩ ⟨r.val % 256, by omega⟩ k) * w (ix2 k l)

/-- An element of the result array, from the arguments. -/
theorem result_apply (c : Dev nD) (r : Fin 4096) (l : Fin 4608) :
    ((dats m 0 c).arrAt 2 cfg0.N : FVec Ideal S4096x4608 .f32) (ix2 r l)
      = projAt (m ((c : Thread nD τ).loc main_arg0)) (m ((c : Thread nD τ).loc main_arg1)) r (col l) := by
  have hT : r.val / 1024 * 9 + l.val / 512 < cfg0.N := by rw [show cfg0.N = 36 from N_0]; omega
  have h := (result_block m c ⟨_, hT⟩ ⟨r.val % 1024, by omega⟩ ⟨l.val % 512, by omega⟩).trans (out_apply _ _ _ _)
  have h0 : (r.val / 1024 * 9 + l.val / 512) / 9 * 1024 + r.val % 1024 = r.val := by omega
  have h1 : (r.val / 1024 * 9 + l.val / 512) % 9 * 512 + l.val % 512 = l.val := by omega
  simp only [h0, h1] at h
  refine h.trans (Eq.trans ?_ (rfl : projAt _ _ r (col l) = _))
  unfold projAt
  refine congrArg (Finset.sum (M := EReal) Finset.univ) (funext fun k => congrArg₂ (HMul.hMul (α := EReal) (β := EReal) (γ := EReal)) ?_ ?_)
  · refine (iblk_x m c _ _ k).trans (Eq.trans ?_ (rows_apply m c r k))
    exact congrArg (fun r => (V m c main_v5 : FVec Ideal S4096x4096 .bf16) (ix2 r k)) (Fin.ext h0)
  · refine (iblk_w m c _ k _).trans (Eq.trans ?_ (weights_apply m c k l))
    exact congrArg (fun l => (V m c main_v3 : FVec Ideal S4096x4608 .bf16) (ix2 k l)) (Fin.ext h1)

end Cert.ProjIdeal.Final

namespace Cert.Proof.ProjClaims

open Idealize.ShloMosaic Idealize.ShloMosaic.TcCoe Idealize.SL.Sem

section
open Cert.ProjRefIdeal Cert.ProjRefIdeal.Gen

/-- The reference's first result: the projection without the rotary key's columns and the gates'. -/
def own (h : FVec Ideal S16x256x4096 .f32) (w : FVec Ideal S4096x12864 .f32) : FVec Ideal S4096x4608 .f32 :=
  let proj : FVec Ideal S16x256x12864 .f32 := Host.dotGeneral dot_S16x256x4096_S4096x12864_S16x256x12864_2_0_01_1_n_n none h w
  shapeCast _ (concatenate S16x256x4608 2
    [⟨S16x256x1024, extractStridedSlice S16x256x1024 ![0, 0, 0] proj slices_S16x256x12864_S16x256x1024_0_0_0⟩,
     ⟨S16x256x512, extractStridedSlice S16x256x512 ![0, 0, 1024] proj slices_S16x256x12864_S16x256x512_0_0_1024⟩,
     ⟨S16x256x2048, extractStridedSlice S16x256x2048 ![0, 0, 1600] proj slices_S16x256x12864_S16x256x2048_0_0_1600⟩,
     ⟨S16x256x512, extractStridedSlice S16x256x512 ![0, 0, 3648] proj slices_S16x256x12864_S16x256x512_0_0_3648⟩,
     ⟨S16x256x512, extractStridedSlice S16x256x512 ![0, 0, 4160] proj slices_S16x256x12864_S16x256x512_0_0_4160⟩]
    concatenates_S16x256x1024_S16x256x512_S16x256x2048_S16x256x512_S16x256x512_S16x256x4608_d2) shapeCasts_S16x256x4608_S4096x4608

theorem own_apply (h : FVec Ideal S16x256x4096 .f32) (w : FVec Ideal S4096x12864 .f32) (r : Fin 4096) (l : Fin 4608) :
    own h w (ix2 r l) = Cert.ProjIdeal.Final.projAt h w r (Cert.ProjIdeal.Final.col l) := by
  unfold Cert.ProjIdeal.Final.projAt
  pointwise [own]
  repeat' split
  all_goals
    refine Finset.sum_congr rfl fun k _ => congrArg (h _ * ·) (congrArg w (congrArg (ix2 k) (Fin.ext ?_)))
    dsimp only
    split <;> omega
/-- The reference's second result: the grouped-query values' columns. -/
def values (h : FVec Ideal S16x256x4096 .f32) (w : FVec Ideal S4096x12864 .f32) : FVec Ideal S16x256x4x128 .f32 :=
  shapeCast _ (extractStridedSlice S16x256x512 ![0, 0, 4160]
    (Host.dotGeneral dot_S16x256x4096_S4096x12864_S16x256x12864_2_0_01_1_n_n none h w : FVec Ideal S16x256x12864 .f32)
    slices_S16x256x12864_S16x256x512_0_0_4160) shapeCasts_S16x256x512_S16x256x4x128

theorem values_apply (h : FVec Ideal S16x256x4096 .f32) (w : FVec Ideal S4096x12864 .f32) (b : Fin 16) (s : Fin 256) (e : Fin 4) (d : Fin 128) :
    values h w (ix4 b s e d) = Cert.ProjIdeal.Final.projAt h w ⟨b.val * 256 + s.val, by omega⟩ (Cert.ProjIdeal.Final.col ⟨4096 + (e.val * 128 + d.val), by omega⟩) := by
  unfold Cert.ProjIdeal.Final.projAt
  pointwise [values]
  refine Finset.sum_congr rfl fun k _ => congrArg₂ (HMul.hMul (α := EReal) (β := EReal) (γ := EReal)) (congrArg h ?_) (congrArg w ?_)
  · exact (congrArg₂ (fun x y => ix3 x y k) (Fin.ext (by dsimp only; omega)) (Fin.ext (by dsimp only; omega)))
  · exact congrArg (ix2 k) (Fin.ext (by dsimp only; split <;> omega))
end

theorem frame_proj : Cert.quiescent_Proj := fun m ρ _ => Cert.Proj.Gen.frame m ρ

theorem frame_ideal : Cert.quiescent_ProjIdeal := fun m ρ _ => Cert.ProjIdeal.Gen.frame m ρ

theorem frame_ref : Cert.quiescent_ProjRefIdeal := fun m ρ _ =>
  (θ_run Cert.ProjRefIdeal.defs _ _).mono (fun r h => ⟨fun c => (h c).2.2, sem_eq_zero_of_no_sems (by decide) r.2⟩)
    (Cert.ProjRefIdeal.Value.run (F := Ideal) m ρ)

theorem preserves : Cert.preserves_Proj_ProjIdeal := trivial

/-- The second result, read off the first: the values' columns of each row. -/
theorem tail_apply (m : (ℓ : Loc Cert.ProjIdeal.nD Cert.ProjIdeal.τ Cert.ProjIdeal.sig) → Buf (Elt Ideal) ℓ) (c : Dev Cert.ProjIdeal.nD)
    (b : Fin 16) (s : Fin 256) (e : Fin 4) (d : Fin 128) :
    (Pipeline.afterTail₀ Cert.ProjIdeal.cfgs (Cert.ProjIdeal.Gen.dats m) 0 (Cert.ProjIdeal.Gen.V0 m) [Cert.ProjIdeal.Gen.hostOps1] c
      Cert.ProjIdeal.main_v8 : FVec Ideal Cert.ProjIdeal.S16x256x4x128 .f32) (ix4 b s e d)
    = ((Cert.ProjIdeal.Gen.dats m 0 c).arrAt 2 Cert.ProjIdeal.cfg0.N : FVec Ideal Cert.ProjIdeal.S4096x4608 .f32)
        (ix2 ⟨b.val * 256 + s.val, by omega⟩ ⟨4096 + (e.val * 128 + d.val), by omega⟩) := by
  unfold Pipeline.afterTail₀
  simp only [List.flatten_cons, List.flatten_nil, List.append_nil]
  unfold Cert.ProjIdeal.Gen.hostOps1
  after_results
  rw [show Pipeline.withArrays (Cert.ProjIdeal.cfgs 0).spec c (Cert.ProjIdeal.Gen.V0 m c)
      (fun w => (Cert.ProjIdeal.Gen.dats m 0 c).arrAt w (Cert.ProjIdeal.cfgs 0).N) (Proc.tc.devRef Cert.ProjIdeal.main_v6)
      = (Cert.ProjIdeal.Gen.dats m 0 c).arrAt 2 Cert.ProjIdeal.cfg0.N from
    Pipeline.withArrays_arr (Cert.ProjIdeal.cfgs 0).spec (by decide) c (Cert.ProjIdeal.Gen.V0 m c) _ 2]
  generalize (Cert.ProjIdeal.Gen.dats m 0 c).arrAt 2 Cert.ProjIdeal.cfg0.N = y
  pointwise

theorem algebraic : Cert.algebraic_ProjIdeal_ProjRefIdeal := by
  pair_intro
  · run_from (Cert.ProjIdeal.Gen.run_main m g) & (Cert.ProjIdeal.Gen.unchanged m g)
  · run_from (Cert.ProjRefIdeal.Value.run (F := Ideal) m' g')
    · show own _ _ = _
      funext i
      rw [eq_ix2 i]
      exact (own_apply _ _ _ _).trans (Cert.ProjIdeal.Final.result_apply m c _ _).symm
    · show values _ _ = _
      funext i
      rw [eq_ix4 i]
      exact (values_apply _ _ _ _ _ _).trans ((tail_apply m c _ _ _ _).trans (Cert.ProjIdeal.Final.result_apply m c _ _)).symm

end Cert.Proof.ProjClaims

end
-- ==== Proof.KrClaim.lean ====
/-
  The rotary key projection: each element of the result is the activations' row times the weights' column, and the padded columns are dropped.
-/
module

public import proofs.«01_k».proof.Defs
public import proofs.«01_k».proof.Proof.Literals
public import proofs.«01_k».proof.Proof.Gen.Kr.Frame
public import proofs.«01_k».proof.Proof.Gen.KrIdeal.Frame
public import proofs.«01_k».proof.Proof.Gen.KrRefIdeal.Run
public import Idealize.ShloMosaic.Lib.Pointwise
public import Idealize.ShloMosaic.Lib.Claim
public import Idealize.ShloMosaic.Lib.Pipeline.Value
public import Idealize.ShloMosaic.Lib.StableHlo.Run
public import Idealize.ShloMosaic.Lib.Tactic
public import Idealize.ShloMosaic.Lib.Quiescent

@[expose] public section

set_option maxRecDepth 16384

noncomputable section

namespace Cert.KrIdeal.Final

open Cert.KrIdeal Cert.KrIdeal.Gen Idealize.ShloMosaic Idealize.ShloMosaic.TcCoe Idealize.SL.Sem

/-- The body's result, at an index. -/
theorem out_apply (x : FVec Ideal S1024x4096 .bf16) (y : FVec Ideal S4096x128 .bf16) (r : Fin 1024) (l : Fin 128) :
    out0_2 (F := Ideal) x y (ix2 r l) = ∑ k : Fin 4096, x (ix2 r k) * y (ix2 k l) := by
  unfold out0_2
  have hz : (![0, 0] : Fin 2 → ℕ) = fun _ => 0 := funext fun a => by fin_cases a <;> rfl
  rw [View.canon_unit_zero hz, View.ld_unit_zero hz, View.ld_unit_zero hz]
  pointwise [k0_pay1]

variable (m : (ℓ : Loc nD τ sig) → Buf (Elt Ideal) ℓ)

theorem index_x : ∀ t : Fin grid0.N, win0_0.index t 0 = t.val ∧ win0_0.index t 1 = 0 := by decide +kernel
theorem index_w : ∀ t : Fin grid0.N, win0_1.index t 0 = 0 ∧ win0_1.index t 1 = 0 := by decide +kernel
theorem index_o : ∀ t : Fin grid0.N, win0_2.index t 0 = t.val ∧ win0_2.index t 1 = 0 := by decide +kernel

theorem lt_N (t : Fin cfg0.N) : t.val < 4 := Nat.lt_of_lt_of_eq t.isLt N_0

theorem iblk_x (c : Dev nD) (t : Fin cfg0.N) (r : Fin 1024) (l : Fin 4096) :
    (iblk m c 0 t : FVec Ideal S1024x4096 .bf16) (ix2 r l) = (V m c main_v4 : FVec Ideal S4096x4096 .bf16)
      (ix2 ⟨t.val * 1024 + r.val, by have := lt_N t; omega⟩ l) := by
  unfold iblk
  rw [View.read_apply]
  show (V m c main_v4 : FVec Ideal S4096x4096 .bf16) _ = _
  congr 1
  funext a
  obtain ⟨e0, e1⟩ := index_x t
  apply Fin.ext
  match a with
  | ⟨0, _⟩ => show win0_0.index t 0 * 1024 + 1 * r.val = t.val * 1024 + r.val; rw [e0]; omega
  | ⟨1, _⟩ => show win0_0.index t 1 * 4096 + 1 * l.val = l.val; rw [e1]; omega

theorem iblk_w (c : Dev nD) (t : Fin cfg0.N) (r : Fin 4096) (l : Fin 128) :
    (iblk m c 1 t : FVec Ideal S4096x128 .bf16) (ix2 r l) = (V m c main_v2 : FVec Ideal S4096x128 .bf16)
      (ix2 r l) := by
  unfold iblk
  rw [View.read_apply]
  show (V m c main_v2 : FVec Ideal S4096x128 .bf16) _ = _
  congr 1
  funext a
  obtain ⟨e0, e1⟩ := index_w t
  apply Fin.ext
  match a with
  | ⟨0, _⟩ => show win0_1.index t 0 * 4096 + 1 * r.val = r.val; rw [e0]; omega
  | ⟨1, _⟩ => show win0_1.index t 1 * 128 + 1 * l.val = l.val; rw [e1]; omega

theorem index_inj (t t' : Fin cfg0.N) (h : win0_2.index t = win0_2.index t') : t = t' := by
  have h0 := congrFun h 0
  have h1 := congrFun h 1
  rw [(index_o t).1, (index_o t').1] at h0
  rw [(index_o t).2, (index_o t').2] at h1
  apply Fin.ext
  have := lt_N t
  have := lt_N t'
  omega

/-- An element of the result array is that element of the block holding it. -/
theorem result_block (c : Dev nD) (t : Fin cfg0.N) (r : Fin 1024) (l : Fin 128) :
    ((dats m 0 c).arrAt 2 cfg0.N : FVec Ideal S4096x128 .f32)
      (ix2 ⟨t.val * 1024 + r.val, by have := lt_N t; omega⟩ l)
    = out0_2 (F := Ideal) (iblk m c 0 t) (iblk m c 1 t) (ix2 r l) := by
  have h := congrFun ((dats m 0 c).read_blk_arrAt_eq_flushed 2 (fun t t' _ _ hne => (cfg0.win 2).disjoint_blk fun h => hne (index_inj t t' h))
    cfg0.N t t.isLt (flush0_2 t)) (ix2 r l : S1024x128.Idx)
  rw [View.read_apply] at h
  refine Eq.trans ?_ (h.trans ?_)
  · show _ = ((dats m 0 c).arrAt 2 cfg0.N : FVec Ideal S4096x128 .f32) _
    congr 1
    funext a
    obtain ⟨e0, e1⟩ := index_o t
    apply Fin.ext
    match a with
    | ⟨0, _⟩ => show t.val * 1024 + r.val = win0_2.index t 0 * 1024 + 1 * r.val; rw [e0]; omega
    | ⟨1, _⟩ => show l.val = win0_2.index t 1 * 128 + 1 * l.val; rw [e1]; omega
  · show (cfg0.win 2).cut (grid0.coords t) ((dats m 0 c).after 2 t) (ix2 r l) = _
    rw [after0_2]
    rfl

/-- The activations the call is given. -/
theorem rows_apply (c : Dev nD) (r : Fin 4096) (k : Fin 4096) :
    (V m c main_v4 : FVec Ideal S4096x4096 .bf16) (ix2 r k) =
      (m ((c : Thread nD τ).loc main_arg0) : FVec Ideal S16x256x4096 .f32) (ix3 ⟨r.val / 256, by omega⟩ ⟨r.val % 256, by omega⟩ k) := by
  unfold V V0
  simp only [List.flatten_cons, List.flatten_nil, List.append_nil, List.cons_append, List.nil_append]
  unfold_abbrev_sides
  after_results
  pointwise

/-- The columns of the padded weights that hold the rotary key's. -/
theorem weights_apply (c : Dev nD) (k : Fin 4096) (l : Fin 64) :
    (V m c main_v2 : FVec Ideal S4096x128 .bf16) (ix2 k ⟨l.val, by omega⟩) =
      (m ((c : Thread nD τ).loc main_arg1) : FVec Ideal S4096x12864 .f32) (ix2 k ⟨1536 + l.val, by omega⟩) := by
  unfold V V0
  simp only [List.flatten_cons, List.flatten_nil, List.append_nil, List.cons_append, List.nil_append]
  unfold_abbrev_sides
  after_results
  show (pad S4096x128 ![0, 0] ![0, 64] ![0, 0] (extractStridedSlice S4096x64 ![0, 1536] (m ((c : Thread nD τ).loc main_arg1) : FVec Ideal S4096x12864 .f32)
      slices_S4096x12864_S4096x64_0_1536) _ pads_S4096x64_S4096x128_000_0640 h_S_ : FVec Ideal S4096x128 .f32) (ix2 k ⟨l.val, _⟩) = _
  pointwise

/-- An element of the projection: the activations' row times the weights' column. -/
def krAt (h : FVec Ideal S16x256x4096 .f32) (w : FVec Ideal S4096x12864 .f32) (b : Fin 16) (s : Fin 256) (l : Fin 64) : EReal :=
  ∑ k : Fin 4096, h (ix3 b s k) * w (ix2 k ⟨1536 + l.val, by omega⟩)

/-- An element of the call's result array, from the arguments. -/
theorem result_apply (c : Dev nD) (b : Fin 16) (s : Fin 256) (l : Fin 64) :
    ((dats m 0 c).arrAt 2 cfg0.N : FVec Ideal S4096x128 .f32) (ix2 ⟨b.val * 256 + s.val, by omega⟩ ⟨l.val, by omega⟩)
      = krAt (m ((c : Thread nD τ).loc main_arg0)) (m ((c : Thread nD τ).loc main_arg1)) b s l := by
  have hT : (b.val * 256 + s.val) / 1024 < cfg0.N := by rw [show cfg0.N = 4 from N_0]; omega
  have h := (result_block m c ⟨_, hT⟩ ⟨(b.val * 256 + s.val) % 1024, by omega⟩ ⟨l.val, by omega⟩).trans (out_apply _ _ _ _)
  have h0 : (b.val * 256 + s.val) / 1024 * 1024 + (b.val * 256 + s.val) % 1024 = b.val * 256 + s.val := by omega
  simp only [h0] at h
  refine h.trans (Eq.trans ?_ (rfl : krAt _ _ b s l = _))
  unfold krAt
  refine congrArg (Finset.sum (M := EReal) Finset.univ) (funext fun k => congrArg₂ (HMul.hMul (α := EReal) (β := EReal) (γ := EReal)) ?_ ?_)
  · refine (iblk_x m c _ _ k).trans (Eq.trans ?_ ((rows_apply m c ⟨b.val * 256 + s.val, by omega⟩ k).trans ?_))
    · exact congrArg (fun r => (V m c main_v4 : FVec Ideal S4096x4096 .bf16) (ix2 r k)) (Fin.ext h0)
    · exact congrArg (m ((c : Thread nD τ).loc main_arg0)) (congrArg₂ (fun x y => ix3 x y k) (Fin.ext (by dsimp only; omega)) (Fin.ext (by dsimp only; omega)))
  · exact (iblk_w m c _ k _).trans (weights_apply m c k l)

end Cert.KrIdeal.Final

namespace Cert.Proof.KrClaims

open Idealize.ShloMosaic Idealize.ShloMosaic.TcCoe Idealize.SL.Sem

section
open Cert.KrRefIdeal Cert.KrRefIdeal.Gen

/-- The reference's result: the rotary key's columns of the projection. -/
def kr (h : FVec Ideal S16x256x4096 .f32) (w : FVec Ideal S4096x12864 .f32) : FVec Ideal S16x256x64 .f32 :=
  extractStridedSlice S16x256x64 ![0, 0, 1536]
    (Host.dotGeneral dot_S16x256x4096_S4096x12864_S16x256x12864_2_0_01_1_n_n none h w : FVec Ideal S16x256x12864 .f32)
    slices_S16x256x12864_S16x256x64_0_0_1536

theorem kr_apply (h : FVec Ideal S16x256x4096 .f32) (w : FVec Ideal S4096x12864 .f32) (b : Fin 16) (s : Fin 256) (l : Fin 64) :
    kr h w (ix3 b s l) = Cert.KrIdeal.Final.krAt h w b s l := by
  unfold Cert.KrIdeal.Final.krAt
  pointwise [kr]

end

theorem frame : Cert.quiescent_Kr := fun m ρ _ => Cert.Kr.Gen.frame m ρ

theorem frame_ideal : Cert.quiescent_KrIdeal := fun m ρ _ => Cert.KrIdeal.Gen.frame m ρ

theorem frame_ref : Cert.quiescent_KrRefIdeal := fun m ρ _ =>
  (θ_run Cert.KrRefIdeal.defs _ _).mono (fun r h => ⟨fun c => (h c).2, sem_eq_zero_of_no_sems (by decide) r.2⟩)
    (Cert.KrRefIdeal.Value.run (F := Ideal) m ρ)

theorem preserves : Cert.preserves_Kr_KrIdeal := trivial

/-- The result, read off the call's result array. -/
theorem tail_apply (m : (ℓ : Loc Cert.KrIdeal.nD Cert.KrIdeal.τ Cert.KrIdeal.sig) → Buf (Elt Ideal) ℓ) (c : Dev Cert.KrIdeal.nD)
    (b : Fin 16) (s : Fin 256) (l : Fin 64) :
    (Pipeline.afterTail₀ Cert.KrIdeal.cfgs (Cert.KrIdeal.Gen.dats m) 0 (Cert.KrIdeal.Gen.V0 m) [Cert.KrIdeal.Gen.hostOps1] c
      Cert.KrIdeal.main_v7 : FVec Ideal Cert.KrIdeal.S16x256x64 .f32) (ix3 b s l)
    = ((Cert.KrIdeal.Gen.dats m 0 c).arrAt 2 Cert.KrIdeal.cfg0.N : FVec Ideal Cert.KrIdeal.S4096x128 .f32)
        (ix2 ⟨b.val * 256 + s.val, by omega⟩ ⟨l.val, by omega⟩) := by
  unfold Pipeline.afterTail₀
  simp only [List.flatten_cons, List.flatten_nil, List.append_nil]
  unfold Cert.KrIdeal.Gen.hostOps1
  after_results
  rw [show Pipeline.withArrays (Cert.KrIdeal.cfgs 0).spec c (Cert.KrIdeal.Gen.V0 m c)
      (fun w => (Cert.KrIdeal.Gen.dats m 0 c).arrAt w (Cert.KrIdeal.cfgs 0).N) (Proc.tc.devRef Cert.KrIdeal.main_v5)
      = (Cert.KrIdeal.Gen.dats m 0 c).arrAt 2 Cert.KrIdeal.cfg0.N from
    Pipeline.withArrays_arr (Cert.KrIdeal.cfgs 0).spec (by decide) c (Cert.KrIdeal.Gen.V0 m c) _ 2]
  generalize (Cert.KrIdeal.Gen.dats m 0 c).arrAt 2 Cert.KrIdeal.cfg0.N = y
  pointwise

/-- The kernel and the reference end with equal results. -/
theorem algebraic : Cert.algebraic_KrIdeal_KrRefIdeal := by
  pair_intro
  · run_from (Cert.KrIdeal.Gen.run_main m g) & (Cert.KrIdeal.Gen.unchanged m g)
  · run_from (Cert.KrRefIdeal.Value.run (F := Ideal) m' g')
    show kr _ _ = _
    funext i
    rw [eq_ix3 i]
    exact (kr_apply _ _ _ _ _).trans ((tail_apply m c _ _ _).trans (Cert.KrIdeal.Final.result_apply m c _ _ _)).symm

end Cert.Proof.KrClaims

end
-- ==== Proof.GatesClaim.lean ====
/-
  The two gates: each element of the result is the logistic function of the activations' row times the weights' column.
-/
module

public import proofs.«01_k».proof.Defs
public import proofs.«01_k».proof.Proof.Literals
public import proofs.«01_k».proof.Proof.Gen.Gates.Frame
public import proofs.«01_k».proof.Proof.Gen.GatesIdeal.Value
public import proofs.«01_k».proof.Proof.Gen.GatesRefIdeal.Run
public import Idealize.ShloMosaic.Lib.Pointwise
public import Idealize.ShloMosaic.Lib.Claim
public import Idealize.ShloMosaic.Lib.Pipeline.Value
public import Idealize.ShloMosaic.Lib.StableHlo.Run
public import Idealize.ShloMosaic.Lib.Tactic
public import Idealize.ShloMosaic.Lib.Quiescent

@[expose] public section

set_option maxRecDepth 16384

noncomputable section

namespace Cert.GatesIdeal.Final

open Cert.GatesIdeal Cert.GatesIdeal.Gen Idealize.ShloMosaic Idealize.ShloMosaic.TcCoe Idealize.SL.Sem

/-- The body's result, at an index. -/
theorem out_apply (x : FVec Ideal S1024x4096 .bf16) (y : FVec Ideal S4096x1024 .bf16) (r : Fin 1024) (l : Fin 1024) :
    out0_2 (F := Ideal) x y (ix2 r l) = Ideal.logistic (∑ k : Fin 4096, x (ix2 r k) * y (ix2 k l)) := by
  unfold out0_2
  have hz : (![0, 0] : Fin 2 → ℕ) = fun _ => 0 := funext fun a => by fin_cases a <;> rfl
  rw [View.canon_unit_zero hz, View.ld_unit_zero hz, View.ld_unit_zero hz]
  pointwise [k0_pay1]

variable (m : (ℓ : Loc nD τ sig) → Buf (Elt Ideal) ℓ)

theorem index_x : ∀ t : Fin grid0.N, win0_0.index t 0 = t.val / 8 ∧ win0_0.index t 1 = 0 := by decide +kernel
theorem index_w : ∀ t : Fin grid0.N, win0_1.index t 0 = 0 ∧ win0_1.index t 1 = t.val % 8 := by decide +kernel
theorem index_o : ∀ t : Fin grid0.N, win0_2.index t 0 = t.val / 8 ∧ win0_2.index t 1 = t.val % 8 := by decide +kernel

theorem lt_N (t : Fin cfg0.N) : t.val < 256 := Nat.lt_of_lt_of_eq t.isLt N_0

theorem iblk_x (c : Dev nD) (t : Fin cfg0.N) (r : Fin 1024) (l : Fin 4096) :
    (iblk m c 0 t : FVec Ideal S1024x4096 .bf16) (ix2 r l) = (V m c main_v1 : FVec Ideal S32768x4096 .bf16)
      (ix2 ⟨t.val / 8 * 1024 + r.val, by have := lt_N t; omega⟩ l) := by
  unfold iblk
  rw [View.read_apply]
  show (V m c main_v1 : FVec Ideal S32768x4096 .bf16) _ = _
  congr 1
  funext a
  obtain ⟨e0, e1⟩ := index_x t
  apply Fin.ext
  match a with
  | ⟨0, _⟩ => show win0_0.index t 0 * 1024 + 1 * r.val = t.val / 8 * 1024 + r.val; rw [e0]; omega
  | ⟨1, _⟩ => show win0_0.index t 1 * 4096 + 1 * l.val = l.val; rw [e1]; omega

theorem iblk_w (c : Dev nD) (t : Fin cfg0.N) (r : Fin 4096) (l : Fin 1024) :
    (iblk m c 1 t : FVec Ideal S4096x1024 .bf16) (ix2 r l) = (V m c main_v3 : FVec Ideal S4096x8192 .bf16)
      (ix2 r ⟨t.val % 8 * 1024 + l.val, by have := lt_N t; omega⟩) := by
  unfold iblk
  rw [View.read_apply]
  show (V m c main_v3 : FVec Ideal S4096x8192 .bf16) _ = _
  congr 1
  funext a
  obtain ⟨e0, e1⟩ := index_w t
  apply Fin.ext
  match a with
  | ⟨0, _⟩ => show win0_1.index t 0 * 4096 + 1 * r.val = r.val; rw [e0]; omega
  | ⟨1, _⟩ => show win0_1.index t 1 * 1024 + 1 * l.val = t.val % 8 * 1024 + l.val; rw [e1]; omega

theorem index_inj (t t' : Fin cfg0.N) (h : win0_2.index t = win0_2.index t') : t = t' := by
  have h0 := congrFun h 0
  have h1 := congrFun h 1
  rw [(index_o t).1, (index_o t').1] at h0
  rw [(index_o t).2, (index_o t').2] at h1
  apply Fin.ext
  have := lt_N t
  have := lt_N t'
  omega

/-- An element of the result array is that element of the block holding it. -/
theorem result_block (c : Dev nD) (t : Fin cfg0.N) (r : Fin 1024) (l : Fin 1024) :
    ((dats m 0 c).arrAt 2 cfg0.N : FVec Ideal S32768x8192 .bf16)
      (ix2 ⟨t.val / 8 * 1024 + r.val, by have := lt_N t; omega⟩ ⟨t.val % 8 * 1024 + l.val, by have := lt_N t; omega⟩)
    = out0_2 (F := Ideal) (iblk m c 0 t) (iblk m c 1 t) (ix2 r l) := by
  have h := congrFun ((dats m 0 c).read_blk_arrAt_eq_flushed 2 (fun t t' _ _ hne => (cfg0.win 2).disjoint_blk fun h => hne (index_inj t t' h))
    cfg0.N t t.isLt (flush0_2 t)) (ix2 r l : S1024x1024.Idx)
  rw [View.read_apply] at h
  refine Eq.trans ?_ (h.trans ?_)
  · show _ = ((dats m 0 c).arrAt 2 cfg0.N : FVec Ideal S32768x8192 .bf16) _
    congr 1
    funext a
    obtain ⟨e0, e1⟩ := index_o t
    apply Fin.ext
    match a with
    | ⟨0, _⟩ => show t.val / 8 * 1024 + r.val = win0_2.index t 0 * 1024 + 1 * r.val; rw [e0]; omega
    | ⟨1, _⟩ => show t.val % 8 * 1024 + l.val = win0_2.index t 1 * 1024 + 1 * l.val; rw [e1]; omega
  · show (cfg0.win 2).cut (grid0.coords t) ((dats m 0 c).after 2 t) (ix2 r l) = _
    rw [after0_2]
    rfl

/-- The activations the call is given. -/
theorem rows_apply (c : Dev nD) (r : Fin 32768) (k : Fin 4096) :
    (V m c main_v1 : FVec Ideal S32768x4096 .bf16) (ix2 r k) =
      (m ((c : Thread nD τ).loc main_arg0) : FVec Ideal S8x4096x4096 .f32) (ix3 ⟨r.val / 4096, by omega⟩ ⟨r.val % 4096, by omega⟩ k) := by
  unfold V
  unfold_abbrev_sides
  after_results
  pointwise

/-- The gates' columns of the weights. -/
theorem weights_apply (c : Dev nD) (k : Fin 4096) (l : Fin 8192) :
    (V m c main_v3 : FVec Ideal S4096x8192 .bf16) (ix2 k l) =
      (m ((c : Thread nD τ).loc main_arg1) : FVec Ideal S4096x12864 .f32) (ix2 k ⟨4672 + l.val, by omega⟩) := by
  unfold V
  unfold_abbrev_sides
  after_results
  pointwise

/-- An element of the gates before the logistic function: the activations' row times the weights' column. -/
def gateAt (h : FVec Ideal S8x4096x4096 .f32) (w : FVec Ideal S4096x12864 .f32) (r : Fin 32768) (l : Fin 8192) : EReal :=
  ∑ k : Fin 4096, h (ix3 ⟨r.val / 4096, by omega⟩ ⟨r.val % 4096, by omega⟩ k) * w (ix2 k ⟨4672 + l.val, by omega⟩)

/-- An element of the result array, from the arguments. -/
theorem result_apply (c : Dev nD) (r : Fin 32768) (l : Fin 8192) :
    ((dats m 0 c).arrAt 2 cfg0.N : FVec Ideal S32768x8192 .bf16) (ix2 r l)
      = Ideal.logistic (gateAt (m ((c : Thread nD τ).loc main_arg0)) (m ((c : Thread nD τ).loc main_arg1)) r l) := by
  have hT : r.val / 1024 * 8 + l.val / 1024 < cfg0.N := by rw [show cfg0.N = 256 from N_0]; omega
  have h := (result_block m c ⟨_, hT⟩ ⟨r.val % 1024, by omega⟩ ⟨l.val % 1024, by omega⟩).trans (out_apply _ _ _ _)
  have h0 : (r.val / 1024 * 8 + l.val / 1024) / 8 * 1024 + r.val % 1024 = r.val := by omega
  have h1 : (r.val / 1024 * 8 + l.val / 1024) % 8 * 1024 + l.val % 1024 = l.val := by omega
  simp only [h0, h1] at h
  refine h.trans (congrArg Ideal.logistic (Eq.trans ?_ (rfl : gateAt _ _ r l = _)))
  unfold gateAt
  refine congrArg (Finset.sum (M := EReal) Finset.univ) (funext fun k => congrArg₂ (HMul.hMul (α := EReal) (β := EReal) (γ := EReal)) ?_ ?_)
  · refine (iblk_x m c _ _ k).trans (Eq.trans ?_ (rows_apply m c r k))
    exact congrArg (fun r => (V m c main_v1 : FVec Ideal S32768x4096 .bf16) (ix2 r k)) (Fin.ext h0)
  · refine (iblk_w m c _ k _).trans (Eq.trans ?_ (weights_apply m c k l))
    exact congrArg (fun l => (V m c main_v3 : FVec Ideal S4096x8192 .bf16) (ix2 k l)) (Fin.ext h1)

end Cert.GatesIdeal.Final

namespace Cert.Proof.GatesClaims

open Idealize.ShloMosaic Idealize.ShloMosaic.TcCoe Idealize.SL.Sem

section
open Cert.GatesRefIdeal Cert.GatesRefIdeal.Gen

/-- The reference's result: one over one plus the exponential of the negated gates' columns of the projection. -/
def gates (h : FVec Ideal S8x4096x4096 .f32) (w : FVec Ideal S4096x12864 .f32) : FVec Ideal S32768x8192 .bf16 :=
  truncf .bf16 (shapeCast _ (Host.divf (broadcastInDim S8x4096x8192 ![] bcast_S_S8x4096x8192 (constant S_ .f32 0x3F800000#32))
    (addf (broadcastInDim S8x4096x8192 ![] bcast_S_S8x4096x8192 (constant S_ .f32 0x3F800000#32))
      (Host.exp (Host.negf (extractStridedSlice S8x4096x8192 ![0, 0, 4672]
        (Host.dotGeneral dot_S8x4096x4096_S4096x12864_S8x4096x12864_2_0_01_1_n_n none h w : FVec Ideal S8x4096x12864 .f32)
        slices_S8x4096x12864_S8x4096x8192_0_0_4672))))) shapeCasts_S8x4096x8192_S32768x8192) bitsLt_bf16_f32

theorem gates_apply (h : FVec Ideal S8x4096x4096 .f32) (w : FVec Ideal S4096x12864 .f32) (r : Fin 32768) (l : Fin 8192) :
    gates h w (ix2 r l) = Ideal.logistic (Cert.GatesIdeal.Final.gateAt h w r l) := by
  unfold Cert.GatesIdeal.Final.gateAt
  pointwise [gates]
  rfl

end

theorem frame : Cert.quiescent_Gates := fun m ρ _ => Cert.Gates.Gen.frame m ρ

theorem frame_ideal : Cert.quiescent_GatesIdeal := fun m ρ _ => Cert.GatesIdeal.Gen.frame m ρ

theorem frame_ref : Cert.quiescent_GatesRefIdeal := fun m ρ _ =>
  (θ_run Cert.GatesRefIdeal.defs _ _).mono (fun r h => ⟨fun c => (h c).2, sem_eq_zero_of_no_sems (by decide) r.2⟩)
    (Cert.GatesRefIdeal.Value.run (F := Ideal) m ρ)

theorem preserves : Cert.preserves_Gates_GatesIdeal := trivial

/-- The kernel and the reference end with equal results. -/
theorem algebraic : Cert.algebraic_GatesIdeal_GatesRefIdeal := by
  pair_intro
  · run_from (Cert.GatesIdeal.Value.run_blocks (F := Ideal) m g)
  · run_from (Cert.GatesRefIdeal.Value.run (F := Ideal) m' g')
    show gates _ _ = _
    funext i
    rw [eq_ix2 i]
    exact (gates_apply _ _ _ _).trans (Cert.GatesIdeal.Final.result_apply m c _ _).symm

end Cert.Proof.GatesClaims

end
-- ==== Proof.MlaRow.lean ====
/-
  The keys and values of the MLA attention as reference.py writes them: a head's key is its 128 columns without position and then the
  64 columns of the rotary key that all heads share (`keyOf`), its value the 128 columns after (`valOf`).
-/
module

public import proofs.«01_k».proof.Proof.SoftmaxRow
public import Idealize.ShloMosaic.Lib.Pointwise

@[expose] public section

noncomputable section

namespace Cert.Mla

open Idealize.ShloMosaic

/-- Column `e` of head `h`'s key of token `s`. -/
def keyOf {N : ℕ} (kv : FVec Ideal ⟨4, ![8, N, 16, 256]⟩ .f32) (kr : FVec Ideal ⟨3, ![8, N, 64]⟩ .f32) (b : Fin 8) (s : Fin N) (h : Fin 16)
    (e : Fin 192) : EReal :=
  if he : e.val < 128 then kv (ix4 b s h ⟨e.val, by omega⟩) else kr (ix3 b s ⟨e.val - 128, by omega⟩)

/-- Column `d` of head `h`'s value of token `s`. -/
def valOf {N : ℕ} (kv : FVec Ideal ⟨4, ![8, N, 16, 256]⟩ .f32) (b : Fin 8) (s : Fin N) (h : Fin 16) (d : Fin 128) : EReal :=
  kv (ix4 b s h ⟨128 + d.val, by omega⟩)

/-- `f` on the first columns, and zero on the rest. -/
def padded (f : Fin 192 → EReal) (e : Fin 256) : EReal := if he : e.val < 192 then f ⟨e.val, he⟩ else 0

/-- Zero columns add nothing to a product. -/
theorem sum_padded (q k : Fin 192 → EReal) : ∑ e, padded q e * padded k e = ∑ e, q e * k e := by
  rw [Fin.sum_univ_add (a := 192) (b := 64) (fun e : Fin 256 => padded q e * padded k e)]
  have h0 : ∀ j : Fin 64, padded q (Fin.natAdd 192 j) * padded k (Fin.natAdd 192 j) = 0 := by
    intro j
    unfold padded
    rw [dif_neg (by simp), zero_mul]
  rw [Finset.sum_eq_zero fun j _ => h0 j, add_zero]
  refine Finset.sum_congr rfl fun e _ => ?_
  unfold padded
  rw [dif_pos (show (Fin.castAdd 64 e).val < 192 from e.isLt), dif_pos (show (Fin.castAdd 64 e).val < 192 from e.isLt)]
  rfl

end Cert.Mla

end
-- ==== Proof.MlaHost.lean ====
/-
  The arrays the MLA attention's call is given, made of the arguments: the queries scaled and filled with zero columns
  (`queries_apply`), and the heads' keys, filled too, before the heads' values (`tokKeys_apply`, `tokVals_apply`, and `ctx…` for the
  context's).
-/
module

public import proofs.«01_k».proof.Proof.MlaRow
public import proofs.«01_k».proof.Proof.Literals
public import proofs.«01_k».proof.Proof.Gen.MlaIdeal.Value
public import Idealize.ShloMosaic.Lib.StableHlo.Run
public import Idealize.ShloMosaic.Lib.KernelVsHost
public import Idealize.ShloMosaic.Lib.Pointwise
public import Idealize.ShloMosaic.Lib.Tactic

@[expose] public section

set_option maxRecDepth 16384

noncomputable section

namespace Cert.MlaIdeal.Final

open Cert.MlaIdeal Cert.MlaIdeal.Gen Idealize.ShloMosaic Idealize.ShloMosaic.TcCoe Idealize.SL.Sem

/-- The tokens' keys: each head's 128 columns, the rotary key's 64 and 64 of zeros. -/
def tokHeads (kv : FVec Ideal S8x4096x16x256 .f32) (kr : FVec Ideal S8x4096x64 .f32) : FVec Ideal S8x4096x16x256 .f32 :=
  concatenate S8x4096x16x256 3 [⟨S8x4096x16x128, extractStridedSlice S8x4096x16x128 ![0, 0, 0, 0] kv slices_S8x4096x16x256_S8x4096x16x128_0_0_0_0⟩,
    ⟨S8x4096x16x64, broadcastInDim S8x4096x16x64 ![0, 1, 2, 3] bcast_S8x4096x1x64_S8x4096x16x64_0_1_2_3 (broadcastInDim S8x4096x1x64 ![0, 1, 3] bcast_S8x4096x64_S8x4096x1x64_0_1_3 kr)⟩,
    ⟨S8x4096x16x64, broadcastInDim S8x4096x16x64 ![] bcast_S_S8x4096x16x64 (constant S_ .f32 0x00000000#32)⟩] concatenates_S8x4096x16x128_S8x4096x16x64_S8x4096x16x64_S8x4096x16x256_d3

/-- The tokens' values. -/
def tokValues (kv : FVec Ideal S8x4096x16x256 .f32) : FVec Ideal S8x4096x2048 .f32 :=
  shapeCast S8x4096x2048 (extractStridedSlice S8x4096x16x128 ![0, 0, 0, 128] kv slices_S8x4096x16x256_S8x4096x16x128_0_0_0_128) shapeCasts_S8x4096x16x128_S8x4096x2048

/-- The tokens' values behind its keys. -/
def tokJoined (x : FVec Ideal S8x4096x16x256 .f32) (y : FVec Ideal S8x4096x2048 .f32) : FVec Ideal S8x4096x6144 .bf16 :=
  truncf .bf16 (concatenate S8x4096x6144 2 [⟨S8x4096x4096, shapeCast S8x4096x4096 x shapeCasts_S8x4096x16x256_S8x4096x4096⟩, ⟨S8x4096x2048, y⟩] concatenates_S8x4096x4096_S8x4096x2048_S8x4096x6144_d2) bitsLt_bf16_f32

theorem tokHeads_apply (kv : FVec Ideal S8x4096x16x256 .f32) (kr : FVec Ideal S8x4096x64 .f32) (b : Fin 8) (s : Fin 4096) (h : Fin 16) (e : Fin 256) :
    tokHeads kv kr (ix4 b s h e) = Mla.padded (Mla.keyOf kv kr b s h) e := by
  unfold Mla.padded Mla.keyOf
  pointwise [tokHeads, Lit.zero]
  by_cases h1 : e.val < 128
  · rw [dif_pos h1, dif_pos (show e.val < 192 by omega), dif_pos h1]
  · rw [dif_neg h1]
    by_cases h2 : e.val < 192
    · rw [dif_pos (show e.val - 128 < 64 by omega), dif_pos h2, dif_neg h1]
    · rw [dif_neg (show ¬ e.val - 128 < 64 by omega), dif_neg h2]

theorem tokValues_apply (kv : FVec Ideal S8x4096x16x256 .f32) (b : Fin 8) (s : Fin 4096) (l : Fin 2048) :
    tokValues kv (ix3 b s l) = Mla.valOf kv b s ⟨l.val / 128, by omega⟩ ⟨l.val % 128, by omega⟩ := by
  unfold Mla.valOf
  pointwise [tokValues]

theorem tokJoined_apply (x : FVec Ideal S8x4096x16x256 .f32) (y : FVec Ideal S8x4096x2048 .f32) (b : Fin 8) (s : Fin 4096) (l : Fin 6144) :
    tokJoined x y (ix3 b s l) = if h : l.val < 4096 then (x (ix4 b s ⟨l.val / 256, by omega⟩ ⟨l.val % 256, by omega⟩) : EReal)
      else y (ix3 b s ⟨l.val - 4096, by omega⟩) := by
  pointwise [tokJoined]

/-- The context's keys: each head's 128 columns, the rotary key's 64 and 64 of zeros. -/
def ctxHeads (kv : FVec Ideal S8x512x16x256 .f32) (kr : FVec Ideal S8x512x64 .f32) : FVec Ideal S8x512x16x256 .f32 :=
  concatenate S8x512x16x256 3 [⟨S8x512x16x128, extractStridedSlice S8x512x16x128 ![0, 0, 0, 0] kv slices_S8x512x16x256_S8x512x16x128_0_0_0_0⟩,
    ⟨S8x512x16x64, broadcastInDim S8x512x16x64 ![0, 1, 2, 3] bcast_S8x512x1x64_S8x512x16x64_0_1_2_3 (broadcastInDim S8x512x1x64 ![0, 1, 3] bcast_S8x512x64_S8x512x1x64_0_1_3 kr)⟩,
    ⟨S8x512x16x64, broadcastInDim S8x512x16x64 ![] bcast_S_S8x512x16x64 (constant S_ .f32 0x00000000#32)⟩] concatenates_S8x512x16x128_S8x512x16x64_S8x512x16x64_S8x512x16x256_d3

/-- The context's values. -/
def ctxValues (kv : FVec Ideal S8x512x16x256 .f32) : FVec Ideal S8x512x2048 .f32 :=
  shapeCast S8x512x2048 (extractStridedSlice S8x512x16x128 ![0, 0, 0, 128] kv slices_S8x512x16x256_S8x512x16x128_0_0_0_128) shapeCasts_S8x512x16x128_S8x512x2048

/-- The context's values behind its keys. -/
def ctxJoined (x : FVec Ideal S8x512x16x256 .f32) (y : FVec Ideal S8x512x2048 .f32) : FVec Ideal S8x512x6144 .bf16 :=
  truncf .bf16 (concatenate S8x512x6144 2 [⟨S8x512x4096, shapeCast S8x512x4096 x shapeCasts_S8x512x16x256_S8x512x4096⟩, ⟨S8x512x2048, y⟩] concatenates_S8x512x4096_S8x512x2048_S8x512x6144_d2) bitsLt_bf16_f32

theorem ctxHeads_apply (kv : FVec Ideal S8x512x16x256 .f32) (kr : FVec Ideal S8x512x64 .f32) (b : Fin 8) (s : Fin 512) (h : Fin 16) (e : Fin 256) :
    ctxHeads kv kr (ix4 b s h e) = Mla.padded (Mla.keyOf kv kr b s h) e := by
  unfold Mla.padded Mla.keyOf
  pointwise [ctxHeads, Lit.zero]
  by_cases h1 : e.val < 128
  · rw [dif_pos h1, dif_pos (show e.val < 192 by omega), dif_pos h1]
  · rw [dif_neg h1]
    by_cases h2 : e.val < 192
    · rw [dif_pos (show e.val - 128 < 64 by omega), dif_pos h2, dif_neg h1]
    · rw [dif_neg (show ¬ e.val - 128 < 64 by omega), dif_neg h2]

theorem ctxValues_apply (kv : FVec Ideal S8x512x16x256 .f32) (b : Fin 8) (s : Fin 512) (l : Fin 2048) :
    ctxValues kv (ix3 b s l) = Mla.valOf kv b s ⟨l.val / 128, by omega⟩ ⟨l.val % 128, by omega⟩ := by
  unfold Mla.valOf
  pointwise [ctxValues]

theorem ctxJoined_apply (x : FVec Ideal S8x512x16x256 .f32) (y : FVec Ideal S8x512x2048 .f32) (b : Fin 8) (s : Fin 512) (l : Fin 6144) :
    ctxJoined x y (ix3 b s l) = if h : l.val < 4096 then (x (ix4 b s ⟨l.val / 256, by omega⟩ ⟨l.val % 256, by omega⟩) : EReal)
      else y (ix3 b s ⟨l.val - 4096, by omega⟩) := by
  pointwise [ctxJoined]

/-- The queries' scale. -/
abbrev σ : EReal := Ideal.div (Ideal.rsqrt (Ideal.ofBits .f32 0x43400000#32)) (Ideal.log (Ideal.ofBits .f32 0x40000000#32))

/-- The queries, scaled. -/
def scaled (q : FVec Ideal S8x4096x16x192 .f32) : FVec Ideal S8x4096x16x192 .f32 :=
  mulf q (broadcastInDim S8x4096x16x192 ![] bcast_S_S8x4096x16x192 (Host.divf (Host.rsqrt (constant S_ .f32 0x43400000#32)) (Host.log (constant S_ .f32 0x40000000#32))))

/-- Zero columns after each head's. -/
def filled (q : FVec Ideal S8x4096x16x192 .f32) : FVec Ideal S8x4096x16x256 .f32 :=
  pad S8x4096x16x256 ![0, 0, 0, 0] ![0, 0, 0, 64] ![0, 0, 0, 0] q (sitofp .f32 (constantI S_ 32 0#32)) pads_S8x4096x16x192_S8x4096x16x256_000_000_000_0640 h_S_

theorem scaled_apply (q : FVec Ideal S8x4096x16x192 .f32) (b : Fin 8) (t : Fin 4096) (h : Fin 16) (e : Fin 192) :
    scaled q (ix4 b t h e) = HMul.hMul (α := EReal) (β := EReal) (γ := EReal) (q (ix4 b t h e)) σ := by
  pointwise [scaled]

theorem fill_zero (i : S_.Idx) : (sitofp (F := Ideal) .f32 (constantI S_ 32 0#32) i : EReal) = 0 := by
  show (((0#32 : BitVec 32).toInt : ℝ) : EReal) = 0
  simp

theorem filled_apply (q : FVec Ideal S8x4096x16x192 .f32) (b : Fin 8) (t : Fin 4096) (h : Fin 16) (e : Fin 256) :
    filled q (ix4 b t h e) = Mla.padded (fun e => q (ix4 b t h e)) e := by
  unfold filled Mla.padded
  by_cases he : e.val < 192
  · rw [dif_pos he]
    refine pad_apply_of_inside _ _ _ _ _ _ _ _ (ix4 b t h (⟨e.val, he⟩ : Fin 192)) (fun a => ?_)
    fin_cases a
    · show b.val = 0 + b.val * (0 + 1); omega
    · show t.val = 0 + t.val * (0 + 1); omega
    · show h.val = 0 + h.val * (0 + 1); omega
    · show e.val = 0 + e.val * (0 + 1); omega
  · rw [dif_neg he]
    refine (pad_apply_of_not_inside _ _ _ _ _ _ _ _ (3 : Fin 4) (fun hin => he ?_)).trans (fill_zero _)
    have h3 : (e.val - 0) / (0 + 1) < 192 := hin.2.2
    omega

theorem flat_apply (q : FVec Ideal S8x4096x16x256 .f32) (b : Fin 8) (t : Fin 4096) (l : Fin 4096) :
    shapeCast S8x4096x4096 (truncf .bf16 q bitsLt_bf16_f32) shapeCasts_S8x4096x16x256_S8x4096x4096 (ix3 b t l)
      = (q (ix4 b t ⟨l.val / 256, by omega⟩ ⟨l.val % 256, by omega⟩) : EReal) := by
  pointwise

variable (m : (ℓ : Loc nD τ sig) → Buf (Elt Ideal) ℓ)

theorem queries_eq (c : Dev nD) : (V m c main_v27 : FVec Ideal S8x4096x4096 .bf16) =
    shapeCast S8x4096x4096 (truncf .bf16 (filled (scaled (m ((c : Thread nD τ).loc main_arg0)))) bitsLt_bf16_f32) shapeCasts_S8x4096x16x256_S8x4096x4096 := by
  unfold V
  simp only [List.flatten_cons, List.flatten_nil, List.append_nil, List.cons_append, List.nil_append]
  unfold_abbrev_sides
  after_results
  rfl

/-- The scaled queries the call is given, each head's columns followed by zero columns. -/
theorem queries_apply (c : Dev nD) (b : Fin 8) (t : Fin 4096) (l : Fin 4096) :
    (V m c main_v27 : FVec Ideal S8x4096x4096 .bf16) (ix3 b t l) =
      Mla.padded (fun e => HMul.hMul (α := EReal) (β := EReal) (γ := EReal)
        ((m ((c : Thread nD τ).loc main_arg0) : FVec Ideal S8x4096x16x192 .f32) (ix4 b t ⟨l.val / 256, by omega⟩ e)) σ) ⟨l.val % 256, by omega⟩ := by
  rw [queries_eq, flat_apply, filled_apply]
  congr 1

theorem tok_eq (c : Dev nD) : (V m c main_v16 : FVec Ideal S8x4096x6144 .bf16) =
    tokJoined (tokHeads (m ((c : Thread nD τ).loc main_arg1)) (m ((c : Thread nD τ).loc main_arg2))) (tokValues (m ((c : Thread nD τ).loc main_arg1))) := by
  unfold V
  simp only [List.flatten_cons, List.flatten_nil, List.append_nil, List.cons_append, List.nil_append]
  unfold_abbrev_sides
  after_results
  rfl

/-- The tokens' keys: head `h`'s columns, and zero columns to fill 256. -/
theorem tokKeys_apply (c : Dev nD) (b : Fin 8) (t : Fin 4096) (l : Fin 6144) (hl : l.val < 4096) :
    (V m c main_v16 : FVec Ideal S8x4096x6144 .bf16) (ix3 b t l) =
      Mla.padded (Mla.keyOf (m ((c : Thread nD τ).loc main_arg1) : FVec Ideal S8x4096x16x256 .f32) (m ((c : Thread nD τ).loc main_arg2) : FVec Ideal S8x4096x64 .f32)
        b t ⟨l.val / 256, by omega⟩) ⟨l.val % 256, by omega⟩ := by
  rw [tok_eq, tokJoined_apply, dif_pos hl, tokHeads_apply]

/-- The tokens' values. -/
theorem tokVals_apply (c : Dev nD) (b : Fin 8) (t : Fin 4096) (l : Fin 6144) (hl : ¬ l.val < 4096) :
    (V m c main_v16 : FVec Ideal S8x4096x6144 .bf16) (ix3 b t l) =
      Mla.valOf (m ((c : Thread nD τ).loc main_arg1) : FVec Ideal S8x4096x16x256 .f32) b t ⟨(l.val - 4096) / 128, by omega⟩ ⟨(l.val - 4096) % 128, by omega⟩ := by
  rw [tok_eq, tokJoined_apply, dif_neg hl, tokValues_apply]

theorem ctx_eq (c : Dev nD) : (V m c main_v26 : FVec Ideal S8x512x6144 .bf16) =
    ctxJoined (ctxHeads (m ((c : Thread nD τ).loc main_arg3)) (m ((c : Thread nD τ).loc main_arg4))) (ctxValues (m ((c : Thread nD τ).loc main_arg3))) := by
  unfold V
  simp only [List.flatten_cons, List.flatten_nil, List.append_nil, List.cons_append, List.nil_append]
  unfold_abbrev_sides
  after_results
  rfl

/-- The context's keys: head `h`'s columns, and zero columns to fill 256. -/
theorem ctxKeys_apply (c : Dev nD) (b : Fin 8) (t : Fin 512) (l : Fin 6144) (hl : l.val < 4096) :
    (V m c main_v26 : FVec Ideal S8x512x6144 .bf16) (ix3 b t l) =
      Mla.padded (Mla.keyOf (m ((c : Thread nD τ).loc main_arg3) : FVec Ideal S8x512x16x256 .f32) (m ((c : Thread nD τ).loc main_arg4) : FVec Ideal S8x512x64 .f32)
        b t ⟨l.val / 256, by omega⟩) ⟨l.val % 256, by omega⟩ := by
  rw [ctx_eq, ctxJoined_apply, dif_pos hl, ctxHeads_apply]

/-- The context's values. -/
theorem ctxVals_apply (c : Dev nD) (b : Fin 8) (t : Fin 512) (l : Fin 6144) (hl : ¬ l.val < 4096) :
    (V m c main_v26 : FVec Ideal S8x512x6144 .bf16) (ix3 b t l) =
      Mla.valOf (m ((c : Thread nD τ).loc main_arg3) : FVec Ideal S8x512x16x256 .f32) b t ⟨(l.val - 4096) / 128, by omega⟩ ⟨(l.val - 4096) % 128, by omega⟩ := by
  rw [ctx_eq, ctxJoined_apply, dif_neg hl, ctxValues_apply]

end Cert.MlaIdeal.Final

end
-- ==== Proof.MlaTile.lean ====
/-
  The block that one grid point of the MLA attention's kernel writes, element by element: sixteen tiles of 256 rows, each the base-two
  softmax of the row's scores against the tokens' and the context's keys, applied to their values (`out_apply`).
-/
module

public import proofs.«01_k».proof.Proof.Gen.MlaIdeal.Value
public import proofs.«01_k».proof.Proof.SoftmaxRow
public import proofs.«01_k».proof.Proof.Literals
public import Idealize.ShloMosaic.Lib.Pointwise

@[expose] public section

set_option maxRecDepth 16384

noncomputable section

namespace Cert.MlaIdeal.Tile

open Cert.MlaIdeal Cert.MlaIdeal.Gen Idealize.ShloMosaic Idealize.ShloMosaic.TcCoe Idealize.SL.Sem

theorem exp2_def (x : EReal) : (FloatOps.exp2 (F := Ideal) (φ := .f32) x : EReal) = Ideal.exp2 x := rfl

/-- One stored tile, 256 rows, at an index. -/
theorem tile_apply (k : FVec Ideal S4096x256 .bf16) (kc : FVec Ideal S512x256 .bf16) (v : FVec Ideal S4096x128 .bf16)
    (vc : FVec Ideal S512x128 .bf16) (q : FVec Ideal S1x256x256 .bf16) (r : Fin 256) (d : Fin 128) :
    k0_pay7 k kc v vc q (ix3 0 r d) = Attn.kRow
      (fun s : Fin 4096 => ∑ e : Fin 256, q (ix3 0 r e) * k (ix2 s e)) (fun s : Fin 512 => ∑ e : Fin 256, q (ix3 0 r e) * kc (ix2 s e))
      (fun s => v (ix2 s d)) (fun s => vc (ix2 s d)) := by
  pointwise [k0_pay7, exp2_def, Lit.neg_inf]
  rfl

/-- The result block of a grid point, from its blocks: element `(0, r, l)` is the attention of row `r`, column `l` of the values. -/
def block (x0 x1 : FVec Ideal S1x4096x256 .bf16) (x2 : FVec Ideal S1x4096x128 .bf16) (x3 : FVec Ideal S1x512x256 .bf16)
    (x4 : FVec Ideal S1x512x128 .bf16) (r : Fin 4096) (l : Fin 128) : EReal :=
  Attn.kRow
    (fun s : Fin 4096 => ∑ e : Fin 256, x0 (ix3 0 r e) * x1 (ix3 0 s e))
    (fun s : Fin 512 => ∑ e : Fin 256, x0 (ix3 0 r e) * x3 (ix3 0 s e))
    (fun s => x2 (ix3 0 s l)) (fun s => x4 (ix3 0 s l))

theorem keys_apply (x : FVec Ideal S1x4096x256 .bf16) (s : Fin 4096) (e : Fin 256) : k0_pay2 (F := Ideal) (View.ld x r0_0) (ix2 s e) = x (ix3 0 s e) := by
  pointwise [k0_pay2]
theorem ctxKeys_apply (x : FVec Ideal S1x512x256 .bf16) (s : Fin 512) (e : Fin 256) : k0_pay3 (F := Ideal) (View.ld x r0_1) (ix2 s e) = x (ix3 0 s e) := by
  pointwise [k0_pay3]
theorem values_apply (x : FVec Ideal S1x4096x128 .bf16) (s : Fin 4096) (e : Fin 128) : k0_pay4 (F := Ideal) (View.ld x r0_2) (ix2 s e) = x (ix3 0 s e) := by
  pointwise [k0_pay4]
theorem ctxValues_apply (x : FVec Ideal S1x512x128 .bf16) (s : Fin 512) (e : Fin 128) : k0_pay5 (F := Ideal) (View.ld x r0_3) (ix2 s e) = x (ix3 0 s e) := by
  pointwise [k0_pay5]

/-- A tile stored at row `a` is that part of `block`. -/
theorem piece (x0 x1 : FVec Ideal S1x4096x256 .bf16) (x2 : FVec Ideal S1x4096x128 .bf16) (x3 : FVec Ideal S1x512x256 .bf16)
    (x4 : FVec Ideal S1x512x128 .bf16) (a : ℕ) (ha : a + 256 ≤ 4096) (inq : ∀ i, (![0, a, 0] : Fin 3 → ℕ) i + S1x256x256.size i ≤ S1x4096x256.size i)
    (inb : ∀ i, (![0, a, 0] : Fin 3 → ℕ) i + S1x256x128.size i ≤ S1x4096x128.size i) (j : S1x256x128.Idx) :
    (k0_pay7 (F := Ideal) (k0_pay2 (View.ld x1 r0_0)) (k0_pay3 (View.ld x3 r0_1)) (k0_pay4 (View.ld x2 r0_2)) (k0_pay5 (View.ld x4 r0_3))
        (View.ld (Val := Elt Ideal) x0 (Rect.unit (s := S1x4096x256) ![0, a, 0] S1x256x256.size inq)) j : EReal)
      = (fun y : S1x4096x128.Idx => block x0 x1 x2 x3 x4 (y 1) (y 2)) ((Rect.unit (s := S1x4096x128) ![0, a, 0] S1x256x128.size inb).emb j) := by
  obtain ⟨j0, r, d, rfl⟩ : ∃ (j0 : Fin 1) (r : Fin 256) (d : Fin 128), j = ix3 j0 r d := ⟨j 0, j 1, j 2, by funext i; match i with | 0 => rfl | 1 => rfl | 2 => rfl⟩
  obtain rfl : j0 = 0 := Subsingleton.elim _ _
  rw [tile_apply]
  simp only [keys_apply, ctxKeys_apply, values_apply, ctxValues_apply]
  have e1 : (Rect.unit (s := S1x4096x128) ![0, a, 0] S1x256x128.size inb).emb (ix3 0 r d) 1 = (⟨a + r.val, by omega⟩ : Fin 4096) := by
    apply Fin.ext; show a + 1 * r.val = a + r.val; omega
  have e2 : (Rect.unit (s := S1x4096x128) ![0, a, 0] S1x256x128.size inb).emb (ix3 0 r d) 2 = d := by
    apply Fin.ext; show 0 + 1 * d.val = d.val; omega
  have hq : ∀ e : Fin 256, (View.ld (Val := Elt Ideal) (e' := .bf16) x0 (Rect.unit (s := S1x4096x256) ![0, a, 0] S1x256x256.size inq) (ix3 0 r e) : EReal)
      = x0 (ix3 0 ⟨a + r.val, by omega⟩ e) := by
    intro e
    show x0 _ = x0 _
    congr 1
    funext i
    apply Fin.ext
    match i with
    | 0 => rfl
    | 1 => show a + 1 * r.val = a + r.val; omega
    | 2 => show 0 + 1 * e.val = e.val; omega
  show _ = block x0 x1 x2 x3 x4 _ _
  rw [e1, e2]
  unfold block
  simp only [hq]

/-- The body's result block is `block` of the input blocks. -/
theorem out_apply (x0 x1 : FVec Ideal S1x4096x256 .bf16) (x2 : FVec Ideal S1x4096x128 .bf16) (x3 : FVec Ideal S1x512x256 .bf16)
    (x4 : FVec Ideal S1x512x128 .bf16) (y : S1x4096x128.Idx) :
    out0_5 (F := Ideal) x0 x1 x2 x3 x4 y = (fun y : S1x4096x128.Idx => block x0 x1 x2 x3 x4 (y 1) (y 2)) y := by
  unfold out0_5
  refine View.canon_apply_of_pieces (Val := Elt Ideal) (fun y : S1x4096x128.Idx => block x0 x1 x2 x3 x4 (y 1) (y 2)) _ ?_ y (cover0_5 _ _ _ _ _ _ _ _ _ _ _ _ _ _ _ _ y)
  simp only [List.forall_mem_cons, List.not_mem_nil, false_imp_iff, implies_true, and_true]
  refine ⟨fun j => ?_, fun j => ?_, fun j => ?_, fun j => ?_, fun j => ?_, fun j => ?_, fun j => ?_, fun j => ?_,
    fun j => ?_, fun j => ?_, fun j => ?_, fun j => ?_, fun j => ?_, fun j => ?_, fun j => ?_, fun j => ?_⟩ <;>
  exact Tile.piece x0 x1 x2 x3 x4 _ (by decide) _ _ j

end Cert.MlaIdeal.Tile
-- ==== Proof.MlaValue.lean ====
/-
  The MLA attention kernel's result array, from its arguments: each block a grid point reads is a part of the arrays the call is given
  (`iblk_q` and so on), each block it writes is `Tile.block` of those, and an element of the result array is the element of the
  block that holds it (`result_block`).
-/
module

public import proofs.«01_k».proof.Proof.MlaTile
public import Idealize.ShloMosaic.Lib.Pipeline.Value
public import Idealize.ShloMosaic.Lib.StableHlo.Run
public import Idealize.ShloMosaic.Lib.Tactic

@[expose] public section

set_option maxRecDepth 16384

noncomputable section

namespace Cert.MlaIdeal.Final

open Cert.MlaIdeal Cert.MlaIdeal.Gen Idealize.ShloMosaic Idealize.ShloMosaic.TcCoe Idealize.SL.Sem

variable (m : (ℓ : Loc nD τ sig) → Buf (Elt Ideal) ℓ)

theorem index_q : ∀ t : Fin grid0.N, win0_0.index t 0 = t.val / 16 ∧ win0_0.index t 1 = 0 ∧ win0_0.index t 2 = t.val % 16 := by
  decide +kernel
theorem index_k : ∀ t : Fin grid0.N, win0_1.index t 0 = t.val / 16 ∧ win0_1.index t 1 = 0 ∧ win0_1.index t 2 = t.val % 16 := by
  decide +kernel
theorem index_v : ∀ t : Fin grid0.N, win0_2.index t 0 = t.val / 16 ∧ win0_2.index t 1 = 0 ∧ win0_2.index t 2 = 32 + t.val % 16 := by
  decide +kernel
theorem index_kc : ∀ t : Fin grid0.N, win0_3.index t 0 = t.val / 16 ∧ win0_3.index t 1 = 0 ∧ win0_3.index t 2 = t.val % 16 := by
  decide +kernel
theorem index_vc : ∀ t : Fin grid0.N, win0_4.index t 0 = t.val / 16 ∧ win0_4.index t 1 = 0 ∧ win0_4.index t 2 = 32 + t.val % 16 := by
  decide +kernel
theorem index_o : ∀ t : Fin grid0.N, win0_5.index t 0 = t.val / 16 ∧ win0_5.index t 1 = 0 ∧ win0_5.index t 2 = t.val % 16 := by
  decide +kernel

theorem lt_N (t : Fin cfg0.N) : t.val < 128 := Nat.lt_of_lt_of_eq t.isLt N_0

/-- A grid point's block of an array of queries. -/
theorem read_q (t : Fin cfg0.N) (A : FVec Ideal S8x4096x4096 .bf16) (r : Fin 4096) (l : Fin 256) :
    (((cfg0.win 0).blk t).view.read (Elt Ideal) A : FVec Ideal S1x4096x256 .bf16) (ix3 0 r l)
      = A (ix3 ⟨t.val / 16, by have := lt_N t; omega⟩ r ⟨t.val % 16 * 256 + l.val, by omega⟩) := by
  rw [View.read_apply]
  refine congrArg A (funext fun a => ?_)
  obtain ⟨e0, e1, e2⟩ := index_q t
  apply Fin.ext
  match a with
  | ⟨0, _⟩ => show win0_0.index t 0 * 1 + 1 * (0 : ℕ) = t.val / 16; rw [e0]; omega
  | ⟨1, _⟩ => show win0_0.index t 1 * 4096 + 1 * r.val = r.val; rw [e1]; omega
  | ⟨2, _⟩ => show win0_0.index t 2 * 256 + 1 * l.val = t.val % 16 * 256 + l.val; rw [e2]; omega

/-- The queries of a grid point. -/
theorem iblk_q (c : Dev nD) (t : Fin cfg0.N) (r : Fin 4096) (l : Fin 256) :
    (iblk m c 0 t : FVec Ideal S1x4096x256 .bf16) (ix3 0 r l) = (V m c main_v27 : FVec Ideal S8x4096x4096 .bf16)
      (ix3 ⟨t.val / 16, by have := lt_N t; omega⟩ r ⟨t.val % 16 * 256 + l.val, by omega⟩) :=
  read_q t (V m c main_v27) r l

/-- The keys of a grid point. -/
theorem iblk_k (c : Dev nD) (t : Fin cfg0.N) (r : Fin 4096) (l : Fin 256) :
    (iblk m c 1 t : FVec Ideal S1x4096x256 .bf16) (ix3 0 r l) = (V m c main_v16 : FVec Ideal S8x4096x6144 .bf16)
      (ix3 ⟨t.val / 16, by have := lt_N t; omega⟩ r ⟨t.val % 16 * 256 + l.val, by omega⟩) := by
  unfold iblk
  rw [View.read_apply]
  show (V m c main_v16 : FVec Ideal S8x4096x6144 .bf16) _ = _
  congr 1
  funext a
  obtain ⟨e0, e1, e2⟩ := index_k t
  apply Fin.ext
  match a with
  | ⟨0, _⟩ => show win0_1.index t 0 * 1 + 1 * (0 : ℕ) = t.val / 16; rw [e0]; omega
  | ⟨1, _⟩ => show win0_1.index t 1 * 4096 + 1 * r.val = r.val; rw [e1]; omega
  | ⟨2, _⟩ => show win0_1.index t 2 * 256 + 1 * l.val = t.val % 16 * 256 + l.val; rw [e2]; omega

/-- The values of a grid point. -/
theorem iblk_v (c : Dev nD) (t : Fin cfg0.N) (r : Fin 4096) (l : Fin 128) :
    (iblk m c 2 t : FVec Ideal S1x4096x128 .bf16) (ix3 0 r l) = (V m c main_v16 : FVec Ideal S8x4096x6144 .bf16)
      (ix3 ⟨t.val / 16, by have := lt_N t; omega⟩ r ⟨4096 + t.val % 16 * 128 + l.val, by omega⟩) := by
  unfold iblk
  rw [View.read_apply]
  show (V m c main_v16 : FVec Ideal S8x4096x6144 .bf16) _ = _
  congr 1
  funext a
  obtain ⟨e0, e1, e2⟩ := index_v t
  apply Fin.ext
  match a with
  | ⟨0, _⟩ => show win0_2.index t 0 * 1 + 1 * (0 : ℕ) = t.val / 16; rw [e0]; omega
  | ⟨1, _⟩ => show win0_2.index t 1 * 4096 + 1 * r.val = r.val; rw [e1]; omega
  | ⟨2, _⟩ => show win0_2.index t 2 * 128 + 1 * l.val = 4096 + t.val % 16 * 128 + l.val; rw [e2]; omega

/-- The context's keys of a grid point. -/
theorem iblk_kc (c : Dev nD) (t : Fin cfg0.N) (r : Fin 512) (l : Fin 256) :
    (iblk m c 3 t : FVec Ideal S1x512x256 .bf16) (ix3 0 r l) = (V m c main_v26 : FVec Ideal S8x512x6144 .bf16)
      (ix3 ⟨t.val / 16, by have := lt_N t; omega⟩ r ⟨t.val % 16 * 256 + l.val, by omega⟩) := by
  unfold iblk
  rw [View.read_apply]
  show (V m c main_v26 : FVec Ideal S8x512x6144 .bf16) _ = _
  congr 1
  funext a
  obtain ⟨e0, e1, e2⟩ := index_kc t
  apply Fin.ext
  match a with
  | ⟨0, _⟩ => show win0_3.index t 0 * 1 + 1 * (0 : ℕ) = t.val / 16; rw [e0]; omega
  | ⟨1, _⟩ => show win0_3.index t 1 * 512 + 1 * r.val = r.val; rw [e1]; omega
  | ⟨2, _⟩ => show win0_3.index t 2 * 256 + 1 * l.val = t.val % 16 * 256 + l.val; rw [e2]; omega

/-- The context's values of a grid point. -/
theorem iblk_vc (c : Dev nD) (t : Fin cfg0.N) (r : Fin 512) (l : Fin 128) :
    (iblk m c 4 t : FVec Ideal S1x512x128 .bf16) (ix3 0 r l) = (V m c main_v26 : FVec Ideal S8x512x6144 .bf16)
      (ix3 ⟨t.val / 16, by have := lt_N t; omega⟩ r ⟨4096 + t.val % 16 * 128 + l.val, by omega⟩) := by
  unfold iblk
  rw [View.read_apply]
  show (V m c main_v26 : FVec Ideal S8x512x6144 .bf16) _ = _
  congr 1
  funext a
  obtain ⟨e0, e1, e2⟩ := index_vc t
  apply Fin.ext
  match a with
  | ⟨0, _⟩ => show win0_4.index t 0 * 1 + 1 * (0 : ℕ) = t.val / 16; rw [e0]; omega
  | ⟨1, _⟩ => show win0_4.index t 1 * 512 + 1 * r.val = r.val; rw [e1]; omega
  | ⟨2, _⟩ => show win0_4.index t 2 * 128 + 1 * l.val = 4096 + t.val % 16 * 128 + l.val; rw [e2]; omega

/-- An element of the result array is that element of the block holding it. -/
theorem result_block (c : Dev nD) (t : Fin cfg0.N) (r : Fin 4096) (l : Fin 128) :
    ((dats m 0 c).arrAt 5 cfg0.N : FVec Ideal S8x4096x2048 .bf16)
      (ix3 ⟨t.val / 16, by have := lt_N t; omega⟩ r ⟨t.val % 16 * 128 + l.val, by omega⟩)
    = Tile.block (iblk m c 0 t) (iblk m c 1 t) (iblk m c 2 t) (iblk m c 3 t) (iblk m c 4 t) r l := by
  have h := congrFun ((Value.blocks5 m c t (flush0_5 t)).trans (Value.flushed5 m c t)) (ix3 0 r l : S1x4096x128.Idx)
  rw [View.read_apply] at h
  refine Eq.trans ?_ (h.trans ?_)
  · show _ = ((dats m 0 c).arrAt 5 cfg0.N : FVec Ideal S8x4096x2048 .bf16) _
    congr 1
    funext a
    obtain ⟨e0, e1, e2⟩ := index_o t
    apply Fin.ext
    match a with
    | ⟨0, _⟩ => show t.val / 16 = win0_5.index t 0 * 1 + 1 * (0 : ℕ); rw [e0]; omega
    | ⟨1, _⟩ => show r.val = win0_5.index t 1 * 4096 + 1 * r.val; rw [e1]; omega
    | ⟨2, _⟩ => show t.val % 16 * 128 + l.val = win0_5.index t 2 * 128 + 1 * l.val; rw [e2]; omega
  · show out0_5 (F := Ideal) _ _ _ _ _ (ix3 0 r l) = _
    rw [Tile.out_apply]
    rfl

end Cert.MlaIdeal.Final

end
-- ==== Proof.MlaRefAt.lean ====
/-
  The MLA attention reference's result, element by element: the softmax of one query row's scores against the keys of the tokens and the
  context, applied to their values (`out_apply`).
-/
module

public import proofs.«01_k».proof.Proof.Gen.MlaRefIdeal.Run
public import proofs.«01_k».proof.Proof.MlaRow
public import proofs.«01_k».proof.Proof.Literals
public import Idealize.ShloMosaic.Lib.Pointwise

@[expose] public section

set_option maxRecDepth 16384

noncomputable section

namespace Cert.MlaRefIdeal.RefAt

open Cert.MlaRefIdeal Cert.MlaRefIdeal.Gen Cert.MlaRefIdeal.Value Idealize.ShloMosaic Idealize.ShloMosaic.TcCoe Idealize.SL.Sem

/-- The key and value columns of the tokens and of the context, one after the other. -/
def cat (x : FVec Ideal S8x4096x16x256 .f32) (y : FVec Ideal S8x512x16x256 .f32) : FVec Ideal S8x4608x16x256 .f32 :=
  concatenate S8x4608x16x256 1 [⟨S8x4096x16x256, x⟩, ⟨S8x512x16x256, y⟩] concatenates_S8x4096x16x256_S8x512x16x256_S8x4608x16x256_d1

/-- The rotary keys of the tokens and of the context. -/
def catR (x : FVec Ideal S8x4096x64 .f32) (y : FVec Ideal S8x512x64 .f32) : FVec Ideal S8x4608x64 .f32 :=
  concatenate S8x4608x64 1 [⟨S8x4096x64, x⟩, ⟨S8x512x64, y⟩] concatenates_S8x4096x64_S8x512x64_S8x4608x64_d1

/-- The heads' keys. -/
def keys (kv : FVec Ideal S8x4608x16x256 .f32) (kr : FVec Ideal S8x4608x64 .f32) : FVec Ideal S8x4608x16x192 .f32 :=
  concatenate S8x4608x16x192 3 [⟨S8x4608x16x128, (extractStridedSlice S8x4608x16x128 ![0, 0, 0, 0] kv slices_S8x4608x16x256_S8x4608x16x128_0_0_0_0)⟩, ⟨S8x4608x16x64, (broadcastInDim S8x4608x16x64 ![0, 1, 2, 3] bcast_S8x4608x1x64_S8x4608x16x64_0_1_2_3 (broadcastInDim S8x4608x1x64 ![0, 1, 3] bcast_S8x4608x64_S8x4608x1x64_0_1_3 kr))⟩] concatenates_S8x4608x16x128_S8x4608x16x64_S8x4608x16x192_d3

/-- The scaled scores. -/
def scores (q : FVec Ideal S8x4096x16x192 .f32) (k : FVec Ideal S8x4608x16x192 .f32) : FVec Ideal S8x16x4096x4608 .f32 :=
  mulf (Host.dotGeneral dot_S8x4096x16x192_S8x4608x16x192_S8x16x4096x4608_3_3_1_1_02_02 none q k) (broadcastInDim S8x16x4096x4608 ![] bcast_S_S8x16x4096x4608 (Host.rsqrt (constant S_ .f32 0x43400000#32)))

/-- The exponentials of the scores less their row's largest. -/
def weights (s : FVec Ideal S8x16x4096x4608 .f32) : FVec Ideal S8x16x4096x4608 .f32 :=
  Host.exp (subf s (broadcastInDim S8x16x4096x4608 ![0, 1, 2, 3] bcast_S8x16x4096x1_S8x16x4096x4608_0_1_2_3 (broadcastInDim S8x16x4096x1 ![0, 1, 2] bcast_S8x16x4096_S8x16x4096x1_0_1_2 (maximumf (broadcastInDim S8x16x4096 ![] bcast_S_S8x16x4096 (constant S_ .f32 0xFF800000#32)) (Host.reduce FloatOps.maximumf s (constant S_ .f32 0xFF800000#32) reducesTo_S8x16x4096x4608_S8x16x4096_d3 h_S_)))))

/-- The exponentials over their row's sum. -/
def soft (w : FVec Ideal S8x16x4096x4608 .f32) : FVec Ideal S8x16x4096x4608 .f32 :=
  Host.divf w (broadcastInDim S8x16x4096x4608 ![0, 1, 2, 3] bcast_S8x16x4096x1_S8x16x4096x4608_0_1_2_3 (broadcastInDim S8x16x4096x1 ![0, 1, 2] bcast_S8x16x4096_S8x16x4096x1_0_1_2 (Host.reduceAdd w (constant S_ .f32 0x00000000#32) reducesTo_S8x16x4096x4608_S8x16x4096_d3 h_S_)))

/-- The values averaged with the weights. -/
def mix (kv : FVec Ideal S8x4608x16x256 .f32) (p : FVec Ideal S8x16x4096x4608 .f32) : FVec Ideal S8x4096x2048 .bf16 :=
  truncf .bf16 (shapeCast _ (transpose S8x4096x16x128 [0, 3, 1, 2] (Host.dotGeneral dot_S8x4608x16x128_S8x16x4096x4608_S8x16x128x4096_1_3_3_2_02_01 none (extractStridedSlice S8x4608x16x128 ![0, 0, 0, 128] kv slices_S8x4608x16x256_S8x4608x16x128_0_0_0_128) p) transposes_S8x16x128x4096_S8x4096x16x128_0_3_1_2) shapeCasts_S8x4096x16x128_S8x4096x2048) bitsLt_bf16_f32

/-- The reference's array of its five arguments. -/
def out (q : FVec Ideal S8x4096x16x192 .f32) (kv : FVec Ideal S8x4096x16x256 .f32) (kr : FVec Ideal S8x4096x64 .f32)
    (ckv : FVec Ideal S8x512x16x256 .f32) (ckr : FVec Ideal S8x512x64 .f32) : FVec Ideal S8x4096x2048 .bf16 :=
  mix (cat kv ckv) (soft (weights (scores q (keys (cat kv ckv) (catR kr ckr)))))

theorem res_eq (m : (ℓ : Loc nD τ sig) → Buf (Elt Ideal) ℓ) (c : Dev nD) :
    res_main_v25 m c = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

theorem cat_apply (x : FVec Ideal S8x4096x16x256 .f32) (y : FVec Ideal S8x512x16x256 .f32) (b : Fin 8) (s : Fin 4608) (h : Fin 16) (d : Fin 256) :
    cat x y (ix4 b s h d) = if hs : s.val < 4096 then x (ix4 b ⟨s.val, hs⟩ h d) else y (ix4 b ⟨s.val - 4096, by omega⟩ h d) := by
  pointwise [cat]

theorem catR_apply (x : FVec Ideal S8x4096x64 .f32) (y : FVec Ideal S8x512x64 .f32) (b : Fin 8) (s : Fin 4608) (d : Fin 64) :
    catR x y (ix3 b s d) = if hs : s.val < 4096 then x (ix3 b ⟨s.val, hs⟩ d) else y (ix3 b ⟨s.val - 4096, by omega⟩ d) := by
  pointwise [catR]

theorem keys_apply (kv : FVec Ideal S8x4608x16x256 .f32) (kr : FVec Ideal S8x4608x64 .f32) (b : Fin 8) (s : Fin 4608) (h : Fin 16) (e : Fin 192) :
    keys kv kr (ix4 b s h e) = Mla.keyOf kv kr b s h e := by
  unfold Mla.keyOf
  pointwise [keys]

theorem scores_apply (q : FVec Ideal S8x4096x16x192 .f32) (k : FVec Ideal S8x4608x16x192 .f32) (b : Fin 8) (h : Fin 16) (t : Fin 4096) (s : Fin 4608) :
    scores q k (ix4 b h t s) = (∑ d : Fin 192, q (ix4 b t h d) * k (ix4 b s h d)) * Ideal.rsqrt (Ideal.ofBits .f32 0x43400000#32) := by
  pointwise [scores]

/-- A maximum over the last of four axes. -/
theorem hostMax_apply {n0 n1 n2 n3 : ℕ} {u : Shape} (h : (⟨4, ![n0, n1, n2, n3]⟩ : Shape).ReducesTo [3] ⟨3, ![n0, n1, n2]⟩)
    (hu : 0 < u.numel) (x : FVec Ideal ⟨4, ![n0, n1, n2, n3]⟩ .f32) (v : FVec Ideal u .f32) (b : Fin n0) (g : Fin n1) (t : Fin n2) :
    Host.reduce FloatOps.maximumf x v h hu (ix3 b g t)
      = Finset.univ.fold max (v (Shape.Idx.first hu)) fun k : Fin n3 => x (ix4 b g t k) := by
  simp only [pointwise]

/-- A value per row, spread along the row's keys. -/
theorem spread_apply (M : FVec Ideal S8x16x4096 .f32) (b : Fin 8) (h : Fin 16) (t : Fin 4096) (s : Fin 4608) :
    broadcastInDim S8x16x4096x4608 ![0, 1, 2, 3] bcast_S8x16x4096x1_S8x16x4096x4608_0_1_2_3 (broadcastInDim S8x16x4096x1 ![0, 1, 2] bcast_S8x16x4096_S8x16x4096x1_0_1_2 M) (ix4 b h t s) = M (ix3 b h t) := by
  pointwise

theorem weights_apply (S : FVec Ideal S8x16x4096x4608 .f32) (b : Fin 8) (h : Fin 16) (t : Fin 4096) (s : Fin 4608) :
    weights S (ix4 b h t s) = Ideal.exp (S (ix4 b h t s) - max ⊥ (Attn.rowMax fun k : Fin 4608 => S (ix4 b h t k))) := by
  unfold weights Attn.rowMax
  rw [← Lit.neg_inf]
  have hm := hostMax_apply reducesTo_S8x16x4096x4608_S8x16x4096_d3 h_S_ S (constant S_ .f32 0xFF800000#32) b h t
  generalize Host.reduce FloatOps.maximumf S (constant S_ .f32 0xFF800000#32) reducesTo_S8x16x4096x4608_S8x16x4096_d3 h_S_ = M at hm ⊢
  rw [show ∀ (a b : FVec Ideal S8x16x4096x4608 .f32) (i), Host.exp (subf a b) i = Ideal.exp (a i - b i) from fun _ _ _ => rfl,
    spread_apply, show ∀ (a b : FVec Ideal S8x16x4096 .f32) (i), maximumf a b i = max (a i) (b i) from fun _ _ _ => rfl, hm]
  rfl

theorem soft_apply (w : FVec Ideal S8x16x4096x4608 .f32) (b : Fin 8) (h : Fin 16) (t : Fin 4096) (s : Fin 4608) :
    soft w (ix4 b h t s) = Ideal.div (w (ix4 b h t s)) (∑ x : Fin 4608, w (ix4 b h t x)) := by
  pointwise [soft]

theorem mix_apply (kv : FVec Ideal S8x4608x16x256 .f32) (p : FVec Ideal S8x16x4096x4608 .f32) (b : Fin 8) (t : Fin 4096) (l : Fin 2048) :
    mix kv p (ix3 b t l) = ∑ x : Fin 4608, Mla.valOf kv b x ⟨l.val / 128, by omega⟩ ⟨l.val % 128, by omega⟩
      * p (ix4 b ⟨l.val / 128, by omega⟩ t x) := by
  unfold Mla.valOf
  pointwise [mix]

/-- Element `l` of row `t` of batch `b`: head `l / 128`, the softmax average of its values. -/
theorem out_apply (q : FVec Ideal S8x4096x16x192 .f32) (kv : FVec Ideal S8x4096x16x256 .f32) (kr : FVec Ideal S8x4096x64 .f32)
    (ckv : FVec Ideal S8x512x16x256 .f32) (ckr : FVec Ideal S8x512x64 .f32) (b : Fin 8) (t : Fin 4096) (l : Fin 2048) :
    out q kv kr ckv ckr (ix3 b t l) = Attn.refRow
      (fun s : Fin 4608 => (∑ e : Fin 192, Mla.keyOf (cat kv ckv) (catR kr ckr) b s ⟨l.val / 128, by omega⟩ e
        * q (ix4 b t ⟨l.val / 128, by omega⟩ e)) * Ideal.rsqrt (Ideal.ofBits .f32 0x43400000#32))
      (fun s : Fin 4608 => Mla.valOf (cat kv ckv) b s ⟨l.val / 128, by omega⟩ ⟨l.val % 128, by omega⟩) := by
  unfold out
  rw [mix_apply]
  unfold Attn.refRow
  refine Finset.sum_congr rfl fun x _ => ?_
  rw [soft_apply]
  simp only [weights_apply, scores_apply, keys_apply, mul_comm (q _)]

end Cert.MlaRefIdeal.RefAt
-- ==== Proof.MlaClaim.lean ====
/-
  The MLA attention's claims: an element of the kernel's result array, from the arguments (`result_apply`), is the reference's
  (`row_eq`): the zero columns add nothing to a score, and on finite scores the scaled base-two softmax taken in two parts is the
  softmax taken at once (`Attn.kRow_eq_refRow`).
-/
module

public import proofs.«01_k».proof.Defs
public import proofs.«01_k».proof.Proof.GqaClaim
public import proofs.«01_k».proof.Proof.MlaHost
public import proofs.«01_k».proof.Proof.MlaValue
public import proofs.«01_k».proof.Proof.MlaRefAt
public import proofs.«01_k».proof.Proof.Gen.Mla.Frame
public import proofs.«01_k».proof.Proof.Gen.MlaIdeal.Frame
public import proofs.«01_k».proof.Proof.Gen.Pre_finite_mla
public import Idealize.ShloMosaic.Lib.ReduceAll
public import Idealize.ShloMosaic.Lib.Quiescent

@[expose] public section

set_option maxRecDepth 16384

noncomputable section

namespace Cert.Proof.MlaClaims

open Idealize.ShloMosaic Idealize.ShloMosaic.TcCoe Idealize.SL.Sem
open Cert.MlaIdeal.Final (σ)
open Cert.Proof.GqaClaims (at4 lt_inf)

/-- The attention of one query row's head, as the kernel computes it: queries scaled by `σ`, all columns filled to 256, keys and
    values of the tokens and of the context apart. -/
def kernelAt (σ : EReal) (q : FVec Ideal Cert.MlaIdeal.S8x4096x16x192 .f32) (kv : FVec Ideal Cert.MlaIdeal.S8x4096x16x256 .f32)
    (kr : FVec Ideal Cert.MlaIdeal.S8x4096x64 .f32) (ckv : FVec Ideal Cert.MlaIdeal.S8x512x16x256 .f32)
    (ckr : FVec Ideal Cert.MlaIdeal.S8x512x64 .f32) (b : Fin 8) (t : Fin 4096) (h : Fin 16) (d : Fin 128) : EReal :=
  Attn.kRow
    (fun s : Fin 4096 => ∑ e : Fin 256, Mla.padded (fun e => q (ix4 b t h e) * σ) e * Mla.padded (Mla.keyOf kv kr b s h) e)
    (fun s : Fin 512 => ∑ e : Fin 256, Mla.padded (fun e => q (ix4 b t h e) * σ) e * Mla.padded (Mla.keyOf ckv ckr b s h) e)
    (fun s => Mla.valOf kv b s h d)
    (fun s => Mla.valOf ckv b s h d)

theorem kRow_congr {n1 n2 : ℕ} {s1 s1' : Fin n1 → EReal} {s2 s2' : Fin n2 → EReal} {w1 w1' : Fin n1 → EReal} {w2 w2' : Fin n2 → EReal}
    (h1 : ∀ x, s1 x = s1' x) (h2 : ∀ x, s2 x = s2' x) (h3 : ∀ x, w1 x = w1' x) (h4 : ∀ x, w2 x = w2' x) :
    Attn.kRow s1 s2 w1 w2 = Attn.kRow s1' s2' w1' w2' := by
  rw [funext h1, funext h2, funext h3, funext h4]

/-- Two filled rows at columns of the same numbers. -/
theorem padded_congr {f g : Fin 192 → EReal} {a b : Fin 256} (hf : f = g) (h : a.val = b.val) : Mla.padded f a = Mla.padded g b := by
  rw [hf, Fin.ext h]

section
open Cert.MlaIdeal Cert.MlaIdeal.Gen
variable (m : (ℓ : Loc nD τ sig) → Buf (Elt Ideal) ℓ)

abbrev argQ (c : Dev nD) : FVec Ideal S8x4096x16x192 .f32 := m ((c.tc : Thread nD τ).loc main_arg0)
abbrev argKv (c : Dev nD) : FVec Ideal S8x4096x16x256 .f32 := m ((c.tc : Thread nD τ).loc main_arg1)
abbrev argKr (c : Dev nD) : FVec Ideal S8x4096x64 .f32 := m ((c.tc : Thread nD τ).loc main_arg2)
abbrev argCkv (c : Dev nD) : FVec Ideal S8x512x16x256 .f32 := m ((c.tc : Thread nD τ).loc main_arg3)
abbrev argCkr (c : Dev nD) : FVec Ideal S8x512x64 .f32 := m ((c.tc : Thread nD τ).loc main_arg4)

/-- A grid point's block, from the arguments. -/
theorem block_eq (c : Dev nD) (T : Fin cfg0.N) (r : Fin 4096) (l : Fin 128) :
    Tile.block (iblk m c 0 T) (iblk m c 1 T) (iblk m c 2 T) (iblk m c 3 T) (iblk m c 4 T) r l
      = kernelAt σ (argQ m c) (argKv m c) (argKr m c) (argCkv m c) (argCkr m c) ⟨T.val / 16, by have := Final.lt_N T; omega⟩
        r ⟨T.val % 16, by omega⟩ l := by
  have hQ : ∀ e : Fin 256, (iblk m c 0 T : FVec Ideal S1x4096x256 .bf16) (ix3 0 r e)
      = Mla.padded (fun e => HMul.hMul (α := EReal) (β := EReal) (γ := EReal) (argQ m c (ix4 ⟨T.val / 16, by have := Final.lt_N T; omega⟩ r
          ⟨T.val % 16, by omega⟩ e)) σ) e := fun e =>
    (Final.iblk_q m c T r _).trans ((Final.queries_apply m c _ _ _).trans
      (padded_congr (funext fun e => congrArg (fun z : EReal => z * σ) (at4 (argQ m c) rfl rfl (by dsimp only; omega) rfl)) (by dsimp only; omega)))
  unfold Tile.block kernelAt
  refine kRow_congr (fun s => ?_) (fun s => ?_) (fun s => ?_) (fun s => ?_)
  · refine Finset.sum_congr rfl fun e _ => congrArg₂ _ (hQ e) ?_
    exact (Final.iblk_k m c T s _).trans ((Final.tokKeys_apply m c _ _ _ (by dsimp only; omega)).trans
      (padded_congr (congrArg (Mla.keyOf (argKv m c) (argKr m c) _ s) (Fin.ext (by dsimp only; omega))) (by dsimp only; omega)))
  · refine Finset.sum_congr rfl fun e _ => congrArg₂ _ (hQ e) ?_
    exact (Final.iblk_kc m c T s _).trans ((Final.ctxKeys_apply m c _ _ _ (by dsimp only; omega)).trans
      (padded_congr (congrArg (Mla.keyOf (argCkv m c) (argCkr m c) _ s) (Fin.ext (by dsimp only; omega))) (by dsimp only; omega)))
  · exact (Final.iblk_v m c T s _).trans ((Final.tokVals_apply m c _ _ _ (by dsimp only; omega)).trans
      (congrArg₂ (Mla.valOf (argKv m c) _ s) (Fin.ext (by dsimp only; omega)) (Fin.ext (by dsimp only; omega))))
  · exact (Final.iblk_vc m c T s _).trans ((Final.ctxVals_apply m c _ _ _ (by dsimp only; omega)).trans
      (congrArg₂ (Mla.valOf (argCkv m c) _ s) (Fin.ext (by dsimp only; omega)) (Fin.ext (by dsimp only; omega))))

/-- An element of the result array, from the arguments. -/
theorem result_apply (c : Dev nD) (b : Fin 8) (t : Fin 4096) (l : Fin 2048) :
    ((dats m 0 c).arrAt 5 cfg0.N : FVec Ideal S8x4096x2048 .bf16) (ix3 b t l)
      = kernelAt σ (argQ m c) (argKv m c) (argKr m c) (argCkv m c) (argCkr m c) b t ⟨l.val / 128, by omega⟩ ⟨l.val % 128, by omega⟩ := by
  have hT : b.val * 16 + l.val / 128 < cfg0.N := by rw [show cfg0.N = 128 from N_0]; omega
  have h := (Final.result_block m c ⟨_, hT⟩ t ⟨l.val % 128, by omega⟩).trans (block_eq m c _ _ _)
  have hb : (b.val * 16 + l.val / 128) / 16 = b.val := by omega
  have hh : (b.val * 16 + l.val / 128) % 16 = l.val / 128 := by omega
  have hl : l.val / 128 * 128 + l.val % 128 = l.val := by omega
  simpa only [hb, hh, hl] using h

end

/-- A head's first 128 columns. -/
theorem slice_apply1 (x : FVec Ideal Cert.Pre_finite_mla.S8x4096x16x256 .f32) (hs : Cert.Pre_finite_mla.S8x4096x16x256.Slices ![0, 0, 0, 0] Cert.Pre_finite_mla.S8x4096x16x128)
    (b : Fin 8) (s : Fin 4096) (h : Fin 16) (e : Fin 128) :
    extractStridedSlice Cert.Pre_finite_mla.S8x4096x16x128 ![0, 0, 0, 0] x hs (ix4 b s h e) = x (ix4 b s h ⟨e.val, by omega⟩) := by
  pointwise

/-- A head's first 128 columns. -/
theorem slice_apply2 (x : FVec Ideal Cert.Pre_finite_mla.S8x512x16x256 .f32) (hs : Cert.Pre_finite_mla.S8x512x16x256.Slices ![0, 0, 0, 0] Cert.Pre_finite_mla.S8x512x16x128)
    (b : Fin 8) (s : Fin 512) (h : Fin 16) (e : Fin 128) :
    extractStridedSlice Cert.Pre_finite_mla.S8x512x16x128 ![0, 0, 0, 0] x hs (ix4 b s h e) = x (ix4 b s h ⟨e.val, by omega⟩) := by
  pointwise

/-- What the precondition says: queries and keys are finite. -/
theorem finite (q : FVec Ideal Cert.Pre_finite_mla.S8x4096x16x192 .f32) (kv : FVec Ideal Cert.Pre_finite_mla.S8x4096x16x256 .f32)
    (kr : FVec Ideal Cert.Pre_finite_mla.S8x4096x64 .f32) (ckv : FVec Ideal Cert.Pre_finite_mla.S8x512x16x256 .f32)
    (ckr : FVec Ideal Cert.Pre_finite_mla.S8x512x64 .f32)
    (h : ∀ i, Cert.Pre_finite_mla.fn (F := Ideal) q kv kr ckv ckr i = 1#1) :
    (∀ i, Attn.Fin' (q i)) ∧ (∀ b s h e, Attn.Fin' (Mla.keyOf kv kr b s h e)) ∧ (∀ b s h e, Attn.Fin' (Mla.keyOf ckv ckr b s h e)) := by
  have h0 := h (fun a => a.elim0)
  unfold Cert.Pre_finite_mla.fn Cert.Pre_finite_mla.fn_part1 at h0
  dsimp only [andi] at h0
  obtain ⟨h1234, h5⟩ := IntOp.andi_eq_one.mp h0
  obtain ⟨h123, h4⟩ := IntOp.andi_eq_one.mp h1234
  obtain ⟨h12, h3⟩ := IntOp.andi_eq_one.mp h123
  obtain ⟨h1, h2⟩ := IntOp.andi_eq_one.mp h12
  haveI : Subsingleton Cert.Pre_finite_mla.S_.Idx := ⟨fun a b => funext fun i => i.elim0⟩
  have h1 := fun i => Host.reduce_andi_all _ _ _ _ _ h1 i
  have h2 := fun i => Host.reduce_andi_all _ _ _ _ _ h2 i
  have h3 := fun i => Host.reduce_andi_all _ _ _ _ _ h3 i
  have h4 := fun i => Host.reduce_andi_all _ _ _ _ _ h4 i
  have h5 := fun i => Host.reduce_andi_all _ _ _ _ _ h5 i
  refine ⟨fun i => lt_inf (h1 i), fun b s h e => ?_, fun b s h e => ?_⟩
  · unfold Mla.keyOf
    split
    · rename_i he
      have hx := lt_inf (h2 (ix4 b s h ⟨e.val, he⟩))
      rw [slice_apply1] at hx
      exact hx
    · exact lt_inf (h3 _)
  · unfold Mla.keyOf
    split
    · rename_i he
      have hx := lt_inf (h4 (ix4 b s h ⟨e.val, he⟩))
      rw [slice_apply2] at hx
      exact hx
    · exact lt_inf (h5 _)

/-- The kernel's row is the reference's, where queries and keys are finite. -/
theorem row_eq (q : FVec Ideal Cert.MlaIdeal.S8x4096x16x192 .f32) (kv : FVec Ideal Cert.MlaIdeal.S8x4096x16x256 .f32)
    (kr : FVec Ideal Cert.MlaIdeal.S8x4096x64 .f32) (ckv : FVec Ideal Cert.MlaIdeal.S8x512x16x256 .f32)
    (ckr : FVec Ideal Cert.MlaIdeal.S8x512x64 .f32) (hq : ∀ i, Attn.Fin' (q i))
    (hk : ∀ b s h e, Attn.Fin' (Mla.keyOf kv kr b s h e)) (hkc : ∀ b s h e, Attn.Fin' (Mla.keyOf ckv ckr b s h e))
    (b : Fin 8) (t : Fin 4096) (l : Fin 2048) :
    kernelAt σ q kv kr ckv ckr b t ⟨l.val / 128, by omega⟩ ⟨l.val % 128, by omega⟩ = Cert.MlaRefIdeal.RefAt.out q kv kr ckv ckr (ix3 b t l) := by
  rw [Cert.MlaRefIdeal.RefAt.out_apply]
  unfold kernelAt σ
  rw [Lit.v192, Lit.two, Lit.scale 192 (by norm_num), Lit.rsqrt_pos 192 (by norm_num)]
  simp only [Mla.sum_padded]
  generalize (⟨l.val / 128, by omega⟩ : Fin 16) = h
  generalize (⟨l.val % 128, by omega⟩ : Fin 128) = d
  have hk1 : ∀ (x : Fin 4096) (e : Fin 192), Mla.keyOf (Cert.MlaRefIdeal.RefAt.cat kv ckv) (Cert.MlaRefIdeal.RefAt.catR kr ckr) b (Fin.castAdd 512 x) h e
      = Mla.keyOf kv kr b x h e := by
    intro x e
    unfold Mla.keyOf
    by_cases he : e.val < 128
    · rw [dif_pos he, dif_pos he, Cert.MlaRefIdeal.RefAt.cat_apply, dif_pos (show (Fin.castAdd 512 x).val < 4096 from x.isLt)]
      rfl
    · rw [dif_neg he, dif_neg he, Cert.MlaRefIdeal.RefAt.catR_apply, dif_pos (show (Fin.castAdd 512 x).val < 4096 from x.isLt)]
      rfl
  have hk2 : ∀ (x : Fin 512) (e : Fin 192), Mla.keyOf (Cert.MlaRefIdeal.RefAt.cat kv ckv) (Cert.MlaRefIdeal.RefAt.catR kr ckr) b (Fin.natAdd 4096 x) h e
      = Mla.keyOf ckv ckr b x h e := by
    intro x e
    have hx : (⟨(Fin.natAdd 4096 x).val - 4096, by simp⟩ : Fin 512) = x := by apply Fin.ext; simp
    unfold Mla.keyOf
    by_cases he : e.val < 128
    · rw [dif_pos he, dif_pos he, Cert.MlaRefIdeal.RefAt.cat_apply, dif_neg (show ¬ (Fin.natAdd 4096 x).val < 4096 by simp), hx]
    · rw [dif_neg he, dif_neg he, Cert.MlaRefIdeal.RefAt.catR_apply, dif_neg (show ¬ (Fin.natAdd 4096 x).val < 4096 by simp), hx]
  have hcat : ∀ (s : Fin 4608) (e : Fin 192), Attn.Fin' (Mla.keyOf (Cert.MlaRefIdeal.RefAt.cat kv ckv) (Cert.MlaRefIdeal.RefAt.catR kr ckr) b s h e) := by
    intro s e
    refine Fin.addCases (m := 4096) (n := 512) (fun x => ?_) (fun x => ?_) s
    · rw [hk1]; exact hk _ _ _ _
    · rw [hk2]; exact hkc _ _ _ _
  have href : (fun s : Fin 4608 => (∑ e : Fin 192, Mla.keyOf (Cert.MlaRefIdeal.RefAt.cat kv ckv) (Cert.MlaRefIdeal.RefAt.catR kr ckr) b s h e
        * q (ix4 b t h e)) * (((Real.sqrt 192)⁻¹ : ℝ) : EReal))
      = fun s => ((Attn.score (Real.sqrt 192)⁻¹ (fun e => q (ix4 b t h e))
          (fun e => Mla.keyOf (Cert.MlaRefIdeal.RefAt.cat kv ckv) (Cert.MlaRefIdeal.RefAt.catR kr ckr) b s h e) : ℝ) : EReal) := by
    funext s
    exact Attn.score_ref _ _ _ (fun e => hq _) (fun e => hcat _ _)
  rw [href]
  refine Attn.kRow_eq_refRow (n1 := 4096) (n2 := 512) (by norm_num) _ _ _ _ _ _ (fun x => ?_) (fun x => ?_) (fun x => ?_) (fun x => ?_)
  · rw [← Attn.score_kernel _ _ _ _ (fun e => hq _) (fun e => hcat _ _)]
    exact Finset.sum_congr rfl fun e _ => congrArg₂ _ rfl (hk1 x e).symm
  · rw [← Attn.score_kernel _ _ _ _ (fun e => hq _) (fun e => hcat _ _)]
    exact Finset.sum_congr rfl fun e _ => congrArg₂ _ rfl (hk2 x e).symm
  · unfold Mla.valOf
    rw [Cert.MlaRefIdeal.RefAt.cat_apply, dif_pos (show (Fin.castAdd 512 x).val < 4096 from x.isLt)]
    rfl
  · have hx : (⟨(Fin.natAdd 4096 x).val - 4096, by simp⟩ : Fin 512) = x := by apply Fin.ext; simp
    unfold Mla.valOf
    rw [Cert.MlaRefIdeal.RefAt.cat_apply, dif_neg (show ¬ (Fin.natAdd 4096 x).val < 4096 by simp), hx]

theorem frame : Cert.quiescent_Mla := fun m ρ _ => Cert.Mla.Gen.frame m ρ
theorem frame_ideal : Cert.quiescent_MlaIdeal := fun m ρ _ => Cert.MlaIdeal.Gen.frame m ρ
theorem frame_ideal_pre : Cert.quiescent_MlaIdeal_pre_finite_mla := fun m ρ _ => Cert.MlaIdeal.Gen.frame m ρ
theorem frame_ref : Cert.quiescent_MlaRefIdeal := fun m ρ _ =>
  (θ_run Cert.MlaRefIdeal.defs _ _).mono (fun r h => ⟨fun c => (h c).2, sem_eq_zero_of_no_sems (by decide) r.2⟩)
    (Cert.MlaRefIdeal.Value.run (F := Ideal) m ρ)
theorem frame_ref_pre : Cert.quiescent_MlaRefIdeal_pre_finite_mla := fun m ρ _ => frame_ref m ρ trivial
theorem preserves : Cert.preserves_Mla_MlaIdeal := trivial

/-- The MLA attention kernel and the reference end with equal results. -/
theorem algebraic : Cert.algebraic_MlaIdeal_MlaRefIdeal_pre_finite_mla := by
  intro m ρ m' ρ' hpre hagree
  refine ⟨fun c => (Cert.MlaIdeal.Gen.dats m 0 c).arrAt 5 Cert.MlaIdeal.cfg0.N, Cert.MlaIdeal.Value.run_blocks (F := Ideal) m ρ, ?_⟩
  refine (θ_run Cert.MlaRefIdeal.defs _ _).mono (fun _ h c => ⟨(h c).1.trans ?_, (h c).2⟩)
    (Cert.MlaRefIdeal.Value.run (F := Ideal) m' ρ')
  obtain ⟨hq, hk, hkc⟩ := finite _ _ _ _ _ (fun i => congrFun (hpre c) i)
  obtain ⟨h0, h1, h2, h3, h4⟩ := hagree c
  rw [Cert.MlaRefIdeal.RefAt.res_eq, h0, h1, h2, h3, h4]
  funext i
  rw [eq_ix3 i]
  exact ((result_apply m c _ _ _).trans (row_eq _ _ _ _ _ hq hk hkc _ _ _)).symm

end Cert.Proof.MlaClaims

end
-- ==== Proof.MergeClaim.lean ====
/-
  The gated merge: each element of the result is the first gate times the first attention's projection plus the second gate times the second's.
-/
module

public import proofs.«01_k».proof.Defs
public import proofs.«01_k».proof.Proof.Literals
public import proofs.«01_k».proof.Proof.Gen.Merge.Frame
public import proofs.«01_k».proof.Proof.Gen.MergeIdeal.Value
public import proofs.«01_k».proof.Proof.Gen.MergeRefIdeal.Run
public import Idealize.ShloMosaic.Lib.Pointwise
public import Idealize.ShloMosaic.Lib.Claim
public import Idealize.ShloMosaic.Lib.Pipeline.Value
public import Idealize.ShloMosaic.Lib.StableHlo.Run
public import Idealize.ShloMosaic.Lib.Tactic
public import Idealize.ShloMosaic.Lib.Quiescent

@[expose] public section

set_option maxRecDepth 16384

noncomputable section

namespace Cert.MergeIdeal.Final

open Cert.MergeIdeal Cert.MergeIdeal.Gen Idealize.ShloMosaic Idealize.ShloMosaic.TcCoe Idealize.SL.Sem

/-- The body's result, at an index. -/
theorem out_apply (a b : FVec Ideal S1024x2048 .bf16) (u v : FVec Ideal S2048x1024 .bf16) (g h : FVec Ideal S1024x1024 .bf16) (r : Fin 1024) (l : Fin 1024) :
    out0_6 (F := Ideal) a b u v g h (ix2 r l) = g (ix2 r l) * (∑ k : Fin 2048, a (ix2 r k) * u (ix2 k l)) + h (ix2 r l) * (∑ k : Fin 2048, b (ix2 r k) * v (ix2 k l)) := by
  unfold out0_6
  have hz : (![0, 0] : Fin 2 → ℕ) = fun _ => 0 := funext fun a => by fin_cases a <;> rfl
  rw [View.canon_unit_zero hz, View.ld_unit_zero hz, View.ld_unit_zero hz, View.ld_unit_zero hz, View.ld_unit_zero hz, View.ld_unit_zero hz, View.ld_unit_zero hz]
  pointwise [k0_pay1]

variable (m : (ℓ : Loc nD τ sig) → Buf (Elt Ideal) ℓ)

theorem index_a : ∀ t : Fin grid0.N, win0_0.index t 0 = t.val / 4 ∧ win0_0.index t 1 = 0 := by decide +kernel
theorem index_b : ∀ t : Fin grid0.N, win0_1.index t 0 = t.val / 4 ∧ win0_1.index t 1 = 0 := by decide +kernel
theorem index_u : ∀ t : Fin grid0.N, win0_2.index t 0 = 0 ∧ win0_2.index t 1 = t.val % 4 := by decide +kernel
theorem index_v : ∀ t : Fin grid0.N, win0_3.index t 0 = 0 ∧ win0_3.index t 1 = t.val % 4 := by decide +kernel
theorem index_g : ∀ t : Fin grid0.N, win0_4.index t 0 = t.val / 4 ∧ win0_4.index t 1 = t.val % 4 := by decide +kernel
theorem index_h : ∀ t : Fin grid0.N, win0_5.index t 0 = t.val / 4 ∧ win0_5.index t 1 = t.val % 4 + 4 := by decide +kernel
theorem index_o : ∀ t : Fin grid0.N, win0_6.index t 0 = t.val / 4 ∧ win0_6.index t 1 = t.val % 4 := by decide +kernel

theorem lt_N (t : Fin cfg0.N) : t.val < 128 := Nat.lt_of_lt_of_eq t.isLt N_0

theorem iblk_a (c : Dev nD) (t : Fin cfg0.N) (r : Fin 1024) (l : Fin 2048) :
    (iblk m c 0 t : FVec Ideal S1024x2048 .bf16) (ix2 r l) = (V m c main_v1 : FVec Ideal S32768x2048 .bf16)
      (ix2 ⟨t.val / 4 * 1024 + r.val, by have := lt_N t; omega⟩ l) := by
  unfold iblk
  rw [View.read_apply]
  show (V m c main_v1 : FVec Ideal S32768x2048 .bf16) _ = _
  congr 1
  funext a
  obtain ⟨e0, e1⟩ := index_a t
  apply Fin.ext
  match a with
  | ⟨0, _⟩ => show win0_0.index t 0 * 1024 + 1 * r.val = t.val / 4 * 1024 + r.val; rw [e0]; omega
  | ⟨1, _⟩ => show win0_0.index t 1 * 2048 + 1 * l.val = l.val; rw [e1]; omega

theorem iblk_b (c : Dev nD) (t : Fin cfg0.N) (r : Fin 1024) (l : Fin 2048) :
    (iblk m c 1 t : FVec Ideal S1024x2048 .bf16) (ix2 r l) = (V m c main_v3 : FVec Ideal S32768x2048 .bf16)
      (ix2 ⟨t.val / 4 * 1024 + r.val, by have := lt_N t; omega⟩ l) := by
  unfold iblk
  rw [View.read_apply]
  show (V m c main_v3 : FVec Ideal S32768x2048 .bf16) _ = _
  congr 1
  funext a
  obtain ⟨e0, e1⟩ := index_b t
  apply Fin.ext
  match a with
  | ⟨0, _⟩ => show win0_1.index t 0 * 1024 + 1 * r.val = t.val / 4 * 1024 + r.val; rw [e0]; omega
  | ⟨1, _⟩ => show win0_1.index t 1 * 2048 + 1 * l.val = l.val; rw [e1]; omega

theorem iblk_u (c : Dev nD) (t : Fin cfg0.N) (r : Fin 2048) (l : Fin 1024) :
    (iblk m c 2 t : FVec Ideal S2048x1024 .bf16) (ix2 r l) = (V m c main_v4 : FVec Ideal S2048x4096 .bf16)
      (ix2 r ⟨t.val % 4 * 1024 + l.val, by have := lt_N t; omega⟩) := by
  unfold iblk
  rw [View.read_apply]
  show (V m c main_v4 : FVec Ideal S2048x4096 .bf16) _ = _
  congr 1
  funext a
  obtain ⟨e0, e1⟩ := index_u t
  apply Fin.ext
  match a with
  | ⟨0, _⟩ => show win0_2.index t 0 * 2048 + 1 * r.val = r.val; rw [e0]; omega
  | ⟨1, _⟩ => show win0_2.index t 1 * 1024 + 1 * l.val = t.val % 4 * 1024 + l.val; rw [e1]; omega

theorem iblk_v (c : Dev nD) (t : Fin cfg0.N) (r : Fin 2048) (l : Fin 1024) :
    (iblk m c 3 t : FVec Ideal S2048x1024 .bf16) (ix2 r l) = (V m c main_v5 : FVec Ideal S2048x4096 .bf16)
      (ix2 r ⟨t.val % 4 * 1024 + l.val, by have := lt_N t; omega⟩) := by
  unfold iblk
  rw [View.read_apply]
  show (V m c main_v5 : FVec Ideal S2048x4096 .bf16) _ = _
  congr 1
  funext a
  obtain ⟨e0, e1⟩ := index_v t
  apply Fin.ext
  match a with
  | ⟨0, _⟩ => show win0_3.index t 0 * 2048 + 1 * r.val = r.val; rw [e0]; omega
  | ⟨1, _⟩ => show win0_3.index t 1 * 1024 + 1 * l.val = t.val % 4 * 1024 + l.val; rw [e1]; omega

theorem iblk_g (c : Dev nD) (t : Fin cfg0.N) (r : Fin 1024) (l : Fin 1024) :
    (iblk m c 4 t : FVec Ideal S1024x1024 .bf16) (ix2 r l) = (V m c main_v7 : FVec Ideal S32768x8192 .bf16)
      (ix2 ⟨t.val / 4 * 1024 + r.val, by have := lt_N t; omega⟩ ⟨t.val % 4 * 1024 + l.val, by have := lt_N t; omega⟩) := by
  unfold iblk
  rw [View.read_apply]
  show (V m c main_v7 : FVec Ideal S32768x8192 .bf16) _ = _
  congr 1
  funext a
  obtain ⟨e0, e1⟩ := index_g t
  apply Fin.ext
  match a with
  | ⟨0, _⟩ => show win0_4.index t 0 * 1024 + 1 * r.val = t.val / 4 * 1024 + r.val; rw [e0]; omega
  | ⟨1, _⟩ => show win0_4.index t 1 * 1024 + 1 * l.val = t.val % 4 * 1024 + l.val; rw [e1]; omega

theorem iblk_h (c : Dev nD) (t : Fin cfg0.N) (r : Fin 1024) (l : Fin 1024) :
    (iblk m c 5 t : FVec Ideal S1024x1024 .bf16) (ix2 r l) = (V m c main_v7 : FVec Ideal S32768x8192 .bf16)
      (ix2 ⟨t.val / 4 * 1024 + r.val, by have := lt_N t; omega⟩ ⟨(t.val % 4 + 4) * 1024 + l.val, by have := lt_N t; omega⟩) := by
  unfold iblk
  rw [View.read_apply]
  show (V m c main_v7 : FVec Ideal S32768x8192 .bf16) _ = _
  congr 1
  funext a
  obtain ⟨e0, e1⟩ := index_h t
  apply Fin.ext
  match a with
  | ⟨0, _⟩ => show win0_5.index t 0 * 1024 + 1 * r.val = t.val / 4 * 1024 + r.val; rw [e0]; omega
  | ⟨1, _⟩ => show win0_5.index t 1 * 1024 + 1 * l.val = (t.val % 4 + 4) * 1024 + l.val; rw [e1]; omega

theorem index_inj (t t' : Fin cfg0.N) (h : win0_6.index t = win0_6.index t') : t = t' := by
  have h0 := congrFun h 0
  have h1 := congrFun h 1
  rw [(index_o t).1, (index_o t').1] at h0
  rw [(index_o t).2, (index_o t').2] at h1
  apply Fin.ext
  have := lt_N t
  have := lt_N t'
  omega

/-- An element of the result array is that element of the block holding it. -/
theorem result_block (c : Dev nD) (t : Fin cfg0.N) (r : Fin 1024) (l : Fin 1024) :
    ((dats m 0 c).arrAt 6 cfg0.N : FVec Ideal S32768x4096 .bf16)
      (ix2 ⟨t.val / 4 * 1024 + r.val, by have := lt_N t; omega⟩ ⟨t.val % 4 * 1024 + l.val, by have := lt_N t; omega⟩)
    = out0_6 (F := Ideal) (iblk m c 0 t) (iblk m c 1 t) (iblk m c 2 t) (iblk m c 3 t) (iblk m c 4 t) (iblk m c 5 t) (ix2 r l) := by
  have h := congrFun ((dats m 0 c).read_blk_arrAt_eq_flushed 6 (fun t t' _ _ hne => (cfg0.win 6).disjoint_blk fun h => hne (index_inj t t' h))
    cfg0.N t t.isLt (flush0_6 t)) (ix2 r l : S1024x1024.Idx)
  rw [View.read_apply] at h
  refine Eq.trans ?_ (h.trans ?_)
  · show _ = ((dats m 0 c).arrAt 6 cfg0.N : FVec Ideal S32768x4096 .bf16) _
    congr 1
    funext a
    obtain ⟨e0, e1⟩ := index_o t
    apply Fin.ext
    match a with
    | ⟨0, _⟩ => show t.val / 4 * 1024 + r.val = win0_6.index t 0 * 1024 + 1 * r.val; rw [e0]; omega
    | ⟨1, _⟩ => show t.val % 4 * 1024 + l.val = win0_6.index t 1 * 1024 + 1 * l.val; rw [e1]; omega
  · show (cfg0.win 6).cut (grid0.coords t) ((dats m 0 c).after 6 t) (ix2 r l) = _
    rw [after0_6]
    rfl

theorem a_apply (c : Dev nD) (r : Fin 32768) (k : Fin 2048) :
    (V m c main_v1 : FVec Ideal S32768x2048 .bf16) (ix2 r k) = (m ((c : Thread nD τ).loc main_arg0) : FVec Ideal S8x4096x2048 .f32) (ix3 ⟨r.val / 4096, by omega⟩ ⟨r.val % 4096, by omega⟩ k) := by
  unfold V
  unfold_abbrev_sides
  after_results
  pointwise

theorem b_apply (c : Dev nD) (r : Fin 32768) (k : Fin 2048) :
    (V m c main_v3 : FVec Ideal S32768x2048 .bf16) (ix2 r k) = (m ((c : Thread nD τ).loc main_arg1) : FVec Ideal S8x4096x2048 .f32) (ix3 ⟨r.val / 4096, by omega⟩ ⟨r.val % 4096, by omega⟩ k) := by
  unfold V
  unfold_abbrev_sides
  after_results
  pointwise

theorem u_apply (c : Dev nD) (r : Fin 2048) (k : Fin 4096) :
    (V m c main_v4 : FVec Ideal S2048x4096 .bf16) (ix2 r k) = (m ((c : Thread nD τ).loc main_arg2) : FVec Ideal S2048x4096 .f32) (ix2 r k) := by
  unfold V
  unfold_abbrev_sides
  after_results
  pointwise

theorem v_apply (c : Dev nD) (r : Fin 2048) (k : Fin 4096) :
    (V m c main_v5 : FVec Ideal S2048x4096 .bf16) (ix2 r k) = (m ((c : Thread nD τ).loc main_arg3) : FVec Ideal S2048x4096 .f32) (ix2 r k) := by
  unfold V
  unfold_abbrev_sides
  after_results
  pointwise

theorem g_apply (c : Dev nD) (r : Fin 32768) (k : Fin 8192) :
    (V m c main_v7 : FVec Ideal S32768x8192 .bf16) (ix2 r k) = (m ((c : Thread nD τ).loc main_arg4) : FVec Ideal S8x4096x8192 .f32) (ix3 ⟨r.val / 4096, by omega⟩ ⟨r.val % 4096, by omega⟩ k) := by
  unfold V
  unfold_abbrev_sides
  after_results
  pointwise

/-- An element of an attention's output projection. -/
def branchAt (o : FVec Ideal S8x4096x2048 .f32) (w : FVec Ideal S2048x4096 .f32) (r : Fin 32768) (l : Fin 4096) : EReal :=
  ∑ k : Fin 2048, o (ix3 ⟨r.val / 4096, by omega⟩ ⟨r.val % 4096, by omega⟩ k) * w (ix2 k l)

/-- An element of the merge. -/
def mergeAt (o p : FVec Ideal S8x4096x2048 .f32) (w y : FVec Ideal S2048x4096 .f32) (g : FVec Ideal S8x4096x8192 .f32) (r : Fin 32768) (l : Fin 4096) : EReal :=
  g (ix3 ⟨r.val / 4096, by omega⟩ ⟨r.val % 4096, by omega⟩ ⟨l.val, by omega⟩) * branchAt o w r l
    + g (ix3 ⟨r.val / 4096, by omega⟩ ⟨r.val % 4096, by omega⟩ ⟨4096 + l.val, by omega⟩) * branchAt p y r l

/-- An element of the result array, from the arguments. -/
theorem result_apply (c : Dev nD) (r : Fin 32768) (l : Fin 4096) :
    ((dats m 0 c).arrAt 6 cfg0.N : FVec Ideal S32768x4096 .bf16) (ix2 r l)
      = mergeAt (m ((c : Thread nD τ).loc main_arg0)) (m ((c : Thread nD τ).loc main_arg1)) (m ((c : Thread nD τ).loc main_arg2))
          (m ((c : Thread nD τ).loc main_arg3)) (m ((c : Thread nD τ).loc main_arg4)) r l := by
  have hT : r.val / 1024 * 4 + l.val / 1024 < cfg0.N := by rw [show cfg0.N = 128 from N_0]; omega
  have h := (result_block m c ⟨_, hT⟩ ⟨r.val % 1024, by omega⟩ ⟨l.val % 1024, by omega⟩).trans (out_apply _ _ _ _ _ _ _ _)
  have h0 : (r.val / 1024 * 4 + l.val / 1024) / 4 * 1024 + r.val % 1024 = r.val := by omega
  have h1 : (r.val / 1024 * 4 + l.val / 1024) % 4 * 1024 + l.val % 1024 = l.val := by omega
  have h2 : ((r.val / 1024 * 4 + l.val / 1024) % 4 + 4) * 1024 + l.val % 1024 = 4096 + l.val := by omega
  simp only [h0, h1] at h
  refine h.trans (Eq.trans ?_ (rfl : mergeAt _ _ _ _ _ r l = _))
  unfold mergeAt branchAt
  refine congrArg₂ (HAdd.hAdd (α := EReal) (β := EReal) (γ := EReal)) (congrArg₂ (HMul.hMul (α := EReal) (β := EReal) (γ := EReal)) ?_
    (congrArg (Finset.sum (M := EReal) Finset.univ) (funext fun k => congrArg₂ (HMul.hMul (α := EReal) (β := EReal) (γ := EReal)) ?_ ?_)))
    (congrArg₂ (HMul.hMul (α := EReal) (β := EReal) (γ := EReal)) ?_
    (congrArg (Finset.sum (M := EReal) Finset.univ) (funext fun k => congrArg₂ (HMul.hMul (α := EReal) (β := EReal) (γ := EReal)) ?_ ?_)))
  · refine (iblk_g m c _ _ _).trans (Eq.trans ?_ (g_apply m c r ⟨l.val, by omega⟩))
    exact congrArg₂ (fun r l => (V m c main_v7 : FVec Ideal S32768x8192 .bf16) (ix2 r l)) (Fin.ext h0) (Fin.ext h1)
  · refine (iblk_a m c _ _ k).trans (Eq.trans ?_ (a_apply m c r k))
    exact congrArg (fun r => (V m c main_v1 : FVec Ideal S32768x2048 .bf16) (ix2 r k)) (Fin.ext h0)
  · refine (iblk_u m c _ k _).trans (Eq.trans ?_ (u_apply m c k l))
    exact congrArg (fun l => (V m c main_v4 : FVec Ideal S2048x4096 .bf16) (ix2 k l)) (Fin.ext h1)
  · refine (iblk_h m c _ _ _).trans (Eq.trans ?_ (g_apply m c r ⟨4096 + l.val, by omega⟩))
    exact congrArg₂ (fun r l => (V m c main_v7 : FVec Ideal S32768x8192 .bf16) (ix2 r l)) (Fin.ext h0) (Fin.ext h2)
  · refine (iblk_b m c _ _ k).trans (Eq.trans ?_ (b_apply m c r k))
    exact congrArg (fun r => (V m c main_v3 : FVec Ideal S32768x2048 .bf16) (ix2 r k)) (Fin.ext h0)
  · refine (iblk_v m c _ k _).trans (Eq.trans ?_ (v_apply m c k l))
    exact congrArg (fun l => (V m c main_v5 : FVec Ideal S2048x4096 .bf16) (ix2 k l)) (Fin.ext h1)

end Cert.MergeIdeal.Final

namespace Cert.Proof.MergeClaims

open Idealize.ShloMosaic Idealize.ShloMosaic.TcCoe Idealize.SL.Sem

section
open Cert.MergeRefIdeal Cert.MergeRefIdeal.Gen

/-- The reference's result. -/
def merged (o p : FVec Ideal S8x4096x2048 .f32) (w y : FVec Ideal S2048x4096 .f32) (g : FVec Ideal S8x4096x8192 .f32) : FVec Ideal S32768x4096 .bf16 :=
  truncf .bf16 (shapeCast _ (addf (mulf (extractStridedSlice S8x4096x4096 ![0, 0, 0] g slices_S8x4096x8192_S8x4096x4096_0_0_0)
      (Host.dotGeneral dot_S8x4096x2048_S2048x4096_S8x4096x4096_2_0_01_1_n_n none o w))
    (mulf (extractStridedSlice S8x4096x4096 ![0, 0, 4096] g slices_S8x4096x8192_S8x4096x4096_0_0_4096)
      (Host.dotGeneral dot_S8x4096x2048_S2048x4096_S8x4096x4096_2_0_01_1_n_n none p y)) : FVec Ideal S8x4096x4096 .f32)
    shapeCasts_S8x4096x4096_S32768x4096) bitsLt_bf16_f32

theorem merged_apply (o p : FVec Ideal S8x4096x2048 .f32) (w y : FVec Ideal S2048x4096 .f32) (g : FVec Ideal S8x4096x8192 .f32) (r : Fin 32768) (l : Fin 4096) :
    merged o p w y g (ix2 r l) = Cert.MergeIdeal.Final.mergeAt o p w y g r l := by
  unfold Cert.MergeIdeal.Final.mergeAt Cert.MergeIdeal.Final.branchAt
  pointwise [merged]

end

theorem frame : Cert.quiescent_Merge := fun m ρ _ => Cert.Merge.Gen.frame m ρ

theorem frame_ideal : Cert.quiescent_MergeIdeal := fun m ρ _ => Cert.MergeIdeal.Gen.frame m ρ

theorem frame_ref : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

theorem preserves : Cert.preserves_Merge_MergeIdeal := trivial

/-- The kernel and the reference end with equal results. -/
theorem algebraic : Cert.algebraic_MergeIdeal_MergeRefIdeal := by
  pair_intro
  · run_from (Cert.MergeIdeal.Value.run_blocks (F := Ideal) m g)
  · run_from (Cert.MergeRefIdeal.Value.run (F := Ideal) m' g')
    show merged _ _ _ _ _ = _
    funext i
    rw [eq_ix2 i]
    exact (merged_apply _ _ _ _ _ _ _).trans (Cert.MergeIdeal.Final.result_apply m c _ _).symm

end Cert.Proof.MergeClaims

end
-- ==== Proof.OutClaim.lean ====
/-
  The output projection with its gated residual: each element of the result is the residual plus the gate times the merged attentions' row times the weights' column.
-/
module

public import proofs.«01_k».proof.Defs
public import proofs.«01_k».proof.Proof.Literals
public import proofs.«01_k».proof.Proof.Gen.Out.Frame
public import proofs.«01_k».proof.Proof.Gen.OutIdeal.Value
public import proofs.«01_k».proof.Proof.Gen.OutRefIdeal.Run
public import Idealize.ShloMosaic.Lib.Pointwise
public import Idealize.ShloMosaic.Lib.Claim
public import Idealize.ShloMosaic.Lib.Pipeline.Value
public import Idealize.ShloMosaic.Lib.StableHlo.Run
public import Idealize.ShloMosaic.Lib.Tactic
public import Idealize.ShloMosaic.Lib.Quiescent
public import Idealize.ShloMosaic.Lib.KernelVsHost

@[expose] public section

set_option maxRecDepth 16384

noncomputable section

namespace Cert.OutIdeal.Final

open Cert.OutIdeal Cert.OutIdeal.Gen Idealize.ShloMosaic Idealize.ShloMosaic.TcCoe Idealize.SL.Sem

/-- The body's result, at an index. -/
theorem out_apply (a : FVec Ideal S1024x4096 .bf16) (w : FVec Ideal S4096x1024 .bf16) (x : FVec Ideal S1024x1024 .f32) (g : FVec Ideal S1x8x1024 .f32) (r : Fin 1024) (l : Fin 1024) :
    out0_4 (F := Ideal) a w x g (ix2 r l) = x (ix2 r l) + g (ix3 0 2 l) * (∑ k : Fin 4096, a (ix2 r k) * w (ix2 k l)) := by
  unfold out0_4
  have hz : (![0, 0] : Fin 2 → ℕ) = fun _ => 0 := funext fun a => by fin_cases a <;> rfl
  have hz3 : (![0, 0, 0] : Fin 3 → ℕ) = fun _ => 0 := funext fun a => by fin_cases a <;> rfl
  rw [View.canon_unit_zero hz, View.ld_unit_zero hz, View.ld_unit_zero hz, View.ld_unit_zero hz, View.ld_unit_zero hz3]
  pointwise [k0_pay1]

variable (m : (ℓ : Loc nD τ sig) → Buf (Elt Ideal) ℓ)

theorem index_a : ∀ t : Fin grid0.N, win0_0.index t 0 = t.val / 4 ∧ win0_0.index t 1 = 0 := by decide +kernel
theorem index_w : ∀ t : Fin grid0.N, win0_1.index t 0 = 0 ∧ win0_1.index t 1 = t.val % 4 := by decide +kernel
theorem index_x : ∀ t : Fin grid0.N, win0_2.index t 0 = t.val / 4 ∧ win0_2.index t 1 = t.val % 4 := by decide +kernel
theorem index_g : ∀ t : Fin grid0.N, win0_3.index t 0 = t.val / 16 ∧ win0_3.index t 1 = 0 ∧ win0_3.index t 2 = t.val % 4 := by decide +kernel
theorem index_o : ∀ t : Fin grid0.N, win0_4.index t 0 = t.val / 4 ∧ win0_4.index t 1 = t.val % 4 := by decide +kernel

theorem lt_N (t : Fin cfg0.N) : t.val < 128 := Nat.lt_of_lt_of_eq t.isLt N_0

theorem iblk_a (c : Dev nD) (t : Fin cfg0.N) (r : Fin 1024) (l : Fin 4096) :
    (iblk m c 0 t : FVec Ideal S1024x4096 .bf16) (ix2 r l) = (V m c main_v1 : FVec Ideal S32768x4096 .bf16)
      (ix2 ⟨t.val / 4 * 1024 + r.val, by have := lt_N t; omega⟩ l) := by
  unfold iblk
  rw [View.read_apply]
  show (V m c main_v1 : FVec Ideal S32768x4096 .bf16) _ = _
  congr 1
  funext a
  obtain ⟨e0, e1⟩ := index_a t
  apply Fin.ext
  match a with
  | ⟨0, _⟩ => show win0_0.index t 0 * 1024 + 1 * r.val = t.val / 4 * 1024 + r.val; rw [e0]; omega
  | ⟨1, _⟩ => show win0_0.index t 1 * 4096 + 1 * l.val = l.val; rw [e1]; omega

theorem iblk_w (c : Dev nD) (t : Fin cfg0.N) (r : Fin 4096) (l : Fin 1024) :
    (iblk m c 1 t : FVec Ideal S4096x1024 .bf16) (ix2 r l) = (V m c main_v2 : FVec Ideal S4096x4096 .bf16)
      (ix2 r ⟨t.val % 4 * 1024 + l.val, by have := lt_N t; omega⟩) := by
  unfold iblk
  rw [View.read_apply]
  show (V m c main_v2 : FVec Ideal S4096x4096 .bf16) _ = _
  congr 1
  funext a
  obtain ⟨e0, e1⟩ := index_w t
  apply Fin.ext
  match a with
  | ⟨0, _⟩ => show win0_1.index t 0 * 4096 + 1 * r.val = r.val; rw [e0]; omega
  | ⟨1, _⟩ => show win0_1.index t 1 * 1024 + 1 * l.val = t.val % 4 * 1024 + l.val; rw [e1]; omega

theorem iblk_x (c : Dev nD) (t : Fin cfg0.N) (r : Fin 1024) (l : Fin 1024) :
    (iblk m c 2 t : FVec Ideal S1024x1024 .f32) (ix2 r l) = (V m c main_v3 : FVec Ideal S32768x4096 .f32)
      (ix2 ⟨t.val / 4 * 1024 + r.val, by have := lt_N t; omega⟩ ⟨t.val % 4 * 1024 + l.val, by have := lt_N t; omega⟩) := by
  unfold iblk
  rw [View.read_apply]
  show (V m c main_v3 : FVec Ideal S32768x4096 .f32) _ = _
  congr 1
  funext a
  obtain ⟨e0, e1⟩ := index_x t
  apply Fin.ext
  match a with
  | ⟨0, _⟩ => show win0_2.index t 0 * 1024 + 1 * r.val = t.val / 4 * 1024 + r.val; rw [e0]; omega
  | ⟨1, _⟩ => show win0_2.index t 1 * 1024 + 1 * l.val = t.val % 4 * 1024 + l.val; rw [e1]; omega

theorem iblk_g (c : Dev nD) (t : Fin cfg0.N) (p : Fin 1) (r : Fin 8) (l : Fin 1024) :
    (iblk m c 3 t : FVec Ideal S1x8x1024 .f32) (ix3 p r l) = (V m c main_v5 : FVec Ideal S8x8x4096 .f32)
      (ix3 ⟨t.val / 16 * 1 + p.val, by have := lt_N t; omega⟩ r ⟨t.val % 4 * 1024 + l.val, by have := lt_N t; omega⟩) := by
  unfold iblk
  rw [View.read_apply]
  show (V m c main_v5 : FVec Ideal S8x8x4096 .f32) _ = _
  congr 1
  funext a
  obtain ⟨e0, e1, e2⟩ := index_g t
  apply Fin.ext
  match a with
  | ⟨0, _⟩ => show win0_3.index t 0 * 1 + 1 * p.val = t.val / 16 * 1 + p.val; rw [e0]; omega
  | ⟨1, _⟩ => show win0_3.index t 1 * 8 + 1 * r.val = r.val; rw [e1]; omega
  | ⟨2, _⟩ => show win0_3.index t 2 * 1024 + 1 * l.val = t.val % 4 * 1024 + l.val; rw [e2]; omega

theorem index_inj (t t' : Fin cfg0.N) (h : win0_4.index t = win0_4.index t') : t = t' := by
  have h0 := congrFun h 0
  have h1 := congrFun h 1
  rw [(index_o t).1, (index_o t').1] at h0
  rw [(index_o t).2, (index_o t').2] at h1
  apply Fin.ext
  have := lt_N t
  have := lt_N t'
  omega

/-- An element of the result array is that element of the block holding it. -/
theorem result_block (c : Dev nD) (t : Fin cfg0.N) (r : Fin 1024) (l : Fin 1024) :
    ((dats m 0 c).arrAt 4 cfg0.N : FVec Ideal S32768x4096 .f32)
      (ix2 ⟨t.val / 4 * 1024 + r.val, by have := lt_N t; omega⟩ ⟨t.val % 4 * 1024 + l.val, by have := lt_N t; omega⟩)
    = out0_4 (F := Ideal) (iblk m c 0 t) (iblk m c 1 t) (iblk m c 2 t) (iblk m c 3 t) (ix2 r l) := by
  have h := congrFun ((dats m 0 c).read_blk_arrAt_eq_flushed 4 (fun t t' _ _ hne => (cfg0.win 4).disjoint_blk fun h => hne (index_inj t t' h))
    cfg0.N t t.isLt (flush0_4 t)) (ix2 r l : S1024x1024.Idx)
  rw [View.read_apply] at h
  refine Eq.trans ?_ (h.trans ?_)
  · show _ = ((dats m 0 c).arrAt 4 cfg0.N : FVec Ideal S32768x4096 .f32) _
    congr 1
    funext a
    obtain ⟨e0, e1⟩ := index_o t
    apply Fin.ext
    match a with
    | ⟨0, _⟩ => show t.val / 4 * 1024 + r.val = win0_4.index t 0 * 1024 + 1 * r.val; rw [e0]; omega
    | ⟨1, _⟩ => show t.val % 4 * 1024 + l.val = win0_4.index t 1 * 1024 + 1 * l.val; rw [e1]; omega
  · show (cfg0.win 4).cut (grid0.coords t) ((dats m 0 c).after 4 t) (ix2 r l) = _
    rw [after0_4]
    rfl

theorem a_apply (c : Dev nD) (r : Fin 32768) (k : Fin 4096) :
    (V m c main_v1 : FVec Ideal S32768x4096 .bf16) (ix2 r k) = (m ((c : Thread nD τ).loc main_arg0) : FVec Ideal S8x4096x4096 .f32) (ix3 ⟨r.val / 4096, by omega⟩ ⟨r.val % 4096, by omega⟩ k) := by
  unfold V
  simp only [List.flatten_cons, List.flatten_nil, List.append_nil, List.cons_append, List.nil_append]
  unfold_abbrev_sides
  after_results
  pointwise

theorem w_apply (c : Dev nD) (r : Fin 4096) (k : Fin 4096) :
    (V m c main_v2 : FVec Ideal S4096x4096 .bf16) (ix2 r k) = (m ((c : Thread nD τ).loc main_arg1) : FVec Ideal S4096x4096 .f32) (ix2 r k) := by
  unfold V
  simp only [List.flatten_cons, List.flatten_nil, List.append_nil, List.cons_append, List.nil_append]
  unfold_abbrev_sides
  after_results
  pointwise

theorem x_apply (c : Dev nD) (r : Fin 32768) (k : Fin 4096) :
    (V m c main_v3 : FVec Ideal S32768x4096 .f32) (ix2 r k) = (m ((c : Thread nD τ).loc main_arg2) : FVec Ideal S8x4096x4096 .f32) (ix3 ⟨r.val / 4096, by omega⟩ ⟨r.val % 4096, by omega⟩ k) := by
  unfold V
  simp only [List.flatten_cons, List.flatten_nil, List.append_nil, List.cons_append, List.nil_append]
  unfold_abbrev_sides
  after_results
  pointwise

/-- The modulation, folded into its six parts. -/
theorem fold_apply (g : FVec Ideal S8x24576 .f32) (b : Fin 8) (j : Fin 6) (l : Fin 4096) :
    shapeCast S8x6x4096 g shapeCasts_S8x24576_S8x6x4096 (ix3 b j l) = g (ix2 b ⟨j.val * 4096 + l.val, by omega⟩) := by
  pointwise

/-- The gate's row of the padded modulation. -/
theorem g_apply (c : Dev nD) (b : Fin 8) (l : Fin 4096) :
    (V m c main_v5 : FVec Ideal S8x8x4096 .f32) (ix3 b 2 l) = (m ((c : Thread nD τ).loc main_arg3) : FVec Ideal S8x24576 .f32) (ix2 b ⟨8192 + l.val, by omega⟩) := by
  unfold V
  simp only [List.flatten_cons, List.flatten_nil, List.append_nil, List.cons_append, List.nil_append]
  unfold_abbrev_sides
  after_results
  show (pad S8x8x4096 ![0, 0, 0] ![0, 2, 0] ![0, 0, 0] (shapeCast S8x6x4096 (m ((c : Thread nD τ).loc main_arg3) : FVec Ideal S8x24576 .f32) shapeCasts_S8x24576_S8x6x4096)
    _ pads_S8x6x4096_S8x8x4096_000_020_000 h_S_ : FVec Ideal S8x8x4096 .f32) (ix3 b (2 : Fin 8) l) = _
  refine (pad_apply_of_inside _ _ _ _ _ _ _ _ (ix3 b (2 : Fin 6) l) (fun a => ?_)).trans ?_
  · fin_cases a
    · show b.val = 0 + b.val * (0 + 1); omega
    · rfl
    · show l.val = 0 + l.val * (0 + 1); omega
  refine (fold_apply _ _ _ _).trans (congrArg (m ((c : Thread nD τ).loc main_arg3)) (congrArg (ix2 b) (Fin.ext ?_)))
  show 2 * 4096 + l.val = 8192 + l.val
  omega

/-- An element of the gated residual. -/
def outAt (o : FVec Ideal S8x4096x4096 .f32) (w : FVec Ideal S4096x4096 .f32) (x : FVec Ideal S8x4096x4096 .f32) (g : FVec Ideal S8x24576 .f32) (r : Fin 32768) (l : Fin 4096) : EReal :=
  x (ix3 ⟨r.val / 4096, by omega⟩ ⟨r.val % 4096, by omega⟩ l) + g (ix2 ⟨r.val / 4096, by omega⟩ ⟨8192 + l.val, by omega⟩)
    * ∑ k : Fin 4096, o (ix3 ⟨r.val / 4096, by omega⟩ ⟨r.val % 4096, by omega⟩ k) * w (ix2 k l)

/-- An element of the result array, from the arguments. -/
theorem result_apply (c : Dev nD) (r : Fin 32768) (l : Fin 4096) :
    ((dats m 0 c).arrAt 4 cfg0.N : FVec Ideal S32768x4096 .f32) (ix2 r l)
      = outAt (m ((c : Thread nD τ).loc main_arg0)) (m ((c : Thread nD τ).loc main_arg1)) (m ((c : Thread nD τ).loc main_arg2))
          (m ((c : Thread nD τ).loc main_arg3)) r l := by
  have hT : r.val / 1024 * 4 + l.val / 1024 < cfg0.N := by rw [show cfg0.N = 128 from N_0]; omega
  have h := (result_block m c ⟨_, hT⟩ ⟨r.val % 1024, by omega⟩ ⟨l.val % 1024, by omega⟩).trans (out_apply _ _ _ _ _ _)
  have h0 : (r.val / 1024 * 4 + l.val / 1024) / 4 * 1024 + r.val % 1024 = r.val := by omega
  have h1 : (r.val / 1024 * 4 + l.val / 1024) % 4 * 1024 + l.val % 1024 = l.val := by omega
  have h2 : (r.val / 1024 * 4 + l.val / 1024) / 16 * 1 + 0 = r.val / 4096 := by omega
  simp only [h0, h1] at h
  refine h.trans (Eq.trans ?_ (rfl : outAt _ _ _ _ r l = _))
  unfold outAt
  refine congrArg₂ (HAdd.hAdd (α := EReal) (β := EReal) (γ := EReal)) ?_ (congrArg₂ (HMul.hMul (α := EReal) (β := EReal) (γ := EReal)) ?_
    (congrArg (Finset.sum (M := EReal) Finset.univ) (funext fun k => congrArg₂ (HMul.hMul (α := EReal) (β := EReal) (γ := EReal)) ?_ ?_)))
  · refine (iblk_x m c _ _ _).trans (Eq.trans ?_ (x_apply m c r l))
    exact congrArg₂ (fun r l => (V m c main_v3 : FVec Ideal S32768x4096 .f32) (ix2 r l)) (Fin.ext h0) (Fin.ext h1)
  · refine (iblk_g m c _ _ _ _).trans (Eq.trans ?_ (g_apply m c ⟨r.val / 4096, by omega⟩ l))
    exact congrArg₂ (fun r l => (V m c main_v5 : FVec Ideal S8x8x4096 .f32) (ix3 r 2 l)) (Fin.ext h2) (Fin.ext h1)
  · refine (iblk_a m c _ _ k).trans (Eq.trans ?_ (a_apply m c r k))
    exact congrArg (fun r => (V m c main_v1 : FVec Ideal S32768x4096 .bf16) (ix2 r k)) (Fin.ext h0)
  · refine (iblk_w m c _ k _).trans (Eq.trans ?_ (w_apply m c k l))
    exact congrArg (fun l => (V m c main_v2 : FVec Ideal S4096x4096 .bf16) (ix2 k l)) (Fin.ext h1)

end Cert.OutIdeal.Final

namespace Cert.Proof.OutClaims

open Idealize.ShloMosaic Idealize.ShloMosaic.TcCoe Idealize.SL.Sem

section
open Cert.OutRefIdeal Cert.OutRefIdeal.Gen

/-- The reference's result. -/
def residual (o : FVec Ideal S8x4096x4096 .f32) (w : FVec Ideal S4096x4096 .f32) (x : FVec Ideal S8x4096x4096 .f32) (g : FVec Ideal S8x24576 .f32) : FVec Ideal S32768x4096 .f32 :=
  shapeCast _ (addf x (mulf (broadcastInDim S8x4096x4096 ![0, 1, 2] bcast_S8x1x4096_S8x4096x4096_0_1_2
      (extractStridedSlice S8x1x4096 ![0, 0, 8192] (broadcastInDim S8x1x24576 ![0, 2] bcast_S8x24576_S8x1x24576_0_2 g) slices_S8x1x24576_S8x1x4096_0_0_8192))
    (Host.dotGeneral dot_S8x4096x4096_S4096x4096_S8x4096x4096_2_0_01_1_n_n none o w)) : FVec Ideal S8x4096x4096 .f32) shapeCasts_S8x4096x4096_S32768x4096

theorem residual_apply (o : FVec Ideal S8x4096x4096 .f32) (w : FVec Ideal S4096x4096 .f32) (x : FVec Ideal S8x4096x4096 .f32) (g : FVec Ideal S8x24576 .f32) (r : Fin 32768) (l : Fin 4096) :
    residual o w x g (ix2 r l) = Cert.OutIdeal.Final.outAt o w x g r l := by
  unfold Cert.OutIdeal.Final.outAt
  pointwise [residual]

end

theorem frame : Cert.quiescent_Out := fun m ρ _ => Cert.Out.Gen.frame m ρ

theorem frame_ideal : Cert.quiescent_OutIdeal := fun m ρ _ => Cert.OutIdeal.Gen.frame m ρ

theorem frame_ref : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

theorem preserves : Cert.preserves_Out_OutIdeal := trivial

/-- The kernel and the reference end with equal results. -/
theorem algebraic : Cert.algebraic_OutIdeal_OutRefIdeal := by
  pair_intro
  · run_from (Cert.OutIdeal.Value.run_blocks (F := Ideal) m g)
  · run_from (Cert.OutRefIdeal.Value.run (F := Ideal) m' g')
    show residual _ _ _ _ = _
    funext i
    rw [eq_ix2 i]
    exact (residual_apply _ _ _ _ _ _).trans (Cert.OutIdeal.Final.result_apply m c _ _).symm

end Cert.Proof.OutClaims

end
-- ==== Proof.PeerQClaim.lean ====
/-
  The query projection of the product-key retrieval: each element of the result is the activations' row times the weights' column.
-/
module

public import proofs.«01_k».proof.Defs
public import proofs.«01_k».proof.Proof.Literals
public import proofs.«01_k».proof.Proof.Gen.PeerQ.Frame
public import proofs.«01_k».proof.Proof.Gen.PeerQIdeal.Value
public import proofs.«01_k».proof.Proof.Gen.PeerQRefIdeal.Run
public import Idealize.ShloMosaic.Lib.Pointwise
public import Idealize.ShloMosaic.Lib.Claim
public import Idealize.ShloMosaic.Lib.Pipeline.Value
public import Idealize.ShloMosaic.Lib.StableHlo.Run
public import Idealize.ShloMosaic.Lib.Tactic
public import Idealize.ShloMosaic.Lib.Quiescent

@[expose] public section

set_option maxRecDepth 16384

noncomputable section

namespace Cert.PeerQIdeal.Final

open Cert.PeerQIdeal Cert.PeerQIdeal.Gen Idealize.ShloMosaic Idealize.ShloMosaic.TcCoe Idealize.SL.Sem

/-- The body's result, at an index. -/
theorem out_apply (x : FVec Ideal S1024x4096 .bf16) (y : FVec Ideal S4096x1024 .bf16) (r : Fin 1024) (l : Fin 1024) :
    out0_2 (F := Ideal) x y (ix2 r l) = ∑ k : Fin 4096, x (ix2 r k) * y (ix2 k l) := by
  unfold out0_2
  have hz : (![0, 0] : Fin 2 → ℕ) = fun _ => 0 := funext fun a => by fin_cases a <;> rfl
  rw [View.canon_unit_zero hz, View.ld_unit_zero hz, View.ld_unit_zero hz]
  pointwise [k0_pay1]

variable (m : (ℓ : Loc nD τ sig) → Buf (Elt Ideal) ℓ)

theorem index_x : ∀ t : Fin grid0.N, win0_0.index t 0 = t.val / 2 ∧ win0_0.index t 1 = 0 := by decide +kernel
theorem index_w : ∀ t : Fin grid0.N, win0_1.index t 0 = 0 ∧ win0_1.index t 1 = t.val % 2 := by decide +kernel
theorem index_o : ∀ t : Fin grid0.N, win0_2.index t 0 = t.val / 2 ∧ win0_2.index t 1 = t.val % 2 := by decide +kernel

theorem lt_N (t : Fin cfg0.N) : t.val < 64 := Nat.lt_of_lt_of_eq t.isLt N_0

theorem iblk_x (c : Dev nD) (t : Fin cfg0.N) (r : Fin 1024) (l : Fin 4096) :
    (iblk m c 0 t : FVec Ideal S1024x4096 .bf16) (ix2 r l) = (V m c main_v1 : FVec Ideal S32768x4096 .bf16)
      (ix2 ⟨t.val / 2 * 1024 + r.val, by have := lt_N t; omega⟩ l) := by
  unfold iblk
  rw [View.read_apply]
  show (V m c main_v1 : FVec Ideal S32768x4096 .bf16) _ = _
  congr 1
  funext a
  obtain ⟨e0, e1⟩ := index_x t
  apply Fin.ext
  match a with
  | ⟨0, _⟩ => show win0_0.index t 0 * 1024 + 1 * r.val = t.val / 2 * 1024 + r.val; rw [e0]; omega
  | ⟨1, _⟩ => show win0_0.index t 1 * 4096 + 1 * l.val = l.val; rw [e1]; omega

theorem iblk_w (c : Dev nD) (t : Fin cfg0.N) (r : Fin 4096) (l : Fin 1024) :
    (iblk m c 1 t : FVec Ideal S4096x1024 .bf16) (ix2 r l) = (V m c main_v2 : FVec Ideal S4096x2048 .bf16)
      (ix2 r ⟨t.val % 2 * 1024 + l.val, by have := lt_N t; omega⟩) := by
  unfold iblk
  rw [View.read_apply]
  show (V m c main_v2 : FVec Ideal S4096x2048 .bf16) _ = _
  congr 1
  funext a
  obtain ⟨e0, e1⟩ := index_w t
  apply Fin.ext
  match a with
  | ⟨0, _⟩ => show win0_1.index t 0 * 4096 + 1 * r.val = r.val; rw [e0]; omega
  | ⟨1, _⟩ => show win0_1.index t 1 * 1024 + 1 * l.val = t.val % 2 * 1024 + l.val; rw [e1]; omega

theorem index_inj (t t' : Fin cfg0.N) (h : win0_2.index t = win0_2.index t') : t = t' := by
  have h0 := congrFun h 0
  have h1 := congrFun h 1
  rw [(index_o t).1, (index_o t').1] at h0
  rw [(index_o t).2, (index_o t').2] at h1
  apply Fin.ext
  have := lt_N t
  have := lt_N t'
  omega

/-- An element of the result array is that element of the block holding it. -/
theorem result_block (c : Dev nD) (t : Fin cfg0.N) (r : Fin 1024) (l : Fin 1024) :
    ((dats m 0 c).arrAt 2 cfg0.N : FVec Ideal S32768x2048 .bf16)
      (ix2 ⟨t.val / 2 * 1024 + r.val, by have := lt_N t; omega⟩ ⟨t.val % 2 * 1024 + l.val, by have := lt_N t; omega⟩)
    = out0_2 (F := Ideal) (iblk m c 0 t) (iblk m c 1 t) (ix2 r l) := by
  have h := congrFun ((dats m 0 c).read_blk_arrAt_eq_flushed 2 (fun t t' _ _ hne => (cfg0.win 2).disjoint_blk fun h => hne (index_inj t t' h))
    cfg0.N t t.isLt (flush0_2 t)) (ix2 r l : S1024x1024.Idx)
  rw [View.read_apply] at h
  refine Eq.trans ?_ (h.trans ?_)
  · show _ = ((dats m 0 c).arrAt 2 cfg0.N : FVec Ideal S32768x2048 .bf16) _
    congr 1
    funext a
    obtain ⟨e0, e1⟩ := index_o t
    apply Fin.ext
    match a with
    | ⟨0, _⟩ => show t.val / 2 * 1024 + r.val = win0_2.index t 0 * 1024 + 1 * r.val; rw [e0]; omega
    | ⟨1, _⟩ => show t.val % 2 * 1024 + l.val = win0_2.index t 1 * 1024 + 1 * l.val; rw [e1]; omega
  · show (cfg0.win 2).cut (grid0.coords t) ((dats m 0 c).after 2 t) (ix2 r l) = _
    rw [after0_2]
    rfl

/-- The activations the call is given. -/
theorem rows_apply (c : Dev nD) (r : Fin 32768) (k : Fin 4096) :
    (V m c main_v1 : FVec Ideal S32768x4096 .bf16) (ix2 r k) =
      (m ((c : Thread nD τ).loc main_arg0) : FVec Ideal S8x4096x4096 .f32) (ix3 ⟨r.val / 4096, by omega⟩ ⟨r.val % 4096, by omega⟩ k) := by
  unfold V
  unfold_abbrev_sides
  after_results
  pointwise

/-- The weights the call is given. -/
theorem weights_apply (c : Dev nD) (k : Fin 4096) (l : Fin 2048) :
    (V m c main_v2 : FVec Ideal S4096x2048 .bf16) (ix2 k l) =
      (m ((c : Thread nD τ).loc main_arg1) : FVec Ideal S4096x2048 .f32) (ix2 k l) := by
  unfold V
  unfold_abbrev_sides
  after_results
  pointwise

/-- An element of the projection: the activations' row times the weights' column. -/
def queryAt (h : FVec Ideal S8x4096x4096 .f32) (w : FVec Ideal S4096x2048 .f32) (r : Fin 32768) (l : Fin 2048) : EReal :=
  ∑ k : Fin 4096, h (ix3 ⟨r.val / 4096, by omega⟩ ⟨r.val % 4096, by omega⟩ k) * w (ix2 k l)

/-- An element of the result array, from the arguments. -/
theorem result_apply (c : Dev nD) (r : Fin 32768) (l : Fin 2048) :
    ((dats m 0 c).arrAt 2 cfg0.N : FVec Ideal S32768x2048 .bf16) (ix2 r l)
      = queryAt (m ((c : Thread nD τ).loc main_arg0)) (m ((c : Thread nD τ).loc main_arg1)) r l := by
  have hT : r.val / 1024 * 2 + l.val / 1024 < cfg0.N := by rw [show cfg0.N = 64 from N_0]; omega
  have h := (result_block m c ⟨_, hT⟩ ⟨r.val % 1024, by omega⟩ ⟨l.val % 1024, by omega⟩).trans (out_apply _ _ _ _)
  have h0 : (r.val / 1024 * 2 + l.val / 1024) / 2 * 1024 + r.val % 1024 = r.val := by omega
  have h1 : (r.val / 1024 * 2 + l.val / 1024) % 2 * 1024 + l.val % 1024 = l.val := by omega
  simp only [h0, h1] at h
  refine h.trans (Eq.trans ?_ (rfl : queryAt _ _ r l = _))
  unfold queryAt
  refine congrArg (Finset.sum (M := EReal) Finset.univ) (funext fun k => congrArg₂ (HMul.hMul (α := EReal) (β := EReal) (γ := EReal)) ?_ ?_)
  · refine (iblk_x m c _ _ k).trans (Eq.trans ?_ (rows_apply m c r k))
    exact congrArg (fun r => (V m c main_v1 : FVec Ideal S32768x4096 .bf16) (ix2 r k)) (Fin.ext h0)
  · refine (iblk_w m c _ k _).trans (Eq.trans ?_ (weights_apply m c k l))
    exact congrArg (fun l => (V m c main_v2 : FVec Ideal S4096x2048 .bf16) (ix2 k l)) (Fin.ext h1)

end Cert.PeerQIdeal.Final

namespace Cert.Proof.PeerQClaims

open Idealize.ShloMosaic Idealize.ShloMosaic.TcCoe Idealize.SL.Sem

section
open Cert.PeerQRefIdeal Cert.PeerQRefIdeal.Gen

/-- The reference's result: the rows of the activations times the weights. -/
def queries (h : FVec Ideal S8x4096x4096 .f32) (w : FVec Ideal S4096x2048 .f32) : FVec Ideal S32768x2048 .bf16 :=
  truncf .bf16 (Host.dotGeneral dot_S32768x4096_S4096x2048_S32768x2048_1_0_0_1_n_n none
    (shapeCast S32768x4096 h shapeCasts_S8x4096x4096_S32768x4096) w : FVec Ideal S32768x2048 .f32) bitsLt_bf16_f32

theorem queries_apply (h : FVec Ideal S8x4096x4096 .f32) (w : FVec Ideal S4096x2048 .f32) (r : Fin 32768) (l : Fin 2048) :
    queries h w (ix2 r l) = Cert.PeerQIdeal.Final.queryAt h w r l := by
  unfold Cert.PeerQIdeal.Final.queryAt
  pointwise [queries]

end

theorem frame : Cert.quiescent_PeerQ := fun m ρ _ => Cert.PeerQ.Gen.frame m ρ

theorem frame_ideal : Cert.quiescent_PeerQIdeal := fun m ρ _ => Cert.PeerQIdeal.Gen.frame m ρ

theorem frame_ref : Cert.quiescent_PeerQRefIdeal := fun m ρ _ =>
  (θ_run Cert.PeerQRefIdeal.defs _ _).mono (fun r h => ⟨fun c => (h c).2, sem_eq_zero_of_no_sems (by decide) r.2⟩)
    (Cert.PeerQRefIdeal.Value.run (F := Ideal) m ρ)

theorem preserves : Cert.preserves_PeerQ_PeerQIdeal := trivial

/-- The kernel and the reference end with equal results. -/
theorem algebraic : Cert.algebraic_PeerQIdeal_PeerQRefIdeal := by
  pair_intro
  · run_from (Cert.PeerQIdeal.Value.run_blocks (F := Ideal) m g)
  · run_from (Cert.PeerQRefIdeal.Value.run (F := Ideal) m' g')
    show queries _ _ = _
    funext i
    rw [eq_ix2 i]
    exact (queries_apply _ _ _ _).trans (Cert.PeerQIdeal.Final.result_apply m c _ _).symm

end Cert.Proof.PeerQClaims

end
-- ==== Proof.NormRow.lean ====
/-
  The root mean square norm of a row, as both programs compute it.
-/
module

public import Idealize.ShloMosaic.Lib.Pointwise

@[expose] public section

noncomputable section

namespace Cert.Norm

open Idealize.ShloMosaic

/-- An element of a row of `n` elements divided by the root of the row's mean square plus epsilon; `d` is the number the sum is divided by. -/
def rmsOver {n : ℕ} (d : EReal) (f : Fin n → EReal) (l : Fin n) : EReal :=
  f l * Ideal.rsqrt (Ideal.div (∑ k : Fin n, f k * f k) d + Ideal.ofBits .f32 0x358637BD#32)

/-- The norm of a row of 4096 elements. -/
def rms (f : Fin 4096 → EReal) (l : Fin 4096) : EReal := rmsOver (Ideal.ofBits .f32 0x45800000#32) f l

end Cert.Norm

end
-- ==== Proof.FinalPClaim.lean ====
/-
  The last gated residual and the final norm: each element of the result is that element of the normalised row.
-/
module

public import proofs.«01_k».proof.Defs
public import proofs.«01_k».proof.Proof.Literals
public import proofs.«01_k».proof.Proof.Gen.FinalP.Frame
public import proofs.«01_k».proof.Proof.Gen.FinalPIdeal.Frame
public import proofs.«01_k».proof.Proof.Gen.FinalPRefIdeal.Run
public import Idealize.ShloMosaic.Lib.Pointwise
public import Idealize.ShloMosaic.Lib.Claim
public import Idealize.ShloMosaic.Lib.Pipeline.Value
public import Idealize.ShloMosaic.Lib.StableHlo.Run
public import Idealize.ShloMosaic.Lib.Tactic
public import Idealize.ShloMosaic.Lib.Quiescent
public import Idealize.ShloMosaic.Lib.KernelVsHost
public import proofs.«01_k».proof.Proof.NormRow

@[expose] public section

set_option maxRecDepth 16384

noncomputable section

namespace Cert.FinalPIdeal.Final

open Cert.FinalPIdeal Cert.FinalPIdeal.Gen Idealize.ShloMosaic Idealize.ShloMosaic.TcCoe Idealize.SL.Sem

/-- The row after the gated residual. -/
def rowOf (x p : FVec Ideal S256x4096 .f32) (g : FVec Ideal S1x8x4096 .f32) (r : Fin 256) (k : Fin 4096) : EReal :=
  x (ix2 r k) + g (ix3 0 5 k) * p (ix2 r k)

/-- The body's result, at an index. -/
theorem out_apply (x p : FVec Ideal S256x4096 .f32) (g : FVec Ideal S1x8x4096 .f32) (w : FVec Ideal S1x4096 .f32) (r : Fin 256) (l : Fin 4096) :
    out0_4 (F := Ideal) x p g w (ix2 r l) = Cert.Norm.rms (rowOf x p g r) l * w (ix2 0 l) := by
  unfold out0_4 Cert.Norm.rms Cert.Norm.rmsOver rowOf
  have hz : (![0, 0] : Fin 2 → ℕ) = fun _ => 0 := funext fun a => by fin_cases a <;> rfl
  have hz3 : (![0, 0, 0] : Fin 3 → ℕ) = fun _ => 0 := funext fun a => by fin_cases a <;> rfl
  rw [View.canon_unit_zero hz, View.ld_unit_zero hz, View.ld_unit_zero hz3, View.ld_unit_zero hz, View.ld_unit_zero hz]
  pointwise [k0_pay1]

variable (m : (ℓ : Loc nD τ sig) → Buf (Elt Ideal) ℓ)

theorem index_x : ∀ t : Fin grid0.N, win0_0.index t 0 = t.val ∧ win0_0.index t 1 = 0 := by decide +kernel
theorem index_p : ∀ t : Fin grid0.N, win0_1.index t 0 = t.val ∧ win0_1.index t 1 = 0 := by decide +kernel
theorem index_g : ∀ t : Fin grid0.N, win0_2.index t 0 = 0 ∧ win0_2.index t 1 = 0 ∧ win0_2.index t 2 = 0 := by decide +kernel
theorem index_w : ∀ t : Fin grid0.N, win0_3.index t 0 = 0 ∧ win0_3.index t 1 = 0 := by decide +kernel
theorem index_o : ∀ t : Fin grid0.N, win0_4.index t 0 = t.val ∧ win0_4.index t 1 = 0 := by decide +kernel

theorem lt_N (t : Fin cfg0.N) : t.val < 16 := Nat.lt_of_lt_of_eq t.isLt N_0

theorem iblk_x (c : Dev nD) (t : Fin cfg0.N) (r : Fin 256) (l : Fin 4096) :
    (iblk m c 0 t : FVec Ideal S256x4096 .f32) (ix2 r l) = (V m c main_v0 : FVec Ideal S4096x4096 .f32)
      (ix2 ⟨t.val * 256 + r.val, by have := lt_N t; omega⟩ l) := by
  unfold iblk
  rw [View.read_apply]
  show (V m c main_v0 : FVec Ideal S4096x4096 .f32) _ = _
  congr 1
  funext a
  obtain ⟨e0, e1⟩ := index_x t
  apply Fin.ext
  match a with
  | ⟨0, _⟩ => show win0_0.index t 0 * 256 + 1 * r.val = t.val * 256 + r.val; rw [e0]; omega
  | ⟨1, _⟩ => show win0_0.index t 1 * 4096 + 1 * l.val = l.val; rw [e1]; omega

theorem iblk_p (c : Dev nD) (t : Fin cfg0.N) (r : Fin 256) (l : Fin 4096) :
    (iblk m c 1 t : FVec Ideal S256x4096 .f32) (ix2 r l) = (V m c main_v1 : FVec Ideal S4096x4096 .f32)
      (ix2 ⟨t.val * 256 + r.val, by have := lt_N t; omega⟩ l) := by
  unfold iblk
  rw [View.read_apply]
  show (V m c main_v1 : FVec Ideal S4096x4096 .f32) _ = _
  congr 1
  funext a
  obtain ⟨e0, e1⟩ := index_p t
  apply Fin.ext
  match a with
  | ⟨0, _⟩ => show win0_1.index t 0 * 256 + 1 * r.val = t.val * 256 + r.val; rw [e0]; omega
  | ⟨1, _⟩ => show win0_1.index t 1 * 4096 + 1 * l.val = l.val; rw [e1]; omega

theorem iblk_g (c : Dev nD) (t : Fin cfg0.N) (p : Fin 1) (r : Fin 8) (l : Fin 4096) :
    (iblk m c 2 t : FVec Ideal S1x8x4096 .f32) (ix3 p r l) = (V m c main_v3 : FVec Ideal S1x8x4096 .f32)
      (ix3 p r l) := by
  unfold iblk
  rw [View.read_apply]
  show (V m c main_v3 : FVec Ideal S1x8x4096 .f32) _ = _
  congr 1
  funext a
  obtain ⟨e0, e1, e2⟩ := index_g t
  apply Fin.ext
  match a with
  | ⟨0, _⟩ => show win0_2.index t 0 * 1 + 1 * p.val = p.val; rw [e0]; omega
  | ⟨1, _⟩ => show win0_2.index t 1 * 8 + 1 * r.val = r.val; rw [e1]; omega
  | ⟨2, _⟩ => show win0_2.index t 2 * 4096 + 1 * l.val = l.val; rw [e2]; omega

theorem iblk_w (c : Dev nD) (t : Fin cfg0.N) (r : Fin 1) (l : Fin 4096) :
    (iblk m c 3 t : FVec Ideal S1x4096 .f32) (ix2 r l) = (V m c main_v4 : FVec Ideal S1x4096 .f32)
      (ix2 r l) := by
  unfold iblk
  rw [View.read_apply]
  show (V m c main_v4 : FVec Ideal S1x4096 .f32) _ = _
  congr 1
  funext a
  obtain ⟨e0, e1⟩ := index_w t
  apply Fin.ext
  match a with
  | ⟨0, _⟩ => show win0_3.index t 0 * 1 + 1 * r.val = r.val; rw [e0]; omega
  | ⟨1, _⟩ => show win0_3.index t 1 * 4096 + 1 * l.val = l.val; rw [e1]; omega

theorem index_inj (t t' : Fin cfg0.N) (h : win0_4.index t = win0_4.index t') : t = t' := by
  have h0 := congrFun h 0
  have h1 := congrFun h 1
  rw [(index_o t).1, (index_o t').1] at h0
  rw [(index_o t).2, (index_o t').2] at h1
  apply Fin.ext
  have := lt_N t
  have := lt_N t'
  omega

/-- An element of the result array is that element of the block holding it. -/
theorem result_block (c : Dev nD) (t : Fin cfg0.N) (r : Fin 256) (l : Fin 4096) :
    ((dats m 0 c).arrAt 4 cfg0.N : FVec Ideal S4096x4096 .f32)
      (ix2 ⟨t.val * 256 + r.val, by have := lt_N t; omega⟩ l)
    = out0_4 (F := Ideal) (iblk m c 0 t) (iblk m c 1 t) (iblk m c 2 t) (iblk m c 3 t) (ix2 r l) := by
  have h := congrFun ((dats m 0 c).read_blk_arrAt_eq_flushed 4 (fun t t' _ _ hne => (cfg0.win 4).disjoint_blk fun h => hne (index_inj t t' h))
    cfg0.N t t.isLt (flush0_4 t)) (ix2 r l : S256x4096.Idx)
  rw [View.read_apply] at h
  refine Eq.trans ?_ (h.trans ?_)
  · show _ = ((dats m 0 c).arrAt 4 cfg0.N : FVec Ideal S4096x4096 .f32) _
    congr 1
    funext a
    obtain ⟨e0, e1⟩ := index_o t
    apply Fin.ext
    match a with
    | ⟨0, _⟩ => show t.val * 256 + r.val = win0_4.index t 0 * 256 + 1 * r.val; rw [e0]; omega
    | ⟨1, _⟩ => show l.val = win0_4.index t 1 * 4096 + 1 * l.val; rw [e1]; omega
  · show (cfg0.win 4).cut (grid0.coords t) ((dats m 0 c).after 4 t) (ix2 r l) = _
    rw [after0_4]
    rfl

theorem x_apply (c : Dev nD) (b : Fin 16) (s : Fin 256) (k : Fin 4096) :
    (V m c main_v0 : FVec Ideal S4096x4096 .f32) (ix2 ⟨b.val * 256 + s.val, by omega⟩ k) = (m ((c : Thread nD τ).loc main_arg0) : FVec Ideal S16x256x4096 .f32) (ix3 b s k) := by
  unfold V V0
  simp only [List.flatten_cons, List.flatten_nil, List.append_nil, List.cons_append, List.nil_append]
  unfold_abbrev_sides
  after_results
  pointwise

theorem p_apply (c : Dev nD) (b : Fin 16) (s : Fin 256) (k : Fin 4096) :
    (V m c main_v1 : FVec Ideal S4096x4096 .f32) (ix2 ⟨b.val * 256 + s.val, by omega⟩ k) = (m ((c : Thread nD τ).loc main_arg1) : FVec Ideal S16x256x4096 .f32) (ix3 b s k) := by
  unfold V V0
  simp only [List.flatten_cons, List.flatten_nil, List.append_nil, List.cons_append, List.nil_append]
  unfold_abbrev_sides
  after_results
  pointwise

/-- The modulation, folded into its six parts. -/
theorem fold_apply (g : FVec Ideal S24576 .f32) (b : Fin 1) (j : Fin 6) (l : Fin 4096) :
    shapeCast S1x6x4096 g shapeCasts_S24576_S1x6x4096 (ix3 b j l) = g (ix1 ⟨j.val * 4096 + l.val, by omega⟩) := by
  pointwise

/-- The gate's row of the padded modulation. -/
theorem g_apply (c : Dev nD) (b : Fin 1) (l : Fin 4096) :
    (V m c main_v3 : FVec Ideal S1x8x4096 .f32) (ix3 b 5 l) = (m ((c : Thread nD τ).loc main_arg2) : FVec Ideal S24576 .f32) (ix1 ⟨20480 + l.val, by omega⟩) := by
  unfold V V0
  simp only [List.flatten_cons, List.flatten_nil, List.append_nil, List.cons_append, List.nil_append]
  unfold_abbrev_sides
  after_results
  show (pad S1x8x4096 ![0, 0, 0] ![0, 2, 0] ![0, 0, 0] (shapeCast S1x6x4096 (m ((c : Thread nD τ).loc main_arg2) : FVec Ideal S24576 .f32) shapeCasts_S24576_S1x6x4096)
    _ pads_S1x6x4096_S1x8x4096_000_020_000 h_S_ : FVec Ideal S1x8x4096 .f32) (ix3 b (5 : Fin 8) l) = _
  refine (pad_apply_of_inside _ _ _ _ _ _ _ _ (ix3 b (5 : Fin 6) l) (fun a => ?_)).trans ?_
  · fin_cases a
    · show b.val = 0 + b.val * (0 + 1); omega
    · rfl
    · show l.val = 0 + l.val * (0 + 1); omega
  refine (fold_apply _ _ _ _).trans (congrArg (m ((c : Thread nD τ).loc main_arg2)) (congrArg ix1 (Fin.ext ?_)))
  show 5 * 4096 + l.val = 20480 + l.val
  omega

theorem w_apply (c : Dev nD) (l : Fin 4096) :
    (V m c main_v4 : FVec Ideal S1x4096 .f32) (ix2 0 l) = (m ((c : Thread nD τ).loc main_arg3) : FVec Ideal S4096 .f32) (ix1 l) := by
  unfold V V0
  simp only [List.flatten_cons, List.flatten_nil, List.append_nil, List.cons_append, List.nil_append]
  unfold_abbrev_sides
  after_results
  pointwise

/-- An element of the final norm. -/
def finalAt (x p : FVec Ideal S16x256x4096 .f32) (g : FVec Ideal S24576 .f32) (w : FVec Ideal S4096 .f32) (b : Fin 16) (s : Fin 256) (l : Fin 4096) : EReal :=
  Cert.Norm.rms (fun k => x (ix3 b s k) + g (ix1 ⟨20480 + k.val, by omega⟩) * p (ix3 b s k)) l * w (ix1 l)

/-- An element of the call's result array, from the arguments. -/
theorem result_apply (c : Dev nD) (b : Fin 16) (s : Fin 256) (l : Fin 4096) :
    ((dats m 0 c).arrAt 4 cfg0.N : FVec Ideal S4096x4096 .f32) (ix2 ⟨b.val * 256 + s.val, by omega⟩ l)
      = finalAt (m ((c : Thread nD τ).loc main_arg0)) (m ((c : Thread nD τ).loc main_arg1)) (m ((c : Thread nD τ).loc main_arg2))
          (m ((c : Thread nD τ).loc main_arg3)) b s l := by
  have hT : (b.val * 256 + s.val) / 256 < cfg0.N := by rw [show cfg0.N = 16 from N_0]; omega
  have h := (result_block m c ⟨_, hT⟩ ⟨(b.val * 256 + s.val) % 256, by omega⟩ l).trans (out_apply _ _ _ _ _ _)
  have h0 : (b.val * 256 + s.val) / 256 * 256 + (b.val * 256 + s.val) % 256 = b.val * 256 + s.val := by omega
  simp only [h0] at h
  refine h.trans (Eq.trans ?_ (rfl : finalAt _ _ _ _ b s l = _))
  unfold finalAt
  refine congrArg₂ (HMul.hMul (α := EReal) (β := EReal) (γ := EReal)) (congrArg (fun f => Cert.Norm.rms f l) (funext fun k => ?_))
    ((iblk_w m c _ _ _).trans (w_apply m c l))
  unfold rowOf
  refine congrArg₂ (HAdd.hAdd (α := EReal) (β := EReal) (γ := EReal)) ?_ (congrArg₂ (HMul.hMul (α := EReal) (β := EReal) (γ := EReal)) ?_ ?_)
  · refine (iblk_x m c _ _ k).trans (Eq.trans ?_ (x_apply m c b s k))
    exact congrArg (fun r => (V m c main_v0 : FVec Ideal S4096x4096 .f32) (ix2 r k)) (Fin.ext h0)
  · refine (iblk_g m c _ _ _ _).trans (Eq.trans ?_ (g_apply m c 0 k))
    exact congrArg (fun r => (V m c main_v3 : FVec Ideal S1x8x4096 .f32) (ix3 r 5 k)) (rfl)
  · refine (iblk_p m c _ _ k).trans (Eq.trans ?_ (p_apply m c b s k))
    exact congrArg (fun r => (V m c main_v1 : FVec Ideal S4096x4096 .f32) (ix2 r k)) (Fin.ext h0)

end Cert.FinalPIdeal.Final

namespace Cert.Proof.FinalPClaims

open Idealize.ShloMosaic Idealize.ShloMosaic.TcCoe Idealize.SL.Sem

section
open Cert.FinalPRefIdeal Cert.FinalPRefIdeal.Gen

/-- The reference's row after the gated residual. -/
def rows (x p : FVec Ideal S16x256x4096 .f32) (g : FVec Ideal S24576 .f32) : FVec Ideal S16x256x4096 .f32 :=
  addf x (mulf (broadcastInDim S16x256x4096 ![0, 1, 2] bcast_S1x1x4096_S16x256x4096_0_1_2
      (broadcastInDim S1x1x4096 ![2] bcast_S4096_S1x1x4096_2 (extractStridedSlice S4096 ![20480] g slices_S24576_S4096_20480))) p)

/-- The reference's norm of the rows. -/
def norm (y : FVec Ideal S16x256x4096 .f32) (w : FVec Ideal S4096 .f32) : FVec Ideal S16x256x4096 .f32 :=
  mulf (mulf y (broadcastInDim S16x256x4096 ![0, 1, 2] bcast_S16x256x1_S16x256x4096_0_1_2 (Host.rsqrt (addf (Host.divf (broadcastInDim S16x256x1 ![0, 1] bcast_S16x256_S16x256x1_0_1 (Host.reduceAdd (mulf y y) (constant S_ .f32 0x00000000#32) reducesTo_S16x256x4096_S16x256_d2 h_S_)) (broadcastInDim S16x256x1 ![] bcast_S_S16x256x1 (constant S_ .f32 0x45800000#32))) (broadcastInDim S16x256x1 ![] bcast_S_S16x256x1 (constant S_ .f32 0x358637BD#32)))))) (broadcastInDim S16x256x4096 ![0, 1, 2] bcast_S1x1x4096_S16x256x4096_0_1_2 (broadcastInDim S1x1x4096 ![2] bcast_S4096_S1x1x4096_2 w))

theorem rows_apply (x p : FVec Ideal S16x256x4096 .f32) (g : FVec Ideal S24576 .f32) (b : Fin 16) (s : Fin 256) (k : Fin 4096) :
    rows x p g (ix3 b s k) = (x (ix3 b s k) + g (ix1 ⟨20480 + k.val, by omega⟩) * p (ix3 b s k) : EReal) := by
  pointwise [rows]

theorem norm_apply (y : FVec Ideal S16x256x4096 .f32) (w : FVec Ideal S4096 .f32) (b : Fin 16) (s : Fin 256) (l : Fin 4096) :
    norm y w (ix3 b s l) = Cert.Norm.rms (fun k => y (ix3 b s k)) l * w (ix1 l) := by
  unfold Cert.Norm.rms Cert.Norm.rmsOver
  pointwise [norm]

theorem final_apply (x p : FVec Ideal S16x256x4096 .f32) (g : FVec Ideal S24576 .f32) (w : FVec Ideal S4096 .f32) (b : Fin 16) (s : Fin 256) (l : Fin 4096) :
    norm (rows x p g) w (ix3 b s l) = Cert.FinalPIdeal.Final.finalAt x p g w b s l := by
  rw [norm_apply]
  unfold Cert.FinalPIdeal.Final.finalAt
  simp only [rows_apply]

end

theorem frame : Cert.quiescent_FinalP := fun m ρ _ => Cert.FinalP.Gen.frame m ρ

theorem frame_ideal : Cert.quiescent_FinalPIdeal := fun m ρ _ => Cert.FinalPIdeal.Gen.frame m ρ

theorem frame_ref : Cert.quiescent_FinalPRefIdeal := fun m ρ _ =>
  (θ_run Cert.FinalPRefIdeal.defs _ _).mono (fun r h => ⟨fun c => (h c).2, sem_eq_zero_of_no_sems (by decide) r.2⟩)
    (Cert.FinalPRefIdeal.Value.run (F := Ideal) m ρ)

theorem preserves : Cert.preserves_FinalP_FinalPIdeal := trivial

/-- The result, read off the call's result array. -/
theorem tail_apply (m : (ℓ : Loc Cert.FinalPIdeal.nD Cert.FinalPIdeal.τ Cert.FinalPIdeal.sig) → Buf (Elt Ideal) ℓ) (c : Dev Cert.FinalPIdeal.nD)
    (b : Fin 16) (s : Fin 256) (l : Fin 4096) :
    (Pipeline.afterTail₀ Cert.FinalPIdeal.cfgs (Cert.FinalPIdeal.Gen.dats m) 0 (Cert.FinalPIdeal.Gen.V0 m) [Cert.FinalPIdeal.Gen.hostOps1] c
      Cert.FinalPIdeal.main_v6 : FVec Ideal Cert.FinalPIdeal.S16x256x4096 .f32) (ix3 b s l)
    = ((Cert.FinalPIdeal.Gen.dats m 0 c).arrAt 4 Cert.FinalPIdeal.cfg0.N : FVec Ideal Cert.FinalPIdeal.S4096x4096 .f32)
        (ix2 ⟨b.val * 256 + s.val, by omega⟩ l) := by
  unfold Pipeline.afterTail₀
  simp only [List.flatten_cons, List.flatten_nil, List.append_nil]
  unfold Cert.FinalPIdeal.Gen.hostOps1
  after_results
  rw [show Pipeline.withArrays (Cert.FinalPIdeal.cfgs 0).spec c (Cert.FinalPIdeal.Gen.V0 m c)
      (fun w => (Cert.FinalPIdeal.Gen.dats m 0 c).arrAt w (Cert.FinalPIdeal.cfgs 0).N) (Proc.tc.devRef Cert.FinalPIdeal.main_v5)
      = (Cert.FinalPIdeal.Gen.dats m 0 c).arrAt 4 Cert.FinalPIdeal.cfg0.N from
    Pipeline.withArrays_arr (Cert.FinalPIdeal.cfgs 0).spec (by decide) c (Cert.FinalPIdeal.Gen.V0 m c) _ 4]
  generalize (Cert.FinalPIdeal.Gen.dats m 0 c).arrAt 4 Cert.FinalPIdeal.cfg0.N = y
  pointwise

/-- The kernel and the reference end with equal results. -/
theorem algebraic : Cert.algebraic_FinalPIdeal_FinalPRefIdeal := by
  pair_intro
  · run_from (Cert.FinalPIdeal.Gen.run_main m g) & (Cert.FinalPIdeal.Gen.unchanged m g)
  · run_from (Cert.FinalPRefIdeal.Value.run (F := Ideal) m' g')
    show norm (rows _ _ _) _ = _
    funext i
    rw [eq_ix3 i]
    exact (final_apply _ _ _ _ _ _ _).trans ((tail_apply m c _ _ _).trans (Cert.FinalPIdeal.Final.result_apply m c _ _ _)).symm

end Cert.Proof.FinalPClaims

end
-- ==== Proof.FinalSClaim.lean ====
/-
  The last gated residual and the final norm: each element of the result is that element of the normalised row.
-/
module

public import proofs.«01_k».proof.Defs
public import proofs.«01_k».proof.Proof.Literals
public import proofs.«01_k».proof.Proof.Gen.FinalS.Frame
public import proofs.«01_k».proof.Proof.Gen.FinalSIdeal.Frame
public import proofs.«01_k».proof.Proof.Gen.FinalSRefIdeal.Run
public import Idealize.ShloMosaic.Lib.Pointwise
public import Idealize.ShloMosaic.Lib.Claim
public import Idealize.ShloMosaic.Lib.Pipeline.Value
public import Idealize.ShloMosaic.Lib.StableHlo.Run
public import Idealize.ShloMosaic.Lib.Tactic
public import Idealize.ShloMosaic.Lib.Quiescent
public import Idealize.ShloMosaic.Lib.KernelVsHost
public import proofs.«01_k».proof.Proof.NormRow

@[expose] public section

set_option maxRecDepth 16384

noncomputable section

namespace Cert.FinalSIdeal.Final

open Cert.FinalSIdeal Cert.FinalSIdeal.Gen Idealize.ShloMosaic Idealize.ShloMosaic.TcCoe Idealize.SL.Sem

/-- The row after the gated residual. -/
def rowOf (x p : FVec Ideal S256x4096 .f32) (g : FVec Ideal S1x8x4096 .f32) (r : Fin 256) (k : Fin 4096) : EReal :=
  x (ix2 r k) + g (ix3 0 5 k) * p (ix2 r k)

/-- The body's result, at an index. -/
theorem out_apply (x p : FVec Ideal S256x4096 .f32) (g : FVec Ideal S1x8x4096 .f32) (w : FVec Ideal S1x4096 .f32) (r : Fin 256) (l : Fin 4096) :
    out0_4 (F := Ideal) x p g w (ix2 r l) = Cert.Norm.rms (rowOf x p g r) l * w (ix2 0 l) := by
  unfold out0_4 Cert.Norm.rms Cert.Norm.rmsOver rowOf
  have hz : (![0, 0] : Fin 2 → ℕ) = fun _ => 0 := funext fun a => by fin_cases a <;> rfl
  have hz3 : (![0, 0, 0] : Fin 3 → ℕ) = fun _ => 0 := funext fun a => by fin_cases a <;> rfl
  rw [View.canon_unit_zero hz, View.ld_unit_zero hz, View.ld_unit_zero hz3, View.ld_unit_zero hz, View.ld_unit_zero hz]
  pointwise [k0_pay1]

variable (m : (ℓ : Loc nD τ sig) → Buf (Elt Ideal) ℓ)

theorem index_x : ∀ t : Fin grid0.N, win0_0.index t 0 = t.val ∧ win0_0.index t 1 = 0 := by decide +kernel
theorem index_p : ∀ t : Fin grid0.N, win0_1.index t 0 = t.val ∧ win0_1.index t 1 = 0 := by decide +kernel
theorem index_g : ∀ t : Fin grid0.N, win0_2.index t 0 = t.val / 16 ∧ win0_2.index t 1 = 0 ∧ win0_2.index t 2 = 0 := by decide +kernel
theorem index_w : ∀ t : Fin grid0.N, win0_3.index t 0 = 0 ∧ win0_3.index t 1 = 0 := by decide +kernel
theorem index_o : ∀ t : Fin grid0.N, win0_4.index t 0 = t.val ∧ win0_4.index t 1 = 0 := by decide +kernel

theorem lt_N (t : Fin cfg0.N) : t.val < 128 := Nat.lt_of_lt_of_eq t.isLt N_0

theorem iblk_x (c : Dev nD) (t : Fin cfg0.N) (r : Fin 256) (l : Fin 4096) :
    (iblk m c 0 t : FVec Ideal S256x4096 .f32) (ix2 r l) = (V m c main_v0 : FVec Ideal S32768x4096 .f32)
      (ix2 ⟨t.val * 256 + r.val, by have := lt_N t; omega⟩ l) := by
  unfold iblk
  rw [View.read_apply]
  show (V m c main_v0 : FVec Ideal S32768x4096 .f32) _ = _
  congr 1
  funext a
  obtain ⟨e0, e1⟩ := index_x t
  apply Fin.ext
  match a with
  | ⟨0, _⟩ => show win0_0.index t 0 * 256 + 1 * r.val = t.val * 256 + r.val; rw [e0]; omega
  | ⟨1, _⟩ => show win0_0.index t 1 * 4096 + 1 * l.val = l.val; rw [e1]; omega

theorem iblk_p (c : Dev nD) (t : Fin cfg0.N) (r : Fin 256) (l : Fin 4096) :
    (iblk m c 1 t : FVec Ideal S256x4096 .f32) (ix2 r l) = (V m c main_v1 : FVec Ideal S32768x4096 .f32)
      (ix2 ⟨t.val * 256 + r.val, by have := lt_N t; omega⟩ l) := by
  unfold iblk
  rw [View.read_apply]
  show (V m c main_v1 : FVec Ideal S32768x4096 .f32) _ = _
  congr 1
  funext a
  obtain ⟨e0, e1⟩ := index_p t
  apply Fin.ext
  match a with
  | ⟨0, _⟩ => show win0_1.index t 0 * 256 + 1 * r.val = t.val * 256 + r.val; rw [e0]; omega
  | ⟨1, _⟩ => show win0_1.index t 1 * 4096 + 1 * l.val = l.val; rw [e1]; omega

theorem iblk_g (c : Dev nD) (t : Fin cfg0.N) (p : Fin 1) (r : Fin 8) (l : Fin 4096) :
    (iblk m c 2 t : FVec Ideal S1x8x4096 .f32) (ix3 p r l) = (V m c main_v3 : FVec Ideal S8x8x4096 .f32)
      (ix3 ⟨t.val / 16 * 1 + p.val, by have := lt_N t; omega⟩ r l) := by
  unfold iblk
  rw [View.read_apply]
  show (V m c main_v3 : FVec Ideal S8x8x4096 .f32) _ = _
  congr 1
  funext a
  obtain ⟨e0, e1, e2⟩ := index_g t
  apply Fin.ext
  match a with
  | ⟨0, _⟩ => show win0_2.index t 0 * 1 + 1 * p.val = t.val / 16 * 1 + p.val; rw [e0]; omega
  | ⟨1, _⟩ => show win0_2.index t 1 * 8 + 1 * r.val = r.val; rw [e1]; omega
  | ⟨2, _⟩ => show win0_2.index t 2 * 4096 + 1 * l.val = l.val; rw [e2]; omega

theorem iblk_w (c : Dev nD) (t : Fin cfg0.N) (r : Fin 1) (l : Fin 4096) :
    (iblk m c 3 t : FVec Ideal S1x4096 .f32) (ix2 r l) = (V m c main_v4 : FVec Ideal S1x4096 .f32)
      (ix2 r l) := by
  unfold iblk
  rw [View.read_apply]
  show (V m c main_v4 : FVec Ideal S1x4096 .f32) _ = _
  congr 1
  funext a
  obtain ⟨e0, e1⟩ := index_w t
  apply Fin.ext
  match a with
  | ⟨0, _⟩ => show win0_3.index t 0 * 1 + 1 * r.val = r.val; rw [e0]; omega
  | ⟨1, _⟩ => show win0_3.index t 1 * 4096 + 1 * l.val = l.val; rw [e1]; omega

theorem index_inj (t t' : Fin cfg0.N) (h : win0_4.index t = win0_4.index t') : t = t' := by
  have h0 := congrFun h 0
  have h1 := congrFun h 1
  rw [(index_o t).1, (index_o t').1] at h0
  rw [(index_o t).2, (index_o t').2] at h1
  apply Fin.ext
  have := lt_N t
  have := lt_N t'
  omega

/-- An element of the result array is that element of the block holding it. -/
theorem result_block (c : Dev nD) (t : Fin cfg0.N) (r : Fin 256) (l : Fin 4096) :
    ((dats m 0 c).arrAt 4 cfg0.N : FVec Ideal S32768x4096 .f32)
      (ix2 ⟨t.val * 256 + r.val, by have := lt_N t; omega⟩ l)
    = out0_4 (F := Ideal) (iblk m c 0 t) (iblk m c 1 t) (iblk m c 2 t) (iblk m c 3 t) (ix2 r l) := by
  have h := congrFun ((dats m 0 c).read_blk_arrAt_eq_flushed 4 (fun t t' _ _ hne => (cfg0.win 4).disjoint_blk fun h => hne (index_inj t t' h))
    cfg0.N t t.isLt (flush0_4 t)) (ix2 r l : S256x4096.Idx)
  rw [View.read_apply] at h
  refine Eq.trans ?_ (h.trans ?_)
  · show _ = ((dats m 0 c).arrAt 4 cfg0.N : FVec Ideal S32768x4096 .f32) _
    congr 1
    funext a
    obtain ⟨e0, e1⟩ := index_o t
    apply Fin.ext
    match a with
    | ⟨0, _⟩ => show t.val * 256 + r.val = win0_4.index t 0 * 256 + 1 * r.val; rw [e0]; omega
    | ⟨1, _⟩ => show l.val = win0_4.index t 1 * 4096 + 1 * l.val; rw [e1]; omega
  · show (cfg0.win 4).cut (grid0.coords t) ((dats m 0 c).after 4 t) (ix2 r l) = _
    rw [after0_4]
    rfl

theorem x_apply (c : Dev nD) (b : Fin 8) (s : Fin 4096) (k : Fin 4096) :
    (V m c main_v0 : FVec Ideal S32768x4096 .f32) (ix2 ⟨b.val * 4096 + s.val, by omega⟩ k) = (m ((c : Thread nD τ).loc main_arg0) : FVec Ideal S8x4096x4096 .f32) (ix3 b s k) := by
  unfold V V0
  simp only [List.flatten_cons, List.flatten_nil, List.append_nil, List.cons_append, List.nil_append]
  unfold_abbrev_sides
  after_results
  pointwise

theorem p_apply (c : Dev nD) (b : Fin 8) (s : Fin 4096) (k : Fin 4096) :
    (V m c main_v1 : FVec Ideal S32768x4096 .f32) (ix2 ⟨b.val * 4096 + s.val, by omega⟩ k) = (m ((c : Thread nD τ).loc main_arg1) : FVec Ideal S8x4096x4096 .f32) (ix3 b s k) := by
  unfold V V0
  simp only [List.flatten_cons, List.flatten_nil, List.append_nil, List.cons_append, List.nil_append]
  unfold_abbrev_sides
  after_results
  pointwise

/-- The modulation, folded into its six parts. -/
theorem fold_apply (g : FVec Ideal S8x24576 .f32) (b : Fin 8) (j : Fin 6) (l : Fin 4096) :
    shapeCast S8x6x4096 g shapeCasts_S8x24576_S8x6x4096 (ix3 b j l) = g (ix2 b ⟨j.val * 4096 + l.val, by omega⟩) := by
  pointwise

/-- The gate's row of the padded modulation. -/
theorem g_apply (c : Dev nD) (b : Fin 8) (l : Fin 4096) :
    (V m c main_v3 : FVec Ideal S8x8x4096 .f32) (ix3 b 5 l) = (m ((c : Thread nD τ).loc main_arg2) : FVec Ideal S8x24576 .f32) (ix2 b ⟨20480 + l.val, by omega⟩) := by
  unfold V V0
  simp only [List.flatten_cons, List.flatten_nil, List.append_nil, List.cons_append, List.nil_append]
  unfold_abbrev_sides
  after_results
  show (pad S8x8x4096 ![0, 0, 0] ![0, 2, 0] ![0, 0, 0] (shapeCast S8x6x4096 (m ((c : Thread nD τ).loc main_arg2) : FVec Ideal S8x24576 .f32) shapeCasts_S8x24576_S8x6x4096)
    _ pads_S8x6x4096_S8x8x4096_000_020_000 h_S_ : FVec Ideal S8x8x4096 .f32) (ix3 b (5 : Fin 8) l) = _
  refine (pad_apply_of_inside _ _ _ _ _ _ _ _ (ix3 b (5 : Fin 6) l) (fun a => ?_)).trans ?_
  · fin_cases a
    · show b.val = 0 + b.val * (0 + 1); omega
    · rfl
    · show l.val = 0 + l.val * (0 + 1); omega
  refine (fold_apply _ _ _ _).trans (congrArg (m ((c : Thread nD τ).loc main_arg2)) (congrArg (ix2 b) (Fin.ext ?_)))
  show 5 * 4096 + l.val = 20480 + l.val
  omega

theorem w_apply (c : Dev nD) (l : Fin 4096) :
    (V m c main_v4 : FVec Ideal S1x4096 .f32) (ix2 0 l) = (m ((c : Thread nD τ).loc main_arg3) : FVec Ideal S4096 .f32) (ix1 l) := by
  unfold V V0
  simp only [List.flatten_cons, List.flatten_nil, List.append_nil, List.cons_append, List.nil_append]
  unfold_abbrev_sides
  after_results
  pointwise

/-- An element of the final norm. -/
def finalAt (x p : FVec Ideal S8x4096x4096 .f32) (g : FVec Ideal S8x24576 .f32) (w : FVec Ideal S4096 .f32) (b : Fin 8) (s : Fin 4096) (l : Fin 4096) : EReal :=
  Cert.Norm.rms (fun k => x (ix3 b s k) + g (ix2 b ⟨20480 + k.val, by omega⟩) * p (ix3 b s k)) l * w (ix1 l)

/-- An element of the call's result array, from the arguments. -/
theorem result_apply (c : Dev nD) (b : Fin 8) (s : Fin 4096) (l : Fin 4096) :
    ((dats m 0 c).arrAt 4 cfg0.N : FVec Ideal S32768x4096 .f32) (ix2 ⟨b.val * 4096 + s.val, by omega⟩ l)
      = finalAt (m ((c : Thread nD τ).loc main_arg0)) (m ((c : Thread nD τ).loc main_arg1)) (m ((c : Thread nD τ).loc main_arg2))
          (m ((c : Thread nD τ).loc main_arg3)) b s l := by
  have hT : (b.val * 4096 + s.val) / 256 < cfg0.N := by rw [show cfg0.N = 128 from N_0]; omega
  have h := (result_block m c ⟨_, hT⟩ ⟨(b.val * 4096 + s.val) % 256, by omega⟩ l).trans (out_apply _ _ _ _ _ _)
  have h0 : (b.val * 4096 + s.val) / 256 * 256 + (b.val * 4096 + s.val) % 256 = b.val * 4096 + s.val := by omega
  simp only [h0] at h
  refine h.trans (Eq.trans ?_ (rfl : finalAt _ _ _ _ b s l = _))
  unfold finalAt
  refine congrArg₂ (HMul.hMul (α := EReal) (β := EReal) (γ := EReal)) (congrArg (fun f => Cert.Norm.rms f l) (funext fun k => ?_))
    ((iblk_w m c _ _ _).trans (w_apply m c l))
  unfold rowOf
  refine congrArg₂ (HAdd.hAdd (α := EReal) (β := EReal) (γ := EReal)) ?_ (congrArg₂ (HMul.hMul (α := EReal) (β := EReal) (γ := EReal)) ?_ ?_)
  · refine (iblk_x m c _ _ k).trans (Eq.trans ?_ (x_apply m c b s k))
    exact congrArg (fun r => (V m c main_v0 : FVec Ideal S32768x4096 .f32) (ix2 r k)) (Fin.ext h0)
  · refine (iblk_g m c _ _ _ _).trans (Eq.trans ?_ (g_apply m c b k))
    exact congrArg (fun r => (V m c main_v3 : FVec Ideal S8x8x4096 .f32) (ix3 r 5 k)) (Fin.ext (by dsimp only; omega))
  · refine (iblk_p m c _ _ k).trans (Eq.trans ?_ (p_apply m c b s k))
    exact congrArg (fun r => (V m c main_v1 : FVec Ideal S32768x4096 .f32) (ix2 r k)) (Fin.ext h0)

end Cert.FinalSIdeal.Final

namespace Cert.Proof.FinalSClaims

open Idealize.ShloMosaic Idealize.ShloMosaic.TcCoe Idealize.SL.Sem

section
open Cert.FinalSRefIdeal Cert.FinalSRefIdeal.Gen

/-- The reference's row after the gated residual. -/
def rows (x p : FVec Ideal S8x4096x4096 .f32) (g : FVec Ideal S8x24576 .f32) : FVec Ideal S8x4096x4096 .f32 :=
  addf x (mulf (broadcastInDim S8x4096x4096 ![0, 1, 2] bcast_S8x1x4096_S8x4096x4096_0_1_2
      (extractStridedSlice S8x1x4096 ![0, 0, 20480] (broadcastInDim S8x1x24576 ![0, 2] bcast_S8x24576_S8x1x24576_0_2 g) slices_S8x1x24576_S8x1x4096_0_0_20480)) p)

/-- The reference's norm of the rows. -/
def norm (y : FVec Ideal S8x4096x4096 .f32) (w : FVec Ideal S4096 .f32) : FVec Ideal S8x4096x4096 .f32 :=
  mulf (mulf y (broadcastInDim S8x4096x4096 ![0, 1, 2] bcast_S8x4096x1_S8x4096x4096_0_1_2 (Host.rsqrt (addf (Host.divf (broadcastInDim S8x4096x1 ![0, 1] bcast_S8x4096_S8x4096x1_0_1 (Host.reduceAdd (mulf y y) (constant S_ .f32 0x00000000#32) reducesTo_S8x4096x4096_S8x4096_d2 h_S_)) (broadcastInDim S8x4096x1 ![] bcast_S_S8x4096x1 (constant S_ .f32 0x45800000#32))) (broadcastInDim S8x4096x1 ![] bcast_S_S8x4096x1 (constant S_ .f32 0x358637BD#32)))))) (broadcastInDim S8x4096x4096 ![0, 1, 2] bcast_S1x1x4096_S8x4096x4096_0_1_2 (broadcastInDim S1x1x4096 ![2] bcast_S4096_S1x1x4096_2 w))

theorem rows_apply (x p : FVec Ideal S8x4096x4096 .f32) (g : FVec Ideal S8x24576 .f32) (b : Fin 8) (s : Fin 4096) (k : Fin 4096) :
    rows x p g (ix3 b s k) = (x (ix3 b s k) + g (ix2 b ⟨20480 + k.val, by omega⟩) * p (ix3 b s k) : EReal) := by
  pointwise [rows]

theorem norm_apply (y : FVec Ideal S8x4096x4096 .f32) (w : FVec Ideal S4096 .f32) (b : Fin 8) (s : Fin 4096) (l : Fin 4096) :
    norm y w (ix3 b s l) = Cert.Norm.rms (fun k => y (ix3 b s k)) l * w (ix1 l) := by
  unfold Cert.Norm.rms Cert.Norm.rmsOver
  pointwise [norm]

theorem final_apply (x p : FVec Ideal S8x4096x4096 .f32) (g : FVec Ideal S8x24576 .f32) (w : FVec Ideal S4096 .f32) (b : Fin 8) (s : Fin 4096) (l : Fin 4096) :
    norm (rows x p g) w (ix3 b s l) = Cert.FinalSIdeal.Final.finalAt x p g w b s l := by
  rw [norm_apply]
  unfold Cert.FinalSIdeal.Final.finalAt
  simp only [rows_apply]

end

theorem frame : Cert.quiescent_FinalS := fun m ρ _ => Cert.FinalS.Gen.frame m ρ

theorem frame_ideal : Cert.quiescent_FinalSIdeal := fun m ρ _ => Cert.FinalSIdeal.Gen.frame m ρ

theorem frame_ref : Cert.quiescent_FinalSRefIdeal := fun m ρ _ =>
  (θ_run Cert.FinalSRefIdeal.defs _ _).mono (fun r h => ⟨fun c => (h c).2, sem_eq_zero_of_no_sems (by decide) r.2⟩)
    (Cert.FinalSRefIdeal.Value.run (F := Ideal) m ρ)

theorem preserves : Cert.preserves_FinalS_FinalSIdeal := trivial

/-- The result, read off the call's result array. -/
theorem tail_apply (m : (ℓ : Loc Cert.FinalSIdeal.nD Cert.FinalSIdeal.τ Cert.FinalSIdeal.sig) → Buf (Elt Ideal) ℓ) (c : Dev Cert.FinalSIdeal.nD)
    (b : Fin 8) (s : Fin 4096) (l : Fin 4096) :
    (Pipeline.afterTail₀ Cert.FinalSIdeal.cfgs (Cert.FinalSIdeal.Gen.dats m) 0 (Cert.FinalSIdeal.Gen.V0 m) [Cert.FinalSIdeal.Gen.hostOps1] c
      Cert.FinalSIdeal.main_v6 : FVec Ideal Cert.FinalSIdeal.S8x4096x4096 .f32) (ix3 b s l)
    = ((Cert.FinalSIdeal.Gen.dats m 0 c).arrAt 4 Cert.FinalSIdeal.cfg0.N : FVec Ideal Cert.FinalSIdeal.S32768x4096 .f32)
        (ix2 ⟨b.val * 4096 + s.val, by omega⟩ l) := by
  unfold Pipeline.afterTail₀
  simp only [List.flatten_cons, List.flatten_nil, List.append_nil]
  unfold Cert.FinalSIdeal.Gen.hostOps1
  after_results
  rw [show Pipeline.withArrays (Cert.FinalSIdeal.cfgs 0).spec c (Cert.FinalSIdeal.Gen.V0 m c)
      (fun w => (Cert.FinalSIdeal.Gen.dats m 0 c).arrAt w (Cert.FinalSIdeal.cfgs 0).N) (Proc.tc.devRef Cert.FinalSIdeal.main_v5)
      = (Cert.FinalSIdeal.Gen.dats m 0 c).arrAt 4 Cert.FinalSIdeal.cfg0.N from
    Pipeline.withArrays_arr (Cert.FinalSIdeal.cfgs 0).spec (by decide) c (Cert.FinalSIdeal.Gen.V0 m c) _ 4]
  generalize (Cert.FinalSIdeal.Gen.dats m 0 c).arrAt 4 Cert.FinalSIdeal.cfg0.N = y
  pointwise

/-- The kernel and the reference end with equal results. -/
theorem algebraic : Cert.algebraic_FinalSIdeal_FinalSRefIdeal := by
  pair_intro
  · run_from (Cert.FinalSIdeal.Gen.run_main m g) & (Cert.FinalSIdeal.Gen.unchanged m g)
  · run_from (Cert.FinalSRefIdeal.Value.run (F := Ideal) m' g')
    show norm (rows _ _ _) _ = _
    funext i
    rw [eq_ix3 i]
    exact (final_apply _ _ _ _ _ _ _).trans ((tail_apply m c _ _ _).trans (Cert.FinalSIdeal.Final.result_apply m c _ _ _)).symm

end Cert.Proof.FinalSClaims

end
-- ==== Proof.PrepClaim.lean ====
/-
  The norms of the query latent, of the key and value latent and of the keys of the grouped attention: each element of a result is that element of a normalised part of the projection's row.
-/
module

public import proofs.«01_k».proof.Defs
public import proofs.«01_k».proof.Proof.Literals
public import proofs.«01_k».proof.Proof.Gen.Prep.Frame
public import proofs.«01_k».proof.Proof.Gen.PrepIdeal.Frame
public import proofs.«01_k».proof.Proof.Gen.PrepRefIdeal.Run
public import Idealize.ShloMosaic.Lib.Pointwise
public import Idealize.ShloMosaic.Lib.Claim
public import Idealize.ShloMosaic.Lib.Pipeline.Value
public import Idealize.ShloMosaic.Lib.StableHlo.Run
public import Idealize.ShloMosaic.Lib.Tactic
public import Idealize.ShloMosaic.Lib.Quiescent
public import proofs.«01_k».proof.Proof.NormRow
public import Idealize.ShloMosaic.Lib.VecWindow
public import Idealize.ShloMosaic.Lib.Pipeline.ValueKit.Tiles

@[expose] public section

set_option maxRecDepth 16384

noncomputable section

namespace Cert.PrepIdeal.Final

open Cert.PrepIdeal Cert.PrepIdeal.Gen Idealize.ShloMosaic Idealize.ShloMosaic.TcCoe Idealize.SL.Sem

/-- The norm's payload for the query latent, at an index. -/
theorem qa_pay (v : FVec Ideal S256x1024 .f32) (w : FVec Ideal S1x1024 .f32) (r : Fin 256) (l : Fin 1024) :
    k0_pay4 (F := Ideal) v w (ix2 r l) = Cert.Norm.rmsOver (Ideal.ofBits .f32 0x44800000#32) (fun k => v (ix2 r k)) l * w (ix2 0 l) := by
  unfold Cert.Norm.rmsOver
  pointwise [k0_pay4]

/-- The norm's payload for the key and value latent, at an index. -/
theorem kv_pay (v : FVec Ideal S256x512 .f32) (w : FVec Ideal S1x512 .f32) (r : Fin 256) (l : Fin 512) :
    k0_pay5 (F := Ideal) v w (ix2 r l) = Cert.Norm.rmsOver (Ideal.ofBits .f32 0x44000000#32) (fun k => v (ix2 r k)) l * w (ix2 0 l) := by
  unfold Cert.Norm.rmsOver
  pointwise [k0_pay5]

/-- The norm's payload for one head's keys, at an index. -/
theorem gk_pay (v : FVec Ideal S256x128 .f32) (w : FVec Ideal S1x128 .f32) (r : Fin 256) (l : Fin 128) :
    k0_pay1 (F := Ideal) v w (ix2 r l) = Cert.Norm.rmsOver (Ideal.ofBits .f32 0x43000000#32) (fun k => v (ix2 r k)) l * w (ix2 0 l) := by
  unfold Cert.Norm.rmsOver
  pointwise [k0_pay1]

/-- A block of the normalised keys: head by head, the norm of the head's 128 columns. -/
def keyBlock (x : FVec Ideal S256x4608 .f32) (w : FVec Ideal S1x128 .f32) (r : Fin 256) (l : Fin 512) : EReal :=
  Cert.Norm.rmsOver (Ideal.ofBits .f32 0x43000000#32) (fun k : Fin 128 => x (ix2 r ⟨3584 + l.val / 128 * 128 + k.val, by omega⟩)) ⟨l.val % 128, by omega⟩
    * w (ix2 0 ⟨l.val % 128, by omega⟩)

/-- One head's keys, stored at lane `n`, are that part of `keyBlock`. -/
theorem head_piece (x : FVec Ideal S256x4608 .f32) (w : FVec Ideal S1x128 .f32) (n p : ℕ) (hp : p = 3584 + n) (hn : n % 128 = 0)
    (inb : ∀ i, (![0, n] : Fin 2 → ℕ) i + S256x128.size i ≤ S256x512.size i)
    (inb' : ∀ i, (![0, p] : Fin 2 → ℕ) i + S256x128.size i ≤ S256x4608.size i) (j : S256x128.Idx) :
    (k0_pay1 (F := Ideal) (View.ld (Val := Elt Ideal) x (Rect.unit (s := S256x4608) ![0, p] S256x128.size inb')) w j : EReal)
      = (fun y : S256x512.Idx => keyBlock x w (y 0) (y 1)) ((Rect.unit (s := S256x512) ![0, n] S256x128.size inb).emb j) := by
  subst hp
  obtain ⟨r, d, rfl⟩ : ∃ (r : Fin 256) (d : Fin 128), j = ix2 r d := ⟨j 0, j 1, by funext i; match i with | 0 => rfl | 1 => rfl⟩
  have h1 : n + 128 ≤ 512 := inb 1
  rw [gk_pay]
  have e0 : (Rect.unit (s := S256x512) ![0, n] S256x128.size inb).emb (ix2 r d) 0 = r := by
    apply Fin.ext; show 0 + 1 * r.val = r.val; omega
  have e1 : (Rect.unit (s := S256x512) ![0, n] S256x128.size inb).emb (ix2 r d) 1 = (⟨n + d.val, by omega⟩ : Fin 512) := by
    apply Fin.ext; show n + 1 * d.val = n + d.val; omega
  show _ = keyBlock x w _ _
  rw [e0, e1]
  unfold keyBlock
  have hq : ∀ e : Fin 128, (View.ld (Val := Elt Ideal) (e' := .f32) x (Rect.unit (s := S256x4608) ![0, 3584 + n] S256x128.size inb') (ix2 r e) : EReal)
      = x (ix2 r ⟨3584 + (n + d.val) / 128 * 128 + e.val, by omega⟩) := by
    intro e
    show x _ = x _
    congr 1
    funext i
    apply Fin.ext
    match i with
    | 0 => show 0 + 1 * r.val = r.val; omega
    | 1 => show 3584 + n + 1 * e.val = 3584 + (n + d.val) / 128 * 128 + e.val; omega
  have hd : (⟨(n + d.val) % 128, by omega⟩ : Fin 128) = d := Fin.ext (by show (n + d.val) % 128 = d.val; omega)
  simp only [hq, hd]

variable (m : (ℓ : Loc nD τ sig) → Buf (Elt Ideal) ℓ)

theorem index_x : ∀ t : Fin grid0.N, win0_0.index t 0 = t.val ∧ win0_0.index t 1 = 0 := by decide +kernel
theorem index_gq : ∀ t : Fin grid0.N, win0_2.index t 0 = 0 ∧ win0_2.index t 1 = 0 := by decide +kernel
theorem index_gkv : ∀ t : Fin grid0.N, win0_3.index t 0 = 0 ∧ win0_3.index t 1 = 0 := by decide +kernel
theorem index_gk : ∀ t : Fin grid0.N, win0_5.index t 0 = 0 ∧ win0_5.index t 1 = 0 := by decide +kernel
theorem index_o6 : ∀ t : Fin grid0.N, win0_6.index t 0 = t.val ∧ win0_6.index t 1 = 0 := by decide +kernel
theorem index_o7 : ∀ t : Fin grid0.N, win0_7.index t 0 = t.val ∧ win0_7.index t 1 = 0 := by decide +kernel
theorem index_o10 : ∀ t : Fin grid0.N, win0_10.index t 0 = t.val ∧ win0_10.index t 1 = 0 := by decide +kernel

theorem lt_N (t : Fin cfg0.N) : t.val < 16 := Nat.lt_of_lt_of_eq t.isLt N_0

theorem iblk_x (c : Dev nD) (t : Fin cfg0.N) (r : Fin 256) (l : Fin 4608) :
    (iblk m c 0 t : FVec Ideal S256x4608 .f32) (ix2 r l) = (V m c main_v2 : FVec Ideal S4096x4608 .f32)
      (ix2 ⟨t.val * 256 + r.val, by have := lt_N t; omega⟩ l) := by
  unfold iblk
  rw [View.read_apply]
  show (V m c main_v2 : FVec Ideal S4096x4608 .f32) _ = _
  congr 1
  funext a
  obtain ⟨e0, e1⟩ := index_x t
  apply Fin.ext
  match a with
  | ⟨0, _⟩ => show win0_0.index t 0 * 256 + 1 * r.val = t.val * 256 + r.val; rw [e0]; omega
  | ⟨1, _⟩ => show win0_0.index t 1 * 4608 + 1 * l.val = l.val; rw [e1]; omega

theorem iblk_gq (c : Dev nD) (t : Fin cfg0.N) (r : Fin 1) (l : Fin 1024) :
    (iblk m c 2 t : FVec Ideal S1x1024 .f32) (ix2 r l) = (V m c main_v3 : FVec Ideal S1x1024 .f32)
      (ix2 r l) := by
  unfold iblk
  rw [View.read_apply]
  show (V m c main_v3 : FVec Ideal S1x1024 .f32) _ = _
  congr 1
  funext a
  obtain ⟨e0, e1⟩ := index_gq t
  apply Fin.ext
  match a with
  | ⟨0, _⟩ => show win0_2.index t 0 * 1 + 1 * r.val = r.val; rw [e0]; omega
  | ⟨1, _⟩ => show win0_2.index t 1 * 1024 + 1 * l.val = l.val; rw [e1]; omega

theorem iblk_gkv (c : Dev nD) (t : Fin cfg0.N) (r : Fin 1) (l : Fin 512) :
    (iblk m c 3 t : FVec Ideal S1x512 .f32) (ix2 r l) = (V m c main_v4 : FVec Ideal S1x512 .f32)
      (ix2 r l) := by
  unfold iblk
  rw [View.read_apply]
  show (V m c main_v4 : FVec Ideal S1x512 .f32) _ = _
  congr 1
  funext a
  obtain ⟨e0, e1⟩ := index_gkv t
  apply Fin.ext
  match a with
  | ⟨0, _⟩ => show win0_3.index t 0 * 1 + 1 * r.val = r.val; rw [e0]; omega
  | ⟨1, _⟩ => show win0_3.index t 1 * 512 + 1 * l.val = l.val; rw [e1]; omega

theorem iblk_gk (c : Dev nD) (t : Fin cfg0.N) (r : Fin 1) (l : Fin 128) :
    (iblk m c 5 t : FVec Ideal S1x128 .f32) (ix2 r l) = (V m c main_v6 : FVec Ideal S1x128 .f32)
      (ix2 r l) := by
  unfold iblk
  rw [View.read_apply]
  show (V m c main_v6 : FVec Ideal S1x128 .f32) _ = _
  congr 1
  funext a
  obtain ⟨e0, e1⟩ := index_gk t
  apply Fin.ext
  match a with
  | ⟨0, _⟩ => show win0_5.index t 0 * 1 + 1 * r.val = r.val; rw [e0]; omega
  | ⟨1, _⟩ => show win0_5.index t 1 * 128 + 1 * l.val = l.val; rw [e1]; omega

/-- What the body leaves in result window 6, at an index. -/
theorem out6_apply (c : Dev nD) (t : Fin cfg0.N) (r : Fin 256) (l : Fin 1024) :
    ((outsAt0 m c t).1 : FVec Ideal S256x1024 .bf16) (ix2 r l)
      = Cert.Norm.rmsOver (Ideal.ofBits .f32 0x44800000#32) (fun k : Fin 1024 => (iblk m c 0 t : FVec Ideal S256x4608 .f32) (ix2 r ⟨0 + k.val, by omega⟩)) l
        * (iblk m c 2 t : FVec Ideal S1x1024 .f32) (ix2 0 l) := by
  have hz : (![0, 0] : Fin 2 → ℕ) = fun _ => 0 := funext fun a => by fin_cases a <;> rfl
  dsimp only [outsAt0]
  unfold out0_A_6
  rw [View.read_writes_junk_eq_canon]
  show View.canon ([⟨Rect.unit (s := S256x1024) ![0, 0] S256x1024.size (by decide), k0_pay4
      (View.readAt (Elt Ideal) (ms0_0 t).view (Rect.unit (s := S256x4608) ![0, 0] S256x1024.size (by decide)).toLoadRect ((hs0_0 t).unread (iblk m c 0 t)))
      (View.readAt (Elt Ideal) (ms0_2 t).view (Rect.unit (s := S1x1024) ![0, 0] S1x1024.size (by decide)).toLoadRect ((hs0_2 t).unread (iblk m c 2 t)))⟩] : List (View.Piece (Elt Ideal) S256x1024 .bf16)) _ = _
  rw [View.canon_unit_zero hz, View.readAt_eq_ld, View.readAt_eq_ld, (hs0_0 t).read_unread, (hs0_2 t).read_unread, View.ld_unit_zero hz, qa_pay]
  refine congrArg₂ (HMul.hMul (α := EReal) (β := EReal) (γ := EReal)) (congrArg (fun f => Cert.Norm.rmsOver _ f l) (funext fun k => ?_)) rfl
  exact congrArg (iblk m c 0 t : FVec Ideal S256x4608 .f32) (funext fun i => Fin.ext (by
    match i with
    | 0 => show 0 + 1 * r.val = r.val; omega
    | 1 => show 0 + 1 * k.val = 0 + k.val; omega))

/-- What the body leaves in result window 7, at an index. -/
theorem out7_apply (c : Dev nD) (t : Fin cfg0.N) (r : Fin 256) (l : Fin 512) :
    ((outsAt0 m c t).2.1 : FVec Ideal S256x512 .f32) (ix2 r l)
      = Cert.Norm.rmsOver (Ideal.ofBits .f32 0x44000000#32) (fun k : Fin 512 => (iblk m c 0 t : FVec Ideal S256x4608 .f32) (ix2 r ⟨1024 + k.val, by omega⟩)) l
        * (iblk m c 3 t : FVec Ideal S1x512 .f32) (ix2 0 l) := by
  have hz : (![0, 0] : Fin 2 → ℕ) = fun _ => 0 := funext fun a => by fin_cases a <;> rfl
  dsimp only [outsAt0]
  unfold out0_A_7
  rw [View.read_writes_junk_eq_canon]
  show View.canon ([⟨Rect.unit (s := S256x512) ![0, 0] S256x512.size (by decide), k0_pay5
      (View.readAt (Elt Ideal) (ms0_0 t).view (Rect.unit (s := S256x4608) ![0, 1024] S256x512.size (by decide)).toLoadRect ((hs0_0 t).unread (iblk m c 0 t)))
      (View.readAt (Elt Ideal) (ms0_3 t).view (Rect.unit (s := S1x512) ![0, 0] S1x512.size (by decide)).toLoadRect ((hs0_3 t).unread (iblk m c 3 t)))⟩] : List (View.Piece (Elt Ideal) S256x512 .f32)) _ = _
  rw [View.canon_unit_zero hz, View.readAt_eq_ld, View.readAt_eq_ld, (hs0_0 t).read_unread, (hs0_3 t).read_unread, View.ld_unit_zero hz, kv_pay]
  refine congrArg₂ (HMul.hMul (α := EReal) (β := EReal) (γ := EReal)) (congrArg (fun f => Cert.Norm.rmsOver _ f l) (funext fun k => ?_)) rfl
  exact congrArg (iblk m c 0 t : FVec Ideal S256x4608 .f32) (funext fun i => Fin.ext (by
    match i with
    | 0 => show 0 + 1 * r.val = r.val; omega
    | 1 => show 1024 + 1 * k.val = 1024 + k.val; omega))

/-- The four heads' stores, read back. -/
theorem keys_canon (x : FVec Ideal S256x4608 .f32) (w : FVec Ideal S1x128 .f32) (y : S256x512.Idx) :
    View.canon ([⟨Rect.unit (s := S256x512) ![0, 384] S256x128.size (by decide), k0_pay1 (View.ld (Val := Elt Ideal) x (Rect.unit (s := S256x4608) ![0, 3968] S256x128.size (by decide))) w⟩,
      ⟨Rect.unit (s := S256x512) ![0, 256] S256x128.size (by decide), k0_pay1 (View.ld (Val := Elt Ideal) x (Rect.unit (s := S256x4608) ![0, 3840] S256x128.size (by decide))) w⟩,
      ⟨Rect.unit (s := S256x512) ![0, 128] S256x128.size (by decide), k0_pay1 (View.ld (Val := Elt Ideal) x (Rect.unit (s := S256x4608) ![0, 3712] S256x128.size (by decide))) w⟩,
      ⟨Rect.unit (s := S256x512) ![0, 0] S256x128.size (by decide), k0_pay1 (View.ld (Val := Elt Ideal) x (Rect.unit (s := S256x4608) ![0, 3584] S256x128.size (by decide))) w⟩] : List (View.Piece (Elt Ideal) S256x512 .f32)) y = (fun y : S256x512.Idx => keyBlock x w (y 0) (y 1)) y := by
  refine View.canon_apply_of_pieces (Val := Elt Ideal) (e := .f32) (fun y : S256x512.Idx => keyBlock x w (y 0) (y 1)) _ ?_ y ?_
  · simp only [List.forall_mem_cons, List.not_mem_nil, false_imp_iff, implies_true, and_true]
    exact ⟨fun j => head_piece _ _ 384 3968 rfl rfl _ _ j, fun j => head_piece _ _ 256 3840 rfl rfl _ _ j,
      fun j => head_piece _ _ 128 3712 rfl rfl _ _ j, fun j => head_piece _ _ 0 3584 rfl rfl _ _ j⟩
  · exact View.cover_of_tiledL (s := S256x512) _ ![256, 128] (by sl_kernel_rfl) y

/-- What the body leaves in result window 10, at an index. -/
theorem out10_apply (c : Dev nD) (t : Fin cfg0.N) (y : S256x512.Idx) :
    ((outsAt0 m c t).2.2.2.2.1 : FVec Ideal S256x512 .f32) y
      = keyBlock (iblk m c 0 t : FVec Ideal S256x4608 .f32) (iblk m c 5 t : FVec Ideal S1x128 .f32) (y 0) (y 1) := by
  have hz : (![0, 0] : Fin 2 → ℕ) = fun _ => 0 := funext fun a => by fin_cases a <;> rfl
  have hw : View.ld (Val := Elt Ideal) (e' := .f32) (iblk m c 5 t : FVec Ideal S1x128 .f32) (Rect.unit (s := S1x128) ![0, 0] ![1, 128] (by decide))
      = (iblk m c 5 t : FVec Ideal S1x128 .f32) := View.ld_unit_zero hz _ _
  refine Eq.trans ?_ ((keys_canon (iblk m c 0 t) (View.ld (Val := Elt Ideal) (e' := .f32) (iblk m c 5 t : FVec Ideal S1x128 .f32) (Rect.unit (s := S1x128) ![0, 0] ![1, 128] (by decide))) y).trans
    (congrArg (fun w => keyBlock (iblk m c 0 t : FVec Ideal S256x4608 .f32) w (y 0) (y 1)) hw))
  dsimp only [outsAt0]
  unfold out0_A_10
  rw [View.read_writes_junk_eq_canon]
  unfold kernelRun0_A
  dsimp only
  rw [show k0_pay49 (F := Ideal) = k0_pay1 from rfl, show k0_pay47 (F := Ideal) = k0_pay1 from rfl, show k0_pay45 (F := Ideal) = k0_pay1 from rfl]
  simp only [View.readAt_eq_ld, (hs0_0 t).read_unread, (hs0_5 t).read_unread]
  rfl

theorem index_inj6 (t t' : Fin cfg0.N) (h : win0_6.index t = win0_6.index t') : t = t' := by
  have h0 := congrFun h 0
  have h1 := congrFun h 1
  rw [(index_o6 t).1, (index_o6 t').1] at h0
  rw [(index_o6 t).2, (index_o6 t').2] at h1
  apply Fin.ext
  have := lt_N t
  have := lt_N t'
  omega

/-- An element of the result array is that element of the block holding it. -/
theorem result_block6 (c : Dev nD) (t : Fin cfg0.N) (r : Fin 256) (l : Fin 1024) :
    ((dats m 0 c).arrAt 6 cfg0.N : FVec Ideal S4096x1024 .bf16)
      (ix2 ⟨t.val * 256 + r.val, by have := lt_N t; omega⟩ l)
    = ((outsAt0 m c t).1 : FVec Ideal S256x1024 .bf16) (ix2 r l) := by
  have h := congrFun ((dats m 0 c).read_blk_arrAt_eq_flushed 6 (fun t t' _ _ hne => (cfg0.win 6).disjoint_blk fun h => hne (index_inj6 t t' h))
    cfg0.N t t.isLt (flush0_6 t)) (ix2 r l : S256x1024.Idx)
  rw [View.read_apply] at h
  refine Eq.trans ?_ (h.trans ?_)
  · show _ = ((dats m 0 c).arrAt 6 cfg0.N : FVec Ideal S4096x1024 .bf16) _
    congr 1
    funext a
    obtain ⟨e0, e1⟩ := index_o6 t
    apply Fin.ext
    match a with
    | ⟨0, _⟩ => show t.val * 256 + r.val = win0_6.index t 0 * 256 + 1 * r.val; rw [e0]; omega
    | ⟨1, _⟩ => show l.val = win0_6.index t 1 * 1024 + 1 * l.val; rw [e1]; omega
  · show (cfg0.win 6).cut (grid0.coords t) ((dats m 0 c).after 6 t) (ix2 r l) = _
    rw [after0_6]
    rfl

theorem index_inj7 (t t' : Fin cfg0.N) (h : win0_7.index t = win0_7.index t') : t = t' := by
  have h0 := congrFun h 0
  have h1 := congrFun h 1
  rw [(index_o7 t).1, (index_o7 t').1] at h0
  rw [(index_o7 t).2, (index_o7 t').2] at h1
  apply Fin.ext
  have := lt_N t
  have := lt_N t'
  omega

/-- An element of the result array is that element of the block holding it. -/
theorem result_block7 (c : Dev nD) (t : Fin cfg0.N) (r : Fin 256) (l : Fin 512) :
    ((dats m 0 c).arrAt 7 cfg0.N : FVec Ideal S4096x512 .f32)
      (ix2 ⟨t.val * 256 + r.val, by have := lt_N t; omega⟩ l)
    = ((outsAt0 m c t).2.1 : FVec Ideal S256x512 .f32) (ix2 r l) := by
  have h := congrFun ((dats m 0 c).read_blk_arrAt_eq_flushed 7 (fun t t' _ _ hne => (cfg0.win 7).disjoint_blk fun h => hne (index_inj7 t t' h))
    cfg0.N t t.isLt (flush0_7 t)) (ix2 r l : S256x512.Idx)
  rw [View.read_apply] at h
  refine Eq.trans ?_ (h.trans ?_)
  · show _ = ((dats m 0 c).arrAt 7 cfg0.N : FVec Ideal S4096x512 .f32) _
    congr 1
    funext a
    obtain ⟨e0, e1⟩ := index_o7 t
    apply Fin.ext
    match a with
    | ⟨0, _⟩ => show t.val * 256 + r.val = win0_7.index t 0 * 256 + 1 * r.val; rw [e0]; omega
    | ⟨1, _⟩ => show l.val = win0_7.index t 1 * 512 + 1 * l.val; rw [e1]; omega
  · show (cfg0.win 7).cut (grid0.coords t) ((dats m 0 c).after 7 t) (ix2 r l) = _
    rw [after0_7]
    rfl

theorem index_inj10 (t t' : Fin cfg0.N) (h : win0_10.index t = win0_10.index t') : t = t' := by
  have h0 := congrFun h 0
  have h1 := congrFun h 1
  rw [(index_o10 t).1, (index_o10 t').1] at h0
  rw [(index_o10 t).2, (index_o10 t').2] at h1
  apply Fin.ext
  have := lt_N t
  have := lt_N t'
  omega

/-- An element of the result array is that element of the block holding it. -/
theorem result_block10 (c : Dev nD) (t : Fin cfg0.N) (r : Fin 256) (l : Fin 512) :
    ((dats m 0 c).arrAt 10 cfg0.N : FVec Ideal S4096x512 .f32)
      (ix2 ⟨t.val * 256 + r.val, by have := lt_N t; omega⟩ l)
    = ((outsAt0 m c t).2.2.2.2.1 : FVec Ideal S256x512 .f32) (ix2 r l) := by
  have h := congrFun ((dats m 0 c).read_blk_arrAt_eq_flushed 10 (fun t t' _ _ hne => (cfg0.win 10).disjoint_blk fun h => hne (index_inj10 t t' h))
    cfg0.N t t.isLt (flush0_10 t)) (ix2 r l : S256x512.Idx)
  rw [View.read_apply] at h
  refine Eq.trans ?_ (h.trans ?_)
  · show _ = ((dats m 0 c).arrAt 10 cfg0.N : FVec Ideal S4096x512 .f32) _
    congr 1
    funext a
    obtain ⟨e0, e1⟩ := index_o10 t
    apply Fin.ext
    match a with
    | ⟨0, _⟩ => show t.val * 256 + r.val = win0_10.index t 0 * 256 + 1 * r.val; rw [e0]; omega
    | ⟨1, _⟩ => show l.val = win0_10.index t 1 * 512 + 1 * l.val; rw [e1]; omega
  · show (cfg0.win 10).cut (grid0.coords t) ((dats m 0 c).after 10 t) (ix2 r l) = _
    rw [after0_10]
    rfl

theorem x_apply (c : Dev nD) (b : Fin 16) (s : Fin 256) (k : Fin 4608) :
    (V m c main_v2 : FVec Ideal S4096x4608 .f32) (ix2 ⟨b.val * 256 + s.val, by omega⟩ k) = (m ((c : Thread nD τ).loc main_arg0) : FVec Ideal S16x256x4608 .f32) (ix3 b s k) := by
  unfold V V0
  simp only [List.flatten_cons, List.flatten_nil, List.append_nil, List.cons_append, List.nil_append]
  unfold_abbrev_sides
  after_results
  pointwise

theorem gq_apply (c : Dev nD) (l : Fin 1024) :
    (V m c main_v3 : FVec Ideal S1x1024 .f32) (ix2 0 l) = (m ((c : Thread nD τ).loc main_arg2) : FVec Ideal S1024 .f32) (ix1 l) := by
  unfold V V0
  simp only [List.flatten_cons, List.flatten_nil, List.append_nil, List.cons_append, List.nil_append]
  unfold_abbrev_sides
  after_results
  pointwise

theorem gkv_apply (c : Dev nD) (l : Fin 512) :
    (V m c main_v4 : FVec Ideal S1x512 .f32) (ix2 0 l) = (m ((c : Thread nD τ).loc main_arg3) : FVec Ideal S512 .f32) (ix1 l) := by
  unfold V V0
  simp only [List.flatten_cons, List.flatten_nil, List.append_nil, List.cons_append, List.nil_append]
  unfold_abbrev_sides
  after_results
  pointwise

theorem gk_apply (c : Dev nD) (l : Fin 128) :
    (V m c main_v6 : FVec Ideal S1x128 .f32) (ix2 0 l) = (m ((c : Thread nD τ).loc main_arg5) : FVec Ideal S128 .f32) (ix1 l) := by
  unfold V V0
  simp only [List.flatten_cons, List.flatten_nil, List.append_nil, List.cons_append, List.nil_append]
  unfold_abbrev_sides
  after_results
  pointwise

/-- An element of the norm of `n` columns of the projection, from column `o` on. -/
def normAt (n o : ℕ) (h : o + n ≤ 4608) (d : EReal) (x : FVec Ideal S16x256x4608 .f32) (w : Fin n → EReal) (b : Fin 16) (s : Fin 256) (l : Fin n) : EReal :=
  Cert.Norm.rmsOver d (fun k : Fin n => x (ix3 b s ⟨o + k.val, by omega⟩)) l * w l

/-- An element of the norm of head `j`'s keys. -/
def keyAt (x : FVec Ideal S16x256x4608 .f32) (w : FVec Ideal S128 .f32) (b : Fin 16) (s : Fin 256) (j : Fin 4) (l : Fin 128) : EReal :=
  Cert.Norm.rmsOver (Ideal.ofBits .f32 0x43000000#32) (fun k : Fin 128 => x (ix3 b s ⟨3584 + j.val * 128 + k.val, by omega⟩)) l * w (ix1 l)

/-- An element of the call's result 6, from the arguments. -/
theorem result6_apply (c : Dev nD) (b : Fin 16) (s : Fin 256) (l : Fin 1024) :
    ((dats m 0 c).arrAt 6 cfg0.N : FVec Ideal S4096x1024 .bf16) (ix2 ⟨b.val * 256 + s.val, by omega⟩ l)
      = normAt 1024 0 (by decide) (Ideal.ofBits .f32 0x44800000#32) (m ((c : Thread nD τ).loc main_arg0)) (fun l => (m ((c : Thread nD τ).loc main_arg2) : FVec Ideal S1024 .f32) (ix1 l)) b s l := by
  have hT : b.val < cfg0.N := by rw [show cfg0.N = 16 from N_0]; omega
  refine (result_block6 m c ⟨_, hT⟩ s l).trans ((out6_apply m c _ s l).trans ?_)
  unfold normAt
  exact congrArg₂ (HMul.hMul (α := EReal) (β := EReal) (γ := EReal)) (congrArg (fun f => Cert.Norm.rmsOver _ f l) (funext fun k =>
    (iblk_x m c _ _ _).trans (x_apply m c b s _))) ((iblk_gq m c _ _ _).trans (gq_apply m c l))

/-- An element of the call's result 7, from the arguments. -/
theorem result7_apply (c : Dev nD) (b : Fin 16) (s : Fin 256) (l : Fin 512) :
    ((dats m 0 c).arrAt 7 cfg0.N : FVec Ideal S4096x512 .f32) (ix2 ⟨b.val * 256 + s.val, by omega⟩ l)
      = normAt 512 1024 (by decide) (Ideal.ofBits .f32 0x44000000#32) (m ((c : Thread nD τ).loc main_arg0)) (fun l => (m ((c : Thread nD τ).loc main_arg3) : FVec Ideal S512 .f32) (ix1 l)) b s l := by
  have hT : b.val < cfg0.N := by rw [show cfg0.N = 16 from N_0]; omega
  refine (result_block7 m c ⟨_, hT⟩ s l).trans ((out7_apply m c _ s l).trans ?_)
  unfold normAt
  exact congrArg₂ (HMul.hMul (α := EReal) (β := EReal) (γ := EReal)) (congrArg (fun f => Cert.Norm.rmsOver _ f l) (funext fun k =>
    (iblk_x m c _ _ _).trans (x_apply m c b s _))) ((iblk_gkv m c _ _ _).trans (gkv_apply m c l))

/-- An element of the call's result 10, from the arguments. -/
theorem result10_apply (c : Dev nD) (b : Fin 16) (s : Fin 256) (j : Fin 4) (l : Fin 128) :
    ((dats m 0 c).arrAt 10 cfg0.N : FVec Ideal S4096x512 .f32) (ix2 ⟨b.val * 256 + s.val, by omega⟩ ⟨j.val * 128 + l.val, by omega⟩)
      = keyAt (m ((c : Thread nD τ).loc main_arg0)) (m ((c : Thread nD τ).loc main_arg5)) b s j l := by
  have hT : b.val < cfg0.N := by rw [show cfg0.N = 16 from N_0]; omega
  refine (result_block10 m c ⟨_, hT⟩ s ⟨j.val * 128 + l.val, by omega⟩).trans ((out10_apply m c _ _).trans ?_)
  show keyBlock _ _ s ⟨j.val * 128 + l.val, by omega⟩ = _
  unfold keyBlock keyAt
  have hl : (⟨(j.val * 128 + l.val) % 128, by omega⟩ : Fin 128) = l := Fin.ext (by show (j.val * 128 + l.val) % 128 = l.val; omega)
  simp only [hl]
  refine congrArg₂ (HMul.hMul (α := EReal) (β := EReal) (γ := EReal)) (congrArg (fun f => Cert.Norm.rmsOver _ f l) (funext fun k => ?_))
    ((iblk_gk m c _ _ _).trans (gk_apply m c l))
  refine (iblk_x m c _ _ _).trans (Eq.trans ?_ (x_apply m c b s _))
  exact congrArg (fun k => (V m c main_v2 : FVec Ideal S4096x4608 .f32) (ix2 ⟨b.val * 256 + s.val, by omega⟩ k)) (Fin.ext (by dsimp only; omega))

end Cert.PrepIdeal.Final

namespace Cert.Proof.PrepClaims

open Idealize.ShloMosaic Idealize.ShloMosaic.TcCoe Idealize.SL.Sem

section
open Cert.PrepRefIdeal Cert.PrepRefIdeal.Gen

/-- The reference's norm of the key and value latent. -/
def kvNorm (y : FVec Ideal S16x256x512 .f32) (w : FVec Ideal S512 .f32) : FVec Ideal S16x256x512 .f32 :=
  mulf (mulf y (broadcastInDim S16x256x512 ![0, 1, 2] bcast_S16x256x1_S16x256x512_0_1_2 (Host.rsqrt (addf (Host.divf (broadcastInDim S16x256x1 ![0, 1] bcast_S16x256_S16x256x1_0_1 (Host.reduceAdd (mulf y y) (constant S_ .f32 0x00000000#32) reducesTo_S16x256x512_S16x256_d2 h_S_)) (broadcastInDim S16x256x1 ![] bcast_S_S16x256x1 (constant S_ .f32 0x44000000#32))) (broadcastInDim S16x256x1 ![] bcast_S_S16x256x1 (constant S_ .f32 0x358637BD#32)))))) (broadcastInDim S16x256x512 ![0, 1, 2] bcast_S1x1x512_S16x256x512_0_1_2 (broadcastInDim S1x1x512 ![2] bcast_S512_S1x1x512_2 w))

/-- The reference's norm of the keys. -/
def keyNorm (y : FVec Ideal S16x256x4x128 .f32) (w : FVec Ideal S128 .f32) : FVec Ideal S16x256x4x128 .f32 :=
  mulf (mulf y (broadcastInDim S16x256x4x128 ![0, 1, 2, 3] bcast_S16x256x4x1_S16x256x4x128_0_1_2_3 (Host.rsqrt (addf (Host.divf (broadcastInDim S16x256x4x1 ![0, 1, 2] bcast_S16x256x4_S16x256x4x1_0_1_2 (Host.reduceAdd (mulf y y) (constant S_ .f32 0x00000000#32) reducesTo_S16x256x4x128_S16x256x4_d3 h_S_)) (broadcastInDim S16x256x4x1 ![] bcast_S_S16x256x4x1 (constant S_ .f32 0x43000000#32))) (broadcastInDim S16x256x4x1 ![] bcast_S_S16x256x4x1 (constant S_ .f32 0x358637BD#32)))))) (broadcastInDim S16x256x4x128 ![0, 1, 2, 3] bcast_S1x1x1x128_S16x256x4x128_0_1_2_3 (broadcastInDim S1x1x1x128 ![3] bcast_S128_S1x1x1x128_3 w))

/-- The reference's norm of the query latent. -/
def queryNorm (y : FVec Ideal S16x256x1024 .f32) (w : FVec Ideal S1024 .f32) : FVec Ideal S16x256x1024 .bf16 :=
  truncf .bf16 (mulf (mulf y (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf y y) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 w))) bitsLt_bf16_f32

/-- The key and value latent's part of the projection. -/
def kvPart (x : FVec Ideal S16x256x4608 .f32) : FVec Ideal S16x256x512 .f32 := extractStridedSlice S16x256x512 ![0, 0, 1024] x slices_S16x256x4608_S16x256x512_0_0_1024

/-- The keys' part of the projection, head by head. -/
def keyPart (x : FVec Ideal S16x256x4608 .f32) : FVec Ideal S16x256x4x128 .f32 := shapeCast _ (extractStridedSlice S16x256x512 ![0, 0, 3584] x slices_S16x256x4608_S16x256x512_0_0_3584) shapeCasts_S16x256x512_S16x256x4x128

/-- The query latent's part of the projection. -/
def queryPart (x : FVec Ideal S16x256x4608 .f32) : FVec Ideal S16x256x1024 .f32 := extractStridedSlice S16x256x1024 ![0, 0, 0] x slices_S16x256x4608_S16x256x1024_0_0_0

theorem kvNorm_apply (y : FVec Ideal S16x256x512 .f32) (w : FVec Ideal S512 .f32) (b : Fin 16) (s : Fin 256) (l : Fin 512) :
    kvNorm y w (ix3 b s l) = Cert.Norm.rmsOver (Ideal.ofBits .f32 0x44000000#32) (fun k => y (ix3 b s k)) l * w (ix1 l) := by
  unfold Cert.Norm.rmsOver
  pointwise [kvNorm]

theorem keyNorm_apply (y : FVec Ideal S16x256x4x128 .f32) (w : FVec Ideal S128 .f32) (b : Fin 16) (s : Fin 256) (j : Fin 4) (l : Fin 128) :
    keyNorm y w (ix4 b s j l) = Cert.Norm.rmsOver (Ideal.ofBits .f32 0x43000000#32) (fun k => y (ix4 b s j k)) l * w (ix1 l) := by
  unfold Cert.Norm.rmsOver
  pointwise [keyNorm]

theorem queryNorm_apply (y : FVec Ideal S16x256x1024 .f32) (w : FVec Ideal S1024 .f32) (b : Fin 16) (s : Fin 256) (l : Fin 1024) :
    queryNorm y w (ix3 b s l) = Cert.Norm.rmsOver (Ideal.ofBits .f32 0x44800000#32) (fun k => y (ix3 b s k)) l * w (ix1 l) := by
  unfold Cert.Norm.rmsOver
  pointwise [queryNorm]

theorem kvPart_apply (x : FVec Ideal S16x256x4608 .f32) (b : Fin 16) (s : Fin 256) (l : Fin 512) :
    kvPart x (ix3 b s l) = x (ix3 b s ⟨1024 + l.val, by omega⟩) := by
  pointwise [kvPart]

theorem keyPart_apply (x : FVec Ideal S16x256x4608 .f32) (b : Fin 16) (s : Fin 256) (j : Fin 4) (l : Fin 128) :
    keyPart x (ix4 b s j l) = x (ix3 b s ⟨3584 + j.val * 128 + l.val, by omega⟩) := by
  pointwise [keyPart]
  exact congrArg x (congrArg (ix3 b s) (Fin.ext (by dsimp only; omega)))

theorem queryPart_apply (x : FVec Ideal S16x256x4608 .f32) (b : Fin 16) (s : Fin 256) (l : Fin 1024) :
    queryPart x (ix3 b s l) = x (ix3 b s ⟨0 + l.val, by omega⟩) := by
  pointwise [queryPart]

theorem kv_apply (x : FVec Ideal S16x256x4608 .f32) (w : FVec Ideal S512 .f32) (b : Fin 16) (s : Fin 256) (l : Fin 512) :
    kvNorm (kvPart x) w (ix3 b s l) = Cert.PrepIdeal.Final.normAt 512 1024 (by decide) (Ideal.ofBits .f32 0x44000000#32) x (fun l => w (ix1 l)) b s l := by
  rw [kvNorm_apply]
  unfold Cert.PrepIdeal.Final.normAt
  simp only [kvPart_apply]

theorem key_apply (x : FVec Ideal S16x256x4608 .f32) (w : FVec Ideal S128 .f32) (b : Fin 16) (s : Fin 256) (j : Fin 4) (l : Fin 128) :
    keyNorm (keyPart x) w (ix4 b s j l) = Cert.PrepIdeal.Final.keyAt x w b s j l := by
  rw [keyNorm_apply]
  unfold Cert.PrepIdeal.Final.keyAt
  simp only [keyPart_apply]

theorem query_apply (x : FVec Ideal S16x256x4608 .f32) (w : FVec Ideal S1024 .f32) (b : Fin 16) (s : Fin 256) (l : Fin 1024) :
    queryNorm (queryPart x) w (ix3 b s l) = Cert.PrepIdeal.Final.normAt 1024 0 (by decide) (Ideal.ofBits .f32 0x44800000#32) x (fun l => w (ix1 l)) b s l := by
  rw [queryNorm_apply]
  unfold Cert.PrepIdeal.Final.normAt
  simp only [queryPart_apply]

end

theorem frame : Cert.quiescent_Prep := fun m ρ _ => Cert.Prep.Gen.frame m ρ

theorem frame_ideal : Cert.quiescent_PrepIdeal := fun m ρ _ => Cert.PrepIdeal.Gen.frame m ρ

theorem frame_ref : Cert.quiescent_PrepRefIdeal := fun m ρ _ =>
  (θ_run Cert.PrepRefIdeal.defs _ _).mono (fun r h => ⟨fun c => (h c).2.2.2, sem_eq_zero_of_no_sems (by decide) r.2⟩)
    (Cert.PrepRefIdeal.Value.run (F := Ideal) m ρ)

theorem preserves : Cert.preserves_Prep_PrepIdeal := trivial

/-- Result `main_v8`, read off the call's result array. -/
theorem tail_main_v8 (m : (ℓ : Loc Cert.PrepIdeal.nD Cert.PrepIdeal.τ Cert.PrepIdeal.sig) → Buf (Elt Ideal) ℓ) (c : Dev Cert.PrepIdeal.nD)
    (b : Fin 16) (s : Fin 256) (l : Fin 512) :
    (Pipeline.afterTail₀ Cert.PrepIdeal.cfgs (Cert.PrepIdeal.Gen.dats m) 0 (Cert.PrepIdeal.Gen.V0 m) [Cert.PrepIdeal.Gen.hostOps1] c
      Cert.PrepIdeal.main_v8 : FVec Ideal Cert.PrepIdeal.S16x256x512 .f32) (ix3 b s l)
    = ((Cert.PrepIdeal.Gen.dats m 0 c).arrAt 7 Cert.PrepIdeal.cfg0.N : FVec Ideal Cert.PrepIdeal.S4096x512 .f32) (ix2 ⟨b.val * 256 + s.val, by omega⟩ l) := by
  unfold Pipeline.afterTail₀
  simp only [List.flatten_cons, List.flatten_nil, List.append_nil]
  unfold Cert.PrepIdeal.Gen.hostOps1
  after_results
  rw [show Pipeline.withArrays (Cert.PrepIdeal.cfgs 0).spec c (Cert.PrepIdeal.Gen.V0 m c)
      (fun w => (Cert.PrepIdeal.Gen.dats m 0 c).arrAt w (Cert.PrepIdeal.cfgs 0).N) (Proc.tc.devRef Cert.PrepIdeal.main_v7_1)
      = (Cert.PrepIdeal.Gen.dats m 0 c).arrAt 7 Cert.PrepIdeal.cfg0.N from
    Pipeline.withArrays_arr (Cert.PrepIdeal.cfgs 0).spec (by decide) c (Cert.PrepIdeal.Gen.V0 m c) _ 7]
  generalize (Cert.PrepIdeal.Gen.dats m 0 c).arrAt 7 Cert.PrepIdeal.cfg0.N = y
  pointwise

/-- Result `main_v9`, read off the call's result array. -/
theorem tail_main_v9 (m : (ℓ : Loc Cert.PrepIdeal.nD Cert.PrepIdeal.τ Cert.PrepIdeal.sig) → Buf (Elt Ideal) ℓ) (c : Dev Cert.PrepIdeal.nD)
    (b : Fin 16) (s : Fin 256) (j : Fin 4) (l : Fin 128) :
    (Pipeline.afterTail₀ Cert.PrepIdeal.cfgs (Cert.PrepIdeal.Gen.dats m) 0 (Cert.PrepIdeal.Gen.V0 m) [Cert.PrepIdeal.Gen.hostOps1] c
      Cert.PrepIdeal.main_v9 : FVec Ideal Cert.PrepIdeal.S16x256x4x128 .f32) (ix4 b s j l)
    = ((Cert.PrepIdeal.Gen.dats m 0 c).arrAt 10 Cert.PrepIdeal.cfg0.N : FVec Ideal Cert.PrepIdeal.S4096x512 .f32) (ix2 ⟨b.val * 256 + s.val, by omega⟩ ⟨j.val * 128 + l.val, by omega⟩) := by
  unfold Pipeline.afterTail₀
  simp only [List.flatten_cons, List.flatten_nil, List.append_nil]
  unfold Cert.PrepIdeal.Gen.hostOps1
  after_results
  rw [show Pipeline.withArrays (Cert.PrepIdeal.cfgs 0).spec c (Cert.PrepIdeal.Gen.V0 m c)
      (fun w => (Cert.PrepIdeal.Gen.dats m 0 c).arrAt w (Cert.PrepIdeal.cfgs 0).N) (Proc.tc.devRef Cert.PrepIdeal.main_v7_4)
      = (Cert.PrepIdeal.Gen.dats m 0 c).arrAt 10 Cert.PrepIdeal.cfg0.N from
    Pipeline.withArrays_arr (Cert.PrepIdeal.cfgs 0).spec (by decide) c (Cert.PrepIdeal.Gen.V0 m c) _ 10]
  generalize (Cert.PrepIdeal.Gen.dats m 0 c).arrAt 10 Cert.PrepIdeal.cfg0.N = y
  pointwise

/-- Result `main_v10`, read off the call's result array. -/
theorem tail_main_v10 (m : (ℓ : Loc Cert.PrepIdeal.nD Cert.PrepIdeal.τ Cert.PrepIdeal.sig) → Buf (Elt Ideal) ℓ) (c : Dev Cert.PrepIdeal.nD)
    (b : Fin 16) (s : Fin 256) (l : Fin 1024) :
    (Pipeline.afterTail₀ Cert.PrepIdeal.cfgs (Cert.PrepIdeal.Gen.dats m) 0 (Cert.PrepIdeal.Gen.V0 m) [Cert.PrepIdeal.Gen.hostOps1] c
      Cert.PrepIdeal.main_v10 : FVec Ideal Cert.PrepIdeal.S16x256x1024 .bf16) (ix3 b s l)
    = ((Cert.PrepIdeal.Gen.dats m 0 c).arrAt 6 Cert.PrepIdeal.cfg0.N : FVec Ideal Cert.PrepIdeal.S4096x1024 .bf16) (ix2 ⟨b.val * 256 + s.val, by omega⟩ l) := by
  unfold Pipeline.afterTail₀
  simp only [List.flatten_cons, List.flatten_nil, List.append_nil]
  unfold Cert.PrepIdeal.Gen.hostOps1
  after_results
  rw [show Pipeline.withArrays (Cert.PrepIdeal.cfgs 0).spec c (Cert.PrepIdeal.Gen.V0 m c)
      (fun w => (Cert.PrepIdeal.Gen.dats m 0 c).arrAt w (Cert.PrepIdeal.cfgs 0).N) (Proc.tc.devRef Cert.PrepIdeal.main_v7_0)
      = (Cert.PrepIdeal.Gen.dats m 0 c).arrAt 6 Cert.PrepIdeal.cfg0.N from
    Pipeline.withArrays_arr (Cert.PrepIdeal.cfgs 0).spec (by decide) c (Cert.PrepIdeal.Gen.V0 m c) _ 6]
  generalize (Cert.PrepIdeal.Gen.dats m 0 c).arrAt 6 Cert.PrepIdeal.cfg0.N = y
  pointwise

/-- The kernel and the reference end with equal results. -/
theorem algebraic : Cert.algebraic_PrepIdeal_PrepRefIdeal := by
  pair_intro
  · run_from (Cert.PrepIdeal.Gen.run_main m g) & (Cert.PrepIdeal.Gen.unchanged m g)
  · run_from (Cert.PrepRefIdeal.Value.run (F := Ideal) m' g')
    · show kvNorm (kvPart _) _ = _
      funext i
      rw [eq_ix3 i]
      exact (kv_apply _ _ _ _ _).trans ((tail_main_v8 m c _ _ _).trans (Cert.PrepIdeal.Final.result7_apply m c _ _ _)).symm
    · show keyNorm (keyPart _) _ = _
      funext i
      rw [eq_ix4 i]
      exact (key_apply _ _ _ _ _ _).trans ((tail_main_v9 m c _ _ _ _).trans (Cert.PrepIdeal.Final.result10_apply m c _ _ _ _)).symm
    · show queryNorm (queryPart _) _ = _
      funext i
      rw [eq_ix3 i]
      exact (query_apply _ _ _ _ _).trans ((tail_main_v10 m c _ _ _).trans (Cert.PrepIdeal.Final.result6_apply m c _ _ _)).symm

end Cert.Proof.PrepClaims

end
-- ==== Proof.KvHost.lean ====
/-
  The arrays the MLA key and value projection's call is given, made of the arguments: the compressed rows with the rotary key and zero
  columns behind (`rows_apply`), and the weights, which hold an identity where the rotary key's columns meet the heads' (`weights_key`,
  `weights_value`).
-/
module

public import proofs.«01_k».proof.Proof.Literals
public import proofs.«01_k».proof.Proof.Gen.KvIdeal.Frame
public import Idealize.ShloMosaic.Lib.StableHlo.Run
public import Idealize.ShloMosaic.Lib.KernelVsHost
public import Idealize.ShloMosaic.Lib.Pointwise
public import Idealize.ShloMosaic.Lib.Tactic
public import Idealize.ShloMosaic.Lib.Routing.OpsSet
public import Idealize.ShloMosaic.Lib.Routing.OpsPair

@[expose] public section

set_option maxRecDepth 16384

noncomputable section

namespace Cert.KvIdeal.Final

open Cert.KvIdeal Cert.KvIdeal.Gen Idealize.ShloMosaic Idealize.ShloMosaic.TcCoe Idealize.SL.Sem

/-- Where a block of three axes lands when it is set at a row and a column. -/
theorem lands {A B C U W X : ℕ} (d : ScatterDims ⟨3, ![A, B, C]⟩ ⟨1, ![2]⟩ ⟨3, ![U, W, X]⟩) (huw : d.updateWindowDims = [0, 1, 2])
    (hiw : d.insertedWindowDims = []) (hsd : d.scatterDimsToOperandDims = [0, 2]) (hivd : d.indexVectorDim = 0)
    (idx : IVec ⟨1, ![2]⟩ 32) (j : (⟨3, ![U, W, X]⟩ : Shape).Idx) (i : (⟨3, ![A, B, C]⟩ : Shape).Idx) :
    d.resultIdx? j idx = some i ↔ (idx (ix1 (0 : Fin 2))).toInt + (j 0).val = (i 0).val ∧ (j 1).val = (i 1).val
      ∧ (idx (ix1 (1 : Fin 2))).toInt + (j 2).val = (i 2).val := by
  obtain ⟨uw, iw, sd, ivd, wf⟩ := d
  dsimp only at huw hiw hsd hivd
  subst huw hiw hsd hivd
  rw [Routing.resultIdx?_eq_some]
  have s0 : ScatterDims.start ⟨[0, 1, 2], [], [0, 2], 0, wf⟩ j idx 0 = (idx (ix1 (0 : Fin 2))).toInt := by
    unfold ScatterDims.start
    rw [dif_pos (by simp)]
    refine congrArg (fun x => (idx x).toInt) (funext fun b => ?_)
    obtain rfl : b = 0 := Subsingleton.elim (α := Fin 1) _ _
    rfl
  have s2 : ScatterDims.start ⟨[0, 1, 2], [], [0, 2], 0, wf⟩ j idx 2 = (idx (ix1 (1 : Fin 2))).toInt := by
    unfold ScatterDims.start
    rw [dif_pos (by simp)]
    refine congrArg (fun x => (idx x).toInt) (funext fun b => ?_)
    obtain rfl : b = 0 := Subsingleton.elim (α := Fin 1) _ _
    rfl
  have s1 : ScatterDims.start ⟨[0, 1, 2], [], [0, 2], 0, wf⟩ j idx 1 = 0 := by
    unfold ScatterDims.start
    rw [dif_neg (by simp)]
  have w0 : ScatterDims.window ⟨[0, 1, 2], [], [0, 2], 0, wf⟩ j 0 = (j 0).val := rfl
  have w1 : ScatterDims.window ⟨[0, 1, 2], [], [0, 2], 0, wf⟩ j 1 = (j 1).val := rfl
  have w2 : ScatterDims.window ⟨[0, 1, 2], [], [0, 2], 0, wf⟩ j 2 = (j 2).val := rfl
  constructor
  · intro h
    have h0 := h 0
    have h1 := h 1
    have h2 := h 2
    rw [s0, w0] at h0
    rw [s1, w1] at h1
    rw [s2, w2] at h2
    exact ⟨h0, by omega, h2⟩
  · rintro ⟨h0, h1, h2⟩ a
    match a with
    | 0 => exact (congrArg₂ (fun (x : Int) (y : ℕ) => x + (y : Int)) s0 w0).trans h0
    | 1 => exact (congrArg₂ (fun (x : Int) (y : ℕ) => x + (y : Int)) s1 w1).trans (by omega)
    | 2 => exact (congrArg₂ (fun (x : Int) (y : ℕ) => x + (y : Int)) s2 w2).trans h2

/-- A row and a column to set a block at. -/
def start (a b : BitVec 32) : IVec S2 32 :=
  concatenate S2 0 [⟨S1, broadcastInDim S1 ![] bcast_S_S1 (constantI S_ 32 a)⟩, ⟨S1, broadcastInDim S1 ![] bcast_S_S1 (constantI S_ 32 b)⟩] concatenates_S1_S1_S2_d0

theorem start_row (a b : BitVec 32) : start a b (ix1 (0 : Fin 2)) = a := by
  pointwise [start]
theorem start_col (a b : BitVec 32) : start a b (ix1 (1 : Fin 2)) = b := by
  pointwise [start]

/-- The weights split into heads. -/
def heads (w : FVec Ideal S512x4096 .f32) : FVec Ideal S512x16x256 .f32 := shapeCast S512x16x256 w shapeCasts_S512x4096_S512x16x256

/-- The identity, for each head. -/
def eye : FVec Ideal S64x16x64 .f32 :=
  broadcastInDim S64x16x64 ![0, 1, 2] bcast_S64x1x64_S64x16x64_0_1_2 (broadcastInDim S64x1x64 ![0, 2] bcast_S64x64_S64x1x64_0_2
    (uitofp .f32 (cmpi .eq (addi (iotaInDim S64x64 32 0) (broadcastInDim S64x64 ![] bcast_S_S64x64 (constantI S_ 32 0#32))) (iotaInDim S64x64 32 1))))

theorem same_word : ∀ j e : Fin 64, IntOp.cmpi .eq (IntOp.addi (BitVec.ofNat 32 j.val) 0#32) (BitVec.ofNat 32 e.val) = if j = e then 1#1 else 0#1 := by
  decide +kernel

theorem eye_apply (j : Fin 64) (h : Fin 16) (e : Fin 64) : (eye (ix3 j h e) : EReal) = if j = e then 1 else 0 := by
  pointwise [eye]
  rw [same_word]
  by_cases h : j = e
  · rw [if_pos h, if_pos h]
    show (((1#1 : BitVec 1).toNat : ℝ) : EReal) = 1
    simp
  · rw [if_neg h, if_neg h]
    show (((0#1 : BitVec 1).toNat : ℝ) : EReal) = 0
    simp

/-- The keys' weights: the heads' columns, set into zeros. -/
def keyW0 (w : FVec Ideal S512x4096 .f32) : FVec Ideal S640x16x256 .f32 :=
  Host.scatter scatter_S640x16x256_S2_S512x16x128_012_n_02_0 (fun _ b => b) (broadcastInDim S640x16x256 ![] bcast_S_S640x16x256 (constant S_ .f32 0x00000000#32))
    (start 0#32 0#32) (extractStridedSlice S512x16x128 ![0, 0, 0] (heads w) slices_S512x16x256_S512x16x128_0_0_0)

/-- The keys' weights, with the identity for the rotary key. -/
def keyW (w : FVec Ideal S512x4096 .f32) : FVec Ideal S640x16x256 .f32 :=
  Host.scatter scatter_S640x16x256_S2_S64x16x64_012_n_02_0 (fun _ b => b) (keyW0 w) (start 512#32 128#32) eye

/-- The values' weights, with zero rows for the rotary key. -/
def valW (w : FVec Ideal S512x4096 .f32) : FVec Ideal S640x16x128 .f32 :=
  pad S640x16x128 ![0, 0, 0] ![128, 0, 0] ![0, 0, 0] (extractStridedSlice S512x16x128 ![0, 0, 128] (heads w) slices_S512x16x256_S512x16x128_0_0_128)
    (sitofp .f32 (constantI S_ 32 0#32)) pads_S512x16x128_S640x16x128_01280_000_000 h_S_

/-- The weights the call is given. -/
def weights (w : FVec Ideal S512x4096 .f32) : FVec Ideal S640x6144 .bf16 :=
  truncf .bf16 (concatenate S640x6144 1 [⟨S640x4096, shapeCast S640x4096 (keyW w) shapeCasts_S640x16x256_S640x4096⟩,
    ⟨S640x2048, shapeCast S640x2048 (valW w) shapeCasts_S640x16x128_S640x2048⟩] concatenates_S640x4096_S640x2048_S640x6144_d1) bitsLt_bf16_f32

theorem slice_key (w : FVec Ideal S512x4096 .f32) (k : Fin 512) (h : Fin 16) (e : Fin 128) :
    extractStridedSlice S512x16x128 ![0, 0, 0] (heads w) slices_S512x16x256_S512x16x128_0_0_0 (ix3 k h e) = w (ix2 k ⟨h.val * 256 + e.val, by omega⟩) := by
  pointwise [heads]

theorem slice_val (w : FVec Ideal S512x4096 .f32) (k : Fin 512) (h : Fin 16) (e : Fin 128) :
    extractStridedSlice S512x16x128 ![0, 0, 128] (heads w) slices_S512x16x256_S512x16x128_0_0_128 (ix3 k h e) = w (ix2 k ⟨h.val * 256 + (128 + e.val), by omega⟩) := by
  pointwise [heads]

theorem keyW0_apply (w : FVec Ideal S512x4096 .f32) (k : Fin 640) (h : Fin 16) (e : Fin 256) :
    (keyW0 w (ix3 k h e) : EReal) = if hk : k.val < 512 ∧ e.val < 128 then w (ix2 ⟨k.val, hk.1⟩ ⟨h.val * 256 + e.val, by omega⟩) else 0 := by
  unfold keyW0
  by_cases hk : k.val < 512 ∧ e.val < 128
  · rw [dif_pos hk]
    refine (Routing.scatter_set_hit _ _ _ _ (ix3 k h e) _ (fun j hj => ?_) (ix3 ⟨k.val, hk.1⟩ h ⟨e.val, hk.2⟩) ?_).trans (slice_key w ⟨k.val, hk.1⟩ h ⟨e.val, hk.2⟩)
    · rw [lands _ rfl rfl rfl rfl, start_row, start_col] at hj
      refine congrArg _ ?_
      funext a
      apply Fin.ext
      match a with
      | 0 => exact_mod_cast (Int.zero_add _).symm.trans hj.1
      | 1 => exact hj.2.1
      | 2 => exact_mod_cast (Int.zero_add _).symm.trans hj.2.2
    · rw [lands _ rfl rfl rfl rfl, start_row, start_col]
      exact ⟨Int.zero_add _, rfl, Int.zero_add _⟩
  · rw [dif_neg hk]
    refine (Routing.scatter_set_miss _ _ _ _ (ix3 k h e) (fun j hj => hk ?_)).trans ?_
    · rw [lands _ rfl rfl rfl rfl, start_row, start_col] at hj
      have h0 : (0 : Int) + ((j 0).val : Int) = (k.val : Int) := hj.1
      have h2 : (0 : Int) + ((j 2).val : Int) = (e.val : Int) := hj.2.2
      have l0 : (j 0).val < 512 := (j 0).isLt
      have l2 : (j 2).val < 128 := (j 2).isLt
      omega
    · pointwise [Lit.zero]

theorem keyW_apply (w : FVec Ideal S512x4096 .f32) (k : Fin 640) (h : Fin 16) (e : Fin 256) :
    (keyW w (ix3 k h e) : EReal) = if hk : (512 ≤ k.val ∧ k.val < 576) ∧ 128 ≤ e.val ∧ e.val < 192 then (if k.val - 512 = e.val - 128 then 1 else 0)
      else if hk : k.val < 512 ∧ e.val < 128 then w (ix2 ⟨k.val, hk.1⟩ ⟨h.val * 256 + e.val, by omega⟩) else 0 := by
  unfold keyW
  by_cases hk : (512 ≤ k.val ∧ k.val < 576) ∧ 128 ≤ e.val ∧ e.val < 192
  · rw [dif_pos hk]
    refine (Routing.scatter_set_hit _ _ _ _ (ix3 k h e) _ (fun j hj => ?_) (ix3 ⟨k.val - 512, by omega⟩ h ⟨e.val - 128, by omega⟩) ?_).trans
      ((eye_apply ⟨k.val - 512, by omega⟩ h ⟨e.val - 128, by omega⟩).trans ?_)
    · rw [lands _ rfl rfl rfl rfl, start_row, start_col] at hj
      have h0 : (512 : Int) + ((j 0).val : Int) = (k.val : Int) := hj.1
      have h2 : (128 : Int) + ((j 2).val : Int) = (e.val : Int) := hj.2.2
      refine congrArg _ ?_
      funext a
      apply Fin.ext
      match a with
      | 0 => show (j 0).val = k.val - 512; omega
      | 1 => exact hj.2.1
      | 2 => show (j 2).val = e.val - 128; omega
    · rw [lands _ rfl rfl rfl rfl, start_row, start_col]
      refine ⟨?_, rfl, ?_⟩
      · show (512 : Int) + ((k.val - 512 : ℕ) : Int) = (k.val : Int); omega
      · show (128 : Int) + ((e.val - 128 : ℕ) : Int) = (e.val : Int); omega
    · simp only [Fin.mk.injEq]
  · rw [dif_neg hk]
    refine (Routing.scatter_set_miss _ _ _ _ (ix3 k h e) (fun j hj => hk ?_)).trans (keyW0_apply w k h e)
    rw [lands _ rfl rfl rfl rfl, start_row, start_col] at hj
    have h0 : (512 : Int) + ((j 0).val : Int) = (k.val : Int) := hj.1
    have h2 : (128 : Int) + ((j 2).val : Int) = (e.val : Int) := hj.2.2
    have l0 : (j 0).val < 64 := (j 0).isLt
    have l2 : (j 2).val < 64 := (j 2).isLt
    omega

theorem fill_zero (i : S_.Idx) : (sitofp (F := Ideal) .f32 (constantI S_ 32 0#32) i : EReal) = 0 := by
  show (((0#32 : BitVec 32).toInt : ℝ) : EReal) = 0
  simp

theorem valW_apply (w : FVec Ideal S512x4096 .f32) (k : Fin 640) (h : Fin 16) (e : Fin 128) :
    (valW w (ix3 k h e) : EReal) = if hk : k.val < 512 then w (ix2 ⟨k.val, hk⟩ ⟨h.val * 256 + (128 + e.val), by omega⟩) else 0 := by
  unfold valW
  by_cases hk : k.val < 512
  · rw [dif_pos hk]
    refine (pad_apply_of_inside _ _ _ _ _ _ _ _ (ix3 (⟨k.val, hk⟩ : Fin 512) h e) (fun a => ?_)).trans (slice_val w ⟨k.val, hk⟩ h e)
    fin_cases a
    · show k.val = 0 + k.val * (0 + 1); omega
    · show h.val = 0 + h.val * (0 + 1); omega
    · show e.val = 0 + e.val * (0 + 1); omega
  · rw [dif_neg hk]
    refine (pad_apply_of_not_inside _ _ _ _ _ _ _ _ (0 : Fin 3) (fun hin => hk ?_)).trans (fill_zero _)
    have h3 : (k.val - 0) / (0 + 1) < 512 := hin.2.2
    omega

theorem weights_apply (w : FVec Ideal S512x4096 .f32) (k : Fin 640) (l : Fin 6144) :
    (weights w (ix2 k l) : EReal) = if h : l.val < 4096 then (keyW w (ix3 k ⟨l.val / 256, by omega⟩ ⟨l.val % 256, by omega⟩) : EReal)
      else valW w (ix3 k ⟨(l.val - 4096) / 128, by omega⟩ ⟨(l.val - 4096) % 128, by omega⟩) := by
  pointwise [weights]

/-- The rows the call is given. -/
def rows (a : FVec Ideal S8x512x512 .f32) (r : FVec Ideal S8x512x64 .f32) : FVec Ideal S4096x640 .bf16 :=
  shapeCast S4096x640 (truncf .bf16 (concatenate S8x512x640 2 [⟨S8x512x512, a⟩, ⟨S8x512x64, r⟩,
    ⟨S8x512x64, broadcastInDim S8x512x64 ![] bcast_S_S8x512x64 (constant S_ .f32 0x00000000#32)⟩] concatenates_S8x512x512_S8x512x64_S8x512x64_S8x512x640_d2) bitsLt_bf16_f32) shapeCasts_S8x512x640_S4096x640

theorem rows_apply (a : FVec Ideal S8x512x512 .f32) (r : FVec Ideal S8x512x64 .f32) (i : Fin 4096) (k : Fin 640) :
    (rows a r (ix2 i k) : EReal) = if h : k.val < 512 then (a (ix3 ⟨i.val / 512, by omega⟩ ⟨i.val % 512, by omega⟩ ⟨k.val, h⟩) : EReal)
      else if h' : k.val - 512 < 64 then r (ix3 ⟨i.val / 512, by omega⟩ ⟨i.val % 512, by omega⟩ ⟨k.val - 512, h'⟩) else 0 := by
  pointwise [rows, Lit.zero]

variable (m : (ℓ : Loc nD τ sig) → Buf (Elt Ideal) ℓ)

theorem rows_eq (c : Dev nD) : (V m c main_v28 : FVec Ideal S4096x640 .bf16) =
    rows (m ((c : Thread nD τ).loc main_arg0)) (m ((c : Thread nD τ).loc main_arg1)) := by
  unfold V V0
  simp only [List.flatten_cons, List.flatten_nil, List.append_nil, List.cons_append, List.nil_append]
  unfold_abbrev_sides
  after_results
  rfl

theorem weights_eq (c : Dev nD) : (V m c main_v24 : FVec Ideal S640x6144 .bf16) = weights (m ((c : Thread nD τ).loc main_arg2)) := by
  unfold V V0
  simp only [List.flatten_cons, List.flatten_nil, List.append_nil, List.cons_append, List.nil_append]
  unfold_abbrev_sides
  after_results
  rfl

end Cert.KvIdeal.Final
-- ==== Proof.KvClaim.lean ====
/-
  The MLA key and value projection: the kernel's one product gives each head's keys and values from the compressed row, and the rotary key
  by an identity among the weights; the reference joins the rotary key to each head's product.
-/
module

public import proofs.«01_k».proof.Defs
public import proofs.«01_k».proof.Proof.Literals
public import proofs.«01_k».proof.Proof.Gen.Kv.Frame
public import proofs.«01_k».proof.Proof.Gen.KvIdeal.Frame
public import proofs.«01_k».proof.Proof.Gen.KvRefIdeal.Run
public import Idealize.ShloMosaic.Lib.Pointwise
public import Idealize.ShloMosaic.Lib.Claim
public import Idealize.ShloMosaic.Lib.Pipeline.Value
public import Idealize.ShloMosaic.Lib.StableHlo.Run
public import Idealize.ShloMosaic.Lib.Tactic
public import Idealize.ShloMosaic.Lib.Quiescent
public import proofs.«01_k».proof.Proof.KvHost

@[expose] public section

set_option maxRecDepth 16384

noncomputable section

namespace Cert.KvIdeal.Final

open Cert.KvIdeal Cert.KvIdeal.Gen Idealize.ShloMosaic Idealize.ShloMosaic.TcCoe Idealize.SL.Sem

/-- The body's result, at an index. -/
theorem out_apply (x : FVec Ideal S1024x640 .bf16) (y : FVec Ideal S640x2048 .bf16) (r : Fin 1024) (l : Fin 2048) :
    out0_2 (F := Ideal) x y (ix2 r l) = ∑ k : Fin 640, x (ix2 r k) * y (ix2 k l) := by
  unfold out0_2
  have hz : (![0, 0] : Fin 2 → ℕ) = fun _ => 0 := funext fun a => by fin_cases a <;> rfl
  rw [View.canon_unit_zero hz, View.ld_unit_zero hz, View.ld_unit_zero hz]
  pointwise [k0_pay1]

variable (m : (ℓ : Loc nD τ sig) → Buf (Elt Ideal) ℓ)

theorem index_x : ∀ t : Fin grid0.N, win0_0.index t 0 = t.val / 3 ∧ win0_0.index t 1 = 0 := by decide +kernel
theorem index_w : ∀ t : Fin grid0.N, win0_1.index t 0 = 0 ∧ win0_1.index t 1 = t.val % 3 := by decide +kernel
theorem index_o : ∀ t : Fin grid0.N, win0_2.index t 0 = t.val / 3 ∧ win0_2.index t 1 = t.val % 3 := by decide +kernel

theorem lt_N (t : Fin cfg0.N) : t.val < 12 := Nat.lt_of_lt_of_eq t.isLt N_0

theorem iblk_x (c : Dev nD) (t : Fin cfg0.N) (r : Fin 1024) (l : Fin 640) :
    (iblk m c 0 t : FVec Ideal S1024x640 .bf16) (ix2 r l) = (V m c main_v28 : FVec Ideal S4096x640 .bf16)
      (ix2 ⟨t.val / 3 * 1024 + r.val, by have := lt_N t; omega⟩ l) := by
  unfold iblk
  rw [View.read_apply]
  show (V m c main_v28 : FVec Ideal S4096x640 .bf16) _ = _
  congr 1
  funext a
  obtain ⟨e0, e1⟩ := index_x t
  apply Fin.ext
  match a with
  | ⟨0, _⟩ => show win0_0.index t 0 * 1024 + 1 * r.val = t.val / 3 * 1024 + r.val; rw [e0]; omega
  | ⟨1, _⟩ => show win0_0.index t 1 * 640 + 1 * l.val = l.val; rw [e1]; omega

theorem iblk_w (c : Dev nD) (t : Fin cfg0.N) (r : Fin 640) (l : Fin 2048) :
    (iblk m c 1 t : FVec Ideal S640x2048 .bf16) (ix2 r l) = (V m c main_v24 : FVec Ideal S640x6144 .bf16)
      (ix2 r ⟨t.val % 3 * 2048 + l.val, by have := lt_N t; omega⟩) := by
  unfold iblk
  rw [View.read_apply]
  show (V m c main_v24 : FVec Ideal S640x6144 .bf16) _ = _
  congr 1
  funext a
  obtain ⟨e0, e1⟩ := index_w t
  apply Fin.ext
  match a with
  | ⟨0, _⟩ => show win0_1.index t 0 * 640 + 1 * r.val = r.val; rw [e0]; omega
  | ⟨1, _⟩ => show win0_1.index t 1 * 2048 + 1 * l.val = t.val % 3 * 2048 + l.val; rw [e1]; omega

theorem index_inj (t t' : Fin cfg0.N) (h : win0_2.index t = win0_2.index t') : t = t' := by
  have h0 := congrFun h 0
  have h1 := congrFun h 1
  rw [(index_o t).1, (index_o t').1] at h0
  rw [(index_o t).2, (index_o t').2] at h1
  apply Fin.ext
  have := lt_N t
  have := lt_N t'
  omega

/-- An element of the result array is that element of the block holding it. -/
theorem result_block (c : Dev nD) (t : Fin cfg0.N) (r : Fin 1024) (l : Fin 2048) :
    ((dats m 0 c).arrAt 2 cfg0.N : FVec Ideal S4096x6144 .bf16)
      (ix2 ⟨t.val / 3 * 1024 + r.val, by have := lt_N t; omega⟩ ⟨t.val % 3 * 2048 + l.val, by have := lt_N t; omega⟩)
    = out0_2 (F := Ideal) (iblk m c 0 t) (iblk m c 1 t) (ix2 r l) := by
  have h := congrFun ((dats m 0 c).read_blk_arrAt_eq_flushed 2 (fun t t' _ _ hne => (cfg0.win 2).disjoint_blk fun h => hne (index_inj t t' h))
    cfg0.N t t.isLt (flush0_2 t)) (ix2 r l : S1024x2048.Idx)
  rw [View.read_apply] at h
  refine Eq.trans ?_ (h.trans ?_)
  · show _ = ((dats m 0 c).arrAt 2 cfg0.N : FVec Ideal S4096x6144 .bf16) _
    congr 1
    funext a
    obtain ⟨e0, e1⟩ := index_o t
    apply Fin.ext
    match a with
    | ⟨0, _⟩ => show t.val / 3 * 1024 + r.val = win0_2.index t 0 * 1024 + 1 * r.val; rw [e0]; omega
    | ⟨1, _⟩ => show t.val % 3 * 2048 + l.val = win0_2.index t 1 * 2048 + 1 * l.val; rw [e1]; omega
  · show (cfg0.win 2).cut (grid0.coords t) ((dats m 0 c).after 2 t) (ix2 r l) = _
    rw [after0_2]
    rfl

/-- An element of the call's result array: a row's product with a column. -/
theorem array_apply (c : Dev nD) (R : Fin 4096) (L : Fin 6144) :
    ((dats m 0 c).arrAt 2 cfg0.N : FVec Ideal S4096x6144 .bf16) (ix2 R L)
      = (∑ k : Fin 640, HMul.hMul (α := EReal) (β := EReal) (γ := EReal) (rows (m ((c : Thread nD τ).loc main_arg0)) (m ((c : Thread nD τ).loc main_arg1)) (ix2 R k))
          (weights (m ((c : Thread nD τ).loc main_arg2)) (ix2 k L)) : EReal) := by
  have hT : R.val / 1024 * 3 + L.val / 2048 < cfg0.N := by rw [show cfg0.N = 12 from N_0]; omega
  obtain ⟨T, hTv⟩ : ∃ T : Fin cfg0.N, T.val = R.val / 1024 * 3 + L.val / 2048 := ⟨⟨_, hT⟩, rfl⟩
  obtain ⟨r, hr⟩ : ∃ r : Fin 1024, r.val = R.val % 1024 := ⟨⟨_, by omega⟩, rfl⟩
  obtain ⟨l, hl⟩ : ∃ l : Fin 2048, l.val = L.val % 2048 := ⟨⟨_, by omega⟩, rfl⟩
  have hrow : T.val / 3 * 1024 + r.val = R.val := by omega
  have hcol : T.val % 3 * 2048 + l.val = L.val := by omega
  have h0 := (result_block m c T r l).trans (out_apply _ _ _ _)
  simp only [hrow, hcol] at h0
  refine h0.trans ?_
  refine congrArg (Finset.sum (M := EReal) Finset.univ) (funext fun k => congrArg₂ (HMul.hMul (α := EReal) (β := EReal) (γ := EReal)) ?_ ?_)
  · refine (iblk_x m c _ _ k).trans ?_
    rw [rows_eq]
    exact congrArg (rows _ _) (congrArg (fun x => ix2 x k) (Fin.ext hrow))
  · refine (iblk_w m c _ k _).trans ?_
    rw [weights_eq]
    exact congrArg (weights _) (congrArg (fun x => ix2 k x) (Fin.ext hcol))

/-- A sum over the compressed columns, the rotary key's and the zero columns. -/
theorem sum_split (f : Fin 640 → EReal) :
    ∑ k, f k = ∑ k : Fin 512, f ⟨k.val, by omega⟩ + (∑ j : Fin 64, f ⟨512 + j.val, by omega⟩ + ∑ j : Fin 64, f ⟨576 + j.val, by omega⟩) := by
  refine (Fin.sum_univ_add (a := 512) (b := 128) f).trans ?_
  refine congrArg₂ (HAdd.hAdd (α := EReal) (β := EReal) (γ := EReal)) rfl ?_
  refine (Fin.sum_univ_add (a := 64) (b := 64) (fun j => f (Fin.natAdd 512 j))).trans ?_
  refine congrArg₂ (HAdd.hAdd (α := EReal) (β := EReal) (γ := EReal)) rfl ?_
  exact Finset.sum_congr rfl fun j _ => congrArg f (Fin.ext (by show 512 + (64 + j.val) = 576 + j.val; omega))

/-- An element of the projection. -/
def dotAt (a : FVec Ideal S8x512x512 .f32) (w : FVec Ideal S512x4096 .f32) (b : Fin 8) (s : Fin 512) (l : Fin 4096) : EReal :=
  ∑ k : Fin 512, a (ix3 b s k) * w (ix2 k l)

/-- An element of the keys. -/
def keyAt (a : FVec Ideal S8x512x512 .f32) (r : FVec Ideal S8x512x64 .f32) (w : FVec Ideal S512x4096 .f32) (b : Fin 8) (s : Fin 512) (h : Fin 16) (e : Fin 192) : EReal :=
  if h1 : e.val < 128 then dotAt a w b s ⟨h.val * 256 + e.val, by omega⟩ else r (ix3 b s ⟨e.val - 128, by omega⟩)

/-- A row's compressed, rotary and zero columns. -/
theorem row_low (a : FVec Ideal S8x512x512 .f32) (r : FVec Ideal S8x512x64 .f32) (b : Fin 8) (s : Fin 512) (k : Fin 512) :
    (rows a r (ix2 ⟨b.val * 512 + s.val, by omega⟩ ⟨k.val, by omega⟩) : EReal) = a (ix3 b s k) := by
  rw [rows_apply, dif_pos k.isLt]
  exact congrArg a (congrArg₂ (fun x y => ix3 x y k) (Fin.ext (by dsimp only; omega)) (Fin.ext (by dsimp only; omega)))

theorem row_rope (a : FVec Ideal S8x512x512 .f32) (r : FVec Ideal S8x512x64 .f32) (b : Fin 8) (s : Fin 512) (k : Fin 64) :
    (rows a r (ix2 ⟨b.val * 512 + s.val, by omega⟩ ⟨512 + k.val, by omega⟩) : EReal) = r (ix3 b s k) := by
  rw [rows_apply, dif_neg (by dsimp only; omega), dif_pos (show 512 + k.val - 512 < 64 by omega)]
  refine congrArg r ?_
  funext i
  apply Fin.ext
  match i with
  | 0 => show (b.val * 512 + s.val) / 512 = b.val; omega
  | 1 => show (b.val * 512 + s.val) % 512 = s.val; omega
  | 2 => show 512 + k.val - 512 = k.val; omega

theorem row_zero (a : FVec Ideal S8x512x512 .f32) (r : FVec Ideal S8x512x64 .f32) (R : Fin 4096) (k : Fin 64) :
    (rows a r (ix2 R ⟨576 + k.val, by omega⟩) : EReal) = 0 := by
  rw [rows_apply, dif_neg (by dsimp only; omega), dif_neg (by dsimp only; omega)]

/-- The product of a row and a column of the keys' weights. -/
theorem key_sum (a : FVec Ideal S8x512x512 .f32) (r : FVec Ideal S8x512x64 .f32) (w : FVec Ideal S512x4096 .f32) (b : Fin 8) (s : Fin 512) (h : Fin 16) (e : Fin 192) :
    (∑ k : Fin 640, HMul.hMul (α := EReal) (β := EReal) (γ := EReal) (rows a r (ix2 ⟨b.val * 512 + s.val, by omega⟩ k))
      (weights w (ix2 k ⟨h.val * 256 + e.val, by omega⟩)) : EReal) = keyAt a r w b s h e := by
  have hw : ∀ k : Fin 640, (weights w (ix2 k ⟨h.val * 256 + e.val, by omega⟩) : EReal) = keyW w (ix3 k h ⟨e.val, by omega⟩) := by
    intro k
    rw [weights_apply, dif_pos (show h.val * 256 + e.val < 4096 by omega)]
    exact congrArg (keyW w) (congrArg₂ (fun x y => ix3 k x y) (Fin.ext (by dsimp only; omega)) (Fin.ext (by dsimp only; omega)))
  simp only [hw]
  rw [sum_split]
  simp only [row_low, row_rope, row_zero, zero_mul, Finset.sum_const_zero, add_zero]
  unfold keyAt
  by_cases h1 : e.val < 128
  · rw [dif_pos h1]
    have hr : ∀ j : Fin 64, (keyW w (ix3 ⟨512 + j.val, by omega⟩ h ⟨e.val, by omega⟩) : EReal) = 0 := by
      intro j
      rw [keyW_apply, dif_neg (by dsimp only; omega), dif_neg (by dsimp only; omega)]
    have hl : ∀ k : Fin 512, (keyW w (ix3 ⟨k.val, by omega⟩ h ⟨e.val, by omega⟩) : EReal) = w (ix2 k ⟨h.val * 256 + e.val, by omega⟩) := by
      intro k
      rw [keyW_apply, dif_neg (by dsimp only; omega), dif_pos ⟨k.isLt, h1⟩]
    simp only [hr, hl, mul_zero, Finset.sum_const_zero, add_zero]
    rfl
  · rw [dif_neg h1]
    have hr : ∀ j : Fin 64, (keyW w (ix3 ⟨512 + j.val, by omega⟩ h ⟨e.val, by omega⟩) : EReal) = if j = (⟨e.val - 128, by omega⟩ : Fin 64) then 1 else 0 := by
      intro j
      rw [keyW_apply, dif_pos ⟨⟨by dsimp only; omega, by dsimp only; omega⟩, by dsimp only; omega, by dsimp only; omega⟩]
      simp only [Fin.ext_iff, Nat.add_sub_cancel_left]
    have hl : ∀ k : Fin 512, (keyW w (ix3 ⟨k.val, by omega⟩ h ⟨e.val, by omega⟩) : EReal) = 0 := by
      intro k
      rw [keyW_apply, dif_neg (by dsimp only; omega), dif_neg (by dsimp only; omega)]
    simp only [hr, hl, mul_zero, Finset.sum_const_zero, zero_add, mul_ite, mul_one, Finset.sum_ite_eq', Finset.mem_univ, if_true]

/-- The product of a row and a column of the values' weights. -/
theorem val_sum (a : FVec Ideal S8x512x512 .f32) (r : FVec Ideal S8x512x64 .f32) (w : FVec Ideal S512x4096 .f32) (b : Fin 8) (s : Fin 512) (h : Fin 16) (e : Fin 128) :
    (∑ k : Fin 640, HMul.hMul (α := EReal) (β := EReal) (γ := EReal) (rows a r (ix2 ⟨b.val * 512 + s.val, by omega⟩ k))
      (weights w (ix2 k ⟨4096 + (h.val * 128 + e.val), by omega⟩)) : EReal) = dotAt a w b s ⟨h.val * 256 + (128 + e.val), by omega⟩ := by
  have hw : ∀ k : Fin 640, (weights w (ix2 k ⟨4096 + (h.val * 128 + e.val), by omega⟩) : EReal) = valW w (ix3 k h e) := by
    intro k
    rw [weights_apply, dif_neg (by dsimp only; omega)]
    exact congrArg (valW w) (congrArg₂ (fun x y => ix3 k x y) (Fin.ext (by dsimp only; omega)) (Fin.ext (by dsimp only; omega)))
  simp only [hw]
  rw [sum_split]
  have hr : ∀ j : Fin 64, (valW w (ix3 ⟨512 + j.val, by omega⟩ h e) : EReal) = 0 := by
    intro j
    rw [valW_apply, dif_neg (by dsimp only; omega)]
  have hl : ∀ k : Fin 512, (valW w (ix3 ⟨k.val, by omega⟩ h e) : EReal) = w (ix2 k ⟨h.val * 256 + (128 + e.val), by omega⟩) := by
    intro k
    rw [valW_apply, dif_pos k.isLt]
  simp only [row_low, row_rope, row_zero, hr, hl, zero_mul, mul_zero, Finset.sum_const_zero, add_zero]
  rfl

end Cert.KvIdeal.Final

namespace Cert.Proof.KvClaims

open Idealize.ShloMosaic Idealize.ShloMosaic.TcCoe Idealize.SL.Sem

section
open Cert.KvRefIdeal Cert.KvRefIdeal.Gen

/-- The projection, split into heads. -/
def heads (a : FVec Ideal S8x512x512 .f32) (w : FVec Ideal S512x4096 .f32) : FVec Ideal S8x512x16x256 .f32 :=
  shapeCast S8x512x16x256 (Host.dotGeneral dot_S8x512x512_S512x4096_S8x512x4096_2_0_01_1_n_n none a w : FVec Ideal S8x512x4096 .f32) shapeCasts_S8x512x4096_S8x512x16x256

/-- The reference's keys. -/
def keys (a : FVec Ideal S8x512x512 .f32) (r : FVec Ideal S8x512x64 .f32) (w : FVec Ideal S512x4096 .f32) : FVec Ideal S8x512x16x192 .bf16 :=
  truncf .bf16 (concatenate S8x512x16x192 3 [⟨S8x512x16x128, extractStridedSlice S8x512x16x128 ![0, 0, 0, 0] (heads a w) slices_S8x512x16x256_S8x512x16x128_0_0_0_0⟩,
    ⟨S8x512x16x64, broadcastInDim S8x512x16x64 ![0, 1, 2, 3] bcast_S8x512x1x64_S8x512x16x64_0_1_2_3 (broadcastInDim S8x512x1x64 ![0, 1, 3] bcast_S8x512x64_S8x512x1x64_0_1_3 r)⟩]
    concatenates_S8x512x16x128_S8x512x16x64_S8x512x16x192_d3) bitsLt_bf16_f32

/-- The reference's values. -/
def vals (a : FVec Ideal S8x512x512 .f32) (w : FVec Ideal S512x4096 .f32) : FVec Ideal S8x512x16x128 .bf16 :=
  truncf .bf16 (extractStridedSlice S8x512x16x128 ![0, 0, 0, 128] (heads a w) slices_S8x512x16x256_S8x512x16x128_0_0_0_128) bitsLt_bf16_f32

theorem heads_apply (a : FVec Ideal S8x512x512 .f32) (w : FVec Ideal S512x4096 .f32) (b : Fin 8) (s : Fin 512) (h : Fin 16) (e : Fin 256) :
    heads a w (ix4 b s h e) = Cert.KvIdeal.Final.dotAt a w b s ⟨h.val * 256 + e.val, by omega⟩ := by
  unfold Cert.KvIdeal.Final.dotAt
  pointwise [heads]

theorem keys_apply (a : FVec Ideal S8x512x512 .f32) (r : FVec Ideal S8x512x64 .f32) (w : FVec Ideal S512x4096 .f32) (b : Fin 8) (s : Fin 512) (h : Fin 16) (e : Fin 192) :
    (keys a r w (ix4 b s h e) : EReal) = Cert.KvIdeal.Final.keyAt a r w b s h e := by
  unfold Cert.KvIdeal.Final.keyAt
  pointwise [keys, heads_apply]

theorem vals_apply (a : FVec Ideal S8x512x512 .f32) (w : FVec Ideal S512x4096 .f32) (b : Fin 8) (s : Fin 512) (h : Fin 16) (e : Fin 128) :
    (vals a w (ix4 b s h e) : EReal) = Cert.KvIdeal.Final.dotAt a w b s ⟨h.val * 256 + (128 + e.val), by omega⟩ := by
  pointwise [vals, heads_apply]

end

theorem frame : Cert.quiescent_Kv := fun m ρ _ => Cert.Kv.Gen.frame m ρ

theorem frame_ideal : Cert.quiescent_KvIdeal := fun m ρ _ => Cert.KvIdeal.Gen.frame m ρ

theorem frame_ref : Cert.quiescent_KvRefIdeal := fun m ρ _ =>
  (θ_run Cert.KvRefIdeal.defs _ _).mono (fun r h => ⟨fun c => (h c).2.2, sem_eq_zero_of_no_sems (by decide) r.2⟩)
    (Cert.KvRefIdeal.Value.run (F := Ideal) m ρ)

theorem preserves : Cert.preserves_Kv_KvIdeal := trivial

/-- The keys, read off the call's result array. -/
theorem tail_keys (m : (ℓ : Loc Cert.KvIdeal.nD Cert.KvIdeal.τ Cert.KvIdeal.sig) → Buf (Elt Ideal) ℓ) (c : Dev Cert.KvIdeal.nD)
    (b : Fin 8) (s : Fin 512) (h : Fin 16) (e : Fin 192) :
    (Pipeline.afterTail₀ Cert.KvIdeal.cfgs (Cert.KvIdeal.Gen.dats m) 0 (Cert.KvIdeal.Gen.V0 m) [Cert.KvIdeal.Gen.hostOps1] c
      Cert.KvIdeal.main_v33 : FVec Ideal Cert.KvIdeal.S8x512x16x192 .bf16) (ix4 b s h e)
    = ((Cert.KvIdeal.Gen.dats m 0 c).arrAt 2 Cert.KvIdeal.cfg0.N : FVec Ideal Cert.KvIdeal.S4096x6144 .bf16)
        (ix2 ⟨b.val * 512 + s.val, by omega⟩ ⟨h.val * 256 + e.val, by omega⟩) := by
  unfold Pipeline.afterTail₀
  simp only [List.flatten_cons, List.flatten_nil, List.append_nil]
  unfold Cert.KvIdeal.Gen.hostOps1
  after_results
  rw [show Pipeline.withArrays (Cert.KvIdeal.cfgs 0).spec c (Cert.KvIdeal.Gen.V0 m c)
      (fun w => (Cert.KvIdeal.Gen.dats m 0 c).arrAt w (Cert.KvIdeal.cfgs 0).N) (Proc.tc.devRef Cert.KvIdeal.main_v29)
      = (Cert.KvIdeal.Gen.dats m 0 c).arrAt 2 Cert.KvIdeal.cfg0.N from
    Pipeline.withArrays_arr (Cert.KvIdeal.cfgs 0).spec (by decide) c (Cert.KvIdeal.Gen.V0 m c) _ 2]
  generalize (Cert.KvIdeal.Gen.dats m 0 c).arrAt 2 Cert.KvIdeal.cfg0.N = y
  pointwise

/-- The values, read off the call's result array. -/
theorem tail_vals (m : (ℓ : Loc Cert.KvIdeal.nD Cert.KvIdeal.τ Cert.KvIdeal.sig) → Buf (Elt Ideal) ℓ) (c : Dev Cert.KvIdeal.nD)
    (b : Fin 8) (s : Fin 512) (h : Fin 16) (e : Fin 128) :
    (Pipeline.afterTail₀ Cert.KvIdeal.cfgs (Cert.KvIdeal.Gen.dats m) 0 (Cert.KvIdeal.Gen.V0 m) [Cert.KvIdeal.Gen.hostOps1] c
      Cert.KvIdeal.main_v35 : FVec Ideal Cert.KvIdeal.S8x512x16x128 .bf16) (ix4 b s h e)
    = ((Cert.KvIdeal.Gen.dats m 0 c).arrAt 2 Cert.KvIdeal.cfg0.N : FVec Ideal Cert.KvIdeal.S4096x6144 .bf16)
        (ix2 ⟨b.val * 512 + s.val, by omega⟩ ⟨4096 + (h.val * 128 + e.val), by omega⟩) := by
  unfold Pipeline.afterTail₀
  simp only [List.flatten_cons, List.flatten_nil, List.append_nil]
  unfold Cert.KvIdeal.Gen.hostOps1
  after_results
  rw [show Pipeline.withArrays (Cert.KvIdeal.cfgs 0).spec c (Cert.KvIdeal.Gen.V0 m c)
      (fun w => (Cert.KvIdeal.Gen.dats m 0 c).arrAt w (Cert.KvIdeal.cfgs 0).N) (Proc.tc.devRef Cert.KvIdeal.main_v29)
      = (Cert.KvIdeal.Gen.dats m 0 c).arrAt 2 Cert.KvIdeal.cfg0.N from
    Pipeline.withArrays_arr (Cert.KvIdeal.cfgs 0).spec (by decide) c (Cert.KvIdeal.Gen.V0 m c) _ 2]
  generalize (Cert.KvIdeal.Gen.dats m 0 c).arrAt 2 Cert.KvIdeal.cfg0.N = y
  pointwise

/-- The kernel and the reference end with equal results. -/
theorem algebraic : Cert.algebraic_KvIdeal_KvRefIdeal := by
  pair_intro
  · run_from (Cert.KvIdeal.Gen.run_main m g) & (Cert.KvIdeal.Gen.unchanged m g)
  · run_from (Cert.KvRefIdeal.Value.run (F := Ideal) m' g')
    · show keys _ _ _ = _
      funext i
      rw [eq_ix4 i]
      obtain ⟨-, -, e2⟩ := hagree c
      refine (keys_apply _ _ _ (i 0) (i 1) (i 2) (i 3)).trans ?_
      rw [e2]
      exact ((tail_keys m c (i 0) (i 1) (i 2) (i 3)).trans ((Cert.KvIdeal.Final.array_apply m c _ _).trans
        (Cert.KvIdeal.Final.key_sum _ _ _ (i 0) (i 1) (i 2) (i 3)))).symm
    · show vals _ _ = _
      funext i
      rw [eq_ix4 i]
      refine (vals_apply _ _ (i 0) (i 1) (i 2) (i 3)).trans ?_
      exact ((tail_vals m c (i 0) (i 1) (i 2) (i 3)).trans ((Cert.KvIdeal.Final.array_apply m c _ _).trans
        (Cert.KvIdeal.Final.val_sum _ _ _ (i 0) (i 1) (i 2) (i 3)))).symm

end Cert.Proof.KvClaims

end
-- ==== Proof.QbTile.lean ====
/-
  The block that one grid point of the MLA query projection's kernel writes, element by element: the rows' products with the weights'
  columns, the rotary columns turned by the cosine and sine tables, all times the attention's scale (`out_apply`).
-/
module

public import proofs.«01_k».proof.Proof.Gen.QbIdeal.Frame
public import proofs.«01_k».proof.Proof.Literals
public import Idealize.ShloMosaic.Lib.Pointwise

@[expose] public section

set_option maxRecDepth 16384

noncomputable section

namespace Cert.QbIdeal.Tile

open Cert.QbIdeal Cert.QbIdeal.Gen Idealize.ShloMosaic Idealize.ShloMosaic.TcCoe Idealize.SL.Sem

/-- The scale of the attention's scores, times the logarithm of e to base two, as the programs have it. -/
def σ : EReal := Ideal.ofBits .f32 0x3DD53B95#32

/-- The column a rotary column is paired with. -/
def mate (e : Fin 128) : Fin 128 := ⟨if e.val % 2 = 0 then e.val + 1 else e.val - 1, by split <;> omega⟩

/-- A row's product with a column of the weights. -/
def acc (x : FVec Ideal S1024x1024 .bf16) (y : FVec Ideal S1024x512 .bf16) (r : Fin 1024) (l : Fin 512) : EReal :=
  ∑ k : Fin 1024, x (ix2 r k) * y (ix2 k l)

theorem acc_apply (x : FVec Ideal S1024x1024 .bf16) (y : FVec Ideal S1024x512 .bf16) (r : Fin 1024) (l : Fin 512) :
    k0_pay2 (F := Ideal) x y (ix2 r l) = acc x y r l := by
  pointwise [k0_pay2, acc]

/-- A store of columns without rotation. -/
theorem plain0_apply (x : FVec Ideal S1024x1024 .bf16) (y : FVec Ideal S1024x512 .bf16) (r : Fin 1024) (d : Fin 128) :
    k0_pay3 (F := Ideal) x y (ix2 r d) = acc x y r ⟨d.val, by omega⟩ * σ := by
  pointwise [k0_pay3, acc_apply, σ]

theorem plain1_apply (x : FVec Ideal S1024x1024 .bf16) (y : FVec Ideal S1024x512 .bf16) (r : Fin 1024) (d : Fin 128) :
    k0_pay5 (F := Ideal) x y (ix2 r d) = acc x y r ⟨256 + d.val, by omega⟩ * σ := by
  pointwise [k0_pay5, acc_apply, σ]

theorem parity : ∀ d : Fin 128, IntOp.cmpi .eq (IntOp.andi (BitVec.ofNat 32 d.val) 1#32) 0#32 = if d.val % 2 = 0 then 1#1 else 0#1 := by
  decide +kernel

/-- The choice between the next column and the last, by a column's parity, is the column it is paired with. -/
theorem pick (f : Fin 512 → EReal) (a : ℕ) (ha : a + 128 ≤ 512) (d : Fin 128) :
    Scalar.select (IntOp.cmpi .eq (IntOp.andi (BitVec.ofNat 32 d.val) 1#32) 0#32)
      (f ⟨a + (d.val + 128 - 127) % 128, by omega⟩) (f ⟨a + (d.val + 128 - 1) % 128, by omega⟩) = f ⟨a + (mate d).val, by omega⟩ := by
  rw [parity]
  unfold mate
  by_cases h : d.val % 2 = 0
  · rw [if_pos h]
    refine (if_pos rfl).trans (congrArg f (Fin.ext ?_))
    dsimp only
    rw [if_pos h]
    omega
  · rw [if_neg h]
    refine (if_neg (by decide)).trans (congrArg f (Fin.ext ?_))
    dsimp only
    rw [if_neg h]
    omega

/-- A store of rotary columns. -/
theorem turned0_apply (x : FVec Ideal S1024x1024 .bf16) (y : FVec Ideal S1024x512 .bf16) (cs sn : FVec Ideal S1024x128 .f32) (r : Fin 1024) (d : Fin 128) :
    k0_pay4 (F := Ideal) x y cs sn (ix2 r d) =
      (acc x y r ⟨128 + d.val, by omega⟩ * cs (ix2 r d) + acc x y r ⟨128 + (mate d).val, by omega⟩ * sn (ix2 r d)) * σ := by
  pointwise [k0_pay4, acc_apply]
  rw [pick (acc x y r) 128 (by omega) d]
  rfl

theorem turned1_apply (x : FVec Ideal S1024x1024 .bf16) (y : FVec Ideal S1024x512 .bf16) (cs sn : FVec Ideal S1024x128 .f32) (r : Fin 1024) (d : Fin 128) :
    k0_pay1 (F := Ideal) (k0_pay2 x y) cs sn (ix2 r d) =
      (acc x y r ⟨384 + d.val, by omega⟩ * cs (ix2 r d) + acc x y r ⟨384 + (mate d).val, by omega⟩ * sn (ix2 r d)) * σ := by
  pointwise [k0_pay1, acc_apply]
  rw [pick (acc x y r) 384 (by omega) d]
  rfl

/-- The column a column of the block is paired with. -/
def pair (l : Fin 512) : Fin 512 := ⟨if l.val % 2 = 0 then l.val + 1 else l.val - 1, by split <;> omega⟩

/-- The result block of a grid point, from its blocks: two heads of 256 columns, the later 128 of each turned. -/
def block (x : FVec Ideal S1024x1024 .bf16) (y : FVec Ideal S1024x512 .bf16) (cs sn : FVec Ideal S1024x512 .f32) (r : Fin 1024) (l : Fin 512) : EReal :=
  if l.val % 256 < 128 then acc x y r l * σ else (acc x y r l * cs (ix2 r l) + acc x y r (pair l) * sn (ix2 r l)) * σ

theorem emb_cols (b : ℕ) (hb : b + 128 ≤ 512) (inb : ∀ i, (![0, b] : Fin 2 → ℕ) i + S1024x128.size i ≤ S1024x512.size i) (r : Fin 1024) (d : Fin 128) :
    (Rect.unit (s := S1024x512) ![0, b] S1024x128.size inb).emb (ix2 r d) = (ix2 r ⟨b + d.val, by omega⟩ : S1024x512.Idx) := by
  funext i
  apply Fin.ext
  match i with
  | 0 => show 0 + 1 * r.val = r.val; omega
  | 1 => show b + 1 * d.val = b + d.val; omega

theorem ld_cols (v : FVec Ideal S1024x512 .f32) (b : ℕ) (hb : b + 128 ≤ 512)
    (inb : ∀ i, (![0, b] : Fin 2 → ℕ) i + S1024x128.size i ≤ S1024x512.size i) (r : Fin 1024) (d : Fin 128) :
    (View.ld (Val := Elt Ideal) (e' := .f32) v (Rect.unit (s := S1024x512) ![0, b] S1024x128.size inb) (ix2 r d) : EReal) = v (ix2 r ⟨b + d.val, by omega⟩) :=
  congrArg v (emb_cols b hb inb r d)

theorem block_plain (x : FVec Ideal S1024x1024 .bf16) (y : FVec Ideal S1024x512 .bf16) (cs sn : FVec Ideal S1024x512 .f32) (r : Fin 1024) (l : Fin 512)
    (h : l.val % 256 < 128) : acc x y r l * σ = block x y cs sn r l := by
  unfold block
  rw [if_pos h]

theorem block_turned (x : FVec Ideal S1024x1024 .bf16) (y : FVec Ideal S1024x512 .bf16) (cs sn : FVec Ideal S1024x512 .f32) (r : Fin 1024) (l l' : Fin 512)
    (h : ¬ l.val % 256 < 128) (h' : pair l = l') : (acc x y r l * cs (ix2 r l) + acc x y r l' * sn (ix2 r l)) * σ = block x y cs sn r l := by
  subst h'
  unfold block
  rw [if_neg h]

theorem pair_mate (b : ℕ) (hb : b + 128 ≤ 512) (h2 : b % 2 = 0) (d : Fin 128) : pair ⟨b + d.val, by omega⟩ = ⟨b + (mate d).val, by omega⟩ := by
  apply Fin.ext
  show (if (b + d.val) % 2 = 0 then b + d.val + 1 else b + d.val - 1) = b + if d.val % 2 = 0 then d.val + 1 else d.val - 1
  split <;> split <;> omega

/-- The body's result block is `block` of the input blocks. -/
theorem out_apply (x : FVec Ideal S1024x1024 .bf16) (y : FVec Ideal S1024x512 .bf16) (cs sn : FVec Ideal S1024x512 .f32) (z : S1024x512.Idx) :
    out0_4 (F := Ideal) x y cs sn z = (fun z : S1024x512.Idx => block x y cs sn (z 0) (z 1)) z := by
  unfold out0_4
  have hz : (![0, 0] : Fin 2 → ℕ) = fun _ => 0 := funext fun a => by fin_cases a <;> rfl
  rw [View.ld_unit_zero hz, View.ld_unit_zero hz]
  refine View.canon_apply_of_pieces (Val := Elt Ideal) (fun z : S1024x512.Idx => block x y cs sn (z 0) (z 1)) _ ?_ z (cover0_4 _ _ _ _ z)
  simp only [List.forall_mem_cons, List.not_mem_nil, false_imp_iff, implies_true, and_true]
  refine ⟨fun j => ?_, fun j => ?_, fun j => ?_, fun j => ?_⟩ <;>
    obtain ⟨r, d, rfl⟩ : ∃ (r : Fin 1024) (d : Fin 128), j = ix2 r d := ⟨j 0, j 1, by funext i; match i with | 0 => rfl | 1 => rfl⟩
  · refine (turned1_apply _ _ _ _ r d).trans ?_
    rw [ld_cols _ 384 (by omega), ld_cols _ 384 (by omega)]
    refine (block_turned x y cs sn r _ _ (by dsimp only; omega) (pair_mate 384 (by omega) (by omega) d)).trans ?_
    exact (congrArg (fun z : S1024x512.Idx => block x y cs sn (z 0) (z 1)) (emb_cols 384 (by omega) _ r d)).symm
  · refine (plain1_apply _ _ r d).trans ((block_plain x y cs sn r _ (by dsimp only; omega)).trans ?_)
    exact (congrArg (fun z : S1024x512.Idx => block x y cs sn (z 0) (z 1)) (emb_cols 256 (by omega) _ r d)).symm
  · refine (turned0_apply _ _ _ _ r d).trans ?_
    rw [ld_cols _ 128 (by omega), ld_cols _ 128 (by omega)]
    refine (block_turned x y cs sn r _ _ (by dsimp only; omega) (pair_mate 128 (by omega) (by omega) d)).trans ?_
    exact (congrArg (fun z : S1024x512.Idx => block x y cs sn (z 0) (z 1)) (emb_cols 128 (by omega) _ r d)).symm
  · refine (plain0_apply _ _ r d).trans ?_
    have e := emb_cols 0 (by omega) inb_S1024x512_S1024x128_0_0 r d
    simp only [Nat.zero_add] at e
    refine (block_plain x y cs sn r _ (by dsimp only; omega)).trans ?_
    exact (congrArg (fun z : S1024x512.Idx => block x y cs sn (z 0) (z 1)) e).symm

end Cert.QbIdeal.Tile
-- ==== Proof.QbHost.lean ====
/-
  The arrays the MLA query projection's call is given, made of the arguments: the activations' rows (`rows_apply`), the weights, each
  head's columns followed by zero columns (`weights_apply`), and the rotation's tables, of which only the rotary columns matter
  (`cosines_apply`, `sines_apply`).
-/
module

public import proofs.«01_k».proof.Proof.Literals
public import proofs.«01_k».proof.Proof.Gen.QbIdeal.Frame
public import Idealize.ShloMosaic.Lib.StableHlo.Run
public import Idealize.ShloMosaic.Lib.KernelVsHost
public import Idealize.ShloMosaic.Lib.Pointwise
public import Idealize.ShloMosaic.Lib.Tactic

@[expose] public section

set_option maxRecDepth 16384

noncomputable section

namespace Cert.QbIdeal.Final

open Cert.QbIdeal Cert.QbIdeal.Gen Idealize.ShloMosaic Idealize.ShloMosaic.TcCoe Idealize.SL.Sem

/-- Zero columns after each head's. -/
def filled (w : FVec Ideal S1024x16x192 .f32) : FVec Ideal S1024x16x256 .f32 :=
  pad S1024x16x256 ![0, 0, 0] ![0, 0, 64] ![0, 0, 0] w (sitofp .f32 (constantI S_ 32 0#32)) pads_S1024x16x192_S1024x16x256_000_000_0640 h_S_

theorem filled_apply (w : FVec Ideal S1024x16x192 .f32) (k : Fin 1024) (h : Fin 16) (e : Fin 256) (he : e.val < 192) :
    filled w (ix3 k h e) = w (ix3 k h ⟨e.val, he⟩) := by
  unfold filled
  refine pad_apply_of_inside _ _ _ _ _ _ _ _ (ix3 k h (⟨e.val, he⟩ : Fin 192)) (fun a => ?_)
  fin_cases a
  · show k.val = 0 + k.val * (0 + 1); omega
  · show h.val = 0 + h.val * (0 + 1); omega
  · show e.val = 0 + e.val * (0 + 1); omega

/-- The weights the call is given. -/
def weights (w : FVec Ideal S1024x3072 .f32) : FVec Ideal S1024x4096 .bf16 :=
  truncf .bf16 (shapeCast S1024x4096 (filled (shapeCast S1024x16x192 w shapeCasts_S1024x3072_S1024x16x192)) shapeCasts_S1024x16x256_S1024x4096) bitsLt_bf16_f32

theorem weights_at (w : FVec Ideal S1024x3072 .f32) (k : Fin 1024) (l : Fin 4096) (he : l.val % 256 < 192) :
    (weights w (ix2 k l) : EReal) = w (ix2 k ⟨l.val / 256 * 192 + l.val % 256, by omega⟩) := by
  pointwise [weights]
  refine (filled_apply _ _ _ _ he).trans ?_
  pointwise

/-- The cosines, each in both columns of its pair, between ones. -/
def cosTable (cs : FVec Ideal S4096x32 .f32) : FVec Ideal S4096x256 .f32 :=
  concatenate S4096x256 1 [⟨S4096x128, broadcastInDim S4096x128 ![] bcast_S_S4096x128 (constant S_ .f32 0x3F800000#32)⟩,
    ⟨S4096x64, shapeCast S4096x64 (broadcastInDim S4096x32x2 ![0, 1] bcast_S4096x32_S4096x32x2_0_1 cs) shapeCasts_S4096x32x2_S4096x64⟩,
    ⟨S4096x64, broadcastInDim S4096x64 ![] bcast_S_S4096x64 (constant S_ .f32 0x3F800000#32)⟩] concatenates_S4096x128_S4096x64_S4096x64_S4096x256_d1

/-- The sines, less and plus, in the two columns of a pair, between zeros. -/
def sinTable (sn : FVec Ideal S4096x32 .f32) : FVec Ideal S4096x256 .f32 :=
  concatenate S4096x256 1 [⟨S4096x128, broadcastInDim S4096x128 ![] bcast_S_S4096x128 (constant S_ .f32 0x00000000#32)⟩,
    ⟨S4096x64, shapeCast S4096x64 (concatenate S4096x32x2 2 [⟨S4096x32x1, broadcastInDim S4096x32x1 ![0, 1] bcast_S4096x32_S4096x32x1_0_1 (Host.negf sn)⟩,
      ⟨S4096x32x1, broadcastInDim S4096x32x1 ![0, 1] bcast_S4096x32_S4096x32x1_0_1 sn⟩] concatenates_S4096x32x1_S4096x32x1_S4096x32x2_d2) shapeCasts_S4096x32x2_S4096x64⟩,
    ⟨S4096x64, broadcastInDim S4096x64 ![] bcast_S_S4096x64 (constant S_ .f32 0x00000000#32)⟩] concatenates_S4096x128_S4096x64_S4096x64_S4096x256_d1

/-- A table for two heads side by side. -/
def twice (x : FVec Ideal S4096x256 .f32) : FVec Ideal S4096x512 .f32 :=
  shapeCast S4096x512 (broadcastInDim S1x4096x2x256 ![0, 1, 2, 3] bcast_S1x4096x1x256_S1x4096x2x256_0_1_2_3
    (shapeCast S1x4096x1x256 x shapeCasts_S4096x256_S1x4096x1x256)) shapeCasts_S1x4096x2x256_S4096x512

theorem twice_apply (x : FVec Ideal S4096x256 .f32) (t : Fin 4096) (l : Fin 512) : twice x (ix2 t l) = x (ix2 t ⟨l.val % 256, by omega⟩) := by
  pointwise [twice]

theorem cosTable_apply (cs : FVec Ideal S4096x32 .f32) (t : Fin 4096) (e : Fin 256) (h1 : ¬ e.val < 128) (h2 : e.val < 192) :
    cosTable cs (ix2 t e) = cs (ix2 t ⟨(e.val - 128) / 2, by omega⟩) := by
  pointwise [cosTable]
  rw [dif_neg h1, dif_pos (show e.val - 128 < 64 by omega)]

theorem sinTable_apply (sn : FVec Ideal S4096x32 .f32) (t : Fin 4096) (e : Fin 256) (h1 : ¬ e.val < 128) (h2 : e.val < 192) :
    sinTable sn (ix2 t e) = if e.val % 2 = 0 then -(sn (ix2 t ⟨(e.val - 128) / 2, by omega⟩) : EReal) else sn (ix2 t ⟨(e.val - 128) / 2, by omega⟩) := by
  pointwise [sinTable]
  rw [dif_neg h1, dif_pos (show e.val - 128 < 64 by omega)]
  by_cases h : e.val % 2 = 0
  · rw [dif_pos (show (e.val - 128) % 2 < 1 by omega), if_pos h]
  · rw [dif_neg (show ¬ (e.val - 128) % 2 < 1 by omega), if_neg h]

variable (m : (ℓ : Loc nD τ sig) → Buf (Elt Ideal) ℓ)

theorem rows_apply (c : Dev nD) (r : Fin 32768) (k : Fin 1024) :
    (V m c main_v24 : FVec Ideal S32768x1024 .bf16) (ix2 r k) =
      (m ((c : Thread nD τ).loc main_arg0) : FVec Ideal S8x4096x1024 .f32) (ix3 ⟨r.val / 4096, by omega⟩ ⟨r.val % 4096, by omega⟩ k) := by
  unfold V V0
  simp only [List.flatten_cons, List.flatten_nil, List.append_nil, List.cons_append, List.nil_append]
  unfold_abbrev_sides
  after_results
  pointwise

theorem weights_eq (c : Dev nD) : (V m c main_v22 : FVec Ideal S1024x4096 .bf16) = weights (m ((c : Thread nD τ).loc main_arg1)) := by
  unfold V V0
  simp only [List.flatten_cons, List.flatten_nil, List.append_nil, List.cons_append, List.nil_append]
  unfold_abbrev_sides
  after_results
  rfl

theorem cosines_eq (c : Dev nD) : (V m c main_v14 : FVec Ideal S4096x512 .f32) = twice (cosTable (m ((c : Thread nD τ).loc main_arg2))) := by
  unfold V V0
  simp only [List.flatten_cons, List.flatten_nil, List.append_nil, List.cons_append, List.nil_append]
  unfold_abbrev_sides
  after_results
  rfl

theorem sines_eq (c : Dev nD) : (V m c main_v18 : FVec Ideal S4096x512 .f32) = twice (sinTable (m ((c : Thread nD τ).loc main_arg3))) := by
  unfold V V0
  simp only [List.flatten_cons, List.flatten_nil, List.append_nil, List.cons_append, List.nil_append]
  unfold_abbrev_sides
  after_results
  rfl

end Cert.QbIdeal.Final
-- ==== Proof.QbClaim.lean ====
/-
  The MLA query projection: each element of the result is the activations' row times the weights' column, the rotary columns turned by
  their position, all times the attention's scale.  The kernel turns a column by its pair and signed sines, the reference both columns of a
  pair at once.
-/
module

public import proofs.«01_k».proof.Defs
public import proofs.«01_k».proof.Proof.Literals
public import proofs.«01_k».proof.Proof.Gen.Qb.Frame
public import proofs.«01_k».proof.Proof.Gen.QbIdeal.Frame
public import proofs.«01_k».proof.Proof.Gen.QbRefIdeal.Run
public import Idealize.ShloMosaic.Lib.Pointwise
public import Idealize.ShloMosaic.Lib.Claim
public import Idealize.ShloMosaic.Lib.Pipeline.Value
public import Idealize.ShloMosaic.Lib.StableHlo.Run
public import Idealize.ShloMosaic.Lib.Tactic
public import Idealize.ShloMosaic.Lib.Quiescent
public import proofs.«01_k».proof.Proof.QbTile
public import proofs.«01_k».proof.Proof.QbHost

@[expose] public section

set_option maxRecDepth 16384

noncomputable section

namespace Cert.QbIdeal.Final

open Cert.QbIdeal Cert.QbIdeal.Gen Idealize.ShloMosaic Idealize.ShloMosaic.TcCoe Idealize.SL.Sem

variable (m : (ℓ : Loc nD τ sig) → Buf (Elt Ideal) ℓ)

theorem index_x : ∀ t : Fin grid0.N, win0_0.index t 0 = t.val / 8 ∧ win0_0.index t 1 = 0 := by decide +kernel
theorem index_w : ∀ t : Fin grid0.N, win0_1.index t 0 = 0 ∧ win0_1.index t 1 = t.val % 8 := by decide +kernel
theorem index_c : ∀ t : Fin grid0.N, win0_2.index t 0 = t.val / 8 % 4 ∧ win0_2.index t 1 = 0 := by decide +kernel
theorem index_s : ∀ t : Fin grid0.N, win0_3.index t 0 = t.val / 8 % 4 ∧ win0_3.index t 1 = 0 := by decide +kernel
theorem index_o : ∀ t : Fin grid0.N, win0_4.index t 0 = t.val / 8 ∧ win0_4.index t 1 = t.val % 8 := by decide +kernel

theorem lt_N (t : Fin cfg0.N) : t.val < 256 := Nat.lt_of_lt_of_eq t.isLt N_0

theorem iblk_x (c : Dev nD) (t : Fin cfg0.N) (r : Fin 1024) (l : Fin 1024) :
    (iblk m c 0 t : FVec Ideal S1024x1024 .bf16) (ix2 r l) = (V m c main_v24 : FVec Ideal S32768x1024 .bf16)
      (ix2 ⟨t.val / 8 * 1024 + r.val, by have := lt_N t; omega⟩ l) := by
  unfold iblk
  rw [View.read_apply]
  show (V m c main_v24 : FVec Ideal S32768x1024 .bf16) _ = _
  congr 1
  funext a
  obtain ⟨e0, e1⟩ := index_x t
  apply Fin.ext
  match a with
  | ⟨0, _⟩ => show win0_0.index t 0 * 1024 + 1 * r.val = t.val / 8 * 1024 + r.val; rw [e0]; omega
  | ⟨1, _⟩ => show win0_0.index t 1 * 1024 + 1 * l.val = l.val; rw [e1]; omega

theorem iblk_w (c : Dev nD) (t : Fin cfg0.N) (r : Fin 1024) (l : Fin 512) :
    (iblk m c 1 t : FVec Ideal S1024x512 .bf16) (ix2 r l) = (V m c main_v22 : FVec Ideal S1024x4096 .bf16)
      (ix2 r ⟨t.val % 8 * 512 + l.val, by have := lt_N t; omega⟩) := by
  unfold iblk
  rw [View.read_apply]
  show (V m c main_v22 : FVec Ideal S1024x4096 .bf16) _ = _
  congr 1
  funext a
  obtain ⟨e0, e1⟩ := index_w t
  apply Fin.ext
  match a with
  | ⟨0, _⟩ => show win0_1.index t 0 * 1024 + 1 * r.val = r.val; rw [e0]; omega
  | ⟨1, _⟩ => show win0_1.index t 1 * 512 + 1 * l.val = t.val % 8 * 512 + l.val; rw [e1]; omega

theorem iblk_c (c : Dev nD) (t : Fin cfg0.N) (r : Fin 1024) (l : Fin 512) :
    (iblk m c 2 t : FVec Ideal S1024x512 .f32) (ix2 r l) = (V m c main_v14 : FVec Ideal S4096x512 .f32)
      (ix2 ⟨t.val / 8 % 4 * 1024 + r.val, by have := lt_N t; omega⟩ l) := by
  unfold iblk
  rw [View.read_apply]
  show (V m c main_v14 : FVec Ideal S4096x512 .f32) _ = _
  congr 1
  funext a
  obtain ⟨e0, e1⟩ := index_c t
  apply Fin.ext
  match a with
  | ⟨0, _⟩ => show win0_2.index t 0 * 1024 + 1 * r.val = t.val / 8 % 4 * 1024 + r.val; rw [e0]; omega
  | ⟨1, _⟩ => show win0_2.index t 1 * 512 + 1 * l.val = l.val; rw [e1]; omega

theorem iblk_s (c : Dev nD) (t : Fin cfg0.N) (r : Fin 1024) (l : Fin 512) :
    (iblk m c 3 t : FVec Ideal S1024x512 .f32) (ix2 r l) = (V m c main_v18 : FVec Ideal S4096x512 .f32)
      (ix2 ⟨t.val / 8 % 4 * 1024 + r.val, by have := lt_N t; omega⟩ l) := by
  unfold iblk
  rw [View.read_apply]
  show (V m c main_v18 : FVec Ideal S4096x512 .f32) _ = _
  congr 1
  funext a
  obtain ⟨e0, e1⟩ := index_s t
  apply Fin.ext
  match a with
  | ⟨0, _⟩ => show win0_3.index t 0 * 1024 + 1 * r.val = t.val / 8 % 4 * 1024 + r.val; rw [e0]; omega
  | ⟨1, _⟩ => show win0_3.index t 1 * 512 + 1 * l.val = l.val; rw [e1]; omega

theorem index_inj (t t' : Fin cfg0.N) (h : win0_4.index t = win0_4.index t') : t = t' := by
  have h0 := congrFun h 0
  have h1 := congrFun h 1
  rw [(index_o t).1, (index_o t').1] at h0
  rw [(index_o t).2, (index_o t').2] at h1
  apply Fin.ext
  have := lt_N t
  have := lt_N t'
  omega

/-- An element of the result array is that element of the block holding it. -/
theorem result_block (c : Dev nD) (t : Fin cfg0.N) (r : Fin 1024) (l : Fin 512) :
    ((dats m 0 c).arrAt 4 cfg0.N : FVec Ideal S32768x4096 .bf16)
      (ix2 ⟨t.val / 8 * 1024 + r.val, by have := lt_N t; omega⟩ ⟨t.val % 8 * 512 + l.val, by have := lt_N t; omega⟩)
    = out0_4 (F := Ideal) (iblk m c 0 t) (iblk m c 1 t) (iblk m c 2 t) (iblk m c 3 t) (ix2 r l) := by
  have h := congrFun ((dats m 0 c).read_blk_arrAt_eq_flushed 4 (fun t t' _ _ hne => (cfg0.win 4).disjoint_blk fun h => hne (index_inj t t' h))
    cfg0.N t t.isLt (flush0_4 t)) (ix2 r l : S1024x512.Idx)
  rw [View.read_apply] at h
  refine Eq.trans ?_ (h.trans ?_)
  · show _ = ((dats m 0 c).arrAt 4 cfg0.N : FVec Ideal S32768x4096 .bf16) _
    congr 1
    funext a
    obtain ⟨e0, e1⟩ := index_o t
    apply Fin.ext
    match a with
    | ⟨0, _⟩ => show t.val / 8 * 1024 + r.val = win0_4.index t 0 * 1024 + 1 * r.val; rw [e0]; omega
    | ⟨1, _⟩ => show t.val % 8 * 512 + l.val = win0_4.index t 1 * 512 + 1 * l.val; rw [e1]; omega
  · show (cfg0.win 4).cut (grid0.coords t) ((dats m 0 c).after 4 t) (ix2 r l) = _
    rw [after0_4]
    rfl

/-- An element of the projection: the activations' row times the weights' column. -/
def dotAt (a : FVec Ideal S8x4096x1024 .f32) (w : FVec Ideal S1024x3072 .f32) (b : Fin 8) (t : Fin 4096) (l : Fin 3072) : EReal :=
  ∑ k : Fin 1024, a (ix3 b t k) * w (ix2 k l)

/-- A head's column of the result, as the kernel makes it. -/
def turnedAt (a : FVec Ideal S8x4096x1024 .f32) (w : FVec Ideal S1024x3072 .f32) (cs sn : FVec Ideal S4096x32 .f32)
    (b : Fin 8) (t : Fin 4096) (h : Fin 16) (e : Fin 192) : EReal :=
  if h1 : e.val < 128 then dotAt a w b t ⟨h.val * 192 + e.val, by omega⟩ * Tile.σ
  else (dotAt a w b t ⟨h.val * 192 + e.val, by omega⟩ * cs (ix2 t ⟨(e.val - 128) / 2, by omega⟩)
    + dotAt a w b t ⟨h.val * 192 + (if e.val % 2 = 0 then e.val + 1 else e.val - 1), by split <;> omega⟩
      * (if e.val % 2 = 0 then -(sn (ix2 t ⟨(e.val - 128) / 2, by omega⟩) : EReal) else sn (ix2 t ⟨(e.val - 128) / 2, by omega⟩))) * Tile.σ

/-- The block's products are the arguments'. -/
theorem acc_apply (c : Dev nD) (b : Fin 8) (t : Fin 4096) (T : Fin cfg0.N) (r : Fin 1024) (l : Fin 512) (L : Fin 3072)
    (hr : T.val / 8 * 1024 + r.val = b.val * 4096 + t.val) (hl : l.val % 256 < 192) (hL : (T.val % 8 * 2 + l.val / 256) * 192 + l.val % 256 = L.val) :
    Tile.acc (iblk m c 0 T) (iblk m c 1 T) r l = dotAt (m ((c : Thread nD τ).loc main_arg0)) (m ((c : Thread nD τ).loc main_arg1)) b t L := by
  unfold Tile.acc dotAt
  have hT := lt_N T
  refine congrArg (Finset.sum (M := EReal) Finset.univ) (funext fun k => congrArg₂ (HMul.hMul (α := EReal) (β := EReal) (γ := EReal)) ?_ ?_)
  · refine (iblk_x m c _ _ k).trans ((rows_apply m c _ k).trans ?_)
    exact congrArg (m ((c : Thread nD τ).loc main_arg0)) (congrArg₂ (fun x y => ix3 x y k) (Fin.ext (by dsimp only; omega)) (Fin.ext (by dsimp only; omega)))
  · refine (iblk_w m c _ k _).trans ?_
    rw [weights_eq]
    refine (weights_at _ k _ (by dsimp only; omega)).trans ?_
    exact congrArg (m ((c : Thread nD τ).loc main_arg1)) (congrArg (fun x => ix2 k x) (Fin.ext (by dsimp only; omega)))

theorem cosines_apply (c : Dev nD) (t : Fin 4096) (T : Fin cfg0.N) (r : Fin 1024) (l : Fin 512) (i : Fin 32)
    (hr : (T.val / 8 * 1024 + r.val) % 4096 = t.val) (h1 : ¬ l.val % 256 < 128) (h2 : l.val % 256 < 192) (hi : (l.val % 256 - 128) / 2 = i.val) :
    (iblk m c 2 T : FVec Ideal S1024x512 .f32) (ix2 r l) = (m ((c : Thread nD τ).loc main_arg2) : FVec Ideal S4096x32 .f32) (ix2 t i) := by
  rw [iblk_c, cosines_eq, twice_apply, cosTable_apply _ _ _ h1 h2]
  exact congrArg (m ((c : Thread nD τ).loc main_arg2)) (congrArg₂ ix2 (Fin.ext (by dsimp only; omega)) (Fin.ext hi))

theorem sines_apply (c : Dev nD) (t : Fin 4096) (T : Fin cfg0.N) (r : Fin 1024) (l : Fin 512) (i : Fin 32)
    (hr : (T.val / 8 * 1024 + r.val) % 4096 = t.val) (h1 : ¬ l.val % 256 < 128) (h2 : l.val % 256 < 192) (hi : (l.val % 256 - 128) / 2 = i.val) :
    (iblk m c 3 T : FVec Ideal S1024x512 .f32) (ix2 r l) =
      if l.val % 256 % 2 = 0 then Neg.neg (α := EReal) ((m ((c : Thread nD τ).loc main_arg3) : FVec Ideal S4096x32 .f32) (ix2 t i))
      else (m ((c : Thread nD τ).loc main_arg3) : FVec Ideal S4096x32 .f32) (ix2 t i) := by
  rw [iblk_s, sines_eq, twice_apply, sinTable_apply _ _ _ h1 h2]
  have e : (ix2 (⟨T.val / 8 % 4 * 1024 + r.val, by have := lt_N T; omega⟩ : Fin 4096) (⟨(l.val % 256 - 128) / 2, by omega⟩ : Fin 32) : S4096x32.Idx) = ix2 t i :=
    congrArg₂ ix2 (Fin.ext (by dsimp only; omega)) (Fin.ext hi)
  rw [e]

/-- An element of the call's result array, from the arguments. -/
theorem result_apply (c : Dev nD) (b : Fin 8) (t : Fin 4096) (h : Fin 16) (e : Fin 192) :
    ((dats m 0 c).arrAt 4 cfg0.N : FVec Ideal S32768x4096 .bf16) (ix2 ⟨b.val * 4096 + t.val, by omega⟩ ⟨h.val * 256 + e.val, by omega⟩)
      = turnedAt (m ((c : Thread nD τ).loc main_arg0)) (m ((c : Thread nD τ).loc main_arg1)) (m ((c : Thread nD τ).loc main_arg2))
          (m ((c : Thread nD τ).loc main_arg3)) b t h e := by
  have hT : (b.val * 4096 + t.val) / 1024 * 8 + h.val / 2 < cfg0.N := by rw [show cfg0.N = 256 from N_0]; omega
  obtain ⟨T, hTv⟩ : ∃ T : Fin cfg0.N, T.val = (b.val * 4096 + t.val) / 1024 * 8 + h.val / 2 := ⟨⟨_, hT⟩, rfl⟩
  obtain ⟨r, hr⟩ : ∃ r : Fin 1024, r.val = (b.val * 4096 + t.val) % 1024 := ⟨⟨_, by omega⟩, rfl⟩
  obtain ⟨l, hl⟩ : ∃ l : Fin 512, l.val = h.val % 2 * 256 + e.val := ⟨⟨_, by omega⟩, rfl⟩
  have hrow : T.val / 8 * 1024 + r.val = b.val * 4096 + t.val := by omega
  have hcol : T.val % 8 * 512 + l.val = h.val * 256 + e.val := by omega
  have hh : T.val % 8 * 2 + l.val / 256 = h.val := by omega
  have hle : l.val % 256 = e.val := by omega
  have h0 := (result_block m c T r l).trans (Tile.out_apply _ _ _ _ _)
  simp only [hrow, hcol] at h0
  refine h0.trans ?_
  show Tile.block _ _ _ _ r l = _
  unfold Tile.block turnedAt
  rw [acc_apply m c b t T r l ⟨h.val * 192 + e.val, by omega⟩ hrow (by omega) (by rw [hh, hle])]
  by_cases h1 : e.val < 128
  · rw [if_pos (by omega), dif_pos h1]
  · rw [if_neg (by omega), dif_neg h1]
    rw [cosines_apply m c t T r l ⟨(e.val - 128) / 2, by omega⟩ (by omega) (by omega) (by omega) (by rw [hle]),
      sines_apply m c t T r l ⟨(e.val - 128) / 2, by omega⟩ (by omega) (by omega) (by omega) (by rw [hle]),
      acc_apply m c b t T r (Tile.pair l) ⟨h.val * 192 + (if e.val % 2 = 0 then e.val + 1 else e.val - 1), by split <;> omega⟩ hrow
        (by unfold Tile.pair; dsimp only; split <;> omega) (by unfold Tile.pair; dsimp only; split <;> split <;> omega), hle]

end Cert.QbIdeal.Final

namespace Cert.Proof.QbClaims

open Idealize.ShloMosaic Idealize.ShloMosaic.TcCoe Idealize.SL.Sem

section
open Cert.QbRefIdeal Cert.QbRefIdeal.Gen

/-- The projection, split into heads. -/
def heads (a : FVec Ideal S8x4096x1024 .f32) (w : FVec Ideal S1024x3072 .f32) : FVec Ideal S8x4096x16x192 .f32 :=
  shapeCast S8x4096x16x192 (Host.dotGeneral dot_S8x4096x1024_S1024x3072_S8x4096x3072_2_0_01_1_n_n none a w : FVec Ideal S8x4096x3072 .f32) shapeCasts_S8x4096x3072_S8x4096x16x192

/-- The rotary columns, in pairs. -/
def pairs (q : FVec Ideal S8x4096x16x192 .f32) : FVec Ideal S8x4096x16x32x2 .f32 :=
  shapeCast S8x4096x16x32x2 (extractStridedSlice S8x4096x16x64 ![0, 0, 0, 128] q slices_S8x4096x16x192_S8x4096x16x64_0_0_0_128) shapeCasts_S8x4096x16x64_S8x4096x16x32x2

def firsts (p : FVec Ideal S8x4096x16x32x2 .f32) : FVec Ideal S8x4096x16x32 .f32 :=
  shapeCast S8x4096x16x32 (extractStridedSlice S8x4096x16x32x1 ![0, 0, 0, 0, 0] p slices_S8x4096x16x32x2_S8x4096x16x32x1_0_0_0_0_0) shapeCasts_S8x4096x16x32x1_S8x4096x16x32

def seconds (p : FVec Ideal S8x4096x16x32x2 .f32) : FVec Ideal S8x4096x16x32 .f32 :=
  shapeCast S8x4096x16x32 (extractStridedSlice S8x4096x16x32x1 ![0, 0, 0, 0, 1] p slices_S8x4096x16x32x2_S8x4096x16x32x1_0_0_0_0_1) shapeCasts_S8x4096x16x32x1_S8x4096x16x32

/-- A table, for every batch and head. -/
def table (x : FVec Ideal S4096x32 .f32) : FVec Ideal S8x4096x16x32 .f32 :=
  broadcastInDim S8x4096x16x32 ![0, 1, 2, 3] bcast_S1x4096x1x32_S8x4096x16x32_0_1_2_3 (broadcastInDim S1x4096x1x32 ![1, 2, 3] bcast_S4096x1x32_S1x4096x1x32_1_2_3
    (shapeCast S4096x1x32 x shapeCasts_S4096x32_S4096x1x32))

def lane (x : FVec Ideal S8x4096x16x32 .f32) : FVec Ideal S8x4096x16x32x1 .f32 :=
  broadcastInDim S8x4096x16x32x1 ![0, 1, 2, 3] bcast_S8x4096x16x32_S8x4096x16x32x1_0_1_2_3 x

/-- The rotary columns, turned. -/
def turned (q : FVec Ideal S8x4096x16x192 .f32) (cs sn : FVec Ideal S4096x32 .f32) : FVec Ideal S8x4096x16x64 .f32 :=
  shapeCast S8x4096x16x64 (concatenate S8x4096x16x32x2 4
    [⟨S8x4096x16x32x1, lane (subf (mulf (firsts (pairs q)) (table cs)) (mulf (seconds (pairs q)) (table sn)))⟩,
     ⟨S8x4096x16x32x1, lane (addf (mulf (firsts (pairs q)) (table sn)) (mulf (seconds (pairs q)) (table cs)))⟩]
    concatenates_S8x4096x16x32x1_S8x4096x16x32x1_S8x4096x16x32x2_d4) shapeCasts_S8x4096x16x32x2_S8x4096x16x64

/-- The reference's result. -/
def qb (a : FVec Ideal S8x4096x1024 .f32) (w : FVec Ideal S1024x3072 .f32) (cs sn : FVec Ideal S4096x32 .f32) : FVec Ideal S8x4096x16x192 .bf16 :=
  truncf .bf16 (mulf (concatenate S8x4096x16x192 3
    [⟨S8x4096x16x128, extractStridedSlice S8x4096x16x128 ![0, 0, 0, 0] (heads a w) slices_S8x4096x16x192_S8x4096x16x128_0_0_0_0⟩,
     ⟨S8x4096x16x64, turned (heads a w) cs sn⟩] concatenates_S8x4096x16x128_S8x4096x16x64_S8x4096x16x192_d3)
    (broadcastInDim S8x4096x16x192 ![] bcast_S_S8x4096x16x192 (constant S_ .f32 0x3DD53B95#32))) bitsLt_bf16_f32

theorem heads_apply (a : FVec Ideal S8x4096x1024 .f32) (w : FVec Ideal S1024x3072 .f32) (b : Fin 8) (t : Fin 4096) (h : Fin 16) (e : Fin 192) :
    heads a w (ix4 b t h e) = Cert.QbIdeal.Final.dotAt a w b t ⟨h.val * 192 + e.val, by omega⟩ := by
  unfold Cert.QbIdeal.Final.dotAt
  pointwise [heads]

theorem turned_apply (q : FVec Ideal S8x4096x16x192 .f32) (cs sn : FVec Ideal S4096x32 .f32) (b : Fin 8) (t : Fin 4096) (h : Fin 16) (e : Fin 64) :
    turned q cs sn (ix4 b t h e) =
      if e.val % 2 < 1 then ((q (ix4 b t h ⟨128 + e.val / 2 * 2, by omega⟩) * cs (ix2 t ⟨e.val / 2, by omega⟩)
        - q (ix4 b t h ⟨128 + (e.val / 2 * 2 + 1), by omega⟩) * sn (ix2 t ⟨e.val / 2, by omega⟩) : EReal))
      else (q (ix4 b t h ⟨128 + e.val / 2 * 2, by omega⟩) * sn (ix2 t ⟨e.val / 2, by omega⟩)
        + q (ix4 b t h ⟨128 + (e.val / 2 * 2 + 1), by omega⟩) * cs (ix2 t ⟨e.val / 2, by omega⟩) : EReal) := by
  pointwise [turned, lane, firsts, seconds, pairs, table]
  rfl

/-- A pair turned, at its first column and at its second. -/
theorem turn_first (x y c s : EReal) : x * c - y * s = x * c + y * -s := by
  rw [sub_eq_add_neg, mul_neg]

theorem qb_apply (a : FVec Ideal S8x4096x1024 .f32) (w : FVec Ideal S1024x3072 .f32) (cs sn : FVec Ideal S4096x32 .f32) (b : Fin 8) (t : Fin 4096) (h : Fin 16) (e : Fin 192) :
    (qb a w cs sn (ix4 b t h e) : EReal) = Cert.QbIdeal.Final.turnedAt a w cs sn b t h e := by
  unfold Cert.QbIdeal.Final.turnedAt Cert.QbIdeal.Tile.σ
  pointwise [qb, heads_apply, turned_apply]
  by_cases h1 : e.val < 128
  · rw [dif_pos h1, dif_pos h1]
  · rw [dif_neg h1, dif_neg h1]
    refine congrArg (fun x : EReal => x * Ideal.ofBits .f32 0x3DD53B95#32) ?_
    have at' : ∀ i j : Fin 3072, i.val = j.val → Cert.QbIdeal.Final.dotAt a w b t i = Cert.QbIdeal.Final.dotAt a w b t j :=
      fun i j hij => congrArg _ (Fin.ext hij)
    by_cases h2 : e.val % 2 = 0
    · simp only [if_pos h2]
      rw [if_pos (show (e.val - 128) % 2 < 1 by omega), turn_first,
        at' ⟨h.val * 192 + (128 + (e.val - 128) / 2 * 2), by omega⟩ ⟨h.val * 192 + e.val, by omega⟩ (by dsimp only; omega),
        at' ⟨h.val * 192 + (128 + ((e.val - 128) / 2 * 2 + 1)), by omega⟩ ⟨h.val * 192 + (e.val + 1), by omega⟩ (by dsimp only; omega)]
    · simp only [if_neg h2]
      rw [if_neg (show ¬ (e.val - 128) % 2 < 1 by omega), add_comm,
        at' ⟨h.val * 192 + (128 + (e.val - 128) / 2 * 2), by omega⟩ ⟨h.val * 192 + (e.val - 1), by omega⟩ (by dsimp only; omega),
        at' ⟨h.val * 192 + (128 + ((e.val - 128) / 2 * 2 + 1)), by omega⟩ ⟨h.val * 192 + e.val, by omega⟩ (by dsimp only; omega)]

end

theorem frame : Cert.quiescent_Qb := fun m ρ _ => Cert.Qb.Gen.frame m ρ

theorem frame_ideal : Cert.quiescent_QbIdeal := fun m ρ _ => Cert.QbIdeal.Gen.frame m ρ

theorem frame_ref : Cert.quiescent_QbRefIdeal := fun m ρ _ =>
  (θ_run Cert.QbRefIdeal.defs _ _).mono (fun r h => ⟨fun c => (h c).2, sem_eq_zero_of_no_sems (by decide) r.2⟩)
    (Cert.QbRefIdeal.Value.run (F := Ideal) m ρ)

theorem preserves : Cert.preserves_Qb_QbIdeal := trivial

/-- The result, read off the call's result array. -/
theorem tail_apply (m : (ℓ : Loc Cert.QbIdeal.nD Cert.QbIdeal.τ Cert.QbIdeal.sig) → Buf (Elt Ideal) ℓ) (c : Dev Cert.QbIdeal.nD)
    (b : Fin 8) (t : Fin 4096) (h : Fin 16) (e : Fin 192) :
    (Pipeline.afterTail₀ Cert.QbIdeal.cfgs (Cert.QbIdeal.Gen.dats m) 0 (Cert.QbIdeal.Gen.V0 m) [Cert.QbIdeal.Gen.hostOps1] c
      Cert.QbIdeal.main_v27 : FVec Ideal Cert.QbIdeal.S8x4096x16x192 .bf16) (ix4 b t h e)
    = ((Cert.QbIdeal.Gen.dats m 0 c).arrAt 4 Cert.QbIdeal.cfg0.N : FVec Ideal Cert.QbIdeal.S32768x4096 .bf16)
        (ix2 ⟨b.val * 4096 + t.val, by omega⟩ ⟨h.val * 256 + e.val, by omega⟩) := by
  unfold Pipeline.afterTail₀
  simp only [List.flatten_cons, List.flatten_nil, List.append_nil]
  unfold Cert.QbIdeal.Gen.hostOps1
  after_results
  rw [show Pipeline.withArrays (Cert.QbIdeal.cfgs 0).spec c (Cert.QbIdeal.Gen.V0 m c)
      (fun w => (Cert.QbIdeal.Gen.dats m 0 c).arrAt w (Cert.QbIdeal.cfgs 0).N) (Proc.tc.devRef Cert.QbIdeal.main_v25)
      = (Cert.QbIdeal.Gen.dats m 0 c).arrAt 4 Cert.QbIdeal.cfg0.N from
    Pipeline.withArrays_arr (Cert.QbIdeal.cfgs 0).spec (by decide) c (Cert.QbIdeal.Gen.V0 m c) _ 4]
  generalize (Cert.QbIdeal.Gen.dats m 0 c).arrAt 4 Cert.QbIdeal.cfg0.N = y
  pointwise

/-- The kernel and the reference end with equal results. -/
theorem algebraic : Cert.algebraic_QbIdeal_QbRefIdeal := by
  pair_intro
  · run_from (Cert.QbIdeal.Gen.run_main m g) & (Cert.QbIdeal.Gen.unchanged m g)
  · run_from (Cert.QbRefIdeal.Value.run (F := Ideal) m' g')
    show qb _ _ _ _ = _
    funext i
    rw [eq_ix4 i]
    obtain ⟨e0, e1, e2, e3⟩ := hagree c
    refine (qb_apply _ _ _ _ (i 0) (i 1) (i 2) (i 3)).trans ?_
    rw [e0, e1, e2, e3]
    exact ((tail_apply m c (i 0) (i 1) (i 2) (i 3)).trans (Cert.QbIdeal.Final.result_apply m c (i 0) (i 1) (i 2) (i 3))).symm

end Cert.Proof.QbClaims

end
-- ==== Proof.ModClaim.lean ====
/-
  The modulation: each element of the results is the row of gated conditioning times the weights' column, plus the bias.
-/
module

public import proofs.«01_k».proof.Defs
public import proofs.«01_k».proof.Proof.Literals
public import proofs.«01_k».proof.Proof.Gen.Mod.Frame
public import proofs.«01_k».proof.Proof.Gen.ModIdeal.Frame
public import proofs.«01_k».proof.Proof.Gen.ModRefIdeal.Run
public import Idealize.ShloMosaic.Lib.Pointwise
public import Idealize.ShloMosaic.Lib.Claim
public import Idealize.ShloMosaic.Lib.Pipeline.Value
public import Idealize.ShloMosaic.Lib.StableHlo.Run
public import Idealize.ShloMosaic.Lib.Tactic
public import Idealize.ShloMosaic.Lib.Quiescent

@[expose] public section

set_option maxRecDepth 16384

noncomputable section

namespace Cert.ModIdeal.Final

open Cert.ModIdeal Cert.ModIdeal.Gen Idealize.ShloMosaic Idealize.ShloMosaic.TcCoe Idealize.SL.Sem

/-- An element of the modulation, from a row of the conditioning. -/
def modRow (f : Fin 4096 → EReal) (w : FVec Ideal S4096x24576 .f32) (b : FVec Ideal S24576 .f32) (l : Fin 24576) : EReal :=
  (∑ k : Fin 4096, f k * Ideal.logistic (f k) * w (ix2 k l)) + b (ix1 l)

/-- The body's result, at an index. -/
theorem out_apply (x : FVec Ideal S16x4096 .f32) (y : FVec Ideal S4096x512 .f32) (z : FVec Ideal S1x512 .f32) (r : Fin 16) (l : Fin 512) :
    (out0_3 (F := Ideal) x y z (ix2 r l) : EReal) = (∑ k : Fin 4096, x (ix2 r k) * Ideal.logistic (x (ix2 r k)) * y (ix2 k l)) + z (ix2 0 l) := by
  unfold out0_3
  have hz : (![0, 0] : Fin 2 → ℕ) = fun _ => 0 := funext fun a => by fin_cases a <;> rfl
  rw [View.canon_unit_zero hz, View.ld_unit_zero hz, View.ld_unit_zero hz, View.ld_unit_zero hz]
  pointwise [k0_pay1]

variable (m : (ℓ : Loc nD τ sig) → Buf (Elt Ideal) ℓ)

theorem index_x : ∀ t : Fin grid0.N, win0_0.index t 0 = 0 ∧ win0_0.index t 1 = 0 := by decide +kernel
theorem index_w : ∀ t : Fin grid0.N, win0_1.index t 0 = 0 ∧ win0_1.index t 1 = t.val := by decide +kernel
theorem index_b : ∀ t : Fin grid0.N, win0_2.index t 0 = 0 ∧ win0_2.index t 1 = t.val := by decide +kernel
theorem index_o : ∀ t : Fin grid0.N, win0_3.index t 0 = 0 ∧ win0_3.index t 1 = t.val := by decide +kernel

theorem lt_N (t : Fin cfg0.N) : t.val < 48 := Nat.lt_of_lt_of_eq t.isLt N_0

theorem iblk_x (c : Dev nD) (t : Fin cfg0.N) (r : Fin 16) (l : Fin 4096) :
    (iblk m c 0 t : FVec Ideal S16x4096 .f32) (ix2 r l) = (V m c main_v2 : FVec Ideal S16x4096 .f32)
      (ix2 r l) := by
  unfold iblk
  rw [View.read_apply]
  show (V m c main_v2 : FVec Ideal S16x4096 .f32) _ = _
  congr 1
  funext a
  obtain ⟨e0, e1⟩ := index_x t
  apply Fin.ext
  match a with
  | ⟨0, _⟩ => show win0_0.index t 0 * 16 + 1 * r.val = r.val; rw [e0]; omega
  | ⟨1, _⟩ => show win0_0.index t 1 * 4096 + 1 * l.val = l.val; rw [e1]; omega

theorem iblk_w (c : Dev nD) (t : Fin cfg0.N) (r : Fin 4096) (l : Fin 512) :
    (iblk m c 1 t : FVec Ideal S4096x512 .f32) (ix2 r l) = (V m c main_arg2 : FVec Ideal S4096x24576 .f32)
      (ix2 r ⟨t.val * 512 + l.val, by have := lt_N t; omega⟩) := by
  unfold iblk
  rw [View.read_apply]
  show (V m c main_arg2 : FVec Ideal S4096x24576 .f32) _ = _
  congr 1
  funext a
  obtain ⟨e0, e1⟩ := index_w t
  apply Fin.ext
  match a with
  | ⟨0, _⟩ => show win0_1.index t 0 * 4096 + 1 * r.val = r.val; rw [e0]; omega
  | ⟨1, _⟩ => show win0_1.index t 1 * 512 + 1 * l.val = t.val * 512 + l.val; rw [e1]; omega

theorem iblk_b (c : Dev nD) (t : Fin cfg0.N) (r : Fin 1) (l : Fin 512) :
    (iblk m c 2 t : FVec Ideal S1x512 .f32) (ix2 r l) = (V m c main_v3 : FVec Ideal S1x24576 .f32)
      (ix2 r ⟨t.val * 512 + l.val, by have := lt_N t; omega⟩) := by
  unfold iblk
  rw [View.read_apply]
  show (V m c main_v3 : FVec Ideal S1x24576 .f32) _ = _
  congr 1
  funext a
  obtain ⟨e0, e1⟩ := index_b t
  apply Fin.ext
  match a with
  | ⟨0, _⟩ => show win0_2.index t 0 * 1 + 1 * r.val = r.val; rw [e0]; omega
  | ⟨1, _⟩ => show win0_2.index t 1 * 512 + 1 * l.val = t.val * 512 + l.val; rw [e1]; omega

theorem index_inj (t t' : Fin cfg0.N) (h : win0_3.index t = win0_3.index t') : t = t' := by
  have h0 := congrFun h 0
  have h1 := congrFun h 1
  rw [(index_o t).1, (index_o t').1] at h0
  rw [(index_o t).2, (index_o t').2] at h1
  apply Fin.ext
  have := lt_N t
  have := lt_N t'
  omega

/-- An element of the result array is that element of the block holding it. -/
theorem result_block (c : Dev nD) (t : Fin cfg0.N) (r : Fin 16) (l : Fin 512) :
    ((dats m 0 c).arrAt 3 cfg0.N : FVec Ideal S16x24576 .f32)
      (ix2 r ⟨t.val * 512 + l.val, by have := lt_N t; omega⟩)
    = out0_3 (F := Ideal) (iblk m c 0 t) (iblk m c 1 t) (iblk m c 2 t) (ix2 r l) := by
  have h := congrFun ((dats m 0 c).read_blk_arrAt_eq_flushed 3 (fun t t' _ _ hne => (cfg0.win 3).disjoint_blk fun h => hne (index_inj t t' h))
    cfg0.N t t.isLt (flush0_3 t)) (ix2 r l : S16x512.Idx)
  rw [View.read_apply] at h
  refine Eq.trans ?_ (h.trans ?_)
  · show _ = ((dats m 0 c).arrAt 3 cfg0.N : FVec Ideal S16x24576 .f32) _
    congr 1
    funext a
    obtain ⟨e0, e1⟩ := index_o t
    apply Fin.ext
    match a with
    | ⟨0, _⟩ => show r.val = win0_3.index t 0 * 16 + 1 * r.val; rw [e0]; omega
    | ⟨1, _⟩ => show t.val * 512 + l.val = win0_3.index t 1 * 512 + 1 * l.val; rw [e1]; omega
  · show (cfg0.win 3).cut (grid0.coords t) ((dats m 0 c).after 3 t) (ix2 r l) = _
    rw [after0_3]
    rfl

/-- The rows of the conditioning: a row for each batch, the context's and rows of zeros. -/
def rows (x : FVec Ideal S8x4096 .f32) (y : FVec Ideal S4096 .f32) : FVec Ideal S16x4096 .f32 :=
  concatenate S16x4096 0 [⟨S8x4096, x⟩, ⟨S1x4096, broadcastInDim S1x4096 ![1] bcast_S4096_S1x4096_1 y⟩,
    ⟨S7x4096, broadcastInDim S7x4096 ![] bcast_S_S7x4096 (constant S_ .f32 0x00000000#32)⟩] concatenates_S8x4096_S1x4096_S7x4096_S16x4096_d0

theorem rows_eq (c : Dev nD) : (V m c main_v2 : FVec Ideal S16x4096 .f32) =
    rows (m ((c : Thread nD τ).loc main_arg0)) (m ((c : Thread nD τ).loc main_arg1)) := by
  unfold V V0
  simp only [List.flatten_cons, List.flatten_nil, List.append_nil, List.cons_append, List.nil_append]
  unfold_abbrev_sides
  after_results
  rfl

theorem rows_batch (x : FVec Ideal S8x4096 .f32) (y : FVec Ideal S4096 .f32) (r : Fin 8) (k : Fin 4096) :
    rows x y (ix2 ⟨r.val, by omega⟩ k) = x (ix2 r k) := by
  pointwise [rows]

theorem rows_context (x : FVec Ideal S8x4096 .f32) (y : FVec Ideal S4096 .f32) (k : Fin 4096) :
    rows x y (ix2 8 k) = y (ix1 k) := by
  pointwise [rows]

theorem c_apply (c : Dev nD) (r : Fin 8) (k : Fin 4096) :
    (V m c main_v2 : FVec Ideal S16x4096 .f32) (ix2 ⟨r.val, by omega⟩ k) = (m ((c : Thread nD τ).loc main_arg0) : FVec Ideal S8x4096 .f32) (ix2 r k) := by
  rw [rows_eq]
  exact rows_batch _ _ r k

theorem ctx_apply (c : Dev nD) (k : Fin 4096) :
    (V m c main_v2 : FVec Ideal S16x4096 .f32) (ix2 8 k) = (m ((c : Thread nD τ).loc main_arg1) : FVec Ideal S4096 .f32) (ix1 k) := by
  rw [rows_eq]
  exact rows_context _ _ k

theorem b_apply (c : Dev nD) (l : Fin 24576) :
    (V m c main_v3 : FVec Ideal S1x24576 .f32) (ix2 0 l) = (m ((c : Thread nD τ).loc main_arg3) : FVec Ideal S24576 .f32) (ix1 l) := by
  unfold V V0
  simp only [List.flatten_cons, List.flatten_nil, List.append_nil, List.cons_append, List.nil_append]
  unfold_abbrev_sides
  after_results
  pointwise

/-- An element of the call's result array. -/
theorem array_apply (c : Dev nD) (R : Fin 16) (L : Fin 24576) :
    ((dats m 0 c).arrAt 3 cfg0.N : FVec Ideal S16x24576 .f32) (ix2 R L)
      = modRow (fun k => (V m c main_v2 : FVec Ideal S16x4096 .f32) (ix2 R k)) (m ((c : Thread nD τ).loc main_arg2)) (m ((c : Thread nD τ).loc main_arg3)) L := by
  have hT : L.val / 512 < cfg0.N := by rw [show cfg0.N = 48 from N_0]; omega
  obtain ⟨T, hTv⟩ : ∃ T : Fin cfg0.N, T.val = L.val / 512 := ⟨⟨_, hT⟩, rfl⟩
  obtain ⟨l, hl⟩ : ∃ l : Fin 512, l.val = L.val % 512 := ⟨⟨_, by omega⟩, rfl⟩
  have hcol : T.val * 512 + l.val = L.val := by omega
  have h0 := (result_block m c T R l).trans (out_apply _ _ _ _ _)
  simp only [hcol] at h0
  refine h0.trans ?_
  unfold modRow
  refine congrArg₂ (HAdd.hAdd (α := EReal) (β := EReal) (γ := EReal)) (congrArg (Finset.sum (M := EReal) Finset.univ) (funext fun k => ?_)) ?_
  · refine congrArg₂ (HMul.hMul (α := EReal) (β := EReal) (γ := EReal)) (congrArg (fun x : EReal => x * Ideal.logistic x) (iblk_x m c _ _ k)) ?_
    refine (iblk_w m c _ k _).trans ?_
    rw [V_main_arg2]
    exact congrArg (fun x => (m ((c : Thread nD τ).loc main_arg2) : FVec Ideal S4096x24576 .f32) (ix2 k x)) (Fin.ext hcol)
  · refine (iblk_b m c _ _ _).trans (Eq.trans ?_ (b_apply m c L))
    exact congrArg (fun x => (V m c main_v3 : FVec Ideal S1x24576 .f32) (ix2 0 x)) (Fin.ext hcol)

end Cert.ModIdeal.Final

namespace Cert.Proof.ModClaims

open Idealize.ShloMosaic Idealize.ShloMosaic.TcCoe Idealize.SL.Sem

section
open Cert.ModRefIdeal Cert.ModRefIdeal.Gen

/-- The reference's modulation of the batches. -/
def batches (x : FVec Ideal S8x4096 .f32) (w : FVec Ideal S4096x24576 .f32) (b : FVec Ideal S24576 .f32) : FVec Ideal S8x24576 .f32 :=
  addf (Host.dotGeneral dot_S8x4096_S4096x24576_S8x24576_1_0_0_1_n_n none (mulf x (Host.divf (broadcastInDim S8x4096 ![] bcast_S_S8x4096 (constant S_ .f32 0x3F800000#32)) (addf (broadcastInDim S8x4096 ![] bcast_S_S8x4096 (constant S_ .f32 0x3F800000#32)) (Host.exp (Host.negf x))))) w)
    (broadcastInDim S8x24576 ![0, 1] bcast_S1x24576_S8x24576_0_1 (broadcastInDim S1x24576 ![1] bcast_S24576_S1x24576_1 b))

/-- The reference's modulation of the context. -/
def context (x : FVec Ideal S4096 .f32) (w : FVec Ideal S4096x24576 .f32) (b : FVec Ideal S24576 .f32) : FVec Ideal S24576 .f32 :=
  addf (Host.dotGeneral dot_S4096_S4096x24576_S24576_0_0_n_1_n_n none (mulf x (Host.divf (broadcastInDim S4096 ![] bcast_S_S4096 (constant S_ .f32 0x3F800000#32)) (addf (broadcastInDim S4096 ![] bcast_S_S4096 (constant S_ .f32 0x3F800000#32)) (Host.exp (Host.negf x))))) w) b

theorem batches_apply (x : FVec Ideal S8x4096 .f32) (w : FVec Ideal S4096x24576 .f32) (b : FVec Ideal S24576 .f32) (r : Fin 8) (l : Fin 24576) :
    batches x w b (ix2 r l) = Cert.ModIdeal.Final.modRow (fun k => x (ix2 r k)) w b l := by
  unfold Cert.ModIdeal.Final.modRow
  pointwise [batches]
  rfl

theorem context_apply (x : FVec Ideal S4096 .f32) (w : FVec Ideal S4096x24576 .f32) (b : FVec Ideal S24576 .f32) (l : Fin 24576) :
    context x w b (ix1 l) = Cert.ModIdeal.Final.modRow (fun k => x (ix1 k)) w b l := by
  unfold Cert.ModIdeal.Final.modRow
  pointwise [context]
  rfl

end

theorem frame : Cert.quiescent_Mod := fun m ρ _ => Cert.Mod.Gen.frame m ρ

theorem frame_ideal : Cert.quiescent_ModIdeal := fun m ρ _ => Cert.ModIdeal.Gen.frame m ρ

theorem frame_ref : Cert.quiescent_ModRefIdeal := fun m ρ _ =>
  (θ_run Cert.ModRefIdeal.defs _ _).mono (fun r h => ⟨fun c => (h c).2.2, sem_eq_zero_of_no_sems (by decide) r.2⟩)
    (Cert.ModRefIdeal.Value.run (F := Ideal) m ρ)

theorem preserves : Cert.preserves_Mod_ModIdeal := trivial

/-- The modulation of the batches, read off the call's result array. -/
theorem tail_batches (m : (ℓ : Loc Cert.ModIdeal.nD Cert.ModIdeal.τ Cert.ModIdeal.sig) → Buf (Elt Ideal) ℓ) (c : Dev Cert.ModIdeal.nD)
    (r : Fin 8) (l : Fin 24576) :
    (Pipeline.afterTail₀ Cert.ModIdeal.cfgs (Cert.ModIdeal.Gen.dats m) 0 (Cert.ModIdeal.Gen.V0 m) [Cert.ModIdeal.Gen.hostOps1] c
      Cert.ModIdeal.main_v5 : FVec Ideal Cert.ModIdeal.S8x24576 .f32) (ix2 r l)
    = ((Cert.ModIdeal.Gen.dats m 0 c).arrAt 3 Cert.ModIdeal.cfg0.N : FVec Ideal Cert.ModIdeal.S16x24576 .f32)
        (ix2 ⟨r.val, by omega⟩ l) := by
  unfold Pipeline.afterTail₀
  simp only [List.flatten_cons, List.flatten_nil, List.append_nil]
  unfold Cert.ModIdeal.Gen.hostOps1
  after_results
  rw [show Pipeline.withArrays (Cert.ModIdeal.cfgs 0).spec c (Cert.ModIdeal.Gen.V0 m c)
      (fun w => (Cert.ModIdeal.Gen.dats m 0 c).arrAt w (Cert.ModIdeal.cfgs 0).N) (Proc.tc.devRef Cert.ModIdeal.main_v4)
      = (Cert.ModIdeal.Gen.dats m 0 c).arrAt 3 Cert.ModIdeal.cfg0.N from
    Pipeline.withArrays_arr (Cert.ModIdeal.cfgs 0).spec (by decide) c (Cert.ModIdeal.Gen.V0 m c) _ 3]
  generalize (Cert.ModIdeal.Gen.dats m 0 c).arrAt 3 Cert.ModIdeal.cfg0.N = y
  pointwise

/-- The modulation of the context, read off the call's result array. -/
theorem tail_context (m : (ℓ : Loc Cert.ModIdeal.nD Cert.ModIdeal.τ Cert.ModIdeal.sig) → Buf (Elt Ideal) ℓ) (c : Dev Cert.ModIdeal.nD)
    (l : Fin 24576) :
    (Pipeline.afterTail₀ Cert.ModIdeal.cfgs (Cert.ModIdeal.Gen.dats m) 0 (Cert.ModIdeal.Gen.V0 m) [Cert.ModIdeal.Gen.hostOps1] c
      Cert.ModIdeal.main_v7 : FVec Ideal Cert.ModIdeal.S24576 .f32) (ix1 l)
    = ((Cert.ModIdeal.Gen.dats m 0 c).arrAt 3 Cert.ModIdeal.cfg0.N : FVec Ideal Cert.ModIdeal.S16x24576 .f32)
        (ix2 8 l) := by
  unfold Pipeline.afterTail₀
  simp only [List.flatten_cons, List.flatten_nil, List.append_nil]
  unfold Cert.ModIdeal.Gen.hostOps1
  after_results
  rw [show Pipeline.withArrays (Cert.ModIdeal.cfgs 0).spec c (Cert.ModIdeal.Gen.V0 m c)
      (fun w => (Cert.ModIdeal.Gen.dats m 0 c).arrAt w (Cert.ModIdeal.cfgs 0).N) (Proc.tc.devRef Cert.ModIdeal.main_v4)
      = (Cert.ModIdeal.Gen.dats m 0 c).arrAt 3 Cert.ModIdeal.cfg0.N from
    Pipeline.withArrays_arr (Cert.ModIdeal.cfgs 0).spec (by decide) c (Cert.ModIdeal.Gen.V0 m c) _ 3]
  generalize (Cert.ModIdeal.Gen.dats m 0 c).arrAt 3 Cert.ModIdeal.cfg0.N = y
  pointwise

/-- The kernel and the reference end with equal results. -/
theorem algebraic : Cert.algebraic_ModIdeal_ModRefIdeal := by
  pair_intro
  · run_from (Cert.ModIdeal.Gen.run_main m g) & (Cert.ModIdeal.Gen.unchanged m g)
  · run_from (Cert.ModRefIdeal.Value.run (F := Ideal) m' g')
    · show batches _ _ _ = _
      funext i
      rw [eq_ix2 i]
      refine (batches_apply _ _ _ (i 0) (i 1)).trans ((tail_batches m c (i 0) (i 1)).trans ((Cert.ModIdeal.Final.array_apply m c _ _).trans ?_)).symm
      exact congrArg (fun f => Cert.ModIdeal.Final.modRow f _ _ (i 1)) (funext fun k => Cert.ModIdeal.Final.c_apply m c (i 0) k)
    · show context _ _ _ = _
      funext i
      rw [eq_ix1 i]
      refine (context_apply _ _ _ (i 0)).trans ((tail_context m c (i 0)).trans ((Cert.ModIdeal.Final.array_apply m c _ _).trans ?_)).symm
      exact congrArg (fun f => Cert.ModIdeal.Final.modRow f _ _ (i 0)) (funext fun k => Cert.ModIdeal.Final.ctx_apply m c k)

end Cert.Proof.ModClaims

end
-- ==== Proof.NormClaim.lean ====
/-
  The norm before the projections: each element of the result is that element of the normalised row, scaled and shifted.
-/
module

public import proofs.«01_k».proof.Defs
public import proofs.«01_k».proof.Proof.Literals
public import proofs.«01_k».proof.Proof.Gen.Norm.Frame
public import proofs.«01_k».proof.Proof.Gen.NormIdeal.Value
public import proofs.«01_k».proof.Proof.Gen.NormRefIdeal.Run
public import Idealize.ShloMosaic.Lib.Pointwise
public import Idealize.ShloMosaic.Lib.Claim
public import Idealize.ShloMosaic.Lib.Pipeline.Value
public import Idealize.ShloMosaic.Lib.StableHlo.Run
public import Idealize.ShloMosaic.Lib.Tactic
public import Idealize.ShloMosaic.Lib.Quiescent
public import Idealize.ShloMosaic.Lib.KernelVsHost
public import proofs.«01_k».proof.Proof.NormRow

@[expose] public section

set_option maxRecDepth 16384

noncomputable section

namespace Cert.NormIdeal.Final

open Cert.NormIdeal Cert.NormIdeal.Gen Idealize.ShloMosaic Idealize.ShloMosaic.TcCoe Idealize.SL.Sem

/-- The body's result, at an index. -/
theorem out_apply (x : FVec Ideal S512x4096 .f32) (w : FVec Ideal S1x4096 .f32) (g : FVec Ideal S1x8x4096 .f32) (r : Fin 512) (l : Fin 4096) :
    (out0_3 (F := Ideal) x w g (ix2 r l) : EReal)
      = Cert.Norm.rms (fun k => x (ix2 r k)) l * w (ix2 0 l) * (Ideal.ofBits .f32 0x3F800000#32 + g (ix3 0 1 l)) + g (ix3 0 0 l) := by
  unfold out0_3 Cert.Norm.rms Cert.Norm.rmsOver
  have hz : (![0, 0] : Fin 2 → ℕ) = fun _ => 0 := funext fun a => by fin_cases a <;> rfl
  have hz3 : (![0, 0, 0] : Fin 3 → ℕ) = fun _ => 0 := funext fun a => by fin_cases a <;> rfl
  rw [View.canon_unit_zero hz, View.ld_unit_zero hz, View.ld_unit_zero hz, View.ld_unit_zero hz3]
  pointwise [k0_pay1]

variable (m : (ℓ : Loc nD τ sig) → Buf (Elt Ideal) ℓ)

theorem index_x : ∀ t : Fin grid0.N, win0_0.index t 0 = t.val ∧ win0_0.index t 1 = 0 := by decide +kernel
theorem index_w : ∀ t : Fin grid0.N, win0_1.index t 0 = 0 ∧ win0_1.index t 1 = 0 := by decide +kernel
theorem index_g : ∀ t : Fin grid0.N, win0_2.index t 0 = t.val / 8 ∧ win0_2.index t 1 = 0 ∧ win0_2.index t 2 = 0 := by decide +kernel
theorem index_o : ∀ t : Fin grid0.N, win0_3.index t 0 = t.val ∧ win0_3.index t 1 = 0 := by decide +kernel

theorem lt_N (t : Fin cfg0.N) : t.val < 64 := Nat.lt_of_lt_of_eq t.isLt N_0

theorem iblk_x (c : Dev nD) (t : Fin cfg0.N) (r : Fin 512) (l : Fin 4096) :
    (iblk m c 0 t : FVec Ideal S512x4096 .f32) (ix2 r l) = (V m c main_v0 : FVec Ideal S32768x4096 .f32)
      (ix2 ⟨t.val * 512 + r.val, by have := lt_N t; omega⟩ l) := by
  unfold iblk
  rw [View.read_apply]
  show (V m c main_v0 : FVec Ideal S32768x4096 .f32) _ = _
  congr 1
  funext a
  obtain ⟨e0, e1⟩ := index_x t
  apply Fin.ext
  match a with
  | ⟨0, _⟩ => show win0_0.index t 0 * 512 + 1 * r.val = t.val * 512 + r.val; rw [e0]; omega
  | ⟨1, _⟩ => show win0_0.index t 1 * 4096 + 1 * l.val = l.val; rw [e1]; omega

theorem iblk_g (c : Dev nD) (t : Fin cfg0.N) (p : Fin 1) (r : Fin 8) (l : Fin 4096) :
    (iblk m c 2 t : FVec Ideal S1x8x4096 .f32) (ix3 p r l) = (V m c main_v2 : FVec Ideal S8x8x4096 .f32)
      (ix3 ⟨t.val / 8 * 1 + p.val, by have := lt_N t; omega⟩ r l) := by
  unfold iblk
  rw [View.read_apply]
  show (V m c main_v2 : FVec Ideal S8x8x4096 .f32) _ = _
  congr 1
  funext a
  obtain ⟨e0, e1, e2⟩ := index_g t
  apply Fin.ext
  match a with
  | ⟨0, _⟩ => show win0_2.index t 0 * 1 + 1 * p.val = t.val / 8 * 1 + p.val; rw [e0]; omega
  | ⟨1, _⟩ => show win0_2.index t 1 * 8 + 1 * r.val = r.val; rw [e1]; omega
  | ⟨2, _⟩ => show win0_2.index t 2 * 4096 + 1 * l.val = l.val; rw [e2]; omega

theorem iblk_w (c : Dev nD) (t : Fin cfg0.N) (r : Fin 1) (l : Fin 4096) :
    (iblk m c 1 t : FVec Ideal S1x4096 .f32) (ix2 r l) = (V m c main_v3 : FVec Ideal S1x4096 .f32)
      (ix2 r l) := by
  unfold iblk
  rw [View.read_apply]
  show (V m c main_v3 : FVec Ideal S1x4096 .f32) _ = _
  congr 1
  funext a
  obtain ⟨e0, e1⟩ := index_w t
  apply Fin.ext
  match a with
  | ⟨0, _⟩ => show win0_1.index t 0 * 1 + 1 * r.val = r.val; rw [e0]; omega
  | ⟨1, _⟩ => show win0_1.index t 1 * 4096 + 1 * l.val = l.val; rw [e1]; omega

theorem index_inj (t t' : Fin cfg0.N) (h : win0_3.index t = win0_3.index t') : t = t' := by
  have h0 := congrFun h 0
  have h1 := congrFun h 1
  rw [(index_o t).1, (index_o t').1] at h0
  rw [(index_o t).2, (index_o t').2] at h1
  apply Fin.ext
  have := lt_N t
  have := lt_N t'
  omega

/-- An element of the result array is that element of the block holding it. -/
theorem result_block (c : Dev nD) (t : Fin cfg0.N) (r : Fin 512) (l : Fin 4096) :
    ((dats m 0 c).arrAt 3 cfg0.N : FVec Ideal S32768x4096 .bf16)
      (ix2 ⟨t.val * 512 + r.val, by have := lt_N t; omega⟩ l)
    = out0_3 (F := Ideal) (iblk m c 0 t) (iblk m c 1 t) (iblk m c 2 t) (ix2 r l) := by
  have h := congrFun ((dats m 0 c).read_blk_arrAt_eq_flushed 3 (fun t t' _ _ hne => (cfg0.win 3).disjoint_blk fun h => hne (index_inj t t' h))
    cfg0.N t t.isLt (flush0_3 t)) (ix2 r l : S512x4096.Idx)
  rw [View.read_apply] at h
  refine Eq.trans ?_ (h.trans ?_)
  · show _ = ((dats m 0 c).arrAt 3 cfg0.N : FVec Ideal S32768x4096 .bf16) _
    congr 1
    funext a
    obtain ⟨e0, e1⟩ := index_o t
    apply Fin.ext
    match a with
    | ⟨0, _⟩ => show t.val * 512 + r.val = win0_3.index t 0 * 512 + 1 * r.val; rw [e0]; omega
    | ⟨1, _⟩ => show l.val = win0_3.index t 1 * 4096 + 1 * l.val; rw [e1]; omega
  · show (cfg0.win 3).cut (grid0.coords t) ((dats m 0 c).after 3 t) (ix2 r l) = _
    rw [after0_3]
    rfl

theorem x_apply (c : Dev nD) (b : Fin 8) (s : Fin 4096) (k : Fin 4096) :
    (V m c main_v0 : FVec Ideal S32768x4096 .f32) (ix2 ⟨b.val * 4096 + s.val, by omega⟩ k) = (m ((c : Thread nD τ).loc main_arg0) : FVec Ideal S8x4096x4096 .f32) (ix3 b s k) := by
  unfold V
  simp only [List.flatten_cons, List.flatten_nil, List.append_nil, List.cons_append, List.nil_append]
  unfold_abbrev_sides
  after_results
  pointwise

/-- The modulation, folded into its six parts. -/
theorem fold_apply (g : FVec Ideal S8x24576 .f32) (b : Fin 8) (j : Fin 6) (l : Fin 4096) :
    shapeCast S8x6x4096 g shapeCasts_S8x24576_S8x6x4096 (ix3 b j l) = g (ix2 b ⟨j.val * 4096 + l.val, by omega⟩) := by
  pointwise

/-- The rows of the padded modulation. -/
theorem g_apply (c : Dev nD) (b : Fin 8) (j : Fin 6) (l : Fin 4096) :
    (V m c main_v2 : FVec Ideal S8x8x4096 .f32) (ix3 b ⟨j.val, by omega⟩ l) = (m ((c : Thread nD τ).loc main_arg2) : FVec Ideal S8x24576 .f32) (ix2 b ⟨j.val * 4096 + l.val, by omega⟩) := by
  unfold V
  simp only [List.flatten_cons, List.flatten_nil, List.append_nil, List.cons_append, List.nil_append]
  unfold_abbrev_sides
  after_results
  show (pad S8x8x4096 ![0, 0, 0] ![0, 2, 0] ![0, 0, 0] (shapeCast S8x6x4096 (m ((c : Thread nD τ).loc main_arg2) : FVec Ideal S8x24576 .f32) shapeCasts_S8x24576_S8x6x4096)
    _ pads_S8x6x4096_S8x8x4096_000_020_000 h_S_ : FVec Ideal S8x8x4096 .f32) (ix3 b (⟨j.val, by omega⟩ : Fin 8) l) = _
  refine (pad_apply_of_inside _ _ _ _ _ _ _ _ (ix3 b j l) (fun a => ?_)).trans (fold_apply _ _ _ _)
  fin_cases a
  · show b.val = 0 + b.val * (0 + 1); omega
  · show j.val = 0 + j.val * (0 + 1); omega
  · show l.val = 0 + l.val * (0 + 1); omega

theorem w_apply (c : Dev nD) (l : Fin 4096) :
    (V m c main_v3 : FVec Ideal S1x4096 .f32) (ix2 0 l) = (m ((c : Thread nD τ).loc main_arg1) : FVec Ideal S4096 .f32) (ix1 l) := by
  unfold V
  simp only [List.flatten_cons, List.flatten_nil, List.append_nil, List.cons_append, List.nil_append]
  unfold_abbrev_sides
  after_results
  pointwise

/-- An element of the norm. -/
def normAt (x : FVec Ideal S8x4096x4096 .f32) (w : FVec Ideal S4096 .f32) (g : FVec Ideal S8x24576 .f32) (b : Fin 8) (s : Fin 4096) (l : Fin 4096) : EReal :=
  Cert.Norm.rms (fun k => x (ix3 b s k)) l * w (ix1 l) * (Ideal.ofBits .f32 0x3F800000#32 + g (ix2 b ⟨4096 + l.val, by omega⟩)) + g (ix2 b ⟨l.val, by omega⟩)

/-- An element of the call's result array, from the arguments. -/
theorem result_apply (c : Dev nD) (b : Fin 8) (s : Fin 4096) (l : Fin 4096) :
    ((dats m 0 c).arrAt 3 cfg0.N : FVec Ideal S32768x4096 .bf16) (ix2 ⟨b.val * 4096 + s.val, by omega⟩ l)
      = normAt (m ((c : Thread nD τ).loc main_arg0)) (m ((c : Thread nD τ).loc main_arg1)) (m ((c : Thread nD τ).loc main_arg2)) b s l := by
  have hT : (b.val * 4096 + s.val) / 512 < cfg0.N := by rw [show cfg0.N = 64 from N_0]; omega
  have h := (result_block m c ⟨_, hT⟩ ⟨(b.val * 4096 + s.val) % 512, by omega⟩ l).trans (out_apply _ _ _ _ _)
  have h0 : (b.val * 4096 + s.val) / 512 * 512 + (b.val * 4096 + s.val) % 512 = b.val * 4096 + s.val := by omega
  simp only [h0] at h
  refine h.trans (Eq.trans ?_ (rfl : normAt _ _ _ b s l = _))
  unfold normAt
  have hg : ∀ (j : Fin 6) (p : Fin 24576), p.val = j.val * 4096 + l.val →
      (iblk m c 2 ⟨_, hT⟩ : FVec Ideal S1x8x4096 .f32) (ix3 0 ⟨j.val, by omega⟩ l) = (m ((c : Thread nD τ).loc main_arg2) : FVec Ideal S8x24576 .f32) (ix2 b p) := by
    intro j p hp
    refine (iblk_g m c _ _ _ _).trans (Eq.trans ?_ ((g_apply m c b j l).trans ?_))
    · exact congrArg (fun r => (V m c main_v2 : FVec Ideal S8x8x4096 .f32) (ix3 r ⟨j.val, by omega⟩ l)) (Fin.ext (by dsimp only; omega))
    · exact congrArg (fun p => (m ((c : Thread nD τ).loc main_arg2) : FVec Ideal S8x24576 .f32) (ix2 b p)) (Fin.ext hp.symm)
  refine congrArg₂ (HAdd.hAdd (α := EReal) (β := EReal) (γ := EReal)) (congrArg₂ (HMul.hMul (α := EReal) (β := EReal) (γ := EReal))
    (congrArg₂ (HMul.hMul (α := EReal) (β := EReal) (γ := EReal)) (congrArg (fun f => Cert.Norm.rms f l) (funext fun k => ?_))
      ((iblk_w m c _ _ _).trans (w_apply m c l))) (congrArg (HAdd.hAdd (α := EReal) (β := EReal) (γ := EReal) _) (hg 1 _ (by dsimp only; omega)))) (hg 0 _ (by dsimp only; omega))
  refine (iblk_x m c _ _ k).trans (Eq.trans ?_ (x_apply m c b s k))
  exact congrArg (fun r => (V m c main_v0 : FVec Ideal S32768x4096 .f32) (ix2 r k)) (Fin.ext h0)

end Cert.NormIdeal.Final

namespace Cert.Proof.NormClaims

open Idealize.ShloMosaic Idealize.ShloMosaic.TcCoe Idealize.SL.Sem

section
open Cert.NormRefIdeal Cert.NormRefIdeal.Gen

/-- The reference's norm of the rows. -/
def norm (y : FVec Ideal S8x4096x4096 .f32) (w : FVec Ideal S4096 .f32) : FVec Ideal S8x4096x4096 .f32 :=
  mulf (mulf y (broadcastInDim S8x4096x4096 ![0, 1, 2] bcast_S8x4096x1_S8x4096x4096_0_1_2 (Host.rsqrt (addf (Host.divf (broadcastInDim S8x4096x1 ![0, 1] bcast_S8x4096_S8x4096x1_0_1 (Host.reduceAdd (mulf y y) (constant S_ .f32 0x00000000#32) reducesTo_S8x4096x4096_S8x4096_d2 h_S_)) (broadcastInDim S8x4096x1 ![] bcast_S_S8x4096x1 (constant S_ .f32 0x45800000#32))) (broadcastInDim S8x4096x1 ![] bcast_S_S8x4096x1 (constant S_ .f32 0x358637BD#32)))))) (broadcastInDim S8x4096x4096 ![0, 1, 2] bcast_S1x1x4096_S8x4096x4096_0_1_2 (broadcastInDim S1x1x4096 ![2] bcast_S4096_S1x1x4096_2 w))

/-- The reference's scaled and shifted norm. -/
def normed (x : FVec Ideal S8x4096x4096 .f32) (w : FVec Ideal S4096 .f32) (g : FVec Ideal S8x24576 .f32) : FVec Ideal S8x4096x4096 .f32 :=
  addf (mulf (norm x w) (broadcastInDim S8x4096x4096 ![0, 1, 2] bcast_S8x1x4096_S8x4096x4096_0_1_2 (addf (broadcastInDim S8x1x4096 ![] bcast_S_S8x1x4096 (constant S_ .f32 0x3F800000#32)) (extractStridedSlice S8x1x4096 ![0, 0, 4096] (broadcastInDim S8x1x24576 ![0, 2] bcast_S8x24576_S8x1x24576_0_2 g) slices_S8x1x24576_S8x1x4096_0_0_4096))))
    (broadcastInDim S8x4096x4096 ![0, 1, 2] bcast_S8x1x4096_S8x4096x4096_0_1_2 (extractStridedSlice S8x1x4096 ![0, 0, 0] (broadcastInDim S8x1x24576 ![0, 2] bcast_S8x24576_S8x1x24576_0_2 g) slices_S8x1x24576_S8x1x4096_0_0_0))

/-- The reference's result. -/
def result (x : FVec Ideal S8x4096x4096 .f32) (w : FVec Ideal S4096 .f32) (g : FVec Ideal S8x24576 .f32) : FVec Ideal S32768x4096 .bf16 :=
  truncf .bf16 (shapeCast _ (normed x w g) shapeCasts_S8x4096x4096_S32768x4096) bitsLt_bf16_f32

theorem norm_apply (y : FVec Ideal S8x4096x4096 .f32) (w : FVec Ideal S4096 .f32) (b : Fin 8) (s : Fin 4096) (l : Fin 4096) :
    norm y w (ix3 b s l) = Cert.Norm.rms (fun k => y (ix3 b s k)) l * w (ix1 l) := by
  unfold Cert.Norm.rms Cert.Norm.rmsOver
  pointwise [norm]

theorem normed_apply (x : FVec Ideal S8x4096x4096 .f32) (w : FVec Ideal S4096 .f32) (g : FVec Ideal S8x24576 .f32) (b : Fin 8) (s : Fin 4096) (l : Fin 4096) :
    normed x w g (ix3 b s l) = Cert.NormIdeal.Final.normAt x w g b s l := by
  unfold Cert.NormIdeal.Final.normAt
  pointwise [normed, norm_apply]

theorem result_apply (x : FVec Ideal S8x4096x4096 .f32) (w : FVec Ideal S4096 .f32) (g : FVec Ideal S8x24576 .f32) (i : Fin 32768) (l : Fin 4096) :
    result x w g (ix2 i l) = Cert.NormIdeal.Final.normAt x w g ⟨i.val / 4096, by omega⟩ ⟨i.val % 4096, by omega⟩ l := by
  pointwise [result, normed_apply]

end

theorem frame : Cert.quiescent_Norm := fun m ρ _ => Cert.Norm.Gen.frame m ρ

theorem frame_ideal : Cert.quiescent_NormIdeal := fun m ρ _ => Cert.NormIdeal.Gen.frame m ρ

theorem frame_ref : Cert.quiescent_NormRefIdeal := fun m ρ _ =>
  (θ_run Cert.NormRefIdeal.defs _ _).mono (fun r h => ⟨fun c => (h c).2, sem_eq_zero_of_no_sems (by decide) r.2⟩)
    (Cert.NormRefIdeal.Value.run (F := Ideal) m ρ)

theorem preserves : Cert.preserves_Norm_NormIdeal := trivial

/-- The kernel and the reference end with equal results. -/
theorem algebraic : Cert.algebraic_NormIdeal_NormRefIdeal := by
  pair_intro
  · run_from (Cert.NormIdeal.Value.run_blocks (F := Ideal) m g)
  · run_from (Cert.NormRefIdeal.Value.run (F := Ideal) m' g')
    show result _ _ _ = _
    funext i
    rw [eq_ix2 i]
    refine (result_apply _ _ _ (i 0) (i 1)).trans ((Eq.trans ?_ (Cert.NormIdeal.Final.result_apply m c ⟨(i 0).val / 4096, by have : (i 0).val < 32768 := (i 0).isLt; omega⟩ ⟨(i 0).val % 4096, by omega⟩ (i 1))).symm)
    exact congrArg (fun r => ((Cert.NormIdeal.Gen.dats m 0 c).arrAt 3 Cert.NormIdeal.cfg0.N : FVec Ideal Cert.NormIdeal.S32768x4096 .bf16) (ix2 r (i 1)))
      (Fin.ext (by dsimp only; omega))

end Cert.Proof.NormClaims

end
-- ==== Proof.NormBClaim.lean ====
/-
  The norm before the retrieval: each element of the result is that element of the normalised row, scaled and shifted.
-/
module

public import proofs.«01_k».proof.Defs
public import proofs.«01_k».proof.Proof.Literals
public import proofs.«01_k».proof.Proof.Gen.NormB.Frame
public import proofs.«01_k».proof.Proof.Gen.NormBIdeal.Value
public import proofs.«01_k».proof.Proof.Gen.NormBRefIdeal.Run
public import Idealize.ShloMosaic.Lib.Pointwise
public import Idealize.ShloMosaic.Lib.Claim
public import Idealize.ShloMosaic.Lib.Pipeline.Value
public import Idealize.ShloMosaic.Lib.StableHlo.Run
public import Idealize.ShloMosaic.Lib.Tactic
public import Idealize.ShloMosaic.Lib.Quiescent
public import Idealize.ShloMosaic.Lib.KernelVsHost
public import proofs.«01_k».proof.Proof.NormRow

@[expose] public section

set_option maxRecDepth 16384

noncomputable section

namespace Cert.NormBIdeal.Final

open Cert.NormBIdeal Cert.NormBIdeal.Gen Idealize.ShloMosaic Idealize.ShloMosaic.TcCoe Idealize.SL.Sem

/-- The body's result, at an index. -/
theorem out_apply (x : FVec Ideal S512x4096 .f32) (w : FVec Ideal S1x4096 .f32) (g : FVec Ideal S1x8x4096 .f32) (r : Fin 512) (l : Fin 4096) :
    (out0_3 (F := Ideal) x w g (ix2 r l) : EReal)
      = Cert.Norm.rms (fun k => x (ix2 r k)) l * w (ix2 0 l) * (Ideal.ofBits .f32 0x3F800000#32 + g (ix3 0 4 l)) + g (ix3 0 3 l) := by
  unfold out0_3 Cert.Norm.rms Cert.Norm.rmsOver
  have hz : (![0, 0] : Fin 2 → ℕ) = fun _ => 0 := funext fun a => by fin_cases a <;> rfl
  have hz3 : (![0, 0, 0] : Fin 3 → ℕ) = fun _ => 0 := funext fun a => by fin_cases a <;> rfl
  rw [View.canon_unit_zero hz, View.ld_unit_zero hz, View.ld_unit_zero hz, View.ld_unit_zero hz3]
  pointwise [k0_pay1]

variable (m : (ℓ : Loc nD τ sig) → Buf (Elt Ideal) ℓ)

theorem index_x : ∀ t : Fin grid0.N, win0_0.index t 0 = t.val ∧ win0_0.index t 1 = 0 := by decide +kernel
theorem index_w : ∀ t : Fin grid0.N, win0_1.index t 0 = 0 ∧ win0_1.index t 1 = 0 := by decide +kernel
theorem index_g : ∀ t : Fin grid0.N, win0_2.index t 0 = t.val / 8 ∧ win0_2.index t 1 = 0 ∧ win0_2.index t 2 = 0 := by decide +kernel
theorem index_o : ∀ t : Fin grid0.N, win0_3.index t 0 = t.val ∧ win0_3.index t 1 = 0 := by decide +kernel

theorem lt_N (t : Fin cfg0.N) : t.val < 64 := Nat.lt_of_lt_of_eq t.isLt N_0

theorem iblk_x (c : Dev nD) (t : Fin cfg0.N) (r : Fin 512) (l : Fin 4096) :
    (iblk m c 0 t : FVec Ideal S512x4096 .f32) (ix2 r l) = (V m c main_v0 : FVec Ideal S32768x4096 .f32)
      (ix2 ⟨t.val * 512 + r.val, by have := lt_N t; omega⟩ l) := by
  unfold iblk
  rw [View.read_apply]
  show (V m c main_v0 : FVec Ideal S32768x4096 .f32) _ = _
  congr 1
  funext a
  obtain ⟨e0, e1⟩ := index_x t
  apply Fin.ext
  match a with
  | ⟨0, _⟩ => show win0_0.index t 0 * 512 + 1 * r.val = t.val * 512 + r.val; rw [e0]; omega
  | ⟨1, _⟩ => show win0_0.index t 1 * 4096 + 1 * l.val = l.val; rw [e1]; omega

theorem iblk_g (c : Dev nD) (t : Fin cfg0.N) (p : Fin 1) (r : Fin 8) (l : Fin 4096) :
    (iblk m c 2 t : FVec Ideal S1x8x4096 .f32) (ix3 p r l) = (V m c main_v2 : FVec Ideal S8x8x4096 .f32)
      (ix3 ⟨t.val / 8 * 1 + p.val, by have := lt_N t; omega⟩ r l) := by
  unfold iblk
  rw [View.read_apply]
  show (V m c main_v2 : FVec Ideal S8x8x4096 .f32) _ = _
  congr 1
  funext a
  obtain ⟨e0, e1, e2⟩ := index_g t
  apply Fin.ext
  match a with
  | ⟨0, _⟩ => show win0_2.index t 0 * 1 + 1 * p.val = t.val / 8 * 1 + p.val; rw [e0]; omega
  | ⟨1, _⟩ => show win0_2.index t 1 * 8 + 1 * r.val = r.val; rw [e1]; omega
  | ⟨2, _⟩ => show win0_2.index t 2 * 4096 + 1 * l.val = l.val; rw [e2]; omega

theorem iblk_w (c : Dev nD) (t : Fin cfg0.N) (r : Fin 1) (l : Fin 4096) :
    (iblk m c 1 t : FVec Ideal S1x4096 .f32) (ix2 r l) = (V m c main_v3 : FVec Ideal S1x4096 .f32)
      (ix2 r l) := by
  unfold iblk
  rw [View.read_apply]
  show (V m c main_v3 : FVec Ideal S1x4096 .f32) _ = _
  congr 1
  funext a
  obtain ⟨e0, e1⟩ := index_w t
  apply Fin.ext
  match a with
  | ⟨0, _⟩ => show win0_1.index t 0 * 1 + 1 * r.val = r.val; rw [e0]; omega
  | ⟨1, _⟩ => show win0_1.index t 1 * 4096 + 1 * l.val = l.val; rw [e1]; omega

theorem index_inj (t t' : Fin cfg0.N) (h : win0_3.index t = win0_3.index t') : t = t' := by
  have h0 := congrFun h 0
  have h1 := congrFun h 1
  rw [(index_o t).1, (index_o t').1] at h0
  rw [(index_o t).2, (index_o t').2] at h1
  apply Fin.ext
  have := lt_N t
  have := lt_N t'
  omega

/-- An element of the result array is that element of the block holding it. -/
theorem result_block (c : Dev nD) (t : Fin cfg0.N) (r : Fin 512) (l : Fin 4096) :
    ((dats m 0 c).arrAt 3 cfg0.N : FVec Ideal S32768x4096 .bf16)
      (ix2 ⟨t.val * 512 + r.val, by have := lt_N t; omega⟩ l)
    = out0_3 (F := Ideal) (iblk m c 0 t) (iblk m c 1 t) (iblk m c 2 t) (ix2 r l) := by
  have h := congrFun ((dats m 0 c).read_blk_arrAt_eq_flushed 3 (fun t t' _ _ hne => (cfg0.win 3).disjoint_blk fun h => hne (index_inj t t' h))
    cfg0.N t t.isLt (flush0_3 t)) (ix2 r l : S512x4096.Idx)
  rw [View.read_apply] at h
  refine Eq.trans ?_ (h.trans ?_)
  · show _ = ((dats m 0 c).arrAt 3 cfg0.N : FVec Ideal S32768x4096 .bf16) _
    congr 1
    funext a
    obtain ⟨e0, e1⟩ := index_o t
    apply Fin.ext
    match a with
    | ⟨0, _⟩ => show t.val * 512 + r.val = win0_3.index t 0 * 512 + 1 * r.val; rw [e0]; omega
    | ⟨1, _⟩ => show l.val = win0_3.index t 1 * 4096 + 1 * l.val; rw [e1]; omega
  · show (cfg0.win 3).cut (grid0.coords t) ((dats m 0 c).after 3 t) (ix2 r l) = _
    rw [after0_3]
    rfl

theorem x_apply (c : Dev nD) (b : Fin 8) (s : Fin 4096) (k : Fin 4096) :
    (V m c main_v0 : FVec Ideal S32768x4096 .f32) (ix2 ⟨b.val * 4096 + s.val, by omega⟩ k) = (m ((c : Thread nD τ).loc main_arg0) : FVec Ideal S8x4096x4096 .f32) (ix3 b s k) := by
  unfold V
  simp only [List.flatten_cons, List.flatten_nil, List.append_nil, List.cons_append, List.nil_append]
  unfold_abbrev_sides
  after_results
  pointwise

/-- The modulation, folded into its six parts. -/
theorem fold_apply (g : FVec Ideal S8x24576 .f32) (b : Fin 8) (j : Fin 6) (l : Fin 4096) :
    shapeCast S8x6x4096 g shapeCasts_S8x24576_S8x6x4096 (ix3 b j l) = g (ix2 b ⟨j.val * 4096 + l.val, by omega⟩) := by
  pointwise

/-- The rows of the padded modulation. -/
theorem g_apply (c : Dev nD) (b : Fin 8) (j : Fin 6) (l : Fin 4096) :
    (V m c main_v2 : FVec Ideal S8x8x4096 .f32) (ix3 b ⟨j.val, by omega⟩ l) = (m ((c : Thread nD τ).loc main_arg2) : FVec Ideal S8x24576 .f32) (ix2 b ⟨j.val * 4096 + l.val, by omega⟩) := by
  unfold V
  simp only [List.flatten_cons, List.flatten_nil, List.append_nil, List.cons_append, List.nil_append]
  unfold_abbrev_sides
  after_results
  show (pad S8x8x4096 ![0, 0, 0] ![0, 2, 0] ![0, 0, 0] (shapeCast S8x6x4096 (m ((c : Thread nD τ).loc main_arg2) : FVec Ideal S8x24576 .f32) shapeCasts_S8x24576_S8x6x4096)
    _ pads_S8x6x4096_S8x8x4096_000_020_000 h_S_ : FVec Ideal S8x8x4096 .f32) (ix3 b (⟨j.val, by omega⟩ : Fin 8) l) = _
  refine (pad_apply_of_inside _ _ _ _ _ _ _ _ (ix3 b j l) (fun a => ?_)).trans (fold_apply _ _ _ _)
  fin_cases a
  · show b.val = 0 + b.val * (0 + 1); omega
  · show j.val = 0 + j.val * (0 + 1); omega
  · show l.val = 0 + l.val * (0 + 1); omega

theorem w_apply (c : Dev nD) (l : Fin 4096) :
    (V m c main_v3 : FVec Ideal S1x4096 .f32) (ix2 0 l) = (m ((c : Thread nD τ).loc main_arg1) : FVec Ideal S4096 .f32) (ix1 l) := by
  unfold V
  simp only [List.flatten_cons, List.flatten_nil, List.append_nil, List.cons_append, List.nil_append]
  unfold_abbrev_sides
  after_results
  pointwise

/-- An element of the norm. -/
def normAt (x : FVec Ideal S8x4096x4096 .f32) (w : FVec Ideal S4096 .f32) (g : FVec Ideal S8x24576 .f32) (b : Fin 8) (s : Fin 4096) (l : Fin 4096) : EReal :=
  Cert.Norm.rms (fun k => x (ix3 b s k)) l * w (ix1 l) * (Ideal.ofBits .f32 0x3F800000#32 + g (ix2 b ⟨16384 + l.val, by omega⟩)) + g (ix2 b ⟨12288 + l.val, by omega⟩)

/-- An element of the call's result array, from the arguments. -/
theorem result_apply (c : Dev nD) (b : Fin 8) (s : Fin 4096) (l : Fin 4096) :
    ((dats m 0 c).arrAt 3 cfg0.N : FVec Ideal S32768x4096 .bf16) (ix2 ⟨b.val * 4096 + s.val, by omega⟩ l)
      = normAt (m ((c : Thread nD τ).loc main_arg0)) (m ((c : Thread nD τ).loc main_arg1)) (m ((c : Thread nD τ).loc main_arg2)) b s l := by
  have hT : (b.val * 4096 + s.val) / 512 < cfg0.N := by rw [show cfg0.N = 64 from N_0]; omega
  have h := (result_block m c ⟨_, hT⟩ ⟨(b.val * 4096 + s.val) % 512, by omega⟩ l).trans (out_apply _ _ _ _ _)
  have h0 : (b.val * 4096 + s.val) / 512 * 512 + (b.val * 4096 + s.val) % 512 = b.val * 4096 + s.val := by omega
  simp only [h0] at h
  refine h.trans (Eq.trans ?_ (rfl : normAt _ _ _ b s l = _))
  unfold normAt
  have hg : ∀ (j : Fin 6) (p : Fin 24576), p.val = j.val * 4096 + l.val →
      (iblk m c 2 ⟨_, hT⟩ : FVec Ideal S1x8x4096 .f32) (ix3 0 ⟨j.val, by omega⟩ l) = (m ((c : Thread nD τ).loc main_arg2) : FVec Ideal S8x24576 .f32) (ix2 b p) := by
    intro j p hp
    refine (iblk_g m c _ _ _ _).trans (Eq.trans ?_ ((g_apply m c b j l).trans ?_))
    · exact congrArg (fun r => (V m c main_v2 : FVec Ideal S8x8x4096 .f32) (ix3 r ⟨j.val, by omega⟩ l)) (Fin.ext (by dsimp only; omega))
    · exact congrArg (fun p => (m ((c : Thread nD τ).loc main_arg2) : FVec Ideal S8x24576 .f32) (ix2 b p)) (Fin.ext hp.symm)
  refine congrArg₂ (HAdd.hAdd (α := EReal) (β := EReal) (γ := EReal)) (congrArg₂ (HMul.hMul (α := EReal) (β := EReal) (γ := EReal))
    (congrArg₂ (HMul.hMul (α := EReal) (β := EReal) (γ := EReal)) (congrArg (fun f => Cert.Norm.rms f l) (funext fun k => ?_))
      ((iblk_w m c _ _ _).trans (w_apply m c l))) (congrArg (HAdd.hAdd (α := EReal) (β := EReal) (γ := EReal) _) (hg 4 _ (by dsimp only; omega)))) (hg 3 _ (by dsimp only; omega))
  refine (iblk_x m c _ _ k).trans (Eq.trans ?_ (x_apply m c b s k))
  exact congrArg (fun r => (V m c main_v0 : FVec Ideal S32768x4096 .f32) (ix2 r k)) (Fin.ext h0)

end Cert.NormBIdeal.Final

namespace Cert.Proof.NormBClaims

open Idealize.ShloMosaic Idealize.ShloMosaic.TcCoe Idealize.SL.Sem

section
open Cert.NormBRefIdeal Cert.NormBRefIdeal.Gen

/-- The reference's norm of the rows. -/
def norm (y : FVec Ideal S8x4096x4096 .f32) (w : FVec Ideal S4096 .f32) : FVec Ideal S8x4096x4096 .f32 :=
  mulf (mulf y (broadcastInDim S8x4096x4096 ![0, 1, 2] bcast_S8x4096x1_S8x4096x4096_0_1_2 (Host.rsqrt (addf (Host.divf (broadcastInDim S8x4096x1 ![0, 1] bcast_S8x4096_S8x4096x1_0_1 (Host.reduceAdd (mulf y y) (constant S_ .f32 0x00000000#32) reducesTo_S8x4096x4096_S8x4096_d2 h_S_)) (broadcastInDim S8x4096x1 ![] bcast_S_S8x4096x1 (constant S_ .f32 0x45800000#32))) (broadcastInDim S8x4096x1 ![] bcast_S_S8x4096x1 (constant S_ .f32 0x358637BD#32)))))) (broadcastInDim S8x4096x4096 ![0, 1, 2] bcast_S1x1x4096_S8x4096x4096_0_1_2 (broadcastInDim S1x1x4096 ![2] bcast_S4096_S1x1x4096_2 w))

/-- The reference's scaled and shifted norm. -/
def normed (x : FVec Ideal S8x4096x4096 .f32) (w : FVec Ideal S4096 .f32) (g : FVec Ideal S8x24576 .f32) : FVec Ideal S8x4096x4096 .f32 :=
  addf (mulf (norm x w) (broadcastInDim S8x4096x4096 ![0, 1, 2] bcast_S8x1x4096_S8x4096x4096_0_1_2 (addf (broadcastInDim S8x1x4096 ![] bcast_S_S8x1x4096 (constant S_ .f32 0x3F800000#32)) (extractStridedSlice S8x1x4096 ![0, 0, 16384] (broadcastInDim S8x1x24576 ![0, 2] bcast_S8x24576_S8x1x24576_0_2 g) slices_S8x1x24576_S8x1x4096_0_0_16384))))
    (broadcastInDim S8x4096x4096 ![0, 1, 2] bcast_S8x1x4096_S8x4096x4096_0_1_2 (extractStridedSlice S8x1x4096 ![0, 0, 12288] (broadcastInDim S8x1x24576 ![0, 2] bcast_S8x24576_S8x1x24576_0_2 g) slices_S8x1x24576_S8x1x4096_0_0_12288))

/-- The reference's result. -/
def result (x : FVec Ideal S8x4096x4096 .f32) (w : FVec Ideal S4096 .f32) (g : FVec Ideal S8x24576 .f32) : FVec Ideal S32768x4096 .bf16 :=
  truncf .bf16 (shapeCast _ (normed x w g) shapeCasts_S8x4096x4096_S32768x4096) bitsLt_bf16_f32

theorem norm_apply (y : FVec Ideal S8x4096x4096 .f32) (w : FVec Ideal S4096 .f32) (b : Fin 8) (s : Fin 4096) (l : Fin 4096) :
    norm y w (ix3 b s l) = Cert.Norm.rms (fun k => y (ix3 b s k)) l * w (ix1 l) := by
  unfold Cert.Norm.rms Cert.Norm.rmsOver
  pointwise [norm]

theorem normed_apply (x : FVec Ideal S8x4096x4096 .f32) (w : FVec Ideal S4096 .f32) (g : FVec Ideal S8x24576 .f32) (b : Fin 8) (s : Fin 4096) (l : Fin 4096) :
    normed x w g (ix3 b s l) = Cert.NormBIdeal.Final.normAt x w g b s l := by
  unfold Cert.NormBIdeal.Final.normAt
  pointwise [normed, norm_apply]

theorem result_apply (x : FVec Ideal S8x4096x4096 .f32) (w : FVec Ideal S4096 .f32) (g : FVec Ideal S8x24576 .f32) (i : Fin 32768) (l : Fin 4096) :
    result x w g (ix2 i l) = Cert.NormBIdeal.Final.normAt x w g ⟨i.val / 4096, by omega⟩ ⟨i.val % 4096, by omega⟩ l := by
  pointwise [result, normed_apply]

end

theorem frame : Cert.quiescent_NormB := fun m ρ _ => Cert.NormB.Gen.frame m ρ

theorem frame_ideal : Cert.quiescent_NormBIdeal := fun m ρ _ => Cert.NormBIdeal.Gen.frame m ρ

theorem frame_ref : Cert.quiescent_NormBRefIdeal := fun m ρ _ =>
  (θ_run Cert.NormBRefIdeal.defs _ _).mono (fun r h => ⟨fun c => (h c).2, sem_eq_zero_of_no_sems (by decide) r.2⟩)
    (Cert.NormBRefIdeal.Value.run (F := Ideal) m ρ)

theorem preserves : Cert.preserves_NormB_NormBIdeal := trivial

/-- The kernel and the reference end with equal results. -/
theorem algebraic : Cert.algebraic_NormBIdeal_NormBRefIdeal := by
  pair_intro
  · run_from (Cert.NormBIdeal.Value.run_blocks (F := Ideal) m g)
  · run_from (Cert.NormBRefIdeal.Value.run (F := Ideal) m' g')
    show result _ _ _ = _
    funext i
    rw [eq_ix2 i]
    refine (result_apply _ _ _ (i 0) (i 1)).trans ((Eq.trans ?_ (Cert.NormBIdeal.Final.result_apply m c ⟨(i 0).val / 4096, by have : (i 0).val < 32768 := (i 0).isLt; omega⟩ ⟨(i 0).val % 4096, by omega⟩ (i 1))).symm)
    exact congrArg (fun r => ((Cert.NormBIdeal.Gen.dats m 0 c).arrAt 3 Cert.NormBIdeal.cfg0.N : FVec Ideal Cert.NormBIdeal.S32768x4096 .bf16) (ix2 r (i 1)))
      (Fin.ext (by dsimp only; omega))

end Cert.Proof.NormBClaims

end
-- ==== Proof.PrepSClaim.lean ====
/-
  The norms and rotations of the sample's grouped attention: each element of the queries and of the keys is that element of a head's
  normalised columns, turned by its position.  The kernel turns a column by its pair and signed sines, the reference both columns of a
  pair at once.
-/
module

public import proofs.«01_k».proof.Defs
public import proofs.«01_k».proof.Proof.Literals
public import proofs.«01_k».proof.Proof.Gen.PrepS.Frame
public import proofs.«01_k».proof.Proof.Gen.PrepSIdeal.Frame
public import proofs.«01_k».proof.Proof.Gen.PrepSRefIdeal.Run
public import Idealize.ShloMosaic.Lib.Pointwise
public import Idealize.ShloMosaic.Lib.Claim
public import Idealize.ShloMosaic.Lib.Pipeline.Value
public import Idealize.ShloMosaic.Lib.StableHlo.Run
public import Idealize.ShloMosaic.Lib.Tactic
public import Idealize.ShloMosaic.Lib.Quiescent
public import proofs.«01_k».proof.Proof.NormRow
public import Idealize.ShloMosaic.Lib.VecWindow
public import Idealize.ShloMosaic.Lib.Pipeline.ValueKit.Tiles

@[expose] public section

set_option maxRecDepth 16384

noncomputable section

namespace Cert.PrepSIdeal.Final

open Cert.PrepSIdeal Cert.PrepSIdeal.Gen Idealize.ShloMosaic Idealize.ShloMosaic.TcCoe Idealize.SL.Sem

/-- The scale of the queries, as the programs have it. -/
def σ : EReal := Ideal.ofBits .f32 0x3E0293EE#32

/-- The column a column is paired with. -/
def mate (e : Fin 128) : Fin 128 := ⟨if e.val % 2 = 0 then e.val + 1 else e.val - 1, by split <;> omega⟩

/-- A head's column of the norm. -/
def nrm (f : Fin 128 → EReal) (w : Fin 128 → EReal) (d : Fin 128) : EReal :=
  Cert.Norm.rmsOver (Ideal.ofBits .f32 0x43000000#32) f d * w d

/-- A column turned by its pair. -/
def turn (f : Fin 128 → EReal) (cs sn : EReal) (d : Fin 128) : EReal := f d * cs + f (mate d) * sn

theorem parity : ∀ d : Fin 128, IntOp.cmpi .eq (IntOp.andi (BitVec.ofNat 32 d.val) 1#32) 0#32 = if d.val % 2 = 0 then 1#1 else 0#1 := by
  decide +kernel

/-- The choice between the next column and the last, by a column's parity, is the column it is paired with. -/
theorem pick (f : Fin 128 → EReal) (d : Fin 128) :
    Scalar.select (IntOp.cmpi .eq (IntOp.andi (BitVec.ofNat 32 d.val) 1#32) 0#32)
      (f ⟨(d.val + 128 - 127) % 128, by omega⟩) (f ⟨(d.val + 128 - 1) % 128, by omega⟩) = f (mate d) := by
  rw [parity]
  unfold mate
  by_cases h : d.val % 2 = 0
  · rw [if_pos h]
    refine (if_pos rfl).trans (congrArg f (Fin.ext ?_))
    dsimp only
    rw [if_pos h]
    omega
  · rw [if_neg h]
    refine (if_neg (by decide)).trans (congrArg f (Fin.ext ?_))
    dsimp only
    rw [if_neg h]
    omega

/-- A head's columns, turned as the kernel turns them. -/
def turnOf (n cs sn : FVec Ideal S512x128 .f32) : FVec Ideal S512x128 .f32 :=
  addf (mulf n (shapeCast S512x128 cs shapeCasts_S512x128_S512x128))
    (mulf (select (cmpi .eq (andi (iota .tc S512x128 32 [1] iota_S512x128_d1_w32) (broadcast S512x128 1#32)) (broadcast S512x128 0#32))
      (dynamicRotate 1 127#32 none n rotates_S512x128_d1) (dynamicRotate 1 1#32 none n rotates_S512x128_d1))
      (shapeCast S512x128 sn shapeCasts_S512x128_S512x128))

theorem turnOf_apply (n cs sn : FVec Ideal S512x128 .f32) (r : Fin 512) (d : Fin 128) :
    turnOf n cs sn (ix2 r d) = turn (fun e => n (ix2 r e)) (cs (ix2 r d)) (sn (ix2 r d)) d := by
  pointwise [turnOf]
  rw [pick (fun e => n (ix2 r e)) d]
  rfl

theorem norm_pay (v : FVec Ideal S512x128 .f32) (w : FVec Ideal S1x128 .f32) (r : Fin 512) (d : Fin 128) :
    k0_pay6 (F := Ideal) v w (ix2 r d) = nrm (fun k => v (ix2 r k)) (fun k => w (ix2 0 k)) d := by
  unfold nrm Cert.Norm.rmsOver
  pointwise [k0_pay6]

/-- One head's keys. -/
def keyPay (v : FVec Ideal S512x128 .f32) (w : FVec Ideal S1x128 .f32) (cs sn : FVec Ideal S512x128 .f32) : FVec Ideal S512x128 .f32 :=
  turnOf (k0_pay6 v w) cs sn

/-- One head's queries. -/
def queryPay (v : FVec Ideal S512x128 .f32) (w : FVec Ideal S1x128 .f32) (cs sn : FVec Ideal S512x128 .f32) : FVec Ideal S512x128 .bf16 :=
  truncf .bf16 (mulf (turnOf (k0_pay6 v w) cs sn) (broadcast S512x128 (Scalar.ofBits .f32 0x3E0293EE#32))) bitsLt_bf16_f32

/-! The keys, head by head, as the body has them. -/

theorem key_head0 (v : FVec Ideal S512x128 .f32) (w : FVec Ideal S1x128 .f32) (cs sn : FVec Ideal S512x128 .f32) :
    k0_pay58 v w cs sn = keyPay v w cs sn := rfl

theorem key_head1 (v : FVec Ideal S512x128 .f32) (w : FVec Ideal S1x128 .f32) (cs sn : FVec Ideal S512x128 .f32) :
    k0_pay62 (k0_pay60 v) (k0_pay61 w) cs sn = keyPay v w cs sn := rfl

theorem key_head2 (v : FVec Ideal S512x128 .f32) (w : FVec Ideal S1x128 .f32) (cs sn : FVec Ideal S512x128 .f32) :
    k0_pay67 (k0_pay64 v) (k0_pay65 w) (k0_pay66 v) (Scalar.ofBits .f32 0x43000000#32) cs sn = keyPay v w cs sn := rfl

theorem key_head3 (v : FVec Ideal S512x128 .f32) (w : FVec Ideal S1x128 .f32) (cs sn : FVec Ideal S512x128 .f32) :
    k0_pay72 (k0_pay69 v) (k0_pay70 w) (k0_pay71 v) cs sn = keyPay v w cs sn := rfl

/-! The queries, head by head, as the body has them. -/

theorem query_head0 (v : FVec Ideal S512x128 .f32) (w : FVec Ideal S1x128 .f32) (cs sn : FVec Ideal S512x128 .f32) :
    k0_pay8 (k0_pay6 v w) (k0_pay7 cs) sn = queryPay v w cs sn := rfl

theorem query_head1 (v : FVec Ideal S512x128 .f32) (w : FVec Ideal S1x128 .f32) (cs sn : FVec Ideal S512x128 .f32) :
    k0_pay13 (k0_pay10 v w cs) (iota .tc S512x128 32 [1] iota_S512x128_d1_w32) (k0_pay11 v w) (k0_pay12 v w) sn = queryPay v w cs sn := rfl

theorem query_head2 (v : FVec Ideal S512x128 .f32) (w : FVec Ideal S1x128 .f32) (cs sn : FVec Ideal S512x128 .f32) :
    k0_pay19 (k0_pay15 v w cs) (k0_pay16 v w) (k0_pay17 v w) k0_pay18 sn = queryPay v w cs sn := rfl

theorem query_head3 (v : FVec Ideal S512x128 .f32) (w : FVec Ideal S1x128 .f32) (cs sn : FVec Ideal S512x128 .f32) :
    k0_pay23 (k0_pay21 v w cs) (k0_pay22 v w sn) = queryPay v w cs sn := rfl

theorem query_head4 (v : FVec Ideal S512x128 .f32) (w : FVec Ideal S1x128 .f32) (cs sn : FVec Ideal S512x128 .f32) :
    k0_pay24 v w cs sn = queryPay v w cs sn := rfl

theorem query_head5 (v : FVec Ideal S512x128 .f32) (w : FVec Ideal S1x128 .f32) (cs sn : FVec Ideal S512x128 .f32) :
    k0_pay25 v w cs sn = queryPay v w cs sn := rfl

theorem query_head6 (v : FVec Ideal S512x128 .f32) (w : FVec Ideal S1x128 .f32) (cs sn : FVec Ideal S512x128 .f32) :
    k0_pay26 v w cs sn = queryPay v w cs sn := rfl

theorem query_head7 (v : FVec Ideal S512x128 .f32) (w : FVec Ideal S1x128 .f32) (cs sn : FVec Ideal S512x128 .f32) :
    k0_pay30 (k0_pay27 v) (k0_pay28 w) (k0_pay29 v) cs sn = queryPay v w cs sn := rfl

theorem query_head8 (v : FVec Ideal S512x128 .f32) (w : FVec Ideal S1x128 .f32) (cs sn : FVec Ideal S512x128 .f32) :
    k0_pay34 (k0_pay31 v) (k0_pay32 w) (k0_pay33 v) cs sn = queryPay v w cs sn := rfl

theorem query_head9 (v : FVec Ideal S512x128 .f32) (w : FVec Ideal S1x128 .f32) (cs sn : FVec Ideal S512x128 .f32) :
    k0_pay37 (k0_pay35 w) (k0_pay36 v) cs sn = queryPay v w cs sn := rfl

theorem query_head10 (v : FVec Ideal S512x128 .f32) (w : FVec Ideal S1x128 .f32) (cs sn : FVec Ideal S512x128 .f32) :
    k0_pay40 (k0_pay38 v w) (k0_pay39 cs) sn = queryPay v w cs sn := rfl

theorem query_head11 (v : FVec Ideal S512x128 .f32) (w : FVec Ideal S1x128 .f32) (cs sn : FVec Ideal S512x128 .f32) :
    k0_pay45 (k0_pay42 v w cs) (iota .tc S512x128 32 [1] iota_S512x128_d1_w32) (k0_pay43 v w) (k0_pay44 v w) sn = queryPay v w cs sn := rfl

theorem query_head12 (v : FVec Ideal S512x128 .f32) (w : FVec Ideal S1x128 .f32) (cs sn : FVec Ideal S512x128 .f32) :
    k0_pay51 (k0_pay47 v w cs) (k0_pay48 v w) (k0_pay49 v w) k0_pay50 sn = queryPay v w cs sn := rfl

theorem query_head13 (v : FVec Ideal S512x128 .f32) (w : FVec Ideal S1x128 .f32) (cs sn : FVec Ideal S512x128 .f32) :
    k0_pay55 (k0_pay53 v w cs) (k0_pay54 v w sn) = queryPay v w cs sn := rfl

theorem query_head14 (v : FVec Ideal S512x128 .f32) (w : FVec Ideal S1x128 .f32) (cs sn : FVec Ideal S512x128 .f32) :
    k0_pay56 v w cs sn = queryPay v w cs sn := rfl

theorem query_head15 (v : FVec Ideal S512x128 .f32) (w : FVec Ideal S1x128 .f32) (cs sn : FVec Ideal S512x128 .f32) :
    k0_pay57 v w cs sn = queryPay v w cs sn := rfl

theorem keyPay_apply (v : FVec Ideal S512x128 .f32) (w : FVec Ideal S1x128 .f32) (cs sn : FVec Ideal S512x128 .f32) (r : Fin 512) (d : Fin 128) :
    keyPay v w cs sn (ix2 r d) = turn (nrm (fun k => v (ix2 r k)) (fun k => w (ix2 0 k))) (cs (ix2 r d)) (sn (ix2 r d)) d := by
  unfold keyPay
  rw [turnOf_apply]
  simp only [norm_pay]

theorem queryPay_apply (v : FVec Ideal S512x128 .f32) (w : FVec Ideal S1x128 .f32) (cs sn : FVec Ideal S512x128 .f32) (r : Fin 512) (d : Fin 128) :
    queryPay v w cs sn (ix2 r d) = turn (nrm (fun k => v (ix2 r k)) (fun k => w (ix2 0 k))) (cs (ix2 r d)) (sn (ix2 r d)) d * σ := by
  pointwise [queryPay, turnOf_apply, σ]
  simp only [norm_pay]

/-- A column of a block's heads, the first of which has its columns from `o` on. -/
def block (o : ℕ) (x : FVec Ideal S512x4608 .f32) (w : FVec Ideal S1x128 .f32) (cs sn : FVec Ideal S512x128 .f32) (r : Fin 512) (l : ℕ) (h : o + l / 128 * 128 + 128 ≤ 4608) : EReal :=
  turn (nrm (fun k : Fin 128 => x (ix2 r ⟨o + l / 128 * 128 + k.val, by omega⟩)) (fun k => w (ix2 0 k)))
    (cs (ix2 r ⟨l % 128, by omega⟩)) (sn (ix2 r ⟨l % 128, by omega⟩)) ⟨l % 128, by omega⟩

/-- One head's store, at lane `n`, is that part of the block. -/
theorem key_piece (x : FVec Ideal S512x4608 .f32) (w : FVec Ideal S1x128 .f32) (cs sn : FVec Ideal S512x128 .f32) (n p : ℕ) (hp : p = 3584 + n) (hn : n % 128 = 0)
    (inb : ∀ i, (![0, n] : Fin 2 → ℕ) i + S512x128.size i ≤ S512x512.size i)
    (inb' : ∀ i, (![0, p] : Fin 2 → ℕ) i + S512x128.size i ≤ S512x4608.size i) (j : S512x128.Idx) :
    (keyPay (View.ld (Val := Elt Ideal) (e' := .f32) x (Rect.unit (s := S512x4608) ![0, p] S512x128.size inb')) w cs sn j : EReal)
      = (fun y : S512x512.Idx => block 3584 x w cs sn (y 0) (y 1).val (by have h : (y 1).val < 512 := (y 1).isLt; omega)) ((Rect.unit (s := S512x512) ![0, n] S512x128.size inb).emb j) := by
  subst hp
  obtain ⟨r, d, rfl⟩ : ∃ (r : Fin 512) (d : Fin 128), j = ix2 r d := ⟨j 0, j 1, by funext i; match i with | 0 => rfl | 1 => rfl⟩
  have h1 : n + 128 ≤ 512 := inb 1
  rw [keyPay_apply]
  have e : (Rect.unit (s := S512x512) ![0, n] S512x128.size inb).emb (ix2 r d) = (ix2 r ⟨n + d.val, by omega⟩ : S512x512.Idx) := by
    funext i
    apply Fin.ext
    match i with
    | 0 => show 0 + 1 * r.val = r.val; omega
    | 1 => show n + 1 * d.val = n + d.val; omega
  rw [e]
  show _ = block 3584 x w cs sn r (n + d.val) _
  unfold block
  have hq : ∀ e : Fin 128, (View.ld (Val := Elt Ideal) (e' := .f32) x (Rect.unit (s := S512x4608) ![0, 3584 + n] S512x128.size inb') (ix2 r e) : EReal)
      = x (ix2 r ⟨3584 + (n + d.val) / 128 * 128 + e.val, by omega⟩) := by
    intro e
    show x _ = x _
    congr 1
    funext i
    apply Fin.ext
    match i with
    | 0 => show 0 + 1 * r.val = r.val; omega
    | 1 => show 3584 + n + 1 * e.val = 3584 + (n + d.val) / 128 * 128 + e.val; omega
  have hd : (⟨(n + d.val) % 128, by omega⟩ : Fin 128) = d := Fin.ext (by show (n + d.val) % 128 = d.val; omega)
  simp only [hq, hd]

/-- The heads' stores, read back. -/
theorem key_canon (x : FVec Ideal S512x4608 .f32) (w : FVec Ideal S1x128 .f32) (cs sn : FVec Ideal S512x128 .f32) (y : S512x512.Idx) :
    View.canon ([⟨Rect.unit (s := S512x512) ![0, 384] S512x128.size (by decide), keyPay (View.ld (Val := Elt Ideal) (e' := .f32) x (Rect.unit (s := S512x4608) ![0, 3968] S512x128.size (by decide))) w cs sn⟩,
      ⟨Rect.unit (s := S512x512) ![0, 256] S512x128.size (by decide), keyPay (View.ld (Val := Elt Ideal) (e' := .f32) x (Rect.unit (s := S512x4608) ![0, 3840] S512x128.size (by decide))) w cs sn⟩,
      ⟨Rect.unit (s := S512x512) ![0, 128] S512x128.size (by decide), keyPay (View.ld (Val := Elt Ideal) (e' := .f32) x (Rect.unit (s := S512x4608) ![0, 3712] S512x128.size (by decide))) w cs sn⟩,
      ⟨Rect.unit (s := S512x512) ![0, 0] S512x128.size (by decide), keyPay (View.ld (Val := Elt Ideal) (e' := .f32) x (Rect.unit (s := S512x4608) ![0, 3584] S512x128.size (by decide))) w cs sn⟩] : List (View.Piece (Elt Ideal) S512x512 .f32)) y
      = (fun y : S512x512.Idx => block 3584 x w cs sn (y 0) (y 1).val (by have h : (y 1).val < 512 := (y 1).isLt; omega)) y := by
  refine View.canon_apply_of_pieces (Val := Elt Ideal) (e := .f32) (fun y : S512x512.Idx => block 3584 x w cs sn (y 0) (y 1).val (by have h : (y 1).val < 512 := (y 1).isLt; omega)) _ ?_ y ?_
  · simp only [List.forall_mem_cons, List.not_mem_nil, false_imp_iff, implies_true, and_true]
    exact ⟨fun j => key_piece _ _ _ _ 384 3968 rfl rfl _ _ j,
      fun j => key_piece _ _ _ _ 256 3840 rfl rfl _ _ j,
      fun j => key_piece _ _ _ _ 128 3712 rfl rfl _ _ j,
      fun j => key_piece _ _ _ _ 0 3584 rfl rfl _ _ j⟩
  · exact View.cover_of_tiledL (s := S512x512) _ ![512, 128] (by sl_kernel_rfl) y

/-- One head's store, at lane `n`, is that part of the block. -/
theorem query_piece (x : FVec Ideal S512x4608 .f32) (w : FVec Ideal S1x128 .f32) (cs sn : FVec Ideal S512x128 .f32) (n p : ℕ) (hp : p = 1536 + n) (hn : n % 128 = 0)
    (inb : ∀ i, (![0, n] : Fin 2 → ℕ) i + S512x128.size i ≤ S512x2048.size i)
    (inb' : ∀ i, (![0, p] : Fin 2 → ℕ) i + S512x128.size i ≤ S512x4608.size i) (j : S512x128.Idx) :
    (queryPay (View.ld (Val := Elt Ideal) (e' := .f32) x (Rect.unit (s := S512x4608) ![0, p] S512x128.size inb')) w cs sn j : EReal)
      = (fun y : S512x2048.Idx => block 1536 x w cs sn (y 0) (y 1).val (by have h : (y 1).val < 2048 := (y 1).isLt; omega) * σ) ((Rect.unit (s := S512x2048) ![0, n] S512x128.size inb).emb j) := by
  subst hp
  obtain ⟨r, d, rfl⟩ : ∃ (r : Fin 512) (d : Fin 128), j = ix2 r d := ⟨j 0, j 1, by funext i; match i with | 0 => rfl | 1 => rfl⟩
  have h1 : n + 128 ≤ 2048 := inb 1
  rw [queryPay_apply]
  have e : (Rect.unit (s := S512x2048) ![0, n] S512x128.size inb).emb (ix2 r d) = (ix2 r ⟨n + d.val, by omega⟩ : S512x2048.Idx) := by
    funext i
    apply Fin.ext
    match i with
    | 0 => show 0 + 1 * r.val = r.val; omega
    | 1 => show n + 1 * d.val = n + d.val; omega
  rw [e]
  show _ = block 1536 x w cs sn r (n + d.val) _ * σ
  unfold block
  have hq : ∀ e : Fin 128, (View.ld (Val := Elt Ideal) (e' := .f32) x (Rect.unit (s := S512x4608) ![0, 1536 + n] S512x128.size inb') (ix2 r e) : EReal)
      = x (ix2 r ⟨1536 + (n + d.val) / 128 * 128 + e.val, by omega⟩) := by
    intro e
    show x _ = x _
    congr 1
    funext i
    apply Fin.ext
    match i with
    | 0 => show 0 + 1 * r.val = r.val; omega
    | 1 => show 1536 + n + 1 * e.val = 1536 + (n + d.val) / 128 * 128 + e.val; omega
  have hd : (⟨(n + d.val) % 128, by omega⟩ : Fin 128) = d := Fin.ext (by show (n + d.val) % 128 = d.val; omega)
  simp only [hq, hd]

/-- The heads' stores, read back. -/
theorem query_canon (x : FVec Ideal S512x4608 .f32) (w : FVec Ideal S1x128 .f32) (cs sn : FVec Ideal S512x128 .f32) (y : S512x2048.Idx) :
    View.canon ([⟨Rect.unit (s := S512x2048) ![0, 1920] S512x128.size (by decide), queryPay (View.ld (Val := Elt Ideal) (e' := .f32) x (Rect.unit (s := S512x4608) ![0, 3456] S512x128.size (by decide))) w cs sn⟩,
      ⟨Rect.unit (s := S512x2048) ![0, 1792] S512x128.size (by decide), queryPay (View.ld (Val := Elt Ideal) (e' := .f32) x (Rect.unit (s := S512x4608) ![0, 3328] S512x128.size (by decide))) w cs sn⟩,
      ⟨Rect.unit (s := S512x2048) ![0, 1664] S512x128.size (by decide), queryPay (View.ld (Val := Elt Ideal) (e' := .f32) x (Rect.unit (s := S512x4608) ![0, 3200] S512x128.size (by decide))) w cs sn⟩,
      ⟨Rect.unit (s := S512x2048) ![0, 1536] S512x128.size (by decide), queryPay (View.ld (Val := Elt Ideal) (e' := .f32) x (Rect.unit (s := S512x4608) ![0, 3072] S512x128.size (by decide))) w cs sn⟩,
      ⟨Rect.unit (s := S512x2048) ![0, 1408] S512x128.size (by decide), queryPay (View.ld (Val := Elt Ideal) (e' := .f32) x (Rect.unit (s := S512x4608) ![0, 2944] S512x128.size (by decide))) w cs sn⟩,
      ⟨Rect.unit (s := S512x2048) ![0, 1280] S512x128.size (by decide), queryPay (View.ld (Val := Elt Ideal) (e' := .f32) x (Rect.unit (s := S512x4608) ![0, 2816] S512x128.size (by decide))) w cs sn⟩,
      ⟨Rect.unit (s := S512x2048) ![0, 1152] S512x128.size (by decide), queryPay (View.ld (Val := Elt Ideal) (e' := .f32) x (Rect.unit (s := S512x4608) ![0, 2688] S512x128.size (by decide))) w cs sn⟩,
      ⟨Rect.unit (s := S512x2048) ![0, 1024] S512x128.size (by decide), queryPay (View.ld (Val := Elt Ideal) (e' := .f32) x (Rect.unit (s := S512x4608) ![0, 2560] S512x128.size (by decide))) w cs sn⟩,
      ⟨Rect.unit (s := S512x2048) ![0, 896] S512x128.size (by decide), queryPay (View.ld (Val := Elt Ideal) (e' := .f32) x (Rect.unit (s := S512x4608) ![0, 2432] S512x128.size (by decide))) w cs sn⟩,
      ⟨Rect.unit (s := S512x2048) ![0, 768] S512x128.size (by decide), queryPay (View.ld (Val := Elt Ideal) (e' := .f32) x (Rect.unit (s := S512x4608) ![0, 2304] S512x128.size (by decide))) w cs sn⟩,
      ⟨Rect.unit (s := S512x2048) ![0, 640] S512x128.size (by decide), queryPay (View.ld (Val := Elt Ideal) (e' := .f32) x (Rect.unit (s := S512x4608) ![0, 2176] S512x128.size (by decide))) w cs sn⟩,
      ⟨Rect.unit (s := S512x2048) ![0, 512] S512x128.size (by decide), queryPay (View.ld (Val := Elt Ideal) (e' := .f32) x (Rect.unit (s := S512x4608) ![0, 2048] S512x128.size (by decide))) w cs sn⟩,
      ⟨Rect.unit (s := S512x2048) ![0, 384] S512x128.size (by decide), queryPay (View.ld (Val := Elt Ideal) (e' := .f32) x (Rect.unit (s := S512x4608) ![0, 1920] S512x128.size (by decide))) w cs sn⟩,
      ⟨Rect.unit (s := S512x2048) ![0, 256] S512x128.size (by decide), queryPay (View.ld (Val := Elt Ideal) (e' := .f32) x (Rect.unit (s := S512x4608) ![0, 1792] S512x128.size (by decide))) w cs sn⟩,
      ⟨Rect.unit (s := S512x2048) ![0, 128] S512x128.size (by decide), queryPay (View.ld (Val := Elt Ideal) (e' := .f32) x (Rect.unit (s := S512x4608) ![0, 1664] S512x128.size (by decide))) w cs sn⟩,
      ⟨Rect.unit (s := S512x2048) ![0, 0] S512x128.size (by decide), queryPay (View.ld (Val := Elt Ideal) (e' := .f32) x (Rect.unit (s := S512x4608) ![0, 1536] S512x128.size (by decide))) w cs sn⟩] : List (View.Piece (Elt Ideal) S512x2048 .bf16)) y
      = (fun y : S512x2048.Idx => block 1536 x w cs sn (y 0) (y 1).val (by have h : (y 1).val < 2048 := (y 1).isLt; omega) * σ) y := by
  refine View.canon_apply_of_pieces (Val := Elt Ideal) (e := .bf16) (fun y : S512x2048.Idx => block 1536 x w cs sn (y 0) (y 1).val (by have h : (y 1).val < 2048 := (y 1).isLt; omega) * σ) _ ?_ y ?_
  · simp only [List.forall_mem_cons, List.not_mem_nil, false_imp_iff, implies_true, and_true]
    exact ⟨fun j => query_piece _ _ _ _ 1920 3456 rfl rfl _ _ j,
      fun j => query_piece _ _ _ _ 1792 3328 rfl rfl _ _ j,
      fun j => query_piece _ _ _ _ 1664 3200 rfl rfl _ _ j,
      fun j => query_piece _ _ _ _ 1536 3072 rfl rfl _ _ j,
      fun j => query_piece _ _ _ _ 1408 2944 rfl rfl _ _ j,
      fun j => query_piece _ _ _ _ 1280 2816 rfl rfl _ _ j,
      fun j => query_piece _ _ _ _ 1152 2688 rfl rfl _ _ j,
      fun j => query_piece _ _ _ _ 1024 2560 rfl rfl _ _ j,
      fun j => query_piece _ _ _ _ 896 2432 rfl rfl _ _ j,
      fun j => query_piece _ _ _ _ 768 2304 rfl rfl _ _ j,
      fun j => query_piece _ _ _ _ 640 2176 rfl rfl _ _ j,
      fun j => query_piece _ _ _ _ 512 2048 rfl rfl _ _ j,
      fun j => query_piece _ _ _ _ 384 1920 rfl rfl _ _ j,
      fun j => query_piece _ _ _ _ 256 1792 rfl rfl _ _ j,
      fun j => query_piece _ _ _ _ 128 1664 rfl rfl _ _ j,
      fun j => query_piece _ _ _ _ 0 1536 rfl rfl _ _ j⟩
  · exact View.cover_of_tiledL (s := S512x2048) _ ![512, 128] (by sl_kernel_rfl) y

variable (m : (ℓ : Loc nD τ sig) → Buf (Elt Ideal) ℓ)

theorem lt_N (t : Fin cfg0.N) : t.val < 64 := Nat.lt_of_lt_of_eq t.isLt N_0

theorem index_x : ∀ t : Fin grid0.N, win0_0.index t 0 = t.val ∧ win0_0.index t 1 = 0 := by decide +kernel

theorem iblk_x (c : Dev nD) (t : Fin cfg0.N) (r : Fin 512) (l : Fin 4608) :
    (iblk m c 0 t : FVec Ideal S512x4608 .f32) (ix2 r l) = (V m c main_v20 : FVec Ideal S32768x4608 .f32)
      (ix2 ⟨t.val * 512 + r.val, by have := lt_N t; omega⟩ l) := by
  unfold iblk
  rw [View.read_apply]
  show (V m c main_v20 : FVec Ideal S32768x4608 .f32) _ = _
  congr 1
  funext a
  obtain ⟨e0, e1⟩ := index_x t
  apply Fin.ext
  match a with
  | ⟨0, _⟩ => show win0_0.index t 0 * 512 + 1 * r.val = t.val * 512 + r.val; rw [e0]; omega
  | ⟨1, _⟩ => show win0_0.index t 1 * 4608 + 1 * l.val = l.val; rw [e1]; omega

theorem index_wquery : ∀ t : Fin grid0.N, win0_4.index t 0 = 0 ∧ win0_4.index t 1 = 0 := by decide +kernel

theorem iblk_wquery (c : Dev nD) (t : Fin cfg0.N) (r : Fin 1) (l : Fin 128) :
    (iblk m c 4 t : FVec Ideal S1x128 .f32) (ix2 r l) = (V m c main_v23 : FVec Ideal S1x128 .f32)
      (ix2 r l) := by
  unfold iblk
  rw [View.read_apply]
  show (V m c main_v23 : FVec Ideal S1x128 .f32) _ = _
  congr 1
  funext a
  obtain ⟨e0, e1⟩ := index_wquery t
  apply Fin.ext
  match a with
  | ⟨0, _⟩ => show win0_4.index t 0 * 1 + 1 * r.val = r.val; rw [e0]; omega
  | ⟨1, _⟩ => show win0_4.index t 1 * 128 + 1 * l.val = l.val; rw [e1]; omega

theorem index_wkey : ∀ t : Fin grid0.N, win0_5.index t 0 = 0 ∧ win0_5.index t 1 = 0 := by decide +kernel

theorem iblk_wkey (c : Dev nD) (t : Fin cfg0.N) (r : Fin 1) (l : Fin 128) :
    (iblk m c 5 t : FVec Ideal S1x128 .f32) (ix2 r l) = (V m c main_v24 : FVec Ideal S1x128 .f32)
      (ix2 r l) := by
  unfold iblk
  rw [View.read_apply]
  show (V m c main_v24 : FVec Ideal S1x128 .f32) _ = _
  congr 1
  funext a
  obtain ⟨e0, e1⟩ := index_wkey t
  apply Fin.ext
  match a with
  | ⟨0, _⟩ => show win0_5.index t 0 * 1 + 1 * r.val = r.val; rw [e0]; omega
  | ⟨1, _⟩ => show win0_5.index t 1 * 128 + 1 * l.val = l.val; rw [e1]; omega

theorem index_cs : ∀ t : Fin grid0.N, win0_6.index t 0 = t.val % 8 ∧ win0_6.index t 1 = 0 := by decide +kernel

theorem iblk_cs (c : Dev nD) (t : Fin cfg0.N) (r : Fin 512) (l : Fin 128) :
    (iblk m c 6 t : FVec Ideal S512x128 .f32) (ix2 r l) = (V m c main_v1 : FVec Ideal S4096x128 .f32)
      (ix2 ⟨t.val % 8 * 512 + r.val, by omega⟩ l) := by
  unfold iblk
  rw [View.read_apply]
  show (V m c main_v1 : FVec Ideal S4096x128 .f32) _ = _
  congr 1
  funext a
  obtain ⟨e0, e1⟩ := index_cs t
  apply Fin.ext
  match a with
  | ⟨0, _⟩ => show win0_6.index t 0 * 512 + 1 * r.val = t.val % 8 * 512 + r.val; rw [e0]; omega
  | ⟨1, _⟩ => show win0_6.index t 1 * 128 + 1 * l.val = l.val; rw [e1]; omega

theorem index_sn : ∀ t : Fin grid0.N, win0_7.index t 0 = t.val % 8 ∧ win0_7.index t 1 = 0 := by decide +kernel

theorem iblk_sn (c : Dev nD) (t : Fin cfg0.N) (r : Fin 512) (l : Fin 128) :
    (iblk m c 7 t : FVec Ideal S512x128 .f32) (ix2 r l) = (V m c main_v6 : FVec Ideal S4096x128 .f32)
      (ix2 ⟨t.val % 8 * 512 + r.val, by omega⟩ l) := by
  unfold iblk
  rw [View.read_apply]
  show (V m c main_v6 : FVec Ideal S4096x128 .f32) _ = _
  congr 1
  funext a
  obtain ⟨e0, e1⟩ := index_sn t
  apply Fin.ext
  match a with
  | ⟨0, _⟩ => show win0_7.index t 0 * 512 + 1 * r.val = t.val % 8 * 512 + r.val; rw [e0]; omega
  | ⟨1, _⟩ => show win0_7.index t 1 * 128 + 1 * l.val = l.val; rw [e1]; omega

set_option maxHeartbeats 2000000 in
/-- What the body leaves in result window 14, at an index. -/
theorem out14_apply (c : Dev nD) (t : Fin cfg0.N) (y : S512x512.Idx) :
    ((outsAt0 m c t).2.2.2.2.1 : FVec Ideal S512x512 .f32) y
      = (block 3584 (iblk m c 0 t : FVec Ideal S512x4608 .f32) (iblk m c 5 t : FVec Ideal S1x128 .f32)
          (iblk m c 6 t : FVec Ideal S512x128 .f32) (iblk m c 7 t : FVec Ideal S512x128 .f32) (y 0) (y 1).val (by have h : (y 1).val < 512 := (y 1).isLt; omega) : EReal) := by
  have hz : (![0, 0] : Fin 2 → ℕ) = fun _ => 0 := funext fun a => by fin_cases a <;> rfl
  have hw : View.ld (Val := Elt Ideal) (e' := .f32) (iblk m c 5 t : FVec Ideal S1x128 .f32) (Rect.unit (s := S1x128) ![0, 0] ![1, 128] (by decide))
      = (iblk m c 5 t : FVec Ideal S1x128 .f32) := View.ld_unit_zero hz _ _
  have hc : View.ld (Val := Elt Ideal) (e' := .f32) (iblk m c 6 t : FVec Ideal S512x128 .f32) (Rect.unit (s := S512x128) ![0, 0] ![512, 128] (by decide))
      = (iblk m c 6 t : FVec Ideal S512x128 .f32) := View.ld_unit_zero hz _ _
  have hs : View.ld (Val := Elt Ideal) (e' := .f32) (iblk m c 7 t : FVec Ideal S512x128 .f32) (Rect.unit (s := S512x128) ![0, 0] ![512, 128] (by decide))
      = (iblk m c 7 t : FVec Ideal S512x128 .f32) := View.ld_unit_zero hz _ _
  have h := key_canon (iblk m c 0 t) (View.ld (Val := Elt Ideal) (e' := .f32) (iblk m c 5 t : FVec Ideal S1x128 .f32) (Rect.unit (s := S1x128) ![0, 0] ![1, 128] (by decide)))
    (View.ld (Val := Elt Ideal) (e' := .f32) (iblk m c 6 t : FVec Ideal S512x128 .f32) (Rect.unit (s := S512x128) ![0, 0] ![512, 128] (by decide)))
    (View.ld (Val := Elt Ideal) (e' := .f32) (iblk m c 7 t : FVec Ideal S512x128 .f32) (Rect.unit (s := S512x128) ![0, 0] ![512, 128] (by decide))) y
  refine Eq.trans ?_ (h.trans ?_)
  · dsimp only [outsAt0]
    unfold out0_A_14
    rw [View.read_writes_junk_eq_canon]
    unfold kernelRun0_A
    dsimp only
    simp only [View.readAt_eq_ld, (hs0_0 t).read_unread, (hs0_5 t).read_unread, (hs0_6 t).read_unread, (hs0_7 t).read_unread]
    unfold kernelRun0_A.sl.r_32 kernelRun0_A.sl.r_33 kernelRun0_A.sl.r_34 kernelRun0_A.sl.r_35 kernelRun0_A.sl.r_36 kernelRun0_A.sl.r_37 kernelRun0_A.sl.r_38 kernelRun0_A.sl.r_39 kernelRun0_A.sl.r_40 kernelRun0_A.sl.cst_328
    simp only [View.readAt_eq_ld, (hs0_0 t).read_unread, (hs0_5 t).read_unread, (hs0_6 t).read_unread, (hs0_7 t).read_unread]
    simp only [key_head0, key_head1, key_head2, key_head3]
    rfl
  · rw [hw, hc, hs]

theorem index_o14 : ∀ t : Fin grid0.N, win0_14.index t 0 = t.val ∧ win0_14.index t 1 = 0 := by decide +kernel

theorem index_inj14 (t t' : Fin cfg0.N) (h : win0_14.index t = win0_14.index t') : t = t' := by
  have h0 := congrFun h 0
  rw [(index_o14 t).1, (index_o14 t').1] at h0
  exact Fin.ext h0

/-- An element of the result array is that element of the block holding it. -/
theorem result_block14 (c : Dev nD) (t : Fin cfg0.N) (r : Fin 512) (l : Fin 512) :
    ((dats m 0 c).arrAt 14 cfg0.N : FVec Ideal S32768x512 .f32)
      (ix2 ⟨t.val * 512 + r.val, by have := lt_N t; omega⟩ l)
    = ((outsAt0 m c t).2.2.2.2.1 : FVec Ideal S512x512 .f32) (ix2 r l) := by
  have h := congrFun ((dats m 0 c).read_blk_arrAt_eq_flushed 14 (fun t t' _ _ hne => (cfg0.win 14).disjoint_blk fun h => hne (index_inj14 t t' h))
    cfg0.N t t.isLt (flush0_14 t)) (ix2 r l : S512x512.Idx)
  rw [View.read_apply] at h
  refine Eq.trans ?_ (h.trans ?_)
  · show _ = ((dats m 0 c).arrAt 14 cfg0.N : FVec Ideal S32768x512 .f32) _
    congr 1
    funext a
    obtain ⟨e0, e1⟩ := index_o14 t
    apply Fin.ext
    match a with
    | ⟨0, _⟩ => show t.val * 512 + r.val = win0_14.index t 0 * 512 + 1 * r.val; rw [e0]; omega
    | ⟨1, _⟩ => show l.val = win0_14.index t 1 * 512 + 1 * l.val; rw [e1]; omega
  · show (cfg0.win 14).cut (grid0.coords t) ((dats m 0 c).after 14 t) (ix2 r l) = _
    rw [after0_14]
    rfl

set_option maxHeartbeats 2000000 in
/-- What the body leaves in result window 13, at an index. -/
theorem out13_apply (c : Dev nD) (t : Fin cfg0.N) (y : S512x2048.Idx) :
    ((outsAt0 m c t).2.2.2.1 : FVec Ideal S512x2048 .bf16) y
      = (block 1536 (iblk m c 0 t : FVec Ideal S512x4608 .f32) (iblk m c 4 t : FVec Ideal S1x128 .f32)
          (iblk m c 6 t : FVec Ideal S512x128 .f32) (iblk m c 7 t : FVec Ideal S512x128 .f32) (y 0) (y 1).val (by have h : (y 1).val < 2048 := (y 1).isLt; omega) * σ : EReal) := by
  have hz : (![0, 0] : Fin 2 → ℕ) = fun _ => 0 := funext fun a => by fin_cases a <;> rfl
  have hw : View.ld (Val := Elt Ideal) (e' := .f32) (iblk m c 4 t : FVec Ideal S1x128 .f32) (Rect.unit (s := S1x128) ![0, 0] ![1, 128] (by decide))
      = (iblk m c 4 t : FVec Ideal S1x128 .f32) := View.ld_unit_zero hz _ _
  have hc : View.ld (Val := Elt Ideal) (e' := .f32) (iblk m c 6 t : FVec Ideal S512x128 .f32) (Rect.unit (s := S512x128) ![0, 0] ![512, 128] (by decide))
      = (iblk m c 6 t : FVec Ideal S512x128 .f32) := View.ld_unit_zero hz _ _
  have hs : View.ld (Val := Elt Ideal) (e' := .f32) (iblk m c 7 t : FVec Ideal S512x128 .f32) (Rect.unit (s := S512x128) ![0, 0] ![512, 128] (by decide))
      = (iblk m c 7 t : FVec Ideal S512x128 .f32) := View.ld_unit_zero hz _ _
  have h := query_canon (iblk m c 0 t) (View.ld (Val := Elt Ideal) (e' := .f32) (iblk m c 4 t : FVec Ideal S1x128 .f32) (Rect.unit (s := S1x128) ![0, 0] ![1, 128] (by decide)))
    (View.ld (Val := Elt Ideal) (e' := .f32) (iblk m c 6 t : FVec Ideal S512x128 .f32) (Rect.unit (s := S512x128) ![0, 0] ![512, 128] (by decide)))
    (View.ld (Val := Elt Ideal) (e' := .f32) (iblk m c 7 t : FVec Ideal S512x128 .f32) (Rect.unit (s := S512x128) ![0, 0] ![512, 128] (by decide))) y
  refine Eq.trans ?_ (h.trans ?_)
  · dsimp only [outsAt0]
    unfold out0_A_13
    rw [View.read_writes_junk_eq_canon]
    unfold kernelRun0_A
    dsimp only
    simp only [View.readAt_eq_ld, (hs0_0 t).read_unread, (hs0_4 t).read_unread, (hs0_6 t).read_unread, (hs0_7 t).read_unread]
    unfold kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.r_14 kernelRun0_A.sl.r_15 kernelRun0_A.sl.r_16 kernelRun0_A.sl.r_17 kernelRun0_A.sl.r_18 kernelRun0_A.sl.r_19 kernelRun0_A.sl.r_20 kernelRun0_A.sl.r_21 kernelRun0_A.sl.r_22 kernelRun0_A.sl.r_23 kernelRun0_A.sl.r_24 kernelRun0_A.sl.r_25 kernelRun0_A.sl.r_26 kernelRun0_A.sl.r_27 kernelRun0_A.sl.r_28 kernelRun0_A.sl.r_29 kernelRun0_A.sl.r_30 kernelRun0_A.sl.r_31 kernelRun0_A.sl.v110
    simp only [View.readAt_eq_ld, (hs0_0 t).read_unread, (hs0_4 t).read_unread, (hs0_6 t).read_unread, (hs0_7 t).read_unread]
    simp only [query_head0, query_head1, query_head2, query_head3, query_head4, query_head5, query_head6, query_head7, query_head8, query_head9, query_head10, query_head11, query_head12, query_head13, query_head14, query_head15]
    rfl
  · rw [hw, hc, hs]

theorem index_o13 : ∀ t : Fin grid0.N, win0_13.index t 0 = t.val ∧ win0_13.index t 1 = 0 := by decide +kernel

theorem index_inj13 (t t' : Fin cfg0.N) (h : win0_13.index t = win0_13.index t') : t = t' := by
  have h0 := congrFun h 0
  rw [(index_o13 t).1, (index_o13 t').1] at h0
  exact Fin.ext h0

/-- An element of the result array is that element of the block holding it. -/
theorem result_block13 (c : Dev nD) (t : Fin cfg0.N) (r : Fin 512) (l : Fin 2048) :
    ((dats m 0 c).arrAt 13 cfg0.N : FVec Ideal S32768x2048 .bf16)
      (ix2 ⟨t.val * 512 + r.val, by have := lt_N t; omega⟩ l)
    = ((outsAt0 m c t).2.2.2.1 : FVec Ideal S512x2048 .bf16) (ix2 r l) := by
  have h := congrFun ((dats m 0 c).read_blk_arrAt_eq_flushed 13 (fun t t' _ _ hne => (cfg0.win 13).disjoint_blk fun h => hne (index_inj13 t t' h))
    cfg0.N t t.isLt (flush0_13 t)) (ix2 r l : S512x2048.Idx)
  rw [View.read_apply] at h
  refine Eq.trans ?_ (h.trans ?_)
  · show _ = ((dats m 0 c).arrAt 13 cfg0.N : FVec Ideal S32768x2048 .bf16) _
    congr 1
    funext a
    obtain ⟨e0, e1⟩ := index_o13 t
    apply Fin.ext
    match a with
    | ⟨0, _⟩ => show t.val * 512 + r.val = win0_13.index t 0 * 512 + 1 * r.val; rw [e0]; omega
    | ⟨1, _⟩ => show l.val = win0_13.index t 1 * 2048 + 1 * l.val; rw [e1]; omega
  · show (cfg0.win 13).cut (grid0.coords t) ((dats m 0 c).after 13 t) (ix2 r l) = _
    rw [after0_13]
    rfl

theorem x_apply (c : Dev nD) (b : Fin 8) (s : Fin 4096) (k : Fin 4608) :
    (V m c main_v20 : FVec Ideal S32768x4608 .f32) (ix2 ⟨b.val * 4096 + s.val, by omega⟩ k) = (m ((c : Thread nD τ).loc main_arg0) : FVec Ideal S8x4096x4608 .f32) (ix3 b s k) := by
  unfold V V0
  simp only [List.flatten_cons, List.flatten_nil, List.append_nil, List.cons_append, List.nil_append]
  unfold_abbrev_sides
  after_results
  pointwise

theorem wquery_apply (c : Dev nD) (l : Fin 128) :
    (V m c main_v23 : FVec Ideal S1x128 .f32) (ix2 0 l) = (m ((c : Thread nD τ).loc main_arg4) : FVec Ideal S128 .f32) (ix1 l) := by
  unfold V V0
  simp only [List.flatten_cons, List.flatten_nil, List.append_nil, List.cons_append, List.nil_append]
  unfold_abbrev_sides
  after_results
  pointwise

theorem wkey_apply (c : Dev nD) (l : Fin 128) :
    (V m c main_v24 : FVec Ideal S1x128 .f32) (ix2 0 l) = (m ((c : Thread nD τ).loc main_arg5) : FVec Ideal S128 .f32) (ix1 l) := by
  unfold V V0
  simp only [List.flatten_cons, List.flatten_nil, List.append_nil, List.cons_append, List.nil_append]
  unfold_abbrev_sides
  after_results
  pointwise

/-- The cosines, each in both columns of its pair. -/
def cosTable (cs : FVec Ideal S4096x64 .f32) : FVec Ideal S4096x128 .f32 :=
  shapeCast S4096x128 (broadcastInDim S4096x64x2 ![0, 1] bcast_S4096x64_S4096x64x2_0_1 cs) shapeCasts_S4096x64x2_S4096x128

/-- The sines, less and plus, in the two columns of a pair. -/
def sinTable (sn : FVec Ideal S4096x64 .f32) : FVec Ideal S4096x128 .f32 :=
  shapeCast S4096x128 (concatenate S4096x64x2 2 [⟨S4096x64x1, broadcastInDim S4096x64x1 ![0, 1] bcast_S4096x64_S4096x64x1_0_1 (Host.negf sn)⟩,
    ⟨S4096x64x1, broadcastInDim S4096x64x1 ![0, 1] bcast_S4096x64_S4096x64x1_0_1 sn⟩] concatenates_S4096x64x1_S4096x64x1_S4096x64x2_d2) shapeCasts_S4096x64x2_S4096x128

theorem cosTable_apply (cs : FVec Ideal S4096x64 .f32) (t : Fin 4096) (e : Fin 128) : cosTable cs (ix2 t e) = cs (ix2 t ⟨e.val / 2, by omega⟩) := by
  pointwise [cosTable]

/-- A column's signed sine. -/
def signed (sn : FVec Ideal S4096x64 .f32) (t : Fin 4096) (e : Fin 128) : EReal :=
  if e.val % 2 = 0 then -(sn (ix2 t ⟨e.val / 2, by omega⟩) : EReal) else sn (ix2 t ⟨e.val / 2, by omega⟩)

theorem sinTable_apply (sn : FVec Ideal S4096x64 .f32) (t : Fin 4096) (e : Fin 128) :
    sinTable sn (ix2 t e) = signed sn t e := by
  unfold signed
  pointwise [sinTable]
  by_cases h : e.val % 2 = 0
  · rw [dif_pos (show e.val % 2 < 1 by omega), if_pos h]
  · rw [dif_neg (show ¬ e.val % 2 < 1 by omega), if_neg h]

theorem cosines_eq (c : Dev nD) : (V m c main_v1 : FVec Ideal S4096x128 .f32) = cosTable (m ((c : Thread nD τ).loc main_arg8)) := by
  unfold V V0
  simp only [List.flatten_cons, List.flatten_nil, List.append_nil, List.cons_append, List.nil_append]
  unfold_abbrev_sides
  after_results
  rfl

theorem sines_eq (c : Dev nD) : (V m c main_v6 : FVec Ideal S4096x128 .f32) = sinTable (m ((c : Thread nD τ).loc main_arg9)) := by
  unfold V V0
  simp only [List.flatten_cons, List.flatten_nil, List.append_nil, List.cons_append, List.nil_append]
  unfold_abbrev_sides
  after_results
  rfl

/-- The norm of a head whose columns begin at `o`. -/
def normAt (x : FVec Ideal S8x4096x4608 .f32) (w : FVec Ideal S128 .f32) (b : Fin 8) (s : Fin 4096) (o : ℕ) (h : o + 128 ≤ 4608) (d : Fin 128) : EReal :=
  nrm (fun k : Fin 128 => x (ix3 b s ⟨o + k.val, by omega⟩)) (fun k => w (ix1 k)) d

/-- A column of a head, normalised and turned. -/
def turnedAt (x : FVec Ideal S8x4096x4608 .f32) (w : FVec Ideal S128 .f32) (cs sn : FVec Ideal S4096x64 .f32) (b : Fin 8) (s : Fin 4096) (o : ℕ) (h : o + 128 ≤ 4608) (d : Fin 128) : EReal :=
  turn (normAt x w b s o h) (cs (ix2 s ⟨d.val / 2, by omega⟩)) (signed sn s d) d

/-- An element of the call's result 14, from the arguments. -/
theorem result14_apply (c : Dev nD) (b : Fin 8) (s : Fin 4096) (j : Fin 4) (l : Fin 128) :
    ((dats m 0 c).arrAt 14 cfg0.N : FVec Ideal S32768x512 .f32) (ix2 ⟨b.val * 4096 + s.val, by omega⟩ ⟨j.val * 128 + l.val, by omega⟩)
      = (turnedAt (m ((c : Thread nD τ).loc main_arg0)) (m ((c : Thread nD τ).loc main_arg5)) (m ((c : Thread nD τ).loc main_arg8)) (m ((c : Thread nD τ).loc main_arg9))
          b s (3584 + j.val * 128) (by omega) l : EReal) := by
  have hT : (b.val * 4096 + s.val) / 512 < cfg0.N := by rw [show cfg0.N = 64 from N_0]; omega
  obtain ⟨T, hTv⟩ : ∃ T : Fin cfg0.N, T.val = (b.val * 4096 + s.val) / 512 := ⟨⟨_, hT⟩, rfl⟩
  obtain ⟨r, hr⟩ : ∃ r : Fin 512, r.val = (b.val * 4096 + s.val) % 512 := ⟨⟨_, by omega⟩, rfl⟩
  have hrow : T.val * 512 + r.val = b.val * 4096 + s.val := by omega
  have h0 := (result_block14 m c T r ⟨j.val * 128 + l.val, by omega⟩).trans (out14_apply m c T _)
  simp only [hrow] at h0
  refine h0.trans ?_
  show block 3584 _ _ _ _ r (j.val * 128 + l.val) _ = _
  unfold block turnedAt normAt
  have hl : (⟨(j.val * 128 + l.val) % 128, by omega⟩ : Fin 128) = l := Fin.ext (by show (j.val * 128 + l.val) % 128 = l.val; omega)
  have hs : (⟨T.val % 8 * 512 + r.val, by omega⟩ : Fin 4096) = s := Fin.ext (by show T.val % 8 * 512 + r.val = s.val; omega)
  have hx : ∀ k : Fin 128, (iblk m c 0 T : FVec Ideal S512x4608 .f32) (ix2 r ⟨3584 + (j.val * 128 + l.val) / 128 * 128 + k.val, by omega⟩)
      = (m ((c : Thread nD τ).loc main_arg0) : FVec Ideal S8x4096x4608 .f32) (ix3 b s ⟨3584 + j.val * 128 + k.val, by omega⟩) := fun k => by
    refine (iblk_x m c _ _ _).trans (Eq.trans ?_ (x_apply m c b s _))
    exact congrArg (V m c main_v20 : FVec Ideal S32768x4608 .f32) (congrArg₂ ix2 (Fin.ext hrow) (Fin.ext (by dsimp only; omega)))
  have hw : ∀ k : Fin 128, (iblk m c 5 T : FVec Ideal S1x128 .f32) (ix2 0 k) = (m ((c : Thread nD τ).loc main_arg5) : FVec Ideal S128 .f32) (ix1 k) :=
    fun k => (iblk_wkey m c T 0 k).trans (wkey_apply m c k)
  have hc : (iblk m c 6 T : FVec Ideal S512x128 .f32) (ix2 r l) = (m ((c : Thread nD τ).loc main_arg8) : FVec Ideal S4096x64 .f32) (ix2 s ⟨l.val / 2, by omega⟩) :=
    (iblk_cs m c T r l).trans ((congrFun (cosines_eq m c) _).trans ((congrArg (fun q => cosTable _ (ix2 q l)) hs).trans (cosTable_apply _ _ _)))
  have hn : (iblk m c 7 T : FVec Ideal S512x128 .f32) (ix2 r l) = signed (m ((c : Thread nD τ).loc main_arg9)) s l :=
    (iblk_sn m c T r l).trans ((congrFun (sines_eq m c) _).trans ((congrArg (fun q => sinTable _ (ix2 q l)) hs).trans (sinTable_apply _ _ _)))
  simp only [hl, hx, hw, hc, hn]

/-- An element of the call's result 13, from the arguments. -/
theorem result13_apply (c : Dev nD) (b : Fin 8) (s : Fin 4096) (j : Fin 16) (l : Fin 128) :
    ((dats m 0 c).arrAt 13 cfg0.N : FVec Ideal S32768x2048 .bf16) (ix2 ⟨b.val * 4096 + s.val, by omega⟩ ⟨j.val * 128 + l.val, by omega⟩)
      = (turnedAt (m ((c : Thread nD τ).loc main_arg0)) (m ((c : Thread nD τ).loc main_arg4)) (m ((c : Thread nD τ).loc main_arg8)) (m ((c : Thread nD τ).loc main_arg9))
          b s (1536 + j.val * 128) (by omega) l * σ : EReal) := by
  have hT : (b.val * 4096 + s.val) / 512 < cfg0.N := by rw [show cfg0.N = 64 from N_0]; omega
  obtain ⟨T, hTv⟩ : ∃ T : Fin cfg0.N, T.val = (b.val * 4096 + s.val) / 512 := ⟨⟨_, hT⟩, rfl⟩
  obtain ⟨r, hr⟩ : ∃ r : Fin 512, r.val = (b.val * 4096 + s.val) % 512 := ⟨⟨_, by omega⟩, rfl⟩
  have hrow : T.val * 512 + r.val = b.val * 4096 + s.val := by omega
  have h0 := (result_block13 m c T r ⟨j.val * 128 + l.val, by omega⟩).trans (out13_apply m c T _)
  simp only [hrow] at h0
  refine h0.trans ?_
  show block 1536 _ _ _ _ r (j.val * 128 + l.val) _ * σ = _
  refine congrArg (fun x : EReal => x * σ) ?_
  unfold block turnedAt normAt
  have hl : (⟨(j.val * 128 + l.val) % 128, by omega⟩ : Fin 128) = l := Fin.ext (by show (j.val * 128 + l.val) % 128 = l.val; omega)
  have hs : (⟨T.val % 8 * 512 + r.val, by omega⟩ : Fin 4096) = s := Fin.ext (by show T.val % 8 * 512 + r.val = s.val; omega)
  have hx : ∀ k : Fin 128, (iblk m c 0 T : FVec Ideal S512x4608 .f32) (ix2 r ⟨1536 + (j.val * 128 + l.val) / 128 * 128 + k.val, by omega⟩)
      = (m ((c : Thread nD τ).loc main_arg0) : FVec Ideal S8x4096x4608 .f32) (ix3 b s ⟨1536 + j.val * 128 + k.val, by omega⟩) := fun k => by
    refine (iblk_x m c _ _ _).trans (Eq.trans ?_ (x_apply m c b s _))
    exact congrArg (V m c main_v20 : FVec Ideal S32768x4608 .f32) (congrArg₂ ix2 (Fin.ext hrow) (Fin.ext (by dsimp only; omega)))
  have hw : ∀ k : Fin 128, (iblk m c 4 T : FVec Ideal S1x128 .f32) (ix2 0 k) = (m ((c : Thread nD τ).loc main_arg4) : FVec Ideal S128 .f32) (ix1 k) :=
    fun k => (iblk_wquery m c T 0 k).trans (wquery_apply m c k)
  have hc : (iblk m c 6 T : FVec Ideal S512x128 .f32) (ix2 r l) = (m ((c : Thread nD τ).loc main_arg8) : FVec Ideal S4096x64 .f32) (ix2 s ⟨l.val / 2, by omega⟩) :=
    (iblk_cs m c T r l).trans ((congrFun (cosines_eq m c) _).trans ((congrArg (fun q => cosTable _ (ix2 q l)) hs).trans (cosTable_apply _ _ _)))
  have hn : (iblk m c 7 T : FVec Ideal S512x128 .f32) (ix2 r l) = signed (m ((c : Thread nD τ).loc main_arg9)) s l :=
    (iblk_sn m c T r l).trans ((congrFun (sines_eq m c) _).trans ((congrArg (fun q => sinTable _ (ix2 q l)) hs).trans (sinTable_apply _ _ _)))
  simp only [hl, hx, hw, hc, hn]

end Cert.PrepSIdeal.Final

namespace Cert.Proof.PrepSClaims

open Idealize.ShloMosaic Idealize.ShloMosaic.TcCoe Idealize.SL.Sem

section
open Cert.PrepSRefIdeal Cert.PrepSRefIdeal.Gen

/-- A pair turned at once is each of its columns turned by the other. -/
theorem turn_pair (f : Fin 128 → EReal) (c s : EReal) (e : Fin 128) :
    (if e.val % 2 < 1 then f ⟨e.val / 2 * 2, by omega⟩ * c - f ⟨e.val / 2 * 2 + 1, by omega⟩ * s
      else f ⟨e.val / 2 * 2, by omega⟩ * s + f ⟨e.val / 2 * 2 + 1, by omega⟩ * c)
      = Cert.PrepSIdeal.Final.turn f c (if e.val % 2 = 0 then -s else s) e := by
  unfold Cert.PrepSIdeal.Final.turn
  have at' : ∀ i j : Fin 128, i.val = j.val → f i = f j := fun i j hij => congrArg f (Fin.ext hij)
  by_cases h : e.val % 2 = 0
  · rw [if_pos (show e.val % 2 < 1 by omega), if_pos h, sub_eq_add_neg, ← mul_neg,
      at' ⟨e.val / 2 * 2, by omega⟩ e (by dsimp only; omega),
      at' ⟨e.val / 2 * 2 + 1, by omega⟩ (Cert.PrepSIdeal.Final.mate e) (by unfold Cert.PrepSIdeal.Final.mate; dsimp only; rw [if_pos h]; omega)]
  · rw [if_neg (show ¬ e.val % 2 < 1 by omega), if_neg h, add_comm,
      at' ⟨e.val / 2 * 2 + 1, by omega⟩ e (by dsimp only; omega),
      at' ⟨e.val / 2 * 2, by omega⟩ (Cert.PrepSIdeal.Final.mate e) (by unfold Cert.PrepSIdeal.Final.mate; dsimp only; rw [if_neg h]; omega)]

/-- The reference's norm. -/
def keyNorm (y : FVec Ideal S8x4096x4x128 .f32) (w : FVec Ideal S128 .f32) : FVec Ideal S8x4096x4x128 .f32 :=
  mulf (mulf y (broadcastInDim S8x4096x4x128 ![0, 1, 2, 3] bcast_S8x4096x4x1_S8x4096x4x128_0_1_2_3 (Host.rsqrt (addf (Host.divf (broadcastInDim S8x4096x4x1 ![0, 1, 2] bcast_S8x4096x4_S8x4096x4x1_0_1_2 (Host.reduceAdd (mulf y y) (constant S_ .f32 0x00000000#32) reducesTo_S8x4096x4x128_S8x4096x4_d3 h_S_)) (broadcastInDim S8x4096x4x1 ![] bcast_S_S8x4096x4x1 (constant S_ .f32 0x43000000#32))) (broadcastInDim S8x4096x4x1 ![] bcast_S_S8x4096x4x1 (constant S_ .f32 0x358637BD#32)))))) (broadcastInDim S8x4096x4x128 ![0, 1, 2, 3] bcast_S1x1x1x128_S8x4096x4x128_0_1_2_3 (broadcastInDim S1x1x1x128 ![3] bcast_S128_S1x1x1x128_3 w))

/-- The part of the projection, head by head. -/
def keyPart (x : FVec Ideal S8x4096x4608 .f32) : FVec Ideal S8x4096x4x128 .f32 := shapeCast _ (extractStridedSlice S8x4096x512 ![0, 0, 3584] x slices_S8x4096x4608_S8x4096x512_0_0_3584) shapeCasts_S8x4096x512_S8x4096x4x128

/-- The columns, in pairs. -/
def keyPairs (q : FVec Ideal S8x4096x4x128 .f32) : FVec Ideal S8x4096x4x64x2 .f32 :=
  shapeCast S8x4096x4x64x2 q shapeCasts_S8x4096x4x128_S8x4096x4x64x2

def keyFirsts (p : FVec Ideal S8x4096x4x64x2 .f32) : FVec Ideal S8x4096x4x64 .f32 :=
  shapeCast S8x4096x4x64 (extractStridedSlice S8x4096x4x64x1 ![0, 0, 0, 0, 0] p slices_S8x4096x4x64x2_S8x4096x4x64x1_0_0_0_0_0) shapeCasts_S8x4096x4x64x1_S8x4096x4x64

def keySeconds (p : FVec Ideal S8x4096x4x64x2 .f32) : FVec Ideal S8x4096x4x64 .f32 :=
  shapeCast S8x4096x4x64 (extractStridedSlice S8x4096x4x64x1 ![0, 0, 0, 0, 1] p slices_S8x4096x4x64x2_S8x4096x4x64x1_0_0_0_0_1) shapeCasts_S8x4096x4x64x1_S8x4096x4x64

/-- A table, for every batch and head. -/
def keyTable (x : FVec Ideal S4096x64 .f32) : FVec Ideal S8x4096x4x64 .f32 :=
  broadcastInDim S8x4096x4x64 ![0, 1, 2, 3] bcast_S1x4096x1x64_S8x4096x4x64_0_1_2_3 (broadcastInDim S1x4096x1x64 ![1, 2, 3] bcast_S4096x1x64_S1x4096x1x64_1_2_3
    (shapeCast S4096x1x64 x shapeCasts_S4096x64_S4096x1x64))

def keyLane (x : FVec Ideal S8x4096x4x64 .f32) : FVec Ideal S8x4096x4x64x1 .f32 :=
  broadcastInDim S8x4096x4x64x1 ![0, 1, 2, 3] bcast_S8x4096x4x64_S8x4096x4x64x1_0_1_2_3 x

/-- The heads' columns, turned. -/
def keyTurned (q : FVec Ideal S8x4096x4x128 .f32) (cs sn : FVec Ideal S4096x64 .f32) : FVec Ideal S8x4096x4x128 .f32 :=
  shapeCast S8x4096x4x128 (concatenate S8x4096x4x64x2 4
    [⟨S8x4096x4x64x1, keyLane (subf (mulf (keyFirsts (keyPairs q)) (keyTable cs)) (mulf (keySeconds (keyPairs q)) (keyTable sn)))⟩,
     ⟨S8x4096x4x64x1, keyLane (addf (mulf (keyFirsts (keyPairs q)) (keyTable sn)) (mulf (keySeconds (keyPairs q)) (keyTable cs)))⟩]
    concatenates_S8x4096x4x64x1_S8x4096x4x64x1_S8x4096x4x64x2_d4) shapeCasts_S8x4096x4x64x2_S8x4096x4x128

theorem keyNorm_apply (y : FVec Ideal S8x4096x4x128 .f32) (w : FVec Ideal S128 .f32) (b : Fin 8) (s : Fin 4096) (j : Fin 4) (l : Fin 128) :
    keyNorm y w (ix4 b s j l) = Cert.PrepSIdeal.Final.nrm (fun k => y (ix4 b s j k)) (fun k => w (ix1 k)) l := by
  unfold Cert.PrepSIdeal.Final.nrm Cert.Norm.rmsOver
  pointwise [keyNorm]

theorem keyPart_apply (x : FVec Ideal S8x4096x4608 .f32) (b : Fin 8) (s : Fin 4096) (j : Fin 4) (l : Fin 128) :
    keyPart x (ix4 b s j l) = x (ix3 b s ⟨3584 + j.val * 128 + l.val, by omega⟩) := by
  pointwise [keyPart]
  exact congrArg x (congrArg (ix3 b s) (Fin.ext (by dsimp only; omega)))

theorem keyTurned_apply (q : FVec Ideal S8x4096x4x128 .f32) (cs sn : FVec Ideal S4096x64 .f32) (b : Fin 8) (t : Fin 4096) (h : Fin 4) (e : Fin 128) :
    keyTurned q cs sn (ix4 b t h e) =
      if e.val % 2 < 1 then ((q (ix4 b t h ⟨e.val / 2 * 2, by omega⟩) * cs (ix2 t ⟨e.val / 2, by omega⟩)
        - q (ix4 b t h ⟨e.val / 2 * 2 + 1, by omega⟩) * sn (ix2 t ⟨e.val / 2, by omega⟩) : EReal))
      else (q (ix4 b t h ⟨e.val / 2 * 2, by omega⟩) * sn (ix2 t ⟨e.val / 2, by omega⟩)
        + q (ix4 b t h ⟨e.val / 2 * 2 + 1, by omega⟩) * cs (ix2 t ⟨e.val / 2, by omega⟩) : EReal) := by
  pointwise [keyTurned, keyLane, keyFirsts, keySeconds, keyPairs, keyTable]
  rfl

theorem key_apply (x : FVec Ideal S8x4096x4608 .f32) (w : FVec Ideal S128 .f32) (cs sn : FVec Ideal S4096x64 .f32) (b : Fin 8) (s : Fin 4096) (j : Fin 4) (l : Fin 128) :
    (keyTurned (keyNorm (keyPart x) w) cs sn (ix4 b s j l) : EReal) = Cert.PrepSIdeal.Final.turnedAt x w cs sn b s (3584 + j.val * 128) (by omega) l := by
  have hn : ∀ d : Fin 128, keyNorm (keyPart x) w (ix4 b s j d) = Cert.PrepSIdeal.Final.normAt x w b s (3584 + j.val * 128) (by omega) d := fun d => by
    rw [keyNorm_apply]
    unfold Cert.PrepSIdeal.Final.normAt
    simp only [keyPart_apply]
  rw [keyTurned_apply]
  simp only [hn]
  unfold Cert.PrepSIdeal.Final.turnedAt Cert.PrepSIdeal.Final.signed
  exact turn_pair _ _ _ l

/-- The reference's norm. -/
def queryNorm (y : FVec Ideal S8x4096x16x128 .f32) (w : FVec Ideal S128 .f32) : FVec Ideal S8x4096x16x128 .f32 :=
  mulf (mulf y (broadcastInDim S8x4096x16x128 ![0, 1, 2, 3] bcast_S8x4096x16x1_S8x4096x16x128_0_1_2_3 (Host.rsqrt (addf (Host.divf (broadcastInDim S8x4096x16x1 ![0, 1, 2] bcast_S8x4096x16_S8x4096x16x1_0_1_2 (Host.reduceAdd (mulf y y) (constant S_ .f32 0x00000000#32) reducesTo_S8x4096x16x128_S8x4096x16_d3 h_S_)) (broadcastInDim S8x4096x16x1 ![] bcast_S_S8x4096x16x1 (constant S_ .f32 0x43000000#32))) (broadcastInDim S8x4096x16x1 ![] bcast_S_S8x4096x16x1 (constant S_ .f32 0x358637BD#32)))))) (broadcastInDim S8x4096x16x128 ![0, 1, 2, 3] bcast_S1x1x1x128_S8x4096x16x128_0_1_2_3 (broadcastInDim S1x1x1x128 ![3] bcast_S128_S1x1x1x128_3 w))

/-- The part of the projection, head by head. -/
def queryPart (x : FVec Ideal S8x4096x4608 .f32) : FVec Ideal S8x4096x16x128 .f32 := shapeCast _ (extractStridedSlice S8x4096x2048 ![0, 0, 1536] x slices_S8x4096x4608_S8x4096x2048_0_0_1536) shapeCasts_S8x4096x2048_S8x4096x16x128

/-- The columns, in pairs. -/
def queryPairs (q : FVec Ideal S8x4096x16x128 .f32) : FVec Ideal S8x4096x16x64x2 .f32 :=
  shapeCast S8x4096x16x64x2 q shapeCasts_S8x4096x16x128_S8x4096x16x64x2

def queryFirsts (p : FVec Ideal S8x4096x16x64x2 .f32) : FVec Ideal S8x4096x16x64 .f32 :=
  shapeCast S8x4096x16x64 (extractStridedSlice S8x4096x16x64x1 ![0, 0, 0, 0, 0] p slices_S8x4096x16x64x2_S8x4096x16x64x1_0_0_0_0_0) shapeCasts_S8x4096x16x64x1_S8x4096x16x64

def querySeconds (p : FVec Ideal S8x4096x16x64x2 .f32) : FVec Ideal S8x4096x16x64 .f32 :=
  shapeCast S8x4096x16x64 (extractStridedSlice S8x4096x16x64x1 ![0, 0, 0, 0, 1] p slices_S8x4096x16x64x2_S8x4096x16x64x1_0_0_0_0_1) shapeCasts_S8x4096x16x64x1_S8x4096x16x64

/-- A table, for every batch and head. -/
def queryTable (x : FVec Ideal S4096x64 .f32) : FVec Ideal S8x4096x16x64 .f32 :=
  broadcastInDim S8x4096x16x64 ![0, 1, 2, 3] bcast_S1x4096x1x64_S8x4096x16x64_0_1_2_3 (broadcastInDim S1x4096x1x64 ![1, 2, 3] bcast_S4096x1x64_S1x4096x1x64_1_2_3
    (shapeCast S4096x1x64 x shapeCasts_S4096x64_S4096x1x64))

def queryLane (x : FVec Ideal S8x4096x16x64 .f32) : FVec Ideal S8x4096x16x64x1 .f32 :=
  broadcastInDim S8x4096x16x64x1 ![0, 1, 2, 3] bcast_S8x4096x16x64_S8x4096x16x64x1_0_1_2_3 x

/-- The heads' columns, turned. -/
def queryTurned (q : FVec Ideal S8x4096x16x128 .f32) (cs sn : FVec Ideal S4096x64 .f32) : FVec Ideal S8x4096x16x128 .f32 :=
  shapeCast S8x4096x16x128 (concatenate S8x4096x16x64x2 4
    [⟨S8x4096x16x64x1, queryLane (subf (mulf (queryFirsts (queryPairs q)) (queryTable cs)) (mulf (querySeconds (queryPairs q)) (queryTable sn)))⟩,
     ⟨S8x4096x16x64x1, queryLane (addf (mulf (queryFirsts (queryPairs q)) (queryTable sn)) (mulf (querySeconds (queryPairs q)) (queryTable cs)))⟩]
    concatenates_S8x4096x16x64x1_S8x4096x16x64x1_S8x4096x16x64x2_d4) shapeCasts_S8x4096x16x64x2_S8x4096x16x128

theorem queryNorm_apply (y : FVec Ideal S8x4096x16x128 .f32) (w : FVec Ideal S128 .f32) (b : Fin 8) (s : Fin 4096) (j : Fin 16) (l : Fin 128) :
    queryNorm y w (ix4 b s j l) = Cert.PrepSIdeal.Final.nrm (fun k => y (ix4 b s j k)) (fun k => w (ix1 k)) l := by
  unfold Cert.PrepSIdeal.Final.nrm Cert.Norm.rmsOver
  pointwise [queryNorm]

theorem queryPart_apply (x : FVec Ideal S8x4096x4608 .f32) (b : Fin 8) (s : Fin 4096) (j : Fin 16) (l : Fin 128) :
    queryPart x (ix4 b s j l) = x (ix3 b s ⟨1536 + j.val * 128 + l.val, by omega⟩) := by
  pointwise [queryPart]
  exact congrArg x (congrArg (ix3 b s) (Fin.ext (by dsimp only; omega)))

theorem queryTurned_apply (q : FVec Ideal S8x4096x16x128 .f32) (cs sn : FVec Ideal S4096x64 .f32) (b : Fin 8) (t : Fin 4096) (h : Fin 16) (e : Fin 128) :
    queryTurned q cs sn (ix4 b t h e) =
      if e.val % 2 < 1 then ((q (ix4 b t h ⟨e.val / 2 * 2, by omega⟩) * cs (ix2 t ⟨e.val / 2, by omega⟩)
        - q (ix4 b t h ⟨e.val / 2 * 2 + 1, by omega⟩) * sn (ix2 t ⟨e.val / 2, by omega⟩) : EReal))
      else (q (ix4 b t h ⟨e.val / 2 * 2, by omega⟩) * sn (ix2 t ⟨e.val / 2, by omega⟩)
        + q (ix4 b t h ⟨e.val / 2 * 2 + 1, by omega⟩) * cs (ix2 t ⟨e.val / 2, by omega⟩) : EReal) := by
  pointwise [queryTurned, queryLane, queryFirsts, querySeconds, queryPairs, queryTable]
  rfl

theorem query_apply (x : FVec Ideal S8x4096x4608 .f32) (w : FVec Ideal S128 .f32) (cs sn : FVec Ideal S4096x64 .f32) (b : Fin 8) (s : Fin 4096) (j : Fin 16) (l : Fin 128) :
    (queryTurned (queryNorm (queryPart x) w) cs sn (ix4 b s j l) : EReal) = Cert.PrepSIdeal.Final.turnedAt x w cs sn b s (1536 + j.val * 128) (by omega) l := by
  have hn : ∀ d : Fin 128, queryNorm (queryPart x) w (ix4 b s j d) = Cert.PrepSIdeal.Final.normAt x w b s (1536 + j.val * 128) (by omega) d := fun d => by
    rw [queryNorm_apply]
    unfold Cert.PrepSIdeal.Final.normAt
    simp only [queryPart_apply]
  rw [queryTurned_apply]
  simp only [hn]
  unfold Cert.PrepSIdeal.Final.turnedAt Cert.PrepSIdeal.Final.signed
  exact turn_pair _ _ _ l

/-- The queries, scaled and rounded. -/
def scaled (y : FVec Ideal S8x4096x16x128 .f32) : FVec Ideal S8x4096x16x128 .bf16 :=
  truncf .bf16 (mulf y (broadcastInDim S8x4096x16x128 ![] bcast_S_S8x4096x16x128 (constant S_ .f32 0x3E0293EE#32))) bitsLt_bf16_f32

theorem scaled_apply (y : FVec Ideal S8x4096x16x128 .f32) (b : Fin 8) (s : Fin 4096) (j : Fin 16) (l : Fin 128) :
    (scaled y (ix4 b s j l) : EReal) = y (ix4 b s j l) * Cert.PrepSIdeal.Final.σ := by
  pointwise [scaled, Cert.PrepSIdeal.Final.σ]

/-- The reference's queries. -/
def queries (x : FVec Ideal S8x4096x4608 .f32) (w : FVec Ideal S128 .f32) (cs sn : FVec Ideal S4096x64 .f32) : FVec Ideal S8x4096x16x128 .bf16 :=
  scaled (queryTurned (queryNorm (queryPart x) w) cs sn)

theorem queries_apply (x : FVec Ideal S8x4096x4608 .f32) (w : FVec Ideal S128 .f32) (cs sn : FVec Ideal S4096x64 .f32) (b : Fin 8) (s : Fin 4096) (j : Fin 16) (l : Fin 128) :
    (queries x w cs sn (ix4 b s j l) : EReal) = Cert.PrepSIdeal.Final.turnedAt x w cs sn b s (1536 + j.val * 128) (by omega) l * Cert.PrepSIdeal.Final.σ := by
  unfold queries
  rw [scaled_apply, query_apply]

end

theorem frame : Cert.quiescent_PrepS := fun m ρ _ => Cert.PrepS.Gen.frame m ρ

theorem frame_ideal : Cert.quiescent_PrepSIdeal := fun m ρ _ => Cert.PrepSIdeal.Gen.frame m ρ

theorem frame_ref : Cert.quiescent_PrepSRefIdeal := fun m ρ _ =>
  (θ_run Cert.PrepSRefIdeal.defs _ _).mono (fun r h => ⟨fun c => (h c).2.2, sem_eq_zero_of_no_sems (by decide) r.2⟩)
    (Cert.PrepSRefIdeal.Value.run (F := Ideal) m ρ)

theorem preserves : Cert.preserves_PrepS_PrepSIdeal := trivial

/-- Result `main_v27`, read off the call's result array. -/
theorem tail_key (m : (ℓ : Loc Cert.PrepSIdeal.nD Cert.PrepSIdeal.τ Cert.PrepSIdeal.sig) → Buf (Elt Ideal) ℓ) (c : Dev Cert.PrepSIdeal.nD)
    (b : Fin 8) (s : Fin 4096) (j : Fin 4) (l : Fin 128) :
    (Pipeline.afterTail₀ Cert.PrepSIdeal.cfgs (Cert.PrepSIdeal.Gen.dats m) 0 (Cert.PrepSIdeal.Gen.V0 m) [Cert.PrepSIdeal.Gen.hostOps1] c
      Cert.PrepSIdeal.main_v27 : FVec Ideal Cert.PrepSIdeal.S8x4096x4x128 .f32) (ix4 b s j l)
    = ((Cert.PrepSIdeal.Gen.dats m 0 c).arrAt 14 Cert.PrepSIdeal.cfg0.N : FVec Ideal Cert.PrepSIdeal.S32768x512 .f32) (ix2 ⟨b.val * 4096 + s.val, by omega⟩ ⟨j.val * 128 + l.val, by omega⟩) := by
  unfold Pipeline.afterTail₀
  simp only [List.flatten_cons, List.flatten_nil, List.append_nil]
  unfold Cert.PrepSIdeal.Gen.hostOps1
  after_results
  rw [show Pipeline.withArrays (Cert.PrepSIdeal.cfgs 0).spec c (Cert.PrepSIdeal.Gen.V0 m c)
      (fun w => (Cert.PrepSIdeal.Gen.dats m 0 c).arrAt w (Cert.PrepSIdeal.cfgs 0).N) (Proc.tc.devRef Cert.PrepSIdeal.main_v25_4)
      = (Cert.PrepSIdeal.Gen.dats m 0 c).arrAt 14 Cert.PrepSIdeal.cfg0.N from
    Pipeline.withArrays_arr (Cert.PrepSIdeal.cfgs 0).spec (by decide) c (Cert.PrepSIdeal.Gen.V0 m c) _ 14]
  generalize (Cert.PrepSIdeal.Gen.dats m 0 c).arrAt 14 Cert.PrepSIdeal.cfg0.N = y
  pointwise

/-- Result `main_v26`, read off the call's result array. -/
theorem tail_query (m : (ℓ : Loc Cert.PrepSIdeal.nD Cert.PrepSIdeal.τ Cert.PrepSIdeal.sig) → Buf (Elt Ideal) ℓ) (c : Dev Cert.PrepSIdeal.nD)
    (b : Fin 8) (s : Fin 4096) (j : Fin 16) (l : Fin 128) :
    (Pipeline.afterTail₀ Cert.PrepSIdeal.cfgs (Cert.PrepSIdeal.Gen.dats m) 0 (Cert.PrepSIdeal.Gen.V0 m) [Cert.PrepSIdeal.Gen.hostOps1] c
      Cert.PrepSIdeal.main_v26 : FVec Ideal Cert.PrepSIdeal.S8x4096x16x128 .bf16) (ix4 b s j l)
    = ((Cert.PrepSIdeal.Gen.dats m 0 c).arrAt 13 Cert.PrepSIdeal.cfg0.N : FVec Ideal Cert.PrepSIdeal.S32768x2048 .bf16) (ix2 ⟨b.val * 4096 + s.val, by omega⟩ ⟨j.val * 128 + l.val, by omega⟩) := by
  unfold Pipeline.afterTail₀
  simp only [List.flatten_cons, List.flatten_nil, List.append_nil]
  unfold Cert.PrepSIdeal.Gen.hostOps1
  after_results
  rw [show Pipeline.withArrays (Cert.PrepSIdeal.cfgs 0).spec c (Cert.PrepSIdeal.Gen.V0 m c)
      (fun w => (Cert.PrepSIdeal.Gen.dats m 0 c).arrAt w (Cert.PrepSIdeal.cfgs 0).N) (Proc.tc.devRef Cert.PrepSIdeal.main_v25_3)
      = (Cert.PrepSIdeal.Gen.dats m 0 c).arrAt 13 Cert.PrepSIdeal.cfg0.N from
    Pipeline.withArrays_arr (Cert.PrepSIdeal.cfgs 0).spec (by decide) c (Cert.PrepSIdeal.Gen.V0 m c) _ 13]
  generalize (Cert.PrepSIdeal.Gen.dats m 0 c).arrAt 13 Cert.PrepSIdeal.cfg0.N = y
  pointwise

/-- The kernel and the reference end with equal results. -/
theorem algebraic : Cert.algebraic_PrepSIdeal_PrepSRefIdeal := by
  pair_intro
  · run_from (Cert.PrepSIdeal.Gen.run_main m g) & (Cert.PrepSIdeal.Gen.unchanged m g)
  · run_from (Cert.PrepSRefIdeal.Value.run (F := Ideal) m' g')
    · show queries _ _ _ _ = _
      funext i
      rw [eq_ix4 i]
      obtain ⟨e0, e1, e2, e3, e4, e5, e6, e7, e8, e9⟩ := hagree c
      refine (queries_apply _ _ _ _ (i 0) (i 1) (i 2) (i 3)).trans ?_
      rw [e0, e4, e8, e9]
      exact ((tail_query m c (i 0) (i 1) (i 2) (i 3)).trans (Cert.PrepSIdeal.Final.result13_apply m c (i 0) (i 1) (i 2) (i 3))).symm
    · show keyTurned (keyNorm (keyPart _) _) _ _ = _
      funext i
      rw [eq_ix4 i]
      obtain ⟨e0, e1, e2, e3, e4, e5, e6, e7, e8, e9⟩ := hagree c
      refine (key_apply _ _ _ _ (i 0) (i 1) (i 2) (i 3)).trans ?_
      rw [e0, e5, e8, e9]
      exact ((tail_key m c (i 0) (i 1) (i 2) (i 3)).trans (Cert.PrepSIdeal.Final.result14_apply m c (i 0) (i 1) (i 2) (i 3))).symm

end Cert.Proof.PrepSClaims

end
-- ==== Proof.lean ====
/-
  The certificate's claims, one theorem each, put together.
-/
module

public import proofs.«01_k».proof.Defs
public import proofs.«01_k».proof.Proof.GqaClaim
public import proofs.«01_k».proof.Proof.ProjClaim
public import proofs.«01_k».proof.Proof.KrClaim
public import proofs.«01_k».proof.Proof.GatesClaim
public import proofs.«01_k».proof.Proof.MlaClaim
public import proofs.«01_k».proof.Proof.MergeClaim
public import proofs.«01_k».proof.Proof.OutClaim
public import proofs.«01_k».proof.Proof.PeerQClaim
public import proofs.«01_k».proof.Proof.FinalPClaim
public import proofs.«01_k».proof.Proof.FinalSClaim
public import proofs.«01_k».proof.Proof.PrepClaim
public import proofs.«01_k».proof.Proof.KvClaim
public import proofs.«01_k».proof.Proof.QbClaim
public import proofs.«01_k».proof.Proof.ModClaim
public import proofs.«01_k».proof.Proof.NormClaim
public import proofs.«01_k».proof.Proof.NormBClaim
public import proofs.«01_k».proof.Proof.PrepSClaim

@[expose] public section

noncomputable section

namespace Cert.Proof

open Idealize.ShloMosaic Idealize.SL.Sem

theorem claim : Cert.Claim :=
  ⟨Cert.Gqa.Gen.facts, Cert.GqaIdeal.Gen.facts, Cert.GqaRefIdeal.Gen.facts, Cert.Proj.Gen.facts, Cert.ProjIdeal.Gen.facts,
    Cert.ProjRefIdeal.Gen.facts, Cert.Kr.Gen.facts, Cert.KrIdeal.Gen.facts, Cert.KrRefIdeal.Gen.facts, Cert.Gates.Gen.facts,
    Cert.GatesIdeal.Gen.facts, Cert.GatesRefIdeal.Gen.facts, Cert.Mla.Gen.facts, Cert.MlaIdeal.Gen.facts, Cert.MlaRefIdeal.Gen.facts,
    Cert.Merge.Gen.facts, Cert.MergeIdeal.Gen.facts, Cert.MergeRefIdeal.Gen.facts, Cert.Out.Gen.facts, Cert.OutIdeal.Gen.facts,
    Cert.OutRefIdeal.Gen.facts, Cert.PeerQ.Gen.facts, Cert.PeerQIdeal.Gen.facts, Cert.PeerQRefIdeal.Gen.facts, Cert.FinalP.Gen.facts,
    Cert.FinalPIdeal.Gen.facts, Cert.FinalPRefIdeal.Gen.facts, Cert.FinalS.Gen.facts, Cert.FinalSIdeal.Gen.facts,
    Cert.FinalSRefIdeal.Gen.facts, Cert.Prep.Gen.facts, Cert.PrepIdeal.Gen.facts, Cert.PrepRefIdeal.Gen.facts, Cert.Kv.Gen.facts,
    Cert.KvIdeal.Gen.facts, Cert.KvRefIdeal.Gen.facts, Cert.Qb.Gen.facts, Cert.QbIdeal.Gen.facts, Cert.QbRefIdeal.Gen.facts,
    Cert.Mod.Gen.facts, Cert.ModIdeal.Gen.facts, Cert.ModRefIdeal.Gen.facts, Cert.Norm.Gen.facts, Cert.NormIdeal.Gen.facts,
    Cert.NormRefIdeal.Gen.facts, Cert.NormB.Gen.facts, Cert.NormBIdeal.Gen.facts, Cert.NormBRefIdeal.Gen.facts, Cert.PrepS.Gen.facts,
    Cert.PrepSIdeal.Gen.facts, Cert.PrepSRefIdeal.Gen.facts, Cert.Pre_finite_scores.Gen.facts, Cert.Pre_finite_mla.Gen.facts,
    GqaClaims.frame_gqa, GqaClaims.frame_ideal, GqaClaims.frame_ideal_pre, GqaClaims.frame_ref, GqaClaims.frame_ref_pre,
    ProjClaims.frame_proj, ProjClaims.frame_ideal, ProjClaims.frame_ref, KrClaims.frame, KrClaims.frame_ideal, KrClaims.frame_ref,
    GatesClaims.frame, GatesClaims.frame_ideal, GatesClaims.frame_ref, MlaClaims.frame, MlaClaims.frame_ideal,
    MlaClaims.frame_ideal_pre, MlaClaims.frame_ref, MlaClaims.frame_ref_pre, MergeClaims.frame, MergeClaims.frame_ideal,
    MergeClaims.frame_ref, OutClaims.frame, OutClaims.frame_ideal, OutClaims.frame_ref, PeerQClaims.frame, PeerQClaims.frame_ideal,
    PeerQClaims.frame_ref, FinalPClaims.frame, FinalPClaims.frame_ideal, FinalPClaims.frame_ref, FinalSClaims.frame,
    FinalSClaims.frame_ideal, FinalSClaims.frame_ref, PrepClaims.frame, PrepClaims.frame_ideal, PrepClaims.frame_ref, KvClaims.frame,
    KvClaims.frame_ideal, KvClaims.frame_ref, QbClaims.frame, QbClaims.frame_ideal, QbClaims.frame_ref, ModClaims.frame,
    ModClaims.frame_ideal, ModClaims.frame_ref, NormClaims.frame, NormClaims.frame_ideal, NormClaims.frame_ref, NormBClaims.frame,
    NormBClaims.frame_ideal, NormBClaims.frame_ref, PrepSClaims.frame, PrepSClaims.frame_ideal, PrepSClaims.frame_ref,
    GqaClaims.preserves, GqaClaims.algebraic, ProjClaims.preserves, ProjClaims.algebraic, KrClaims.preserves, KrClaims.algebraic,
    GatesClaims.preserves, GatesClaims.algebraic, MlaClaims.preserves, MlaClaims.algebraic, MergeClaims.preserves,
    MergeClaims.algebraic, OutClaims.preserves, OutClaims.algebraic, PeerQClaims.preserves, PeerQClaims.algebraic,
    FinalPClaims.preserves, FinalPClaims.algebraic, FinalSClaims.preserves, FinalSClaims.algebraic, PrepClaims.preserves,
    PrepClaims.algebraic, KvClaims.preserves, KvClaims.algebraic, QbClaims.preserves, QbClaims.algebraic, ModClaims.preserves,
    ModClaims.algebraic, NormClaims.preserves, NormClaims.algebraic, NormBClaims.preserves, NormBClaims.algebraic,
    PrepSClaims.preserves, PrepSClaims.algebraic⟩

end Cert.Proof

end
